-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_tables : Cert.Pre_tables.Facts] (m : (ℓ : Loc Cert.Kernel4.nD Cert.Kernel4.τ Cert.Kernel4.sig) → Buf (Elt Bits) ℓ) : Prop :=
  ∀ c : Dev Cert.Kernel4.nD,
    (Cert.Pre_tables.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_tables : Cert.Pre_tables.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tables.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal [hPre_tables : Cert.Pre_tables.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tables.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] [hPre_tables : Cert.Pre_tables.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_tables : Cert.Pre_tables.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] [hPre_tables : Cert.Pre_tables.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![6144, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v2_0) i = v0 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v2_1) i = v1 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.KernelIdeal.nD Cert.KernelIdeal.τ).loc Cert.KernelIdeal.main_v2_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![6144, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v54) i = v0 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v55) i = v1 c i)
          ∧ (∀ i : (⟨2, ![4096, 256]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.ReferenceIdeal.nD Cert.ReferenceIdeal.τ).loc Cert.ReferenceIdeal.main_v56) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_on_routed [hKernel4Ideal : Cert.Kernel4Ideal.Facts] [hReference4Ideal : Cert.Reference4Ideal.Facts] [hPre_tables : Cert.Pre_tables.Facts] [hOn_routed : Cert.On_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![28672, 2048]⟩ : Shape).Idx, (Cert.On_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) i = 1#1 → r.2.mem ((c.tc : Thread Cert.Kernel4Ideal.nD Cert.Kernel4Ideal.τ).loc Cert.Kernel4Ideal.main_v0) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![28672, 2048]⟩ : Shape).Idx, (Cert.On_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) i = 1#1 → r.2.mem ((c.tc : Thread Cert.Reference4Ideal.nD Cert.Reference4Ideal.τ).loc Cert.Reference4Ideal.main_v130) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables : Cert.Pre_tables.Facts) (hOn_written : Cert.On_written.Facts) (hOn_routed : Cert.On_routed.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_tables := hPre_tables)
    ∧ quiescent_Kernel4Ideal (hKernel4Ideal := hKernel4Ideal) (hPre_tables := hPre_tables)
    ∧ quiescent_Reference4Ideal (hReference4Ideal := hReference4Ideal) (hPre_tables := hPre_tables)
    ∧ preserves_Kernel_KernelIdeal
    ∧ algebraic_KernelIdeal_ReferenceIdeal_on_written (hKernelIdeal := hKernelIdeal) (hReferenceIdeal := hReferenceIdeal) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_routed (hKernel4Ideal := hKernel4Ideal) (hReference4Ideal := hReference4Ideal) (hPre_tables := hPre_tables) (hOn_routed := hOn_routed)
-- ==== On_routed.lean ====
abbrev S28672x1024 : Shape := ⟨2, ![28672, 1024]⟩
abbrev S14 : Shape := ⟨1, ![14]⟩
abbrev S8x2048x7168 : Shape := ⟨3, ![8, 2048, 7168]⟩
abbrev S8x7168x2048 : Shape := ⟨3, ![8, 7168, 2048]⟩
abbrev S14x2048x2048 : Shape := ⟨3, ![14, 2048, 2048]⟩
abbrev S14x1x1 : Shape := ⟨3, ![14, 1, 1]⟩
abbrev S28672x2048 : Shape := ⟨2, ![28672, 2048]⟩

class Facts : Prop where
  bcast_S14_S14x1x1_0 : S14.BroadcastsInDim S14x1x1 (![0] : Fin 1 → Fin S14x1x1.rank)
  bcast_S14x1x1_S14x2048x2048_0_1_2 : S14x1x1.BroadcastsInDim S14x2048x2048 (![0, 1, 2] : Fin 3 → Fin S14x2048x2048.rank)
  shapeCasts_S14x2048x2048_S28672x2048 : S14x2048x2048.ShapeCasts S28672x2048

variable [Facts]

def fn {F : FTy → Type} [FloatOps F] (main_arg0 : IVec S28672x1024 32) (main_arg1 : IVec S14 32) (main_arg2 : IVec S14 32) (main_arg3 : IVec S14 32) (main_arg4 : FVec F S8x2048x7168 .f32) (main_arg5 : FVec F S8x2048x7168 .f32) (main_arg6 : FVec F S8x7168x2048 .f32) : IVec S28672x2048 1 :=
  let main_v0 : IVec S14x2048x2048 32 := iotaInDim S14x2048x2048 32 1
  let main_v1 : IVec S14x1x1 32 := broadcastInDim S14x1x1 ![0] bcast_S14_S14x1x1_0 main_arg3
  let main_v2 : IVec S14x2048x2048 32 := broadcastInDim S14x2048x2048 ![0, 1, 2] bcast_S14x1x1_S14x2048x2048_0_1_2 main_v1
  let main_v3 : IVec S14x2048x2048 1 := cmpi .slt main_v0 main_v2
  let main_v4 : IVec S28672x2048 1 := shapeCast S28672x2048 main_v3 shapeCasts_S14x2048x2048_S28672x2048
  main_v4
-- ==== On_written.lean ====
abbrev S6144x3584 : Shape := ⟨2, ![6144, 3584]⟩
abbrev S128 : Shape := ⟨1, ![128]⟩
abbrev S6144x1024 : Shape := ⟨2, ![6144, 1024]⟩
abbrev S_ : Shape := ⟨0, ![]⟩
abbrev S4096x256 : Shape := ⟨2, ![4096, 256]⟩

class Facts : Prop where
  bcast_S_S4096x256 : S_.BroadcastsInDim S4096x256 (![] : Fin 0 → Fin S4096x256.rank)
  bcast_S_S6144x1024 : S_.BroadcastsInDim S6144x1024 (![] : Fin 0 → Fin S6144x1024.rank)

variable [Facts]

def fn {F : FTy → Type} [FloatOps F] (main_arg0 : FVec F S6144x3584 .f32) (main_arg1 : FVec F S128 .f32) (main_arg2 : FVec F S128 .f32) : IVec S6144x1024 1 × IVec S4096x256 1 × IVec S4096x256 1 :=
  let main_v0 : IVec S6144x1024 32 := iotaInDim S6144x1024 32 0
  let main_c : IVec S_ 1 := constantI S_ 1 1#1
  let main_v1 : IVec S4096x256 1 := broadcastInDim S4096x256 ![] bcast_S_S4096x256 main_c
  let main_c_0 : IVec S_ 32 := constantI S_ 32 4096#32
  let main_v2 : IVec S6144x1024 32 := broadcastInDim S6144x1024 ![] bcast_S_S6144x1024 main_c_0
  let main_v3 : IVec S6144x1024 1 := cmpi .slt main_v0 main_v2
  (main_v3, main_v1, main_v1)
-- ==== Pre_tables.lean ====
abbrev S28672x1024 : Shape := ⟨2, ![28672, 1024]⟩
abbrev S14 : Shape := ⟨1, ![14]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S14 : S_.BroadcastsInDim S14 (![] : Fin 0 → Fin S14.rank)
  reducesTo_S14_S_d0 : S14.ReducesTo [0] S_
  h_S_ : 0 < S_.numel

variable [Facts]

def fn_part1 {F : FTy → Type} [FloatOps F] (main_arg2 : IVec S14 32) (main_arg3 : IVec S14 32) (main_v0 : IVec S14 32) (main_v13 : IVec S_ 1) (main_v15 : IVec S14 1) (main_c_6 : IVec S_ 32) : IVec S_ 1 :=
  let main_v16 : IVec S14 32 := broadcastInDim S14 ![] bcast_S_S14 main_c_6
  let main_v17 : IVec S14 1 := cmpi .sle main_arg3 main_v16
  let main_v18 : IVec S14 1 := andi main_v15 main_v17
  let main_c_7 : IVec S_ 1 := constantI S_ 1 1#1
  let main_v19 : IVec S_ 1 := (fun x v => Host.reduce IntOp.andi x v reducesTo_S14_S_d0 h_S_) main_v18 main_c_7
  let main_v20 : IVec S_ 1 := andi main_v13 main_v19
  let main_c_8 : IVec S_ 32 := constantI S_ 32 0#32
  let main_v21 : IVec S14 32 := broadcastInDim S14 ![] bcast_S_S14 main_c_8
  let main_v22 : IVec S14 1 := cmpi .eq main_arg3 main_v21
  let main_v23 : IVec S14 1 := cmpi .eq main_arg2 main_v0
  let main_v24 : IVec S14 1 := ori main_v22 main_v23
  let main_c_9 : IVec S_ 1 := constantI S_ 1 1#1
  let main_v25 : IVec S_ 1 := (fun x v => Host.reduce IntOp.andi x v reducesTo_S14_S_d0 h_S_) main_v24 main_c_9
  let main_v26 : IVec S_ 1 := andi main_v20 main_v25
  main_v26

def fn {F : FTy → Type} [FloatOps F] (main_arg0 : IVec S28672x1024 32) (main_arg1 : IVec S14 32) (main_arg2 : IVec S14 32) (main_arg3 : IVec S14 32) (main_arg4 : FVec F S8x2048x7168 .f32) (main_arg5 : FVec F S8x2048x7168 .f32) (main_arg6 : FVec F S8x7168x2048 .f32) : IVec S_ 1 :=
  let main_v0 : IVec S14 32 := iotaInDim S14 32 0
  let main_c : IVec S_ 32 := constantI S_ 32 0#32
  let main_v1 : IVec S14 32 := broadcastInDim S14 ![] bcast_S_S14 main_c
  let main_v2 : IVec S14 1 := cmpi .sge main_arg1 main_v1
  let main_c_0 : IVec S_ 32 := constantI S_ 32 8#32
  let main_v3 : IVec S14 32 := broadcastInDim S14 ![] bcast_S_S14 main_c_0
  let main_v4 : IVec S14 1 := cmpi .slt main_arg1 main_v3
  let main_v5 : IVec S14 1 := andi main_v2 main_v4
  let main_c_1 : IVec S_ 1 := constantI S_ 1 1#1
  let main_v6 : IVec S_ 1 := (fun x v => Host.reduce IntOp.andi x v reducesTo_S14_S_d0 h_S_) main_v5 main_c_1
  let main_c_2 : IVec S_ 32 := constantI S_ 32 0#32
  let main_v7 : IVec S14 32 := broadcastInDim S14 ![] bcast_S_S14 main_c_2
  let main_v8 : IVec S14 1 := cmpi .sge main_arg2 main_v7
  let main_c_3 : IVec S_ 32 := constantI S_ 32 14#32
  let main_v9 : IVec S14 32 := broadcastInDim S14 ![] bcast_S_S14 main_c_3
  let main_v10 : IVec S14 1 := cmpi .slt main_arg2 main_v9
  let main_v11 : IVec S14 1 := andi main_v8 main_v10
  let main_c_4 : IVec S_ 1 := constantI S_ 1 1#1
  let main_v12 : IVec S_ 1 := (fun x v => Host.reduce IntOp.andi x v reducesTo_S14_S_d0 h_S_) main_v11 main_c_4
  let main_v13 : IVec S_ 1 := andi main_v6 main_v12
  let main_c_5 : IVec S_ 32 := constantI S_ 32 0#32
  let main_v14 : IVec S14 32 := broadcastInDim S14 ![] bcast_S_S14 main_c_5
  let main_v15 : IVec S14 1 := cmpi .sge main_arg3 main_v14
  let main_c_6 : IVec S_ 32 := constantI S_ 32 2048#32
  fn_part1 (F := F) main_arg2 main_arg3 main_v0 main_v13 main_v15 main_c_6
-- ==== Kernel.lean ====
abbrev S6144x3584 : Shape := ⟨2, ![6144, 3584]⟩
abbrev S128 : Shape := ⟨1, ![128]⟩
abbrev S1x128 : Shape := ⟨2, ![1, 128]⟩
abbrev S6144x1024 : Shape := ⟨2, ![6144, 1024]⟩
abbrev S4096x256 : Shape := ⟨2, ![4096, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 8
  | .vmem => 14
  | .smem => 0
  | _ => 0

abbrev bufTy : (tb : Table) → Fin (tcTables nBuf tb) → BufTy
  | .hbm, ⟨0, _⟩ => ⟨S6144x3584, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S6144x1024, .bf16⟩
  | .hbm, ⟨6, _⟩ => ⟨S4096x256, .f32⟩
  | .hbm, ⟨7, _⟩ => ⟨S4096x256, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S6144x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S6144x3584 : Shape := ⟨2, ![6144, 3584]⟩
abbrev S128 : Shape := ⟨1, ![128]⟩
abbrev S4096x3584 : Shape := ⟨2, ![4096, 3584]⟩
abbrev S16x256x3584 : Shape := ⟨3, ![16, 256, 3584]⟩
abbrev S16x256x1024 : Shape := ⟨3, ![16, 256, 1024]⟩
abbrev S16x256x2x4x128 : Shape := ⟨5, ![16, 256, 2, 4, 128]⟩
abbrev S_ : Shape := ⟨0, ![]⟩
abbrev S16x256x2x4 : Shape := ⟨4, ![16, 256, 2, 4]⟩
abbrev S16x256x2x4x1 : Shape := ⟨5, ![16, 256, 2, 4, 1]⟩
abbrev S1x1x1x1x128 : Shape := ⟨5, ![1, 1, 1, 1, 128]⟩
abbrev S16x256x256 : Shape := ⟨3, ![16, 256, 256]⟩
abbrev S16x256x2x128 : Shape := ⟨4, ![16, 256, 2, 128]⟩
abbrev S16x256x2 : Shape := ⟨3, ![16, 256, 2]⟩
abbrev S16x256x2x1 : Shape := ⟨4, ![16, 256, 2, 1]⟩
abbrev S1x1x1x128 : Shape := ⟨4, ![1, 1, 1, 128]⟩
abbrev S16x2x256x256x4 : Shape := ⟨5, ![16, 2, 256, 256, 4]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩
abbrev S16x2x128x4x256 : Shape := ⟨5, ![16, 2, 128, 4, 256]⟩
abbrev S4096x1024 : Shape := ⟨2, ![4096, 1024]⟩
abbrev S2048x1024 : Shape := ⟨2, ![2048, 1024]⟩
abbrev S6144x1024 : Shape := ⟨2, ![6144, 1024]⟩
abbrev S4096x256 : Shape := ⟨2, ![4096, 256]⟩

abbrev nBuf : Space → Nat
  | .hbm => 71
  | .vmem => 0
  | .smem => 0
  | _ => 0

abbrev bufTy : (tb : Table) → Fin (tcTables nBuf tb) → BufTy
  | .hbm, ⟨0, _⟩ => ⟨S6144x3584, .f32⟩
  | .hbm, ⟨1, _⟩ => ⟨S128, .f32⟩
  | .hbm, ⟨2, _⟩ => ⟨S128, .f32⟩
  | .hbm, ⟨3, _⟩ => ⟨S4096x3584, .f32⟩
  | .hbm, ⟨4, _⟩ => ⟨S16x256x3584, .f32⟩
  | .hbm, ⟨5, _⟩ => ⟨S16x256x1024, .f32⟩
  | .hbm, ⟨6, _⟩ => ⟨S16x256x2x4x128, .f32⟩
  | .hbm, ⟨7, _⟩ => ⟨S16x256x2x4x128, .f32⟩
  | .hbm, ⟨8, _⟩ => ⟨S_, .f32⟩
  | .hbm, ⟨9, _⟩ => ⟨S16x256x2x4, .f32⟩
  | .hbm, ⟨10, _⟩ => ⟨S16x256x2x4x1, .f32⟩
  | .hbm, ⟨11, _⟩ => ⟨S_, .f32⟩
  | .hbm, ⟨12, _⟩ => ⟨S16x256x2x4x1, .f32⟩
  | .hbm, ⟨13, _⟩ => ⟨S16x256x2x4x1, .f32⟩
  | .hbm, ⟨14, _⟩ => ⟨S_, .f32⟩
  | .hbm, ⟨15, _⟩ => ⟨S16x256x2x4x1, .f32⟩
  | .hbm, ⟨16, _⟩ => ⟨S16x256x2x4x1, .f32⟩
  | .hbm, ⟨17, _⟩ => ⟨S16x256x2x4x1, .f32⟩
  | .hbm, ⟨18, _⟩ => ⟨S16x256x2x4x128, .f32⟩
  | .hbm, ⟨19, _⟩ => ⟨S16x256x2x4x128, .f32⟩
  | .hbm, ⟨20, _⟩ => ⟨S1x1x1x1x128, .f32⟩
  | .hbm, ⟨21, _⟩ => ⟨S16x256x2x4x128, .f32⟩
  | .hbm, ⟨22, _⟩ => ⟨S16x256x2x4x128, .f32⟩
  | .hbm, ⟨23, _⟩ => ⟨S16x256x256, .f32⟩
  | .hbm, ⟨24, _⟩ => ⟨S16x256x2x128, .f32⟩
  | .hbm, ⟨25, _⟩ => ⟨S16x256x2x128, .f32⟩
  | .hbm, ⟨26, _⟩ => ⟨S_, .f32⟩
  | .hbm, ⟨27, _⟩ => ⟨S16x256x2, .f32⟩
  | .hbm, ⟨28, _⟩ => ⟨S16x256x2x1, .f32⟩
  | .hbm, ⟨29, _⟩ => ⟨S_, .f32⟩
  | .hbm, ⟨30, _⟩ => ⟨S16x256x2x1, .f32⟩
  | .hbm, ⟨31, _⟩ => ⟨S16x256x2x1, .f32⟩
  | .hbm, ⟨32, _⟩ => ⟨S_, .f32⟩
  | .hbm, ⟨33, _⟩ => ⟨S16x256x2x1, .f32⟩
  | .hbm, ⟨34, _⟩ => ⟨S16x256x2x1, .f32⟩
  | .hbm, ⟨35, _⟩ => ⟨S16x256x2x1, .f32⟩
  | .hbm, ⟨36, _⟩ => ⟨S16x256x2x128, .f32⟩
  | .hbm, ⟨37, _⟩ => ⟨S16x256x2x128, .f32⟩
  | .hbm, ⟨38, _⟩ => ⟨S1x1x1x128, .f32⟩
  | .hbm, ⟨39, _⟩ => ⟨S16x256x2x128, .f32⟩
  | .hbm, ⟨40, _⟩ => ⟨S16x256x2x128, .f32⟩
  | .hbm, ⟨41, _⟩ => ⟨S16x256x256, .f32⟩
  | .hbm, ⟨42, _⟩ => ⟨S16x256x2x128, .f32⟩
  | .hbm, ⟨43, _⟩ => ⟨S16x2x256x256x4, .f32⟩
  | .hbm, ⟨44, _⟩ => ⟨S16x2x4x256x256, .f32⟩
  | .hbm, ⟨45, _⟩ => ⟨S_, .f32⟩
  | .hbm, ⟨46, _⟩ => ⟨S16x2x4x256x256, .f32⟩
  | .hbm, ⟨47, _⟩ => ⟨S16x2x4x256x256, .f32⟩
  | .hbm, ⟨48, _⟩ => ⟨S_, .f32⟩
  | .hbm, ⟨49, _⟩ => ⟨S16x2x4x256, .f32⟩
  | .hbm, ⟨50, _⟩ => ⟨S_, .f32⟩
  | .hbm, ⟨51, _⟩ => ⟨S16x2x4x256, .f32⟩
  | .hbm, ⟨52, _⟩ => ⟨S16x2x4x256, .f32⟩
  | .hbm, ⟨53, _⟩ => ⟨S16x2x4x256x1, .f32⟩
  | .hbm, ⟨54, _⟩ => ⟨S16x2x4x256x256, .f32⟩
  | .hbm, ⟨55, _⟩ => ⟨S16x2x4x256x256, .f32⟩
  | .hbm, ⟨56, _⟩ => ⟨S16x2x4x256x256, .f32⟩
  | .hbm, ⟨57, _⟩ => ⟨S_, .f32⟩
  | .hbm, ⟨58, _⟩ => ⟨S16x2x4x256, .f32⟩
  | .hbm, ⟨59, _⟩ => ⟨S16x2x4x256x1, .f32⟩
  | .hbm, ⟨60, _⟩ => ⟨S16x2x4x256x256, .f32⟩
  | .hbm, ⟨61, _⟩ => ⟨S16x2x4x256x256, .f32⟩
  | .hbm, ⟨62, _⟩ => ⟨S16x2x128x4x256, .f32⟩
  | .hbm, ⟨63, _⟩ => ⟨S16x256x2x4x128, .f32⟩
  | .hbm, ⟨64, _⟩ => ⟨S4096x1024, .f32⟩
  | .hbm, ⟨65, _⟩ => ⟨S4096x1024, .bf16⟩
  | .hbm, ⟨66, _⟩ => ⟨S_, .bf16⟩
  | .hbm, ⟨67, _⟩ => ⟨S2048x1024, .bf16⟩
  | .hbm, ⟨68, _⟩ => ⟨S6144x1024, .bf16⟩
  | .hbm, ⟨69, _⟩ => ⟨S4096x256, .f32⟩
  | .hbm, ⟨70, _⟩ => ⟨S4096x256, .f32⟩
  | _, _ => ⟨S6144x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Kernel2.lean ====
abbrev S6144x2048 : Shape := ⟨2, ![6144, 2048]⟩
abbrev S8x1x12288 : Shape := ⟨3, ![8, 1, 12288]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S1024x512 : Shape := ⟨2, ![1024, 512]⟩
abbrev S128x2048 : Shape := ⟨2, ![128, 2048]⟩
abbrev S128 : Shape := ⟨1, ![128]⟩
abbrev S128x1 : Shape := ⟨2, ![128, 1]⟩

abbrev nBuf : Space → Nat
  | .hbm => 10
  | .vmem => 19
  | .smem => 0
  | _ => 0

abbrev bufTy : (tb : Table) → Fin (tcTables nBuf tb) → BufTy
  | .hbm, ⟨0, _⟩ => ⟨S6144x2048, .f32⟩
  | .hbm, ⟨1, _⟩ => ⟨S8x1x12288, .f32⟩
  | .hbm, ⟨2, _⟩ => ⟨S2048, .f32⟩
  | .hbm, ⟨3, _⟩ => ⟨S2048, .f32⟩
  | .hbm, ⟨4, _⟩ => ⟨S2048x5632, .bf16⟩
  | .hbm, ⟨5, _⟩ => ⟨S2048x5632, .bf16⟩
  | .hbm, ⟨6, _⟩ => ⟨S5632x2048, .bf16⟩
  | .hbm, ⟨7, _⟩ => ⟨S1x2048, .f32⟩
  | .hbm, ⟨8, _⟩ => ⟨S1x2048, .f32⟩
  | .hbm, ⟨9, _⟩ => ⟨S6144x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x2048, .bf16⟩
  | .local _ .vmem, ⟨15, _⟩ => ⟨S512x2048, .bf16⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![6, 11], ![false, false]⟩

def k0_cond2 (i : grid0.Coords) : BitVec 1 :=
  let arg1 : BitVec 32 := BitVec.ofNat 32 (i 1).val
  let c10_i32 : BitVec 32 := 10#32
  let v18 : BitVec 1 := Scalar.cmpi .eq arg1 c10_i32
  let v19 : BitVec 32 := Scalar.extui v18
  let c0_i32_14 : BitVec 32 := 0#32
  let v20 : BitVec 1 := Scalar.cmpi .ne v19 c0_i32_14
  v20

@[reducible] def k0_t1_loop : Scf.Loop 32 :=
  let c0_i32_15 : BitVec 32 := 0#32
  let c8_i32 : BitVec 32 := 8#32
  let v21 : BitVec 32 := Scalar.addi c0_i32_15 c8_i32
  let c1_i32 : BitVec 32 := 1#32
  ⟨c0_i32_15, v21, c1_i32⟩
def k0_mult1 (k0_t1 : Fin k0_t1_loop.trips) : BitVec 32 :=
  let c0_i32_15 : BitVec 32 := 0#32
  let c1_i32 : BitVec 32 := 1#32
  let arg13 : BitVec 32 := Scf.iv c0_i32_15 c1_i32 k0_t1
  let c128_i32 : BitVec 32 := 128#32
  let v22 : BitVec 32 := Scalar.muli arg13 c128_i32
  v22
def k0_off1 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let c128_i32 : BitVec 32 := 128#32
  let v22 : BitVec 32 := Scalar.muli arg13 c128_i32
  let v23 : BitVec 32 := v22
  let v24 : Index := Scalar.indexCast v23
  let c0_17 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.subi v17 c3_i32
  let c0_i32_5 : BitVec 32 := 0#32
  let v19 : BitVec 32 := Scalar.maxsi v18 c0_i32_5
  let c0_i32_6 : BitVec 32 := 0#32
  let c3_i32_7 : BitVec 32 := 3#32
  let c0_i32_8 : BitVec 32 := 0#32
  ![v19.toNat, c0_i32_6.toNat, c3_i32_7.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.subi v17 c3_i32
  let c0_i32_5 : BitVec 32 := 0#32
  let v19 : BitVec 32 := Scalar.maxsi v18 c0_i32_5
  let c0_i32_6 : BitVec 32 := 0#32
  let c4_i32 : BitVec 32 := 4#32
  let c0_i32_7 : BitVec 32 := 0#32
  ![v19.toNat, c0_i32_6.toNat, c4_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.subi v17 c3_i32
  let c0_i32_5 : BitVec 32 := 0#32
  let v19 : BitVec 32 := Scalar.maxsi v18 c0_i32_5
  let c0_i32_6 : BitVec 32 := 0#32
  let c5_i32 : BitVec 32 := 5#32
  let c0_i32_7 : BitVec 32 := 0#32
  ![v19.toNat, c0_i32_6.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S6144x2048 : Shape := ⟨2, ![6144, 2048]⟩
abbrev S8x1x12288 : Shape := ⟨3, ![8, 1, 12288]⟩
abbrev S2048 : Shape := ⟨1, ![2048]⟩
abbrev S2048x5632 : Shape := ⟨2, ![2048, 5632]⟩
abbrev S5632x2048 : Shape := ⟨2, ![5632, 2048]⟩
abbrev S8x1x2048 : Shape := ⟨3, ![8, 1, 2048]⟩
abbrev S1x1x2048 : Shape := ⟨3, ![1, 1, 2048]⟩
abbrev S1x2048 : Shape := ⟨2, ![1, 2048]⟩
abbrev S4096x2048 : Shape := ⟨2, ![4096, 2048]⟩
abbrev S2x1x2048 : Shape := ⟨3, ![2, 1, 2048]⟩
abbrev S2x1024x2048 : Shape := ⟨3, ![2, 1024, 2048]⟩
abbrev S2048x2048 : Shape := ⟨2, ![2048, 2048]⟩
abbrev S_ : Shape := ⟨0, ![]⟩
abbrev S6144x5632 : Shape := ⟨2, ![6144, 5632]⟩
abbrev S6144 : Shape := ⟨1, ![6144]⟩
abbrev S6144x1 : Shape := ⟨2, ![6144, 1]⟩

abbrev nBuf : Space → Nat
  | .hbm => 86
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S8x1x12288, .f32⟩
  | .hbm, ⟨2, _⟩ => ⟨S2048, .f32⟩
  | .hbm, ⟨3, _⟩ => ⟨S2048, .f32⟩
  | .hbm, ⟨4, _⟩ => ⟨S2048x5632, .bf16⟩
  | .hbm, ⟨5, _⟩ => ⟨S2048x5632, .bf16⟩
  | .hbm, ⟨6, _⟩ => ⟨S5632x2048, .bf16⟩
  | .hbm, ⟨7, _⟩ => ⟨S8x1x2048, .f32⟩
  | .hbm, ⟨8, _⟩ => ⟨S1x1x2048, .f32⟩
  | .hbm, ⟨9, _⟩ => ⟨S1x2048, .f32⟩
  | .hbm, ⟨10, _⟩ => ⟨S4096x2048, .f32⟩
  | .hbm, ⟨11, _⟩ => ⟨S2x1x2048, .f32⟩
  | .hbm, ⟨12, _⟩ => ⟨S2x1024x2048, .f32⟩
  | .hbm, ⟨13, _⟩ => ⟨S2048x2048, .f32⟩
  | .hbm, ⟨14, _⟩ => ⟨S6144x2048, .f32⟩
  | .hbm, ⟨15, _⟩ => ⟨S8x1x2048, .f32⟩
  | .hbm, ⟨16, _⟩ => ⟨S1x1x2048, .f32⟩
  | .hbm, ⟨17, _⟩ => ⟨S1x2048, .f32⟩
  | .hbm, ⟨18, _⟩ => ⟨S4096x2048, .f32⟩
  | .hbm, ⟨19, _⟩ => ⟨S2x1x2048, .f32⟩
  | .hbm, ⟨20, _⟩ => ⟨S2x1024x2048, .f32⟩
  | .hbm, ⟨21, _⟩ => ⟨S2048x2048, .f32⟩
  | .hbm, ⟨22, _⟩ => ⟨S6144x2048, .f32⟩
  | .hbm, ⟨23, _⟩ => ⟨S8x1x2048, .f32⟩
  | .hbm, ⟨24, _⟩ => ⟨S1x1x2048, .f32⟩
  | .hbm, ⟨25, _⟩ => ⟨S1x2048, .f32⟩
  | .hbm, ⟨26, _⟩ => ⟨S4096x2048, .f32⟩
  | .hbm, ⟨27, _⟩ => ⟨S2x1x2048, .f32⟩
  | .hbm, ⟨28, _⟩ => ⟨S2x1024x2048, .f32⟩
  | .hbm, ⟨29, _⟩ => ⟨S2048x2048, .f32⟩
  | .hbm, ⟨30, _⟩ => ⟨S6144x2048, .f32⟩
  | .hbm, ⟨31, _⟩ => ⟨S_, .f32⟩
  | .hbm, ⟨32, _⟩ => ⟨S6144x2048, .f32⟩
  | .hbm, ⟨33, _⟩ => ⟨S6144x2048, .f32⟩
  | .hbm, ⟨34, _⟩ => ⟨S6144x2048, .f32⟩
  | .hbm, ⟨35, _⟩ => ⟨S6144x2048, .f32⟩
  | .hbm, ⟨36, _⟩ => ⟨S2048x5632, .f32⟩
  | .hbm, ⟨37, _⟩ => ⟨S2048x5632, .f32⟩
  | .hbm, ⟨38, _⟩ => ⟨S5632x2048, .f32⟩
  | .hbm, ⟨39, _⟩ => ⟨S6144x5632, .f32⟩
  | .hbm, ⟨40, _⟩ => ⟨S6144x5632, .f32⟩
  | .hbm, ⟨41, _⟩ => ⟨S6144x5632, .f32⟩
  | .hbm, ⟨42, _⟩ => ⟨S_, .f32⟩
  | .hbm, ⟨43, _⟩ => ⟨S6144x5632, .f32⟩
  | .hbm, ⟨44, _⟩ => ⟨S6144x5632, .f32⟩
  | .hbm, ⟨45, _⟩ => ⟨S_, .f32⟩
  | .hbm, ⟨46, _⟩ => ⟨S6144x5632, .f32⟩
  | .hbm, ⟨47, _⟩ => ⟨S6144x5632, .f32⟩
  | .hbm, ⟨48, _⟩ => ⟨S6144x5632, .f32⟩
  | .hbm, ⟨49, _⟩ => ⟨S6144x5632, .f32⟩
  | .hbm, ⟨50, _⟩ => ⟨S6144x5632, .f32⟩
  | .hbm, ⟨51, _⟩ => ⟨S_, .f32⟩
  | .hbm, ⟨52, _⟩ => ⟨S6144x2048, .f32⟩
  | .hbm, ⟨53, _⟩ => ⟨S6144x2048, .f32⟩
  | .hbm, ⟨54, _⟩ => ⟨S6144x2048, .f32⟩
  | .hbm, ⟨55, _⟩ => ⟨S6144x2048, .f32⟩
  | .hbm, ⟨56, _⟩ => ⟨S6144x2048, .f32⟩
  | .hbm, ⟨57, _⟩ => ⟨S_, .f32⟩
  | .hbm, ⟨58, _⟩ => ⟨S6144, .f32⟩
  | .hbm, ⟨59, _⟩ => ⟨S6144x1, .f32⟩
  | .hbm, ⟨60, _⟩ => ⟨S_, .f32⟩
  | .hbm, ⟨61, _⟩ => ⟨S6144x1, .f32⟩
  | .hbm, ⟨62, _⟩ => ⟨S6144x1, .f32⟩
  | .hbm, ⟨63, _⟩ => ⟨S6144x2048, .f32⟩
  | .hbm, ⟨64, _⟩ => ⟨S6144x2048, .f32⟩
  | .hbm, ⟨65, _⟩ => ⟨S6144x2048, .f32⟩
  | .hbm, ⟨66, _⟩ => ⟨S_, .f32⟩
  | .hbm, ⟨67, _⟩ => ⟨S6144, .f32⟩
  | .hbm, ⟨68, _⟩ => ⟨S6144x1, .f32⟩
  | .hbm, ⟨69, _⟩ => ⟨S_, .f32⟩
  | .hbm, ⟨70, _⟩ => ⟨S6144x1, .f32⟩
  | .hbm, ⟨71, _⟩ => ⟨S6144x1, .f32⟩
  | .hbm, ⟨72, _⟩ => ⟨S6144x2048, .f32⟩
  | .hbm, ⟨73, _⟩ => ⟨S6144x2048, .f32⟩
  | .hbm, ⟨74, _⟩ => ⟨S_, .f32⟩
  | .hbm, ⟨75, _⟩ => ⟨S6144x1, .f32⟩
  | .hbm, ⟨76, _⟩ => ⟨S6144x1, .f32⟩
  | .hbm, ⟨77, _⟩ => ⟨S6144x1, .f32⟩
  | .hbm, ⟨78, _⟩ => ⟨S6144x2048, .f32⟩
  | .hbm, ⟨79, _⟩ => ⟨S6144x2048, .f32⟩
  | .hbm, ⟨80, _⟩ => ⟨S1x2048, .f32⟩
  | .hbm, ⟨81, _⟩ => ⟨S6144x2048, .f32⟩
  | .hbm, ⟨82, _⟩ => ⟨S6144x2048, .f32⟩
  | .hbm, ⟨83, _⟩ => ⟨S1x2048, .f32⟩
  | .hbm, ⟨84, _⟩ => ⟨S6144x2048, .f32⟩
  | .hbm, ⟨85, _⟩ => ⟨S6144x2048, .f32⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_1 : Ref sig .tc := ⟨.hbm, 57, rfl⟩
abbrev main_v40 : Ref sig .tc := ⟨.hbm, 58, rfl⟩
abbrev main_v41 : Ref sig .tc := ⟨.hbm, 59, rfl⟩
abbrev main_cst_2 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Kernel3.lean ====
abbrev S6144x2048 : Shape := ⟨2, ![6144, 2048]⟩
abbrev S6144x128 : Shape := ⟨2, ![6144, 128]⟩
abbrev S8x1x12288 : Shape := ⟨3, ![8, 1, 12288]⟩
abbrev S2048 : Shape := ⟨1, ![2048]⟩
abbrev S1x2048 : Shape := ⟨2, ![1, 2048]⟩
abbrev S4096x2048 : Shape := ⟨2, ![4096, 2048]⟩
abbrev S2048x2048 : Shape := ⟨2, ![2048, 2048]⟩
abbrev S256x2048 : Shape := ⟨2, ![256, 2048]⟩
abbrev S256x128 : Shape := ⟨2, ![256, 128]⟩
abbrev S1x1x2048 : Shape := ⟨3, ![1, 1, 2048]⟩
abbrev S256x1 : Shape := ⟨2, ![256, 1]⟩
abbrev S256 : Shape := ⟨1, ![256]⟩

abbrev nBuf : Space → Nat
  | .hbm => 11
  | .vmem => 16
  | .smem => 0
  | _ => 0

abbrev bufTy : (tb : Table) → Fin (tcTables nBuf tb) → BufTy
  | .hbm, ⟨0, _⟩ => ⟨S6144x2048, .f32⟩
  | .hbm, ⟨1, _⟩ => ⟨S6144x2048, .f32⟩
  | .hbm, ⟨2, _⟩ => ⟨S6144x2048, .f32⟩
  | .hbm, ⟨3, _⟩ => ⟨S6144x128, .f32⟩
  | .hbm, ⟨4, _⟩ => ⟨S8x1x12288, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S6144x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c16_i32 : BitVec 32 := 16#32
  let v41 : BitVec 1 := Scalar.cmpi .slt arg0 c16_i32
  let v42 : BitVec 32 := Scalar.extui v41
  let c0_i32 : BitVec 32 := 0#32
  let v43 : BitVec 1 := Scalar.cmpi .ne v42 c0_i32
  v43

def k0_cond2 (i : grid0.Coords) : BitVec 1 :=
  let arg0 : BitVec 32 := BitVec.ofNat 32 (i 0).val
  let c16_i32_19 : BitVec 32 := 16#32
  let v44 : BitVec 1 := Scalar.cmpi .sge arg0 c16_i32_19
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.subi v17 c3_i32
  let c0_i32_4 : BitVec 32 := 0#32
  let v19 : BitVec 32 := Scalar.maxsi v18 c0_i32_4
  let c0_i32_5 : BitVec 32 := 0#32
  let c5_i32 : BitVec 32 := 5#32
  let c0_i32_6 : BitVec 32 := 0#32
  ![v19.toNat, c0_i32_5.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S6144x2048 : Shape := ⟨2, ![6144, 2048]⟩
abbrev S6144x128 : Shape := ⟨2, ![6144, 128]⟩
abbrev S8x1x12288 : Shape := ⟨3, ![8, 1, 12288]⟩
abbrev S2048 : Shape := ⟨1, ![2048]⟩
abbrev S6144x1 : Shape := ⟨2, ![6144, 1]⟩
abbrev S_ : Shape := ⟨0, ![]⟩
abbrev S8x1x2048 : Shape := ⟨3, ![8, 1, 2048]⟩
abbrev S1x1x2048 : Shape := ⟨3, ![1, 1, 2048]⟩
abbrev S1x2048 : Shape := ⟨2, ![1, 2048]⟩
abbrev S4096x2048 : Shape := ⟨2, ![4096, 2048]⟩
abbrev S2x1x2048 : Shape := ⟨3, ![2, 1, 2048]⟩
abbrev S2x1024x2048 : Shape := ⟨3, ![2, 1024, 2048]⟩
abbrev S2048x2048 : Shape := ⟨2, ![2048, 2048]⟩
abbrev S6144 : Shape := ⟨1, ![6144]⟩

abbrev nBuf : Space → Nat
  | .hbm => 58
  | .vmem => 0
  | .smem => 0
  | _ => 0

abbrev bufTy : (tb : Table) → Fin (tcTables nBuf tb) → BufTy
  | .hbm, ⟨0, _⟩ => ⟨S6144x2048, .f32⟩
  | .hbm, ⟨1, _⟩ => ⟨S6144x2048, .f32⟩
  | .hbm, ⟨2, _⟩ => ⟨S6144x2048, .f32⟩
  | .hbm, ⟨3, _⟩ => ⟨S6144x128, .f32⟩
  | .hbm, ⟨4, _⟩ => ⟨S8x1x12288, .f32⟩
  | .hbm, ⟨5, _⟩ => ⟨S2048, .f32⟩
  | .hbm, ⟨6, _⟩ => ⟨S2048, .f32⟩
  | .hbm, ⟨7, _⟩ => ⟨S6144x1, .f32⟩
  | .hbm, ⟨8, _⟩ => ⟨S6144x2048, .f32⟩
  | .hbm, ⟨9, _⟩ => ⟨S6144x2048, .f32⟩
  | .hbm, ⟨10, _⟩ => ⟨S6144x1, .f32⟩
  | .hbm, ⟨11, _⟩ => ⟨S6144x2048, .f32⟩
  | .hbm, ⟨12, _⟩ => ⟨S6144x2048, .f32⟩
  | .hbm, ⟨13, _⟩ => ⟨S6144x2048, .f32⟩
  | .hbm, ⟨14, _⟩ => ⟨S_, .f32⟩
  | .hbm, ⟨15, _⟩ => ⟨S6144x2048, .f32⟩
  | .hbm, ⟨16, _⟩ => ⟨S6144x2048, .f32⟩
  | .hbm, ⟨17, _⟩ => ⟨S8x1x2048, .f32⟩
  | .hbm, ⟨18, _⟩ => ⟨S1x1x2048, .f32⟩
  | .hbm, ⟨19, _⟩ => ⟨S1x2048, .f32⟩
  | .hbm, ⟨20, _⟩ => ⟨S4096x2048, .f32⟩
  | .hbm, ⟨21, _⟩ => ⟨S2x1x2048, .f32⟩
  | .hbm, ⟨22, _⟩ => ⟨S2x1024x2048, .f32⟩
  | .hbm, ⟨23, _⟩ => ⟨S2048x2048, .f32⟩
  | .hbm, ⟨24, _⟩ => ⟨S6144x2048, .f32⟩
  | .hbm, ⟨25, _⟩ => ⟨S6144x2048, .f32⟩
  | .hbm, ⟨26, _⟩ => ⟨S6144x2048, .f32⟩
  | .hbm, ⟨27, _⟩ => ⟨S_, .f32⟩
  | .hbm, ⟨28, _⟩ => ⟨S6144, .f32⟩
  | .hbm, ⟨29, _⟩ => ⟨S6144x1, .f32⟩
  | .hbm, ⟨30, _⟩ => ⟨S_, .f32⟩
  | .hbm, ⟨31, _⟩ => ⟨S6144x1, .f32⟩
  | .hbm, ⟨32, _⟩ => ⟨S6144x1, .f32⟩
  | .hbm, ⟨33, _⟩ => ⟨S6144x2048, .f32⟩
  | .hbm, ⟨34, _⟩ => ⟨S6144x2048, .f32⟩
  | .hbm, ⟨35, _⟩ => ⟨S6144x2048, .f32⟩
  | .hbm, ⟨36, _⟩ => ⟨S_, .f32⟩
  | .hbm, ⟨37, _⟩ => ⟨S6144, .f32⟩
  | .hbm, ⟨38, _⟩ => ⟨S6144x1, .f32⟩
  | .hbm, ⟨39, _⟩ => ⟨S_, .f32⟩
  | .hbm, ⟨40, _⟩ => ⟨S6144x1, .f32⟩
  | .hbm, ⟨41, _⟩ => ⟨S6144x1, .f32⟩
  | .hbm, ⟨42, _⟩ => ⟨S6144x2048, .f32⟩
  | .hbm, ⟨43, _⟩ => ⟨S6144x2048, .f32⟩
  | .hbm, ⟨44, _⟩ => ⟨S_, .f32⟩
  | .hbm, ⟨45, _⟩ => ⟨S6144x1, .f32⟩
  | .hbm, ⟨46, _⟩ => ⟨S6144x1, .f32⟩
  | .hbm, ⟨47, _⟩ => ⟨S6144x1, .f32⟩
  | .hbm, ⟨48, _⟩ => ⟨S6144x2048, .f32⟩
  | .hbm, ⟨49, _⟩ => ⟨S6144x2048, .f32⟩
  | .hbm, ⟨50, _⟩ => ⟨S1x2048, .f32⟩
  | .hbm, ⟨51, _⟩ => ⟨S6144x2048, .f32⟩
  | .hbm, ⟨52, _⟩ => ⟨S6144x2048, .f32⟩
  | .hbm, ⟨53, _⟩ => ⟨S1x2048, .f32⟩
  | .hbm, ⟨54, _⟩ => ⟨S6144x2048, .f32⟩
  | .hbm, ⟨55, _⟩ => ⟨S6144x2048, .f32⟩
  | .hbm, ⟨56, _⟩ => ⟨S4096x2048, .f32⟩
  | .hbm, ⟨57, _⟩ => ⟨S2048x2048, .f32⟩
  | _, _ => ⟨S6144x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel4.lean ====
abbrev S28672x1024 : Shape := ⟨2, ![28672, 1024]⟩
abbrev S14 : Shape := ⟨1, ![14]⟩
abbrev S8x2048x7168 : Shape := ⟨3, ![8, 2048, 7168]⟩
abbrev S8x7168x2048 : Shape := ⟨3, ![8, 7168, 2048]⟩
abbrev S28672x2048 : Shape := ⟨2, ![28672, 2048]⟩
abbrev S2048x1024 : Shape := ⟨2, ![2048, 1024]⟩
abbrev S1 : Shape := ⟨1, ![1]⟩
abbrev S1x2048x256 : Shape := ⟨3, ![1, 2048, 256]⟩
abbrev S1x256x2048 : Shape := ⟨3, ![1, 256, 2048]⟩
abbrev S2048x2048 : Shape := ⟨2, ![2048, 2048]⟩
abbrev S2048x256 : Shape := ⟨2, ![2048, 256]⟩
abbrev S256x2048 : Shape := ⟨2, ![256, 2048]⟩
abbrev S_ : Shape := ⟨0, ![]⟩
abbrev S256x1024 : Shape := ⟨2, ![256, 1024]⟩
abbrev S256x256 : Shape := ⟨2, ![256, 256]⟩
abbrev S128x1024 : Shape := ⟨2, ![128, 1024]⟩
abbrev S128x2048 : Shape := ⟨2, ![128, 2048]⟩
abbrev S128x256 : Shape := ⟨2, ![128, 256]⟩

abbrev nBuf : Space → Nat
  | .hbm => 5
  | .vmem => 11
  | .smem => 3
  | _ => 0

abbrev bufTy : (tb : Table) → Fin (tcTables nBuf tb) → BufTy
  | .hbm, ⟨0, _⟩ => ⟨S28672x1024, .i32⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S28672x2048, .f32⟩
  | .local _ .vmem, ⟨0, _⟩ => ⟨S2048x1024, .i32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x256x2048, .f32⟩
  | .local _ .vmem, ⟨6, _⟩ => ⟨S1x256x2048, .f32⟩
  | .local _ .vmem, ⟨7, _⟩ => ⟨S2048x2048, .f32⟩
  | .local _ .vmem, ⟨8, _⟩ => ⟨S2048x256, .bf16⟩
  | .local _ .vmem, ⟨9, _⟩ => ⟨S2048x256, .bf16⟩
  | .local _ .vmem, ⟨10, _⟩ => ⟨S256x2048, .bf16⟩
  | .local _ .smem, ⟨0, _⟩ => ⟨S14, .i32⟩
  | .local _ .smem, ⟨1, _⟩ => ⟨S14, .i32⟩
  | .local _ .smem, ⟨2, _⟩ => ⟨S14, .i32⟩
  | _, _ => ⟨S28672x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![14, 28], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_9 : BitVec 32 := 0#32
  let v30 : BitVec 1 := Scalar.cmpi .eq arg1 c0_i32_9
  let v31 : BitVec 32 := Scalar.extui v30
  let c0_i32_10 : BitVec 32 := 0#32
  let v32 : BitVec 1 := Scalar.cmpi .ne v31 c0_i32_10
  v32

@[reducible] def k0_t1_loop (v1 : BitVec 32) : Scf.Loop 32 :=
  let c0_i32_66 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_60 : BitVec 32 := 0#32
  let v112 : BitVec 1 := Scalar.cmpi .sgt v110 c0_i32_60
  let v113 : BitVec 32 := Scalar.extui v112
  let c0_i32_61 : BitVec 32 := 0#32
  let v114 : BitVec 1 := Scalar.cmpi .slt v110 c0_i32_61
  let v115 : BitVec 32 := Scalar.extui v114
  let v116 : BitVec 32 := Scalar.subi v113 v115
  let c4_i32 : BitVec 32 := 4#32
  let c0_i32_62 : BitVec 32 := 0#32
  let v117 : BitVec 1 := Scalar.cmpi .sgt c4_i32 c0_i32_62
  let v118 : BitVec 32 := Scalar.extui v117
  let c0_i32_63 : BitVec 32 := 0#32
  let v119 : BitVec 1 := Scalar.cmpi .slt c4_i32 c0_i32_63
  let v120 : BitVec 32 := Scalar.extui v119
  let v121 : BitVec 32 := Scalar.subi v118 v120
  let v122 : BitVec 1 := Scalar.cmpi .ne v116 v121
  let v123 : BitVec 32 := Scalar.remsi v110 c4_i32
  let c0_i32_64 : BitVec 32 := 0#32
  let v124 : BitVec 1 := Scalar.cmpi .ne v123 c0_i32_64
  let v125 : BitVec 1 := Scalar.andi v122 v124
  let v111 : BitVec 32 := Scalar.divsi v110 c4_i32
  let c1_i32_65 : BitVec 32 := 1#32
  let v126 : BitVec 32 := Scalar.subi v111 c1_i32_65
  let v127 : BitVec 32 := Scalar.select v125 v126 v111
  let v128 : BitVec 32 := Scalar.subi v127 c0_i32_66
  let c1_i32_68 : BitVec 32 := 1#32
  let v130 : BitVec 32 := Scalar.divsi v128 c1_i32_68
  let v131 : BitVec 32 := Scalar.muli v130 c1_i32_68
  let v132 : BitVec 32 := Scalar.addi c0_i32_66 v131
  let c1_i32_69 : BitVec 32 := 1#32
  ⟨c0_i32_66, v132, c1_i32_69⟩
def k0_cond1 (v1 : BitVec 32) : BitVec 1 :=
  let c0_i32_7 : BitVec 32 := 0#32
  let v27 : BitVec 1 := Scalar.cmpi .sgt v1 c0_i32_7
  let v28 : BitVec 32 := Scalar.extui v27
  let c0_i32_8 : BitVec 32 := 0#32
  let v29 : BitVec 1 := Scalar.cmpi .ne v28 c0_i32_8
  v29

def k0_cond3 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32 : BitVec 32 := 2#32
  let v39 : BitVec 1 := Scalar.cmpi .sge v23 c2_i32
  let v40 : BitVec 32 := Scalar.extui v39
  let c0_i32_14 : BitVec 32 := 0#32
  let v41 : BitVec 1 := Scalar.cmpi .ne v40 c0_i32_14
  v41

def k0_mult1 (v1 : BitVec 32) (k0_t1 : Fin (k0_t1_loop v1).trips) : BitVec 32 :=
  let c2_i32_98 : BitVec 32 := 2#32
  let c4_i32_97 : BitVec 32 := 4#32
  let c0_i32_66 : BitVec 32 := 0#32
  let c1_i32_69 : BitVec 32 := 1#32
  let arg15 : BitVec 32 := Scf.iv c0_i32_66 c1_i32_69 k0_t1
  let v182 : BitVec 32 := Scalar.muli c4_i32_97 arg15
  let v183 : BitVec 32 := Scalar.addi c2_i32_98 v182
  let c0_i32_99 : BitVec 32 := 0#32
  let v184 : BitVec 32 := Scalar.addi v183 c0_i32_99
  let c256_i32_100 : BitVec 32 := 256#32
  let v185 : BitVec 32 := Scalar.muli v184 c256_i32_100
  v185
def k0_off2 (v1 : BitVec 32) (k0_t1 : Fin (k0_t1_loop v1).trips) (c0_i32_99 : BitVec 32) : Fin 2 → Nat :=
  let c2_i32_98 : BitVec 32 := 2#32
  let c4_i32_97 : BitVec 32 := 4#32
  let c0_i32_66 : BitVec 32 := 0#32
  let c1_i32_69 : BitVec 32 := 1#32
  let arg15 : BitVec 32 := Scf.iv c0_i32_66 c1_i32_69 k0_t1
  let v182 : BitVec 32 := Scalar.muli c4_i32_97 arg15
  let v183 : BitVec 32 := Scalar.addi c2_i32_98 v182
  let v184 : BitVec 32 := Scalar.addi v183 c0_i32_99
  let c256_i32_100 : BitVec 32 := 256#32
  let v185 : BitVec 32 := Scalar.muli v184 c256_i32_100
  let v186 : BitVec 32 := v185
  let v187 : Index := Scalar.indexCast v186
  let c0_101 : Index := 0#32
  ![v187.toNat, 0]
def k0_off3 (v1 : BitVec 32) (k0_t1 : Fin (k0_t1_loop v1).trips) (c0_i32_99 : BitVec 32) : Fin 2 → Nat :=
  let c2_i32_98 : BitVec 32 := 2#32
  let c4_i32_97 : BitVec 32 := 4#32
  let c0_i32_66 : BitVec 32 := 0#32
  let c1_i32_69 : BitVec 32 := 1#32
  let arg15 : BitVec 32 := Scf.iv c0_i32_66 c1_i32_69 k0_t1
  let v182 : BitVec 32 := Scalar.muli c4_i32_97 arg15
  let v183 : BitVec 32 := Scalar.addi c2_i32_98 v182
  let v184 : BitVec 32 := Scalar.addi v183 c0_i32_99
  let c256_i32_100 : BitVec 32 := 256#32
  let v185 : BitVec 32 := Scalar.muli v184 c256_i32_100
  let v186 : BitVec 32 := v185
  let v207 : Index := Scalar.indexCast v186
  let c0_113 : Index := 0#32
  ![v207.toNat, 0]
def k0_mult2 (v1 : BitVec 32) (k0_t1 : Fin (k0_t1_loop v1).trips) : BitVec 32 :=
  let c2_i32_115 : BitVec 32 := 2#32
  let c4_i32_114 : BitVec 32 := 4#32
  let c0_i32_66 : BitVec 32 := 0#32
  let c1_i32_69 : BitVec 32 := 1#32
  let arg15 : BitVec 32 := Scf.iv c0_i32_66 c1_i32_69 k0_t1
  let v211 : BitVec 32 := Scalar.muli c4_i32_114 arg15
  let v212 : BitVec 32 := Scalar.addi c2_i32_115 v211
  let c1_i32_116 : BitVec 32 := 1#32
  let v213 : BitVec 32 := Scalar.addi v212 c1_i32_116
  let c256_i32_117 : BitVec 32 := 256#32
  let v214 : BitVec 32 := Scalar.muli v213 c256_i32_117
  v214
def k0_mult3 (v1 : BitVec 32) (k0_t1 : Fin (k0_t1_loop v1).trips) : BitVec 32 :=
  let c2_i32_132 : BitVec 32 := 2#32
  let c4_i32_131 : BitVec 32 := 4#32
  let c0_i32_66 : BitVec 32 := 0#32
  let c1_i32_69 : BitVec 32 := 1#32
  let arg15 : BitVec 32 := Scf.iv c0_i32_66 c1_i32_69 k0_t1
  let v240 : BitVec 32 := Scalar.muli c4_i32_131 arg15
  let v241 : BitVec 32 := Scalar.addi c2_i32_132 v240
  let c2_i32_133 : BitVec 32 := 2#32
  let v242 : BitVec 32 := Scalar.addi v241 c2_i32_133
  let c256_i32_134 : BitVec 32 := 256#32
  let v243 : BitVec 32 := Scalar.muli v242 c256_i32_134
  v243
def k0_mult4 (v1 : BitVec 32) (k0_t1 : Fin (k0_t1_loop v1).trips) : BitVec 32 :=
  let c2_i32_149 : BitVec 32 := 2#32
  let c4_i32_148 : BitVec 32 := 4#32
  let c0_i32_66 : BitVec 32 := 0#32
  let c1_i32_69 : BitVec 32 := 1#32
  let arg15 : BitVec 32 := Scf.iv c0_i32_66 c1_i32_69 k0_t1
  let v269 : BitVec 32 := Scalar.muli c4_i32_148 arg15
  let v270 : BitVec 32 := Scalar.addi c2_i32_149 v269
  let c3_i32 : BitVec 32 := 3#32
  let v271 : BitVec 32 := Scalar.addi v270 c3_i32
  let c256_i32_150 : BitVec 32 := 256#32
  let v272 : BitVec 32 := Scalar.muli v271 c256_i32_150
  v272
@[reducible] def k0_t2_loop (v1 : BitVec 32) : Scf.Loop 32 :=
  let c0_i32_66 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_60 : BitVec 32 := 0#32
  let v112 : BitVec 1 := Scalar.cmpi .sgt v110 c0_i32_60
  let v113 : BitVec 32 := Scalar.extui v112
  let c0_i32_61 : BitVec 32 := 0#32
  let v114 : BitVec 1 := Scalar.cmpi .slt v110 c0_i32_61
  let v115 : BitVec 32 := Scalar.extui v114
  let v116 : BitVec 32 := Scalar.subi v113 v115
  let c4_i32 : BitVec 32 := 4#32
  let c0_i32_62 : BitVec 32 := 0#32
  let v117 : BitVec 1 := Scalar.cmpi .sgt c4_i32 c0_i32_62
  let v118 : BitVec 32 := Scalar.extui v117
  let c0_i32_63 : BitVec 32 := 0#32
  let v119 : BitVec 1 := Scalar.cmpi .slt c4_i32 c0_i32_63
  let v120 : BitVec 32 := Scalar.extui v119
  let v121 : BitVec 32 := Scalar.subi v118 v120
  let v122 : BitVec 1 := Scalar.cmpi .ne v116 v121
  let v123 : BitVec 32 := Scalar.remsi v110 c4_i32
  let c0_i32_64 : BitVec 32 := 0#32
  let v124 : BitVec 1 := Scalar.cmpi .ne v123 c0_i32_64
  let v125 : BitVec 1 := Scalar.andi v122 v124
  let v111 : BitVec 32 := Scalar.divsi v110 c4_i32
  let c1_i32_65 : BitVec 32 := 1#32
  let v126 : BitVec 32 := Scalar.subi v111 c1_i32_65
  let v127 : BitVec 32 := Scalar.select v125 v126 v111
  let v128 : BitVec 32 := Scalar.subi v127 c0_i32_66
  let c1_i32_68 : BitVec 32 := 1#32
  let v130 : BitVec 32 := Scalar.divsi v128 c1_i32_68
  let v131 : BitVec 32 := Scalar.muli v130 c1_i32_68
  let v132 : BitVec 32 := Scalar.addi c0_i32_66 v131
  let v129 : BitVec 32 := Scalar.addi c0_i32_66 v128
  let c1_i32_70 : BitVec 32 := 1#32
  ⟨v132, v129, c1_i32_70⟩
def k0_mult5 (v1 : BitVec 32) (k0_t2 : Fin (k0_t2_loop v1).trips) : BitVec 32 :=
  let c2_i32_98 : BitVec 32 := 2#32
  let c4_i32_97 : BitVec 32 := 4#32
  let c0_i32_66 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_60 : BitVec 32 := 0#32
  let v112 : BitVec 1 := Scalar.cmpi .sgt v110 c0_i32_60
  let v113 : BitVec 32 := Scalar.extui v112
  let c0_i32_61 : BitVec 32 := 0#32
  let v114 : BitVec 1 := Scalar.cmpi .slt v110 c0_i32_61
  let v115 : BitVec 32 := Scalar.extui v114
  let v116 : BitVec 32 := Scalar.subi v113 v115
  let c4_i32 : BitVec 32 := 4#32
  let c0_i32_62 : BitVec 32 := 0#32
  let v117 : BitVec 1 := Scalar.cmpi .sgt c4_i32 c0_i32_62
  let v118 : BitVec 32 := Scalar.extui v117
  let c0_i32_63 : BitVec 32 := 0#32
  let v119 : BitVec 1 := Scalar.cmpi .slt c4_i32 c0_i32_63
  let v120 : BitVec 32 := Scalar.extui v119
  let v121 : BitVec 32 := Scalar.subi v118 v120
  let v122 : BitVec 1 := Scalar.cmpi .ne v116 v121
  let v123 : BitVec 32 := Scalar.remsi v110 c4_i32
  let c0_i32_64 : BitVec 32 := 0#32
  let v124 : BitVec 1 := Scalar.cmpi .ne v123 c0_i32_64
  let v125 : BitVec 1 := Scalar.andi v122 v124
  let v111 : BitVec 32 := Scalar.divsi v110 c4_i32
  let c1_i32_65 : BitVec 32 := 1#32
  let v126 : BitVec 32 := Scalar.subi v111 c1_i32_65
  let v127 : BitVec 32 := Scalar.select v125 v126 v111
  let v128 : BitVec 32 := Scalar.subi v127 c0_i32_66
  let c1_i32_68 : BitVec 32 := 1#32
  let v130 : BitVec 32 := Scalar.divsi v128 c1_i32_68
  let v131 : BitVec 32 := Scalar.muli v130 c1_i32_68
  let v132 : BitVec 32 := Scalar.addi c0_i32_66 v131
  let c1_i32_70 : BitVec 32 := 1#32
  let arg15 : BitVec 32 := Scf.iv v132 c1_i32_70 k0_t2
  let v182 : BitVec 32 := Scalar.muli c4_i32_97 arg15
  let v183 : BitVec 32 := Scalar.addi c2_i32_98 v182
  let c0_i32_99 : BitVec 32 := 0#32
  let v184 : BitVec 32 := Scalar.addi v183 c0_i32_99
  let c256_i32_100 : BitVec 32 := 256#32
  let v185 : BitVec 32 := Scalar.muli v184 c256_i32_100
  v185
def k0_off4 (v1 : BitVec 32) (k0_t2 : Fin (k0_t2_loop v1).trips) (c0_i32_99 : BitVec 32) : Fin 2 → Nat :=
  let c2_i32_98 : BitVec 32 := 2#32
  let c4_i32_97 : BitVec 32 := 4#32
  let c0_i32_66 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_60 : BitVec 32 := 0#32
  let v112 : BitVec 1 := Scalar.cmpi .sgt v110 c0_i32_60
  let v113 : BitVec 32 := Scalar.extui v112
  let c0_i32_61 : BitVec 32 := 0#32
  let v114 : BitVec 1 := Scalar.cmpi .slt v110 c0_i32_61
  let v115 : BitVec 32 := Scalar.extui v114
  let v116 : BitVec 32 := Scalar.subi v113 v115
  let c4_i32 : BitVec 32 := 4#32
  let c0_i32_62 : BitVec 32 := 0#32
  let v117 : BitVec 1 := Scalar.cmpi .sgt c4_i32 c0_i32_62
  let v118 : BitVec 32 := Scalar.extui v117
  let c0_i32_63 : BitVec 32 := 0#32
  let v119 : BitVec 1 := Scalar.cmpi .slt c4_i32 c0_i32_63
  let v120 : BitVec 32 := Scalar.extui v119
  let v121 : BitVec 32 := Scalar.subi v118 v120
  let v122 : BitVec 1 := Scalar.cmpi .ne v116 v121
  let v123 : BitVec 32 := Scalar.remsi v110 c4_i32
  let c0_i32_64 : BitVec 32 := 0#32
  let v124 : BitVec 1 := Scalar.cmpi .ne v123 c0_i32_64
  let v125 : BitVec 1 := Scalar.andi v122 v124
  let v111 : BitVec 32 := Scalar.divsi v110 c4_i32
  let c1_i32_65 : BitVec 32 := 1#32
  let v126 : BitVec 32 := Scalar.subi v111 c1_i32_65
  let v127 : BitVec 32 := Scalar.select v125 v126 v111
  let v128 : BitVec 32 := Scalar.subi v127 c0_i32_66
  let c1_i32_68 : BitVec 32 := 1#32
  let v130 : BitVec 32 := Scalar.divsi v128 c1_i32_68
  let v131 : BitVec 32 := Scalar.muli v130 c1_i32_68
  let v132 : BitVec 32 := Scalar.addi c0_i32_66 v131
  let c1_i32_70 : BitVec 32 := 1#32
  let arg15 : BitVec 32 := Scf.iv v132 c1_i32_70 k0_t2
  let v182 : BitVec 32 := Scalar.muli c4_i32_97 arg15
  let v183 : BitVec 32 := Scalar.addi c2_i32_98 v182
  let v184 : BitVec 32 := Scalar.addi v183 c0_i32_99
  let c256_i32_100 : BitVec 32 := 256#32
  let v185 : BitVec 32 := Scalar.muli v184 c256_i32_100
  let v186 : BitVec 32 := v185
  let v187 : Index := Scalar.indexCast v186
  let c0_101 : Index := 0#32
  ![v187.toNat, 0]
def k0_off5 (v1 : BitVec 32) (k0_t2 : Fin (k0_t2_loop v1).trips) (c0_i32_99 : BitVec 32) : Fin 2 → Nat :=
  let c2_i32_98 : BitVec 32 := 2#32
  let c4_i32_97 : BitVec 32 := 4#32
  let c0_i32_66 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_60 : BitVec 32 := 0#32
  let v112 : BitVec 1 := Scalar.cmpi .sgt v110 c0_i32_60
  let v113 : BitVec 32 := Scalar.extui v112
  let c0_i32_61 : BitVec 32 := 0#32
  let v114 : BitVec 1 := Scalar.cmpi .slt v110 c0_i32_61
  let v115 : BitVec 32 := Scalar.extui v114
  let v116 : BitVec 32 := Scalar.subi v113 v115
  let c4_i32 : BitVec 32 := 4#32
  let c0_i32_62 : BitVec 32 := 0#32
  let v117 : BitVec 1 := Scalar.cmpi .sgt c4_i32 c0_i32_62
  let v118 : BitVec 32 := Scalar.extui v117
  let c0_i32_63 : BitVec 32 := 0#32
  let v119 : BitVec 1 := Scalar.cmpi .slt c4_i32 c0_i32_63
  let v120 : BitVec 32 := Scalar.extui v119
  let v121 : BitVec 32 := Scalar.subi v118 v120
  let v122 : BitVec 1 := Scalar.cmpi .ne v116 v121
  let v123 : BitVec 32 := Scalar.remsi v110 c4_i32
  let c0_i32_64 : BitVec 32 := 0#32
  let v124 : BitVec 1 := Scalar.cmpi .ne v123 c0_i32_64
  let v125 : BitVec 1 := Scalar.andi v122 v124
  let v111 : BitVec 32 := Scalar.divsi v110 c4_i32
  let c1_i32_65 : BitVec 32 := 1#32
  let v126 : BitVec 32 := Scalar.subi v111 c1_i32_65
  let v127 : BitVec 32 := Scalar.select v125 v126 v111
  let v128 : BitVec 32 := Scalar.subi v127 c0_i32_66
  let c1_i32_68 : BitVec 32 := 1#32
  let v130 : BitVec 32 := Scalar.divsi v128 c1_i32_68
  let v131 : BitVec 32 := Scalar.muli v130 c1_i32_68
  let v132 : BitVec 32 := Scalar.addi c0_i32_66 v131
  let c1_i32_70 : BitVec 32 := 1#32
  let arg15 : BitVec 32 := Scf.iv v132 c1_i32_70 k0_t2
  let v182 : BitVec 32 := Scalar.muli c4_i32_97 arg15
  let v183 : BitVec 32 := Scalar.addi c2_i32_98 v182
  let v184 : BitVec 32 := Scalar.addi v183 c0_i32_99
  let c256_i32_100 : BitVec 32 := 256#32
  let v185 : BitVec 32 := Scalar.muli v184 c256_i32_100
  let v186 : BitVec 32 := v185
  let v207 : Index := Scalar.indexCast v186
  let c0_113 : Index := 0#32
  ![v207.toNat, 0]
def k0_mult6 (v1 : BitVec 32) (k0_t2 : Fin (k0_t2_loop v1).trips) : BitVec 32 :=
  let c2_i32_115 : BitVec 32 := 2#32
  let c4_i32_114 : BitVec 32 := 4#32
  let c0_i32_66 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_60 : BitVec 32 := 0#32
  let v112 : BitVec 1 := Scalar.cmpi .sgt v110 c0_i32_60
  let v113 : BitVec 32 := Scalar.extui v112
  let c0_i32_61 : BitVec 32 := 0#32
  let v114 : BitVec 1 := Scalar.cmpi .slt v110 c0_i32_61
  let v115 : BitVec 32 := Scalar.extui v114
  let v116 : BitVec 32 := Scalar.subi v113 v115
  let c4_i32 : BitVec 32 := 4#32
  let c0_i32_62 : BitVec 32 := 0#32
  let v117 : BitVec 1 := Scalar.cmpi .sgt c4_i32 c0_i32_62
  let v118 : BitVec 32 := Scalar.extui v117
  let c0_i32_63 : BitVec 32 := 0#32
  let v119 : BitVec 1 := Scalar.cmpi .slt c4_i32 c0_i32_63
  let v120 : BitVec 32 := Scalar.extui v119
  let v121 : BitVec 32 := Scalar.subi v118 v120
  let v122 : BitVec 1 := Scalar.cmpi .ne v116 v121
  let v123 : BitVec 32 := Scalar.remsi v110 c4_i32
  let c0_i32_64 : BitVec 32 := 0#32
  let v124 : BitVec 1 := Scalar.cmpi .ne v123 c0_i32_64
  let v125 : BitVec 1 := Scalar.andi v122 v124
  let v111 : BitVec 32 := Scalar.divsi v110 c4_i32
  let c1_i32_65 : BitVec 32 := 1#32
  let v126 : BitVec 32 := Scalar.subi v111 c1_i32_65
  let v127 : BitVec 32 := Scalar.select v125 v126 v111
  let v128 : BitVec 32 := Scalar.subi v127 c0_i32_66
  let c1_i32_68 : BitVec 32 := 1#32
  let v130 : BitVec 32 := Scalar.divsi v128 c1_i32_68
  let v131 : BitVec 32 := Scalar.muli v130 c1_i32_68
  let v132 : BitVec 32 := Scalar.addi c0_i32_66 v131
  let c1_i32_70 : BitVec 32 := 1#32
  let arg15 : BitVec 32 := Scf.iv v132 c1_i32_70 k0_t2
  let v211 : BitVec 32 := Scalar.muli c4_i32_114 arg15
  let v212 : BitVec 32 := Scalar.addi c2_i32_115 v211
  let c1_i32_116 : BitVec 32 := 1#32
  let v213 : BitVec 32 := Scalar.addi v212 c1_i32_116
  let c256_i32_117 : BitVec 32 := 256#32
  let v214 : BitVec 32 := Scalar.muli v213 c256_i32_117
  v214
def k0_mult7 (v1 : BitVec 32) (k0_t2 : Fin (k0_t2_loop v1).trips) : BitVec 32 :=
  let c2_i32_132 : BitVec 32 := 2#32
  let c4_i32_131 : BitVec 32 := 4#32
  let c0_i32_66 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_60 : BitVec 32 := 0#32
  let v112 : BitVec 1 := Scalar.cmpi .sgt v110 c0_i32_60
  let v113 : BitVec 32 := Scalar.extui v112
  let c0_i32_61 : BitVec 32 := 0#32
  let v114 : BitVec 1 := Scalar.cmpi .slt v110 c0_i32_61
  let v115 : BitVec 32 := Scalar.extui v114
  let v116 : BitVec 32 := Scalar.subi v113 v115
  let c4_i32 : BitVec 32 := 4#32
  let c0_i32_62 : BitVec 32 := 0#32
  let v117 : BitVec 1 := Scalar.cmpi .sgt c4_i32 c0_i32_62
  let v118 : BitVec 32 := Scalar.extui v117
  let c0_i32_63 : BitVec 32 := 0#32
  let v119 : BitVec 1 := Scalar.cmpi .slt c4_i32 c0_i32_63
  let v120 : BitVec 32 := Scalar.extui v119
  let v121 : BitVec 32 := Scalar.subi v118 v120
  let v122 : BitVec 1 := Scalar.cmpi .ne v116 v121
  let v123 : BitVec 32 := Scalar.remsi v110 c4_i32
  let c0_i32_64 : BitVec 32 := 0#32
  let v124 : BitVec 1 := Scalar.cmpi .ne v123 c0_i32_64
  let v125 : BitVec 1 := Scalar.andi v122 v124
  let v111 : BitVec 32 := Scalar.divsi v110 c4_i32
  let c1_i32_65 : BitVec 32 := 1#32
  let v126 : BitVec 32 := Scalar.subi v111 c1_i32_65
  let v127 : BitVec 32 := Scalar.select v125 v126 v111
  let v128 : BitVec 32 := Scalar.subi v127 c0_i32_66
  let c1_i32_68 : BitVec 32 := 1#32
  let v130 : BitVec 32 := Scalar.divsi v128 c1_i32_68
  let v131 : BitVec 32 := Scalar.muli v130 c1_i32_68
  let v132 : BitVec 32 := Scalar.addi c0_i32_66 v131
  let c1_i32_70 : BitVec 32 := 1#32
  let arg15 : BitVec 32 := Scf.iv v132 c1_i32_70 k0_t2
  let v240 : BitVec 32 := Scalar.muli c4_i32_131 arg15
  let v241 : BitVec 32 := Scalar.addi c2_i32_132 v240
  let c2_i32_133 : BitVec 32 := 2#32
  let v242 : BitVec 32 := Scalar.addi v241 c2_i32_133
  let c256_i32_134 : BitVec 32 := 256#32
  let v243 : BitVec 32 := Scalar.muli v242 c256_i32_134
  v243
def k0_mult8 (v1 : BitVec 32) (k0_t2 : Fin (k0_t2_loop v1).trips) : BitVec 32 :=
  let c2_i32_149 : BitVec 32 := 2#32
  let c4_i32_148 : BitVec 32 := 4#32
  let c0_i32_66 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_60 : BitVec 32 := 0#32
  let v112 : BitVec 1 := Scalar.cmpi .sgt v110 c0_i32_60
  let v113 : BitVec 32 := Scalar.extui v112
  let c0_i32_61 : BitVec 32 := 0#32
  let v114 : BitVec 1 := Scalar.cmpi .slt v110 c0_i32_61
  let v115 : BitVec 32 := Scalar.extui v114
  let v116 : BitVec 32 := Scalar.subi v113 v115
  let c4_i32 : BitVec 32 := 4#32
  let c0_i32_62 : BitVec 32 := 0#32
  let v117 : BitVec 1 := Scalar.cmpi .sgt c4_i32 c0_i32_62
  let v118 : BitVec 32 := Scalar.extui v117
  let c0_i32_63 : BitVec 32 := 0#32
  let v119 : BitVec 1 := Scalar.cmpi .slt c4_i32 c0_i32_63
  let v120 : BitVec 32 := Scalar.extui v119
  let v121 : BitVec 32 := Scalar.subi v118 v120
  let v122 : BitVec 1 := Scalar.cmpi .ne v116 v121
  let v123 : BitVec 32 := Scalar.remsi v110 c4_i32
  let c0_i32_64 : BitVec 32 := 0#32
  let v124 : BitVec 1 := Scalar.cmpi .ne v123 c0_i32_64
  let v125 : BitVec 1 := Scalar.andi v122 v124
  let v111 : BitVec 32 := Scalar.divsi v110 c4_i32
  let c1_i32_65 : BitVec 32 := 1#32
  let v126 : BitVec 32 := Scalar.subi v111 c1_i32_65
  let v127 : BitVec 32 := Scalar.select v125 v126 v111
  let v128 : BitVec 32 := Scalar.subi v127 c0_i32_66
  let c1_i32_68 : BitVec 32 := 1#32
  let v130 : BitVec 32 := Scalar.divsi v128 c1_i32_68
  let v131 : BitVec 32 := Scalar.muli v130 c1_i32_68
  let v132 : BitVec 32 := Scalar.addi c0_i32_66 v131
  let c1_i32_70 : BitVec 32 := 1#32
  let arg15 : BitVec 32 := Scf.iv v132 c1_i32_70 k0_t2
  let v269 : BitVec 32 := Scalar.muli c4_i32_148 arg15
  let v270 : BitVec 32 := Scalar.addi c2_i32_149 v269
  let c3_i32 : BitVec 32 := 3#32
  let v271 : BitVec 32 := Scalar.addi v270 c3_i32
  let c256_i32_150 : BitVec 32 := 256#32
  let v272 : BitVec 32 := Scalar.muli v271 c256_i32_150
  v272
def k0_mult9 (v1 : BitVec 32) : BitVec 32 :=
  let c2_i32_79 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_72 : BitVec 32 := 0#32
  let v136 : BitVec 1 := Scalar.cmpi .sgt v110 c0_i32_72
  let v137 : BitVec 32 := Scalar.extui v136
  let c0_i32_73 : BitVec 32 := 0#32
  let v138 : BitVec 1 := Scalar.cmpi .slt v110 c0_i32_73
  let v139 : BitVec 32 := Scalar.extui v138
  let v140 : BitVec 32 := Scalar.subi v137 v139
  let c4_i32_71 : BitVec 32 := 4#32
  let c0_i32_74 : BitVec 32 := 0#32
  let v141 : BitVec 1 := Scalar.cmpi .sgt c4_i32_71 c0_i32_74
  let v142 : BitVec 32 := Scalar.extui v141
  let c0_i32_75 : BitVec 32 := 0#32
  let v143 : BitVec 1 := Scalar.cmpi .slt c4_i32_71 c0_i32_75
  let v144 : BitVec 32 := Scalar.extui v143
  let v145 : BitVec 32 := Scalar.subi v142 v144
  let v146 : BitVec 1 := Scalar.cmpi .ne v140 v145
  let v147 : BitVec 32 := Scalar.remsi v110 c4_i32_71
  let c0_i32_76 : BitVec 32 := 0#32
  let v148 : BitVec 1 := Scalar.cmpi .ne v147 c0_i32_76
  let v149 : BitVec 1 := Scalar.andi v146 v148
  let v135 : BitVec 32 := Scalar.divsi v110 c4_i32_71
  let c1_i32_77 : BitVec 32 := 1#32
  let v150 : BitVec 32 := Scalar.subi v135 c1_i32_77
  let v151 : BitVec 32 := Scalar.select v149 v150 v135
  let c4_i32_78 : BitVec 32 := 4#32
  let v152 : BitVec 32 := Scalar.muli v151 c4_i32_78
  let v153 : BitVec 32 := Scalar.addi c2_i32_79 v152
  let c256_i32_97 : BitVec 32 := 256#32
  let v182 : BitVec 32 := Scalar.muli v153 c256_i32_97
  v182
def k0_cond4 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c4_i32_80 : BitVec 32 := 4#32
  let c0_i32_81 : BitVec 32 := 0#32
  let v154 : BitVec 1 := Scalar.cmpi .eq c4_i32_80 c0_i32_81
  let c1_i32_82 : BitVec 32 := 1#32
  let v155 : BitVec 32 := Scalar.select v154 c1_i32_82 c4_i32_80
  let v156 : BitVec 32 := Scalar.remsi v110 v155
  let c0_i32_84 : BitVec 32 := 0#32
  let v158 : BitVec 1 := Scalar.cmpi .slt v156 c0_i32_84
  let c0_i32_85 : BitVec 32 := 0#32
  let v159 : BitVec 1 := Scalar.cmpi .slt v155 c0_i32_85
  let v160 : BitVec 1 := Scalar.xori v158 v159
  let c0_i32_83 : BitVec 32 := 0#32
  let v157 : BitVec 1 := Scalar.cmpi .ne v156 c0_i32_83
  let v161 : BitVec 1 := Scalar.andi v160 v157
  let v162 : BitVec 32 := Scalar.addi v156 v155
  let v163 : BitVec 32 := Scalar.select v161 v162 v156
  let c2_i32_86 : BitVec 32 := 2#32
  let v164 : BitVec 1 := Scalar.cmpi .sge v163 c2_i32_86
  let v165 : BitVec 32 := Scalar.extui v164
  let c0_i32_87 : BitVec 32 := 0#32
  let v166 : BitVec 1 := Scalar.cmpi .ne v165 c0_i32_87
  v166

def k0_off6 (v1 : BitVec 32) : Fin 2 → Nat :=
  let c2_i32_79 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_72 : BitVec 32 := 0#32
  let v136 : BitVec 1 := Scalar.cmpi .sgt v110 c0_i32_72
  let v137 : BitVec 32 := Scalar.extui v136
  let c0_i32_73 : BitVec 32 := 0#32
  let v138 : BitVec 1 := Scalar.cmpi .slt v110 c0_i32_73
  let v139 : BitVec 32 := Scalar.extui v138
  let v140 : BitVec 32 := Scalar.subi v137 v139
  let c4_i32_71 : BitVec 32 := 4#32
  let c0_i32_74 : BitVec 32 := 0#32
  let v141 : BitVec 1 := Scalar.cmpi .sgt c4_i32_71 c0_i32_74
  let v142 : BitVec 32 := Scalar.extui v141
  let c0_i32_75 : BitVec 32 := 0#32
  let v143 : BitVec 1 := Scalar.cmpi .slt c4_i32_71 c0_i32_75
  let v144 : BitVec 32 := Scalar.extui v143
  let v145 : BitVec 32 := Scalar.subi v142 v144
  let v146 : BitVec 1 := Scalar.cmpi .ne v140 v145
  let v147 : BitVec 32 := Scalar.remsi v110 c4_i32_71
  let c0_i32_76 : BitVec 32 := 0#32
  let v148 : BitVec 1 := Scalar.cmpi .ne v147 c0_i32_76
  let v149 : BitVec 1 := Scalar.andi v146 v148
  let v135 : BitVec 32 := Scalar.divsi v110 c4_i32_71
  let c1_i32_77 : BitVec 32 := 1#32
  let v150 : BitVec 32 := Scalar.subi v135 c1_i32_77
  let v151 : BitVec 32 := Scalar.select v149 v150 v135
  let c4_i32_78 : BitVec 32 := 4#32
  let v152 : BitVec 32 := Scalar.muli v151 c4_i32_78
  let v153 : BitVec 32 := Scalar.addi c2_i32_79 v152
  let c256_i32_97 : BitVec 32 := 256#32
  let v182 : BitVec 32 := Scalar.muli v153 c256_i32_97
  let v183 : BitVec 32 := v182
  let v184 : Index := Scalar.indexCast v183
  let c0_98 : Index := 0#32
  ![v184.toNat, 0]
def k0_off7 (v1 : BitVec 32) : Fin 2 → Nat :=
  let c2_i32_79 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_72 : BitVec 32 := 0#32
  let v136 : BitVec 1 := Scalar.cmpi .sgt v110 c0_i32_72
  let v137 : BitVec 32 := Scalar.extui v136
  let c0_i32_73 : BitVec 32 := 0#32
  let v138 : BitVec 1 := Scalar.cmpi .slt v110 c0_i32_73
  let v139 : BitVec 32 := Scalar.extui v138
  let v140 : BitVec 32 := Scalar.subi v137 v139
  let c4_i32_71 : BitVec 32 := 4#32
  let c0_i32_74 : BitVec 32 := 0#32
  let v141 : BitVec 1 := Scalar.cmpi .sgt c4_i32_71 c0_i32_74
  let v142 : BitVec 32 := Scalar.extui v141
  let c0_i32_75 : BitVec 32 := 0#32
  let v143 : BitVec 1 := Scalar.cmpi .slt c4_i32_71 c0_i32_75
  let v144 : BitVec 32 := Scalar.extui v143
  let v145 : BitVec 32 := Scalar.subi v142 v144
  let v146 : BitVec 1 := Scalar.cmpi .ne v140 v145
  let v147 : BitVec 32 := Scalar.remsi v110 c4_i32_71
  let c0_i32_76 : BitVec 32 := 0#32
  let v148 : BitVec 1 := Scalar.cmpi .ne v147 c0_i32_76
  let v149 : BitVec 1 := Scalar.andi v146 v148
  let v135 : BitVec 32 := Scalar.divsi v110 c4_i32_71
  let c1_i32_77 : BitVec 32 := 1#32
  let v150 : BitVec 32 := Scalar.subi v135 c1_i32_77
  let v151 : BitVec 32 := Scalar.select v149 v150 v135
  let c4_i32_78 : BitVec 32 := 4#32
  let v152 : BitVec 32 := Scalar.muli v151 c4_i32_78
  let v153 : BitVec 32 := Scalar.addi c2_i32_79 v152
  let c256_i32_97 : BitVec 32 := 256#32
  let v182 : BitVec 32 := Scalar.muli v153 c256_i32_97
  let v183 : BitVec 32 := v182
  let v204 : Index := Scalar.indexCast v183
  let c0_110 : Index := 0#32
  ![v204.toNat, 0]
def k0_mult10 (v1 : BitVec 32) : BitVec 32 :=
  let c2_i32_79 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_72 : BitVec 32 := 0#32
  let v136 : BitVec 1 := Scalar.cmpi .sgt v110 c0_i32_72
  let v137 : BitVec 32 := Scalar.extui v136
  let c0_i32_73 : BitVec 32 := 0#32
  let v138 : BitVec 1 := Scalar.cmpi .slt v110 c0_i32_73
  let v139 : BitVec 32 := Scalar.extui v138
  let v140 : BitVec 32 := Scalar.subi v137 v139
  let c4_i32_71 : BitVec 32 := 4#32
  let c0_i32_74 : BitVec 32 := 0#32
  let v141 : BitVec 1 := Scalar.cmpi .sgt c4_i32_71 c0_i32_74
  let v142 : BitVec 32 := Scalar.extui v141
  let c0_i32_75 : BitVec 32 := 0#32
  let v143 : BitVec 1 := Scalar.cmpi .slt c4_i32_71 c0_i32_75
  let v144 : BitVec 32 := Scalar.extui v143
  let v145 : BitVec 32 := Scalar.subi v142 v144
  let v146 : BitVec 1 := Scalar.cmpi .ne v140 v145
  let v147 : BitVec 32 := Scalar.remsi v110 c4_i32_71
  let c0_i32_76 : BitVec 32 := 0#32
  let v148 : BitVec 1 := Scalar.cmpi .ne v147 c0_i32_76
  let v149 : BitVec 1 := Scalar.andi v146 v148
  let v135 : BitVec 32 := Scalar.divsi v110 c4_i32_71
  let c1_i32_77 : BitVec 32 := 1#32
  let v150 : BitVec 32 := Scalar.subi v135 c1_i32_77
  let v151 : BitVec 32 := Scalar.select v149 v150 v135
  let c4_i32_78 : BitVec 32 := 4#32
  let v152 : BitVec 32 := Scalar.muli v151 c4_i32_78
  let v153 : BitVec 32 := Scalar.addi c2_i32_79 v152
  let c1_i32_111 : BitVec 32 := 1#32
  let v208 : BitVec 32 := Scalar.addi v153 c1_i32_111
  let c256_i32_112 : BitVec 32 := 256#32
  let v209 : BitVec 32 := Scalar.muli v208 c256_i32_112
  v209
def k0_off8 (v1 : BitVec 32) : Fin 2 → Nat :=
  let c2_i32_79 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_72 : BitVec 32 := 0#32
  let v136 : BitVec 1 := Scalar.cmpi .sgt v110 c0_i32_72
  let v137 : BitVec 32 := Scalar.extui v136
  let c0_i32_73 : BitVec 32 := 0#32
  let v138 : BitVec 1 := Scalar.cmpi .slt v110 c0_i32_73
  let v139 : BitVec 32 := Scalar.extui v138
  let v140 : BitVec 32 := Scalar.subi v137 v139
  let c4_i32_71 : BitVec 32 := 4#32
  let c0_i32_74 : BitVec 32 := 0#32
  let v141 : BitVec 1 := Scalar.cmpi .sgt c4_i32_71 c0_i32_74
  let v142 : BitVec 32 := Scalar.extui v141
  let c0_i32_75 : BitVec 32 := 0#32
  let v143 : BitVec 1 := Scalar.cmpi .slt c4_i32_71 c0_i32_75
  let v144 : BitVec 32 := Scalar.extui v143
  let v145 : BitVec 32 := Scalar.subi v142 v144
  let v146 : BitVec 1 := Scalar.cmpi .ne v140 v145
  let v147 : BitVec 32 := Scalar.remsi v110 c4_i32_71
  let c0_i32_76 : BitVec 32 := 0#32
  let v148 : BitVec 1 := Scalar.cmpi .ne v147 c0_i32_76
  let v149 : BitVec 1 := Scalar.andi v146 v148
  let v135 : BitVec 32 := Scalar.divsi v110 c4_i32_71
  let c1_i32_77 : BitVec 32 := 1#32
  let v150 : BitVec 32 := Scalar.subi v135 c1_i32_77
  let v151 : BitVec 32 := Scalar.select v149 v150 v135
  let c4_i32_78 : BitVec 32 := 4#32
  let v152 : BitVec 32 := Scalar.muli v151 c4_i32_78
  let v153 : BitVec 32 := Scalar.addi c2_i32_79 v152
  let c1_i32_111 : BitVec 32 := 1#32
  let v208 : BitVec 32 := Scalar.addi v153 c1_i32_111
  let c256_i32_112 : BitVec 32 := 256#32
  let v209 : BitVec 32 := Scalar.muli v208 c256_i32_112
  let v210 : BitVec 32 := v209
  let v211 : Index := Scalar.indexCast v210
  let c0_113 : Index := 0#32
  ![v211.toNat, 0]
def k0_off9 (v1 : BitVec 32) : Fin 2 → Nat :=
  let c2_i32_79 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_59 : BitVec 32 := 2#32
  let v110 : BitVec 32 := Scalar.subi v23 c2_i32_59
  let c0_i32_72 : BitVec 32 := 0#32
  let v136 : BitVec 1 := Scalar.cmpi .sgt v110 c0_i32_72
  let v137 : BitVec 32 := Scalar.extui v136
  let c0_i32_73 : BitVec 32 := 0#32
  let v138 : BitVec 1 := Scalar.cmpi .slt v110 c0_i32_73
  let v139 : BitVec 32 := Scalar.extui v138
  let v140 : BitVec 32 := Scalar.subi v137 v139
  let c4_i32_71 : BitVec 32 := 4#32
  let c0_i32_74 : BitVec 32 := 0#32
  let v141 : BitVec 1 := Scalar.cmpi .sgt c4_i32_71 c0_i32_74
  let v142 : BitVec 32 := Scalar.extui v141
  let c0_i32_75 : BitVec 32 := 0#32
  let v143 : BitVec 1 := Scalar.cmpi .slt c4_i32_71 c0_i32_75
  let v144 : BitVec 32 := Scalar.extui v143
  let v145 : BitVec 32 := Scalar.subi v142 v144
  let v146 : BitVec 1 := Scalar.cmpi .ne v140 v145
  let v147 : BitVec 32 := Scalar.remsi v110 c4_i32_71
  let c0_i32_76 : BitVec 32 := 0#32
  let v148 : BitVec 1 := Scalar.cmpi .ne v147 c0_i32_76
  let v149 : BitVec 1 := Scalar.andi v146 v148
  let v135 : BitVec 32 := Scalar.divsi v110 c4_i32_71
  let c1_i32_77 : BitVec 32 := 1#32
  let v150 : BitVec 32 := Scalar.subi v135 c1_i32_77
  let v151 : BitVec 32 := Scalar.select v149 v150 v135
  let c4_i32_78 : BitVec 32 := 4#32
  let v152 : BitVec 32 := Scalar.muli v151 c4_i32_78
  let v153 : BitVec 32 := Scalar.addi c2_i32_79 v152
  let c1_i32_111 : BitVec 32 := 1#32
  let v208 : BitVec 32 := Scalar.addi v153 c1_i32_111
  let c256_i32_112 : BitVec 32 := 256#32
  let v209 : BitVec 32 := Scalar.muli v208 c256_i32_112
  let v210 : BitVec 32 := v209
  let v231 : Index := Scalar.indexCast v210
  let c0_125 : Index := 0#32
  ![v231.toNat, 0]
def k0_mult11 (v1 : BitVec 32) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c1_i32_97 : BitVec 32 := 1#32
  let v182 : BitVec 32 := Scalar.subi v23 c1_i32_97
  let c256_i32_98 : BitVec 32 := 256#32
  let v183 : BitVec 32 := Scalar.muli v182 c256_i32_98
  v183
def k0_cond5 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_88 : BitVec 32 := 2#32
  let c0_i32_89 : BitVec 32 := 0#32
  let v167 : BitVec 1 := Scalar.cmpi .eq c2_i32_88 c0_i32_89
  let c1_i32_90 : BitVec 32 := 1#32
  let v168 : BitVec 32 := Scalar.select v167 c1_i32_90 c2_i32_88
  let v169 : BitVec 32 := Scalar.remsi v23 v168
  let c0_i32_92 : BitVec 32 := 0#32
  let v171 : BitVec 1 := Scalar.cmpi .slt v169 c0_i32_92
  let c0_i32_93 : BitVec 32 := 0#32
  let v172 : BitVec 1 := Scalar.cmpi .slt v168 c0_i32_93
  let v173 : BitVec 1 := Scalar.xori v171 v172
  let c0_i32_91 : BitVec 32 := 0#32
  let v170 : BitVec 1 := Scalar.cmpi .ne v169 c0_i32_91
  let v174 : BitVec 1 := Scalar.andi v173 v170
  let v175 : BitVec 32 := Scalar.addi v169 v168
  let v176 : BitVec 32 := Scalar.select v174 v175 v169
  let c1_i32_94 : BitVec 32 := 1#32
  let v177 : BitVec 1 := Scalar.cmpi .eq v176 c1_i32_94
  let v178 : BitVec 32 := Scalar.extui v177
  let c0_i32_95 : BitVec 32 := 0#32
  let v179 : BitVec 1 := Scalar.cmpi .ne v178 c0_i32_95
  v179

def k0_off10 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c1_i32_97 : BitVec 32 := 1#32
  let v182 : BitVec 32 := Scalar.subi v23 c1_i32_97
  let c256_i32_98 : BitVec 32 := 256#32
  let v183 : BitVec 32 := Scalar.muli v182 c256_i32_98
  let v184 : BitVec 32 := v183
  let v185 : Index := Scalar.indexCast v184
  let c0_99 : Index := 0#32
  ![v185.toNat, 0]
def k0_off11 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c1_i32_97 : BitVec 32 := 1#32
  let v182 : BitVec 32 := Scalar.subi v23 c1_i32_97
  let c256_i32_98 : BitVec 32 := 256#32
  let v183 : BitVec 32 := Scalar.muli v182 c256_i32_98
  let v184 : BitVec 32 := v183
  let v205 : Index := Scalar.indexCast v184
  let c0_111 : Index := 0#32
  ![v205.toNat, 0]
def k0_mult12 (v1 : BitVec 32) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_97 : BitVec 32 := 256#32
  let v182 : BitVec 32 := Scalar.muli v23 c256_i32_97
  v182
def k0_cond6 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c0_i32_5 : BitVec 32 := 0#32
  let v24 : BitVec 1 := Scalar.cmpi .sgt v20 c0_i32_5
  let c128_i32_6 : BitVec 32 := 128#32
  let v25 : BitVec 1 := Scalar.cmpi .sle v20 c128_i32_6
  let v26 : BitVec 1 := Scalar.andi v24 v25
  let v180 : BitVec 32 := Scalar.extui v26
  let c0_i32_96 : BitVec 32 := 0#32
  let v181 : BitVec 1 := Scalar.cmpi .ne v180 c0_i32_96
  v181

def k0_off12 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_97 : BitVec 32 := 256#32
  let v182 : BitVec 32 := Scalar.muli v23 c256_i32_97
  let v183 : BitVec 32 := v182
  let v184 : Index := Scalar.indexCast v183
  let c0_98 : Index := 0#32
  ![v184.toNat, 0]
def k0_off13 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_97 : BitVec 32 := 256#32
  let v182 : BitVec 32 := Scalar.muli v23 c256_i32_97
  let v183 : BitVec 32 := v182
  let v204 : Index := Scalar.indexCast v183
  let c0_110 : Index := 0#32
  ![v204.toNat, 0]
def k0_mult13 (v1 : BitVec 32) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_46 : BitVec 32 := 256#32
  let v90 : BitVec 32 := Scalar.muli v23 c256_i32_46
  v90
def k0_cond7 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c1_i32_15 : BitVec 32 := 1#32
  let v42 : BitVec 1 := Scalar.cmpi .eq v23 c1_i32_15
  let v43 : BitVec 32 := Scalar.extui v42
  let c0_i32_16 : BitVec 32 := 0#32
  let v44 : BitVec 1 := Scalar.cmpi .ne v43 c0_i32_16
  v44

def k0_cond8 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c0_i32_5 : BitVec 32 := 0#32
  let v24 : BitVec 1 := Scalar.cmpi .sgt v20 c0_i32_5
  let c128_i32_6 : BitVec 32 := 128#32
  let v25 : BitVec 1 := Scalar.cmpi .sle v20 c128_i32_6
  let v26 : BitVec 1 := Scalar.andi v24 v25
  let v88 : BitVec 32 := Scalar.extui v26
  let c0_i32_45 : BitVec 32 := 0#32
  let v89 : BitVec 1 := Scalar.cmpi .ne v88 c0_i32_45
  v89

def k0_off14 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_46 : BitVec 32 := 256#32
  let v90 : BitVec 32 := Scalar.muli v23 c256_i32_46
  let v91 : BitVec 32 := v90
  let v92 : Index := Scalar.indexCast v91
  let c0_47 : Index := 0#32
  ![v92.toNat, 0]
def k0_off15 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_46 : BitVec 32 := 256#32
  let v90 : BitVec 32 := Scalar.muli v23 c256_i32_46
  let v91 : BitVec 32 := v90
  let v112 : Index := Scalar.indexCast v91
  let c0_59 : Index := 0#32
  ![v112.toNat, 0]
def k0_mult14 (v1 : BitVec 32) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_33 : BitVec 32 := 256#32
  let v66 : BitVec 32 := Scalar.muli v23 c256_i32_33
  v66
def k0_cond9 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c0_i32_17 : BitVec 32 := 0#32
  let v45 : BitVec 1 := Scalar.cmpi .eq v23 c0_i32_17
  let v46 : BitVec 32 := Scalar.extui v45
  let c0_i32_18 : BitVec 32 := 0#32
  let v47 : BitVec 1 := Scalar.cmpi .ne v46 c0_i32_18
  v47

def k0_off16 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_33 : BitVec 32 := 256#32
  let v66 : BitVec 32 := Scalar.muli v23 c256_i32_33
  let v67 : BitVec 32 := v66
  let v68 : Index := Scalar.indexCast v67
  let c0_34 : Index := 0#32
  ![v68.toNat, 0]
def k0_off17 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_33 : BitVec 32 := 256#32
  let v66 : BitVec 32 := Scalar.muli v23 c256_i32_33
  let v67 : BitVec 32 := v66
  let v88 : Index := Scalar.indexCast v67
  let c0_43 : Index := 0#32
  ![v88.toNat, 0]
def k0_cond10 (i : grid0.Coords) : BitVec 1 :=
  let arg1 : BitVec 32 := BitVec.ofNat 32 (i 1).val
  let c0_i32_11 : BitVec 32 := 0#32
  let v33 : BitVec 1 := Scalar.cmpi .sgt arg1 c0_i32_11
  let v34 : BitVec 32 := Scalar.extui v33
  let c0_i32_12 : BitVec 32 := 0#32
  let v35 : BitVec 1 := Scalar.cmpi .ne v34 c0_i32_12
  v35

@[reducible] def k0_t3_loop (v1 : BitVec 32) : Scf.Loop 32 :=
  let c0_i32_70 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_64 : BitVec 32 := 0#32
  let v116 : BitVec 1 := Scalar.cmpi .sgt v114 c0_i32_64
  let v117 : BitVec 32 := Scalar.extui v116
  let c0_i32_65 : BitVec 32 := 0#32
  let v118 : BitVec 1 := Scalar.cmpi .slt v114 c0_i32_65
  let v119 : BitVec 32 := Scalar.extui v118
  let v120 : BitVec 32 := Scalar.subi v117 v119
  let c4_i32 : BitVec 32 := 4#32
  let c0_i32_66 : BitVec 32 := 0#32
  let v121 : BitVec 1 := Scalar.cmpi .sgt c4_i32 c0_i32_66
  let v122 : BitVec 32 := Scalar.extui v121
  let c0_i32_67 : BitVec 32 := 0#32
  let v123 : BitVec 1 := Scalar.cmpi .slt c4_i32 c0_i32_67
  let v124 : BitVec 32 := Scalar.extui v123
  let v125 : BitVec 32 := Scalar.subi v122 v124
  let v126 : BitVec 1 := Scalar.cmpi .ne v120 v125
  let v127 : BitVec 32 := Scalar.remsi v114 c4_i32
  let c0_i32_68 : BitVec 32 := 0#32
  let v128 : BitVec 1 := Scalar.cmpi .ne v127 c0_i32_68
  let v129 : BitVec 1 := Scalar.andi v126 v128
  let v115 : BitVec 32 := Scalar.divsi v114 c4_i32
  let c1_i32_69 : BitVec 32 := 1#32
  let v130 : BitVec 32 := Scalar.subi v115 c1_i32_69
  let v131 : BitVec 32 := Scalar.select v129 v130 v115
  let v132 : BitVec 32 := Scalar.subi v131 c0_i32_70
  let c1_i32_72 : BitVec 32 := 1#32
  let v134 : BitVec 32 := Scalar.divsi v132 c1_i32_72
  let v135 : BitVec 32 := Scalar.muli v134 c1_i32_72
  let v136 : BitVec 32 := Scalar.addi c0_i32_70 v135
  let c1_i32_73 : BitVec 32 := 1#32
  ⟨c0_i32_70, v136, c1_i32_73⟩
def k0_cond11 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32 : BitVec 32 := 2#32
  let v39 : BitVec 1 := Scalar.cmpi .sge v23 c2_i32
  let v40 : BitVec 32 := Scalar.extui v39
  let c0_i32_14 : BitVec 32 := 0#32
  let v41 : BitVec 1 := Scalar.cmpi .ne v40 c0_i32_14
  v41

def k0_mult15 (v1 : BitVec 32) (k0_t3 : Fin (k0_t3_loop v1).trips) : BitVec 32 :=
  let c2_i32_102 : BitVec 32 := 2#32
  let c4_i32_101 : BitVec 32 := 4#32
  let c0_i32_70 : BitVec 32 := 0#32
  let c1_i32_73 : BitVec 32 := 1#32
  let arg15 : BitVec 32 := Scf.iv c0_i32_70 c1_i32_73 k0_t3
  let v186 : BitVec 32 := Scalar.muli c4_i32_101 arg15
  let v187 : BitVec 32 := Scalar.addi c2_i32_102 v186
  let c0_i32_103 : BitVec 32 := 0#32
  let v188 : BitVec 32 := Scalar.addi v187 c0_i32_103
  let c256_i32_104 : BitVec 32 := 256#32
  let v189 : BitVec 32 := Scalar.muli v188 c256_i32_104
  v189
def k0_off18 (v1 : BitVec 32) (k0_t3 : Fin (k0_t3_loop v1).trips) (c0_i32_103 : BitVec 32) : Fin 2 → Nat :=
  let c2_i32_102 : BitVec 32 := 2#32
  let c4_i32_101 : BitVec 32 := 4#32
  let c0_i32_70 : BitVec 32 := 0#32
  let c1_i32_73 : BitVec 32 := 1#32
  let arg15 : BitVec 32 := Scf.iv c0_i32_70 c1_i32_73 k0_t3
  let v186 : BitVec 32 := Scalar.muli c4_i32_101 arg15
  let v187 : BitVec 32 := Scalar.addi c2_i32_102 v186
  let v188 : BitVec 32 := Scalar.addi v187 c0_i32_103
  let c256_i32_104 : BitVec 32 := 256#32
  let v189 : BitVec 32 := Scalar.muli v188 c256_i32_104
  let v190 : BitVec 32 := v189
  let v191 : Index := Scalar.indexCast v190
  let c0_105 : Index := 0#32
  ![v191.toNat, 0]
def k0_off19 (v1 : BitVec 32) (k0_t3 : Fin (k0_t3_loop v1).trips) (c0_i32_103 : BitVec 32) : Fin 2 → Nat :=
  let c2_i32_102 : BitVec 32 := 2#32
  let c4_i32_101 : BitVec 32 := 4#32
  let c0_i32_70 : BitVec 32 := 0#32
  let c1_i32_73 : BitVec 32 := 1#32
  let arg15 : BitVec 32 := Scf.iv c0_i32_70 c1_i32_73 k0_t3
  let v186 : BitVec 32 := Scalar.muli c4_i32_101 arg15
  let v187 : BitVec 32 := Scalar.addi c2_i32_102 v186
  let v188 : BitVec 32 := Scalar.addi v187 c0_i32_103
  let c256_i32_104 : BitVec 32 := 256#32
  let v189 : BitVec 32 := Scalar.muli v188 c256_i32_104
  let v190 : BitVec 32 := v189
  let v211 : Index := Scalar.indexCast v190
  let c0_117 : Index := 0#32
  ![v211.toNat, 0]
def k0_mult16 (v1 : BitVec 32) (k0_t3 : Fin (k0_t3_loop v1).trips) : BitVec 32 :=
  let c2_i32_120 : BitVec 32 := 2#32
  let c4_i32_119 : BitVec 32 := 4#32
  let c0_i32_70 : BitVec 32 := 0#32
  let c1_i32_73 : BitVec 32 := 1#32
  let arg15 : BitVec 32 := Scf.iv c0_i32_70 c1_i32_73 k0_t3
  let v218 : BitVec 32 := Scalar.muli c4_i32_119 arg15
  let v219 : BitVec 32 := Scalar.addi c2_i32_120 v218
  let c1_i32_121 : BitVec 32 := 1#32
  let v220 : BitVec 32 := Scalar.addi v219 c1_i32_121
  let c256_i32_122 : BitVec 32 := 256#32
  let v221 : BitVec 32 := Scalar.muli v220 c256_i32_122
  v221
def k0_mult17 (v1 : BitVec 32) (k0_t3 : Fin (k0_t3_loop v1).trips) : BitVec 32 :=
  let c2_i32_138 : BitVec 32 := 2#32
  let c4_i32_137 : BitVec 32 := 4#32
  let c0_i32_70 : BitVec 32 := 0#32
  let c1_i32_73 : BitVec 32 := 1#32
  let arg15 : BitVec 32 := Scf.iv c0_i32_70 c1_i32_73 k0_t3
  let v250 : BitVec 32 := Scalar.muli c4_i32_137 arg15
  let v251 : BitVec 32 := Scalar.addi c2_i32_138 v250
  let c2_i32_139 : BitVec 32 := 2#32
  let v252 : BitVec 32 := Scalar.addi v251 c2_i32_139
  let c256_i32_140 : BitVec 32 := 256#32
  let v253 : BitVec 32 := Scalar.muli v252 c256_i32_140
  v253
def k0_mult18 (v1 : BitVec 32) (k0_t3 : Fin (k0_t3_loop v1).trips) : BitVec 32 :=
  let c2_i32_156 : BitVec 32 := 2#32
  let c4_i32_155 : BitVec 32 := 4#32
  let c0_i32_70 : BitVec 32 := 0#32
  let c1_i32_73 : BitVec 32 := 1#32
  let arg15 : BitVec 32 := Scf.iv c0_i32_70 c1_i32_73 k0_t3
  let v282 : BitVec 32 := Scalar.muli c4_i32_155 arg15
  let v283 : BitVec 32 := Scalar.addi c2_i32_156 v282
  let c3_i32 : BitVec 32 := 3#32
  let v284 : BitVec 32 := Scalar.addi v283 c3_i32
  let c256_i32_157 : BitVec 32 := 256#32
  let v285 : BitVec 32 := Scalar.muli v284 c256_i32_157
  v285
@[reducible] def k0_t4_loop (v1 : BitVec 32) : Scf.Loop 32 :=
  let c0_i32_70 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_64 : BitVec 32 := 0#32
  let v116 : BitVec 1 := Scalar.cmpi .sgt v114 c0_i32_64
  let v117 : BitVec 32 := Scalar.extui v116
  let c0_i32_65 : BitVec 32 := 0#32
  let v118 : BitVec 1 := Scalar.cmpi .slt v114 c0_i32_65
  let v119 : BitVec 32 := Scalar.extui v118
  let v120 : BitVec 32 := Scalar.subi v117 v119
  let c4_i32 : BitVec 32 := 4#32
  let c0_i32_66 : BitVec 32 := 0#32
  let v121 : BitVec 1 := Scalar.cmpi .sgt c4_i32 c0_i32_66
  let v122 : BitVec 32 := Scalar.extui v121
  let c0_i32_67 : BitVec 32 := 0#32
  let v123 : BitVec 1 := Scalar.cmpi .slt c4_i32 c0_i32_67
  let v124 : BitVec 32 := Scalar.extui v123
  let v125 : BitVec 32 := Scalar.subi v122 v124
  let v126 : BitVec 1 := Scalar.cmpi .ne v120 v125
  let v127 : BitVec 32 := Scalar.remsi v114 c4_i32
  let c0_i32_68 : BitVec 32 := 0#32
  let v128 : BitVec 1 := Scalar.cmpi .ne v127 c0_i32_68
  let v129 : BitVec 1 := Scalar.andi v126 v128
  let v115 : BitVec 32 := Scalar.divsi v114 c4_i32
  let c1_i32_69 : BitVec 32 := 1#32
  let v130 : BitVec 32 := Scalar.subi v115 c1_i32_69
  let v131 : BitVec 32 := Scalar.select v129 v130 v115
  let v132 : BitVec 32 := Scalar.subi v131 c0_i32_70
  let c1_i32_72 : BitVec 32 := 1#32
  let v134 : BitVec 32 := Scalar.divsi v132 c1_i32_72
  let v135 : BitVec 32 := Scalar.muli v134 c1_i32_72
  let v136 : BitVec 32 := Scalar.addi c0_i32_70 v135
  let v133 : BitVec 32 := Scalar.addi c0_i32_70 v132
  let c1_i32_74 : BitVec 32 := 1#32
  ⟨v136, v133, c1_i32_74⟩
def k0_mult19 (v1 : BitVec 32) (k0_t4 : Fin (k0_t4_loop v1).trips) : BitVec 32 :=
  let c2_i32_102 : BitVec 32 := 2#32
  let c4_i32_101 : BitVec 32 := 4#32
  let c0_i32_70 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_64 : BitVec 32 := 0#32
  let v116 : BitVec 1 := Scalar.cmpi .sgt v114 c0_i32_64
  let v117 : BitVec 32 := Scalar.extui v116
  let c0_i32_65 : BitVec 32 := 0#32
  let v118 : BitVec 1 := Scalar.cmpi .slt v114 c0_i32_65
  let v119 : BitVec 32 := Scalar.extui v118
  let v120 : BitVec 32 := Scalar.subi v117 v119
  let c4_i32 : BitVec 32 := 4#32
  let c0_i32_66 : BitVec 32 := 0#32
  let v121 : BitVec 1 := Scalar.cmpi .sgt c4_i32 c0_i32_66
  let v122 : BitVec 32 := Scalar.extui v121
  let c0_i32_67 : BitVec 32 := 0#32
  let v123 : BitVec 1 := Scalar.cmpi .slt c4_i32 c0_i32_67
  let v124 : BitVec 32 := Scalar.extui v123
  let v125 : BitVec 32 := Scalar.subi v122 v124
  let v126 : BitVec 1 := Scalar.cmpi .ne v120 v125
  let v127 : BitVec 32 := Scalar.remsi v114 c4_i32
  let c0_i32_68 : BitVec 32 := 0#32
  let v128 : BitVec 1 := Scalar.cmpi .ne v127 c0_i32_68
  let v129 : BitVec 1 := Scalar.andi v126 v128
  let v115 : BitVec 32 := Scalar.divsi v114 c4_i32
  let c1_i32_69 : BitVec 32 := 1#32
  let v130 : BitVec 32 := Scalar.subi v115 c1_i32_69
  let v131 : BitVec 32 := Scalar.select v129 v130 v115
  let v132 : BitVec 32 := Scalar.subi v131 c0_i32_70
  let c1_i32_72 : BitVec 32 := 1#32
  let v134 : BitVec 32 := Scalar.divsi v132 c1_i32_72
  let v135 : BitVec 32 := Scalar.muli v134 c1_i32_72
  let v136 : BitVec 32 := Scalar.addi c0_i32_70 v135
  let c1_i32_74 : BitVec 32 := 1#32
  let arg15 : BitVec 32 := Scf.iv v136 c1_i32_74 k0_t4
  let v186 : BitVec 32 := Scalar.muli c4_i32_101 arg15
  let v187 : BitVec 32 := Scalar.addi c2_i32_102 v186
  let c0_i32_103 : BitVec 32 := 0#32
  let v188 : BitVec 32 := Scalar.addi v187 c0_i32_103
  let c256_i32_104 : BitVec 32 := 256#32
  let v189 : BitVec 32 := Scalar.muli v188 c256_i32_104
  v189
def k0_off20 (v1 : BitVec 32) (k0_t4 : Fin (k0_t4_loop v1).trips) (c0_i32_103 : BitVec 32) : Fin 2 → Nat :=
  let c2_i32_102 : BitVec 32 := 2#32
  let c4_i32_101 : BitVec 32 := 4#32
  let c0_i32_70 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_64 : BitVec 32 := 0#32
  let v116 : BitVec 1 := Scalar.cmpi .sgt v114 c0_i32_64
  let v117 : BitVec 32 := Scalar.extui v116
  let c0_i32_65 : BitVec 32 := 0#32
  let v118 : BitVec 1 := Scalar.cmpi .slt v114 c0_i32_65
  let v119 : BitVec 32 := Scalar.extui v118
  let v120 : BitVec 32 := Scalar.subi v117 v119
  let c4_i32 : BitVec 32 := 4#32
  let c0_i32_66 : BitVec 32 := 0#32
  let v121 : BitVec 1 := Scalar.cmpi .sgt c4_i32 c0_i32_66
  let v122 : BitVec 32 := Scalar.extui v121
  let c0_i32_67 : BitVec 32 := 0#32
  let v123 : BitVec 1 := Scalar.cmpi .slt c4_i32 c0_i32_67
  let v124 : BitVec 32 := Scalar.extui v123
  let v125 : BitVec 32 := Scalar.subi v122 v124
  let v126 : BitVec 1 := Scalar.cmpi .ne v120 v125
  let v127 : BitVec 32 := Scalar.remsi v114 c4_i32
  let c0_i32_68 : BitVec 32 := 0#32
  let v128 : BitVec 1 := Scalar.cmpi .ne v127 c0_i32_68
  let v129 : BitVec 1 := Scalar.andi v126 v128
  let v115 : BitVec 32 := Scalar.divsi v114 c4_i32
  let c1_i32_69 : BitVec 32 := 1#32
  let v130 : BitVec 32 := Scalar.subi v115 c1_i32_69
  let v131 : BitVec 32 := Scalar.select v129 v130 v115
  let v132 : BitVec 32 := Scalar.subi v131 c0_i32_70
  let c1_i32_72 : BitVec 32 := 1#32
  let v134 : BitVec 32 := Scalar.divsi v132 c1_i32_72
  let v135 : BitVec 32 := Scalar.muli v134 c1_i32_72
  let v136 : BitVec 32 := Scalar.addi c0_i32_70 v135
  let c1_i32_74 : BitVec 32 := 1#32
  let arg15 : BitVec 32 := Scf.iv v136 c1_i32_74 k0_t4
  let v186 : BitVec 32 := Scalar.muli c4_i32_101 arg15
  let v187 : BitVec 32 := Scalar.addi c2_i32_102 v186
  let v188 : BitVec 32 := Scalar.addi v187 c0_i32_103
  let c256_i32_104 : BitVec 32 := 256#32
  let v189 : BitVec 32 := Scalar.muli v188 c256_i32_104
  let v190 : BitVec 32 := v189
  let v191 : Index := Scalar.indexCast v190
  let c0_105 : Index := 0#32
  ![v191.toNat, 0]
def k0_off21 (v1 : BitVec 32) (k0_t4 : Fin (k0_t4_loop v1).trips) (c0_i32_103 : BitVec 32) : Fin 2 → Nat :=
  let c2_i32_102 : BitVec 32 := 2#32
  let c4_i32_101 : BitVec 32 := 4#32
  let c0_i32_70 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_64 : BitVec 32 := 0#32
  let v116 : BitVec 1 := Scalar.cmpi .sgt v114 c0_i32_64
  let v117 : BitVec 32 := Scalar.extui v116
  let c0_i32_65 : BitVec 32 := 0#32
  let v118 : BitVec 1 := Scalar.cmpi .slt v114 c0_i32_65
  let v119 : BitVec 32 := Scalar.extui v118
  let v120 : BitVec 32 := Scalar.subi v117 v119
  let c4_i32 : BitVec 32 := 4#32
  let c0_i32_66 : BitVec 32 := 0#32
  let v121 : BitVec 1 := Scalar.cmpi .sgt c4_i32 c0_i32_66
  let v122 : BitVec 32 := Scalar.extui v121
  let c0_i32_67 : BitVec 32 := 0#32
  let v123 : BitVec 1 := Scalar.cmpi .slt c4_i32 c0_i32_67
  let v124 : BitVec 32 := Scalar.extui v123
  let v125 : BitVec 32 := Scalar.subi v122 v124
  let v126 : BitVec 1 := Scalar.cmpi .ne v120 v125
  let v127 : BitVec 32 := Scalar.remsi v114 c4_i32
  let c0_i32_68 : BitVec 32 := 0#32
  let v128 : BitVec 1 := Scalar.cmpi .ne v127 c0_i32_68
  let v129 : BitVec 1 := Scalar.andi v126 v128
  let v115 : BitVec 32 := Scalar.divsi v114 c4_i32
  let c1_i32_69 : BitVec 32 := 1#32
  let v130 : BitVec 32 := Scalar.subi v115 c1_i32_69
  let v131 : BitVec 32 := Scalar.select v129 v130 v115
  let v132 : BitVec 32 := Scalar.subi v131 c0_i32_70
  let c1_i32_72 : BitVec 32 := 1#32
  let v134 : BitVec 32 := Scalar.divsi v132 c1_i32_72
  let v135 : BitVec 32 := Scalar.muli v134 c1_i32_72
  let v136 : BitVec 32 := Scalar.addi c0_i32_70 v135
  let c1_i32_74 : BitVec 32 := 1#32
  let arg15 : BitVec 32 := Scf.iv v136 c1_i32_74 k0_t4
  let v186 : BitVec 32 := Scalar.muli c4_i32_101 arg15
  let v187 : BitVec 32 := Scalar.addi c2_i32_102 v186
  let v188 : BitVec 32 := Scalar.addi v187 c0_i32_103
  let c256_i32_104 : BitVec 32 := 256#32
  let v189 : BitVec 32 := Scalar.muli v188 c256_i32_104
  let v190 : BitVec 32 := v189
  let v211 : Index := Scalar.indexCast v190
  let c0_117 : Index := 0#32
  ![v211.toNat, 0]
def k0_mult20 (v1 : BitVec 32) (k0_t4 : Fin (k0_t4_loop v1).trips) : BitVec 32 :=
  let c2_i32_120 : BitVec 32 := 2#32
  let c4_i32_119 : BitVec 32 := 4#32
  let c0_i32_70 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_64 : BitVec 32 := 0#32
  let v116 : BitVec 1 := Scalar.cmpi .sgt v114 c0_i32_64
  let v117 : BitVec 32 := Scalar.extui v116
  let c0_i32_65 : BitVec 32 := 0#32
  let v118 : BitVec 1 := Scalar.cmpi .slt v114 c0_i32_65
  let v119 : BitVec 32 := Scalar.extui v118
  let v120 : BitVec 32 := Scalar.subi v117 v119
  let c4_i32 : BitVec 32 := 4#32
  let c0_i32_66 : BitVec 32 := 0#32
  let v121 : BitVec 1 := Scalar.cmpi .sgt c4_i32 c0_i32_66
  let v122 : BitVec 32 := Scalar.extui v121
  let c0_i32_67 : BitVec 32 := 0#32
  let v123 : BitVec 1 := Scalar.cmpi .slt c4_i32 c0_i32_67
  let v124 : BitVec 32 := Scalar.extui v123
  let v125 : BitVec 32 := Scalar.subi v122 v124
  let v126 : BitVec 1 := Scalar.cmpi .ne v120 v125
  let v127 : BitVec 32 := Scalar.remsi v114 c4_i32
  let c0_i32_68 : BitVec 32 := 0#32
  let v128 : BitVec 1 := Scalar.cmpi .ne v127 c0_i32_68
  let v129 : BitVec 1 := Scalar.andi v126 v128
  let v115 : BitVec 32 := Scalar.divsi v114 c4_i32
  let c1_i32_69 : BitVec 32 := 1#32
  let v130 : BitVec 32 := Scalar.subi v115 c1_i32_69
  let v131 : BitVec 32 := Scalar.select v129 v130 v115
  let v132 : BitVec 32 := Scalar.subi v131 c0_i32_70
  let c1_i32_72 : BitVec 32 := 1#32
  let v134 : BitVec 32 := Scalar.divsi v132 c1_i32_72
  let v135 : BitVec 32 := Scalar.muli v134 c1_i32_72
  let v136 : BitVec 32 := Scalar.addi c0_i32_70 v135
  let c1_i32_74 : BitVec 32 := 1#32
  let arg15 : BitVec 32 := Scf.iv v136 c1_i32_74 k0_t4
  let v218 : BitVec 32 := Scalar.muli c4_i32_119 arg15
  let v219 : BitVec 32 := Scalar.addi c2_i32_120 v218
  let c1_i32_121 : BitVec 32 := 1#32
  let v220 : BitVec 32 := Scalar.addi v219 c1_i32_121
  let c256_i32_122 : BitVec 32 := 256#32
  let v221 : BitVec 32 := Scalar.muli v220 c256_i32_122
  v221
def k0_mult21 (v1 : BitVec 32) (k0_t4 : Fin (k0_t4_loop v1).trips) : BitVec 32 :=
  let c2_i32_138 : BitVec 32 := 2#32
  let c4_i32_137 : BitVec 32 := 4#32
  let c0_i32_70 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_64 : BitVec 32 := 0#32
  let v116 : BitVec 1 := Scalar.cmpi .sgt v114 c0_i32_64
  let v117 : BitVec 32 := Scalar.extui v116
  let c0_i32_65 : BitVec 32 := 0#32
  let v118 : BitVec 1 := Scalar.cmpi .slt v114 c0_i32_65
  let v119 : BitVec 32 := Scalar.extui v118
  let v120 : BitVec 32 := Scalar.subi v117 v119
  let c4_i32 : BitVec 32 := 4#32
  let c0_i32_66 : BitVec 32 := 0#32
  let v121 : BitVec 1 := Scalar.cmpi .sgt c4_i32 c0_i32_66
  let v122 : BitVec 32 := Scalar.extui v121
  let c0_i32_67 : BitVec 32 := 0#32
  let v123 : BitVec 1 := Scalar.cmpi .slt c4_i32 c0_i32_67
  let v124 : BitVec 32 := Scalar.extui v123
  let v125 : BitVec 32 := Scalar.subi v122 v124
  let v126 : BitVec 1 := Scalar.cmpi .ne v120 v125
  let v127 : BitVec 32 := Scalar.remsi v114 c4_i32
  let c0_i32_68 : BitVec 32 := 0#32
  let v128 : BitVec 1 := Scalar.cmpi .ne v127 c0_i32_68
  let v129 : BitVec 1 := Scalar.andi v126 v128
  let v115 : BitVec 32 := Scalar.divsi v114 c4_i32
  let c1_i32_69 : BitVec 32 := 1#32
  let v130 : BitVec 32 := Scalar.subi v115 c1_i32_69
  let v131 : BitVec 32 := Scalar.select v129 v130 v115
  let v132 : BitVec 32 := Scalar.subi v131 c0_i32_70
  let c1_i32_72 : BitVec 32 := 1#32
  let v134 : BitVec 32 := Scalar.divsi v132 c1_i32_72
  let v135 : BitVec 32 := Scalar.muli v134 c1_i32_72
  let v136 : BitVec 32 := Scalar.addi c0_i32_70 v135
  let c1_i32_74 : BitVec 32 := 1#32
  let arg15 : BitVec 32 := Scf.iv v136 c1_i32_74 k0_t4
  let v250 : BitVec 32 := Scalar.muli c4_i32_137 arg15
  let v251 : BitVec 32 := Scalar.addi c2_i32_138 v250
  let c2_i32_139 : BitVec 32 := 2#32
  let v252 : BitVec 32 := Scalar.addi v251 c2_i32_139
  let c256_i32_140 : BitVec 32 := 256#32
  let v253 : BitVec 32 := Scalar.muli v252 c256_i32_140
  v253
def k0_mult22 (v1 : BitVec 32) (k0_t4 : Fin (k0_t4_loop v1).trips) : BitVec 32 :=
  let c2_i32_156 : BitVec 32 := 2#32
  let c4_i32_155 : BitVec 32 := 4#32
  let c0_i32_70 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_64 : BitVec 32 := 0#32
  let v116 : BitVec 1 := Scalar.cmpi .sgt v114 c0_i32_64
  let v117 : BitVec 32 := Scalar.extui v116
  let c0_i32_65 : BitVec 32 := 0#32
  let v118 : BitVec 1 := Scalar.cmpi .slt v114 c0_i32_65
  let v119 : BitVec 32 := Scalar.extui v118
  let v120 : BitVec 32 := Scalar.subi v117 v119
  let c4_i32 : BitVec 32 := 4#32
  let c0_i32_66 : BitVec 32 := 0#32
  let v121 : BitVec 1 := Scalar.cmpi .sgt c4_i32 c0_i32_66
  let v122 : BitVec 32 := Scalar.extui v121
  let c0_i32_67 : BitVec 32 := 0#32
  let v123 : BitVec 1 := Scalar.cmpi .slt c4_i32 c0_i32_67
  let v124 : BitVec 32 := Scalar.extui v123
  let v125 : BitVec 32 := Scalar.subi v122 v124
  let v126 : BitVec 1 := Scalar.cmpi .ne v120 v125
  let v127 : BitVec 32 := Scalar.remsi v114 c4_i32
  let c0_i32_68 : BitVec 32 := 0#32
  let v128 : BitVec 1 := Scalar.cmpi .ne v127 c0_i32_68
  let v129 : BitVec 1 := Scalar.andi v126 v128
  let v115 : BitVec 32 := Scalar.divsi v114 c4_i32
  let c1_i32_69 : BitVec 32 := 1#32
  let v130 : BitVec 32 := Scalar.subi v115 c1_i32_69
  let v131 : BitVec 32 := Scalar.select v129 v130 v115
  let v132 : BitVec 32 := Scalar.subi v131 c0_i32_70
  let c1_i32_72 : BitVec 32 := 1#32
  let v134 : BitVec 32 := Scalar.divsi v132 c1_i32_72
  let v135 : BitVec 32 := Scalar.muli v134 c1_i32_72
  let v136 : BitVec 32 := Scalar.addi c0_i32_70 v135
  let c1_i32_74 : BitVec 32 := 1#32
  let arg15 : BitVec 32 := Scf.iv v136 c1_i32_74 k0_t4
  let v282 : BitVec 32 := Scalar.muli c4_i32_155 arg15
  let v283 : BitVec 32 := Scalar.addi c2_i32_156 v282
  let c3_i32 : BitVec 32 := 3#32
  let v284 : BitVec 32 := Scalar.addi v283 c3_i32
  let c256_i32_157 : BitVec 32 := 256#32
  let v285 : BitVec 32 := Scalar.muli v284 c256_i32_157
  v285
def k0_mult23 (v1 : BitVec 32) : BitVec 32 :=
  let c2_i32_83 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_76 : BitVec 32 := 0#32
  let v140 : BitVec 1 := Scalar.cmpi .sgt v114 c0_i32_76
  let v141 : BitVec 32 := Scalar.extui v140
  let c0_i32_77 : BitVec 32 := 0#32
  let v142 : BitVec 1 := Scalar.cmpi .slt v114 c0_i32_77
  let v143 : BitVec 32 := Scalar.extui v142
  let v144 : BitVec 32 := Scalar.subi v141 v143
  let c4_i32_75 : BitVec 32 := 4#32
  let c0_i32_78 : BitVec 32 := 0#32
  let v145 : BitVec 1 := Scalar.cmpi .sgt c4_i32_75 c0_i32_78
  let v146 : BitVec 32 := Scalar.extui v145
  let c0_i32_79 : BitVec 32 := 0#32
  let v147 : BitVec 1 := Scalar.cmpi .slt c4_i32_75 c0_i32_79
  let v148 : BitVec 32 := Scalar.extui v147
  let v149 : BitVec 32 := Scalar.subi v146 v148
  let v150 : BitVec 1 := Scalar.cmpi .ne v144 v149
  let v151 : BitVec 32 := Scalar.remsi v114 c4_i32_75
  let c0_i32_80 : BitVec 32 := 0#32
  let v152 : BitVec 1 := Scalar.cmpi .ne v151 c0_i32_80
  let v153 : BitVec 1 := Scalar.andi v150 v152
  let v139 : BitVec 32 := Scalar.divsi v114 c4_i32_75
  let c1_i32_81 : BitVec 32 := 1#32
  let v154 : BitVec 32 := Scalar.subi v139 c1_i32_81
  let v155 : BitVec 32 := Scalar.select v153 v154 v139
  let c4_i32_82 : BitVec 32 := 4#32
  let v156 : BitVec 32 := Scalar.muli v155 c4_i32_82
  let v157 : BitVec 32 := Scalar.addi c2_i32_83 v156
  let c256_i32_101 : BitVec 32 := 256#32
  let v186 : BitVec 32 := Scalar.muli v157 c256_i32_101
  v186
def k0_cond12 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c4_i32_84 : BitVec 32 := 4#32
  let c0_i32_85 : BitVec 32 := 0#32
  let v158 : BitVec 1 := Scalar.cmpi .eq c4_i32_84 c0_i32_85
  let c1_i32_86 : BitVec 32 := 1#32
  let v159 : BitVec 32 := Scalar.select v158 c1_i32_86 c4_i32_84
  let v160 : BitVec 32 := Scalar.remsi v114 v159
  let c0_i32_88 : BitVec 32 := 0#32
  let v162 : BitVec 1 := Scalar.cmpi .slt v160 c0_i32_88
  let c0_i32_89 : BitVec 32 := 0#32
  let v163 : BitVec 1 := Scalar.cmpi .slt v159 c0_i32_89
  let v164 : BitVec 1 := Scalar.xori v162 v163
  let c0_i32_87 : BitVec 32 := 0#32
  let v161 : BitVec 1 := Scalar.cmpi .ne v160 c0_i32_87
  let v165 : BitVec 1 := Scalar.andi v164 v161
  let v166 : BitVec 32 := Scalar.addi v160 v159
  let v167 : BitVec 32 := Scalar.select v165 v166 v160
  let c2_i32_90 : BitVec 32 := 2#32
  let v168 : BitVec 1 := Scalar.cmpi .sge v167 c2_i32_90
  let v169 : BitVec 32 := Scalar.extui v168
  let c0_i32_91 : BitVec 32 := 0#32
  let v170 : BitVec 1 := Scalar.cmpi .ne v169 c0_i32_91
  v170

def k0_off22 (v1 : BitVec 32) : Fin 2 → Nat :=
  let c2_i32_83 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_76 : BitVec 32 := 0#32
  let v140 : BitVec 1 := Scalar.cmpi .sgt v114 c0_i32_76
  let v141 : BitVec 32 := Scalar.extui v140
  let c0_i32_77 : BitVec 32 := 0#32
  let v142 : BitVec 1 := Scalar.cmpi .slt v114 c0_i32_77
  let v143 : BitVec 32 := Scalar.extui v142
  let v144 : BitVec 32 := Scalar.subi v141 v143
  let c4_i32_75 : BitVec 32 := 4#32
  let c0_i32_78 : BitVec 32 := 0#32
  let v145 : BitVec 1 := Scalar.cmpi .sgt c4_i32_75 c0_i32_78
  let v146 : BitVec 32 := Scalar.extui v145
  let c0_i32_79 : BitVec 32 := 0#32
  let v147 : BitVec 1 := Scalar.cmpi .slt c4_i32_75 c0_i32_79
  let v148 : BitVec 32 := Scalar.extui v147
  let v149 : BitVec 32 := Scalar.subi v146 v148
  let v150 : BitVec 1 := Scalar.cmpi .ne v144 v149
  let v151 : BitVec 32 := Scalar.remsi v114 c4_i32_75
  let c0_i32_80 : BitVec 32 := 0#32
  let v152 : BitVec 1 := Scalar.cmpi .ne v151 c0_i32_80
  let v153 : BitVec 1 := Scalar.andi v150 v152
  let v139 : BitVec 32 := Scalar.divsi v114 c4_i32_75
  let c1_i32_81 : BitVec 32 := 1#32
  let v154 : BitVec 32 := Scalar.subi v139 c1_i32_81
  let v155 : BitVec 32 := Scalar.select v153 v154 v139
  let c4_i32_82 : BitVec 32 := 4#32
  let v156 : BitVec 32 := Scalar.muli v155 c4_i32_82
  let v157 : BitVec 32 := Scalar.addi c2_i32_83 v156
  let c256_i32_101 : BitVec 32 := 256#32
  let v186 : BitVec 32 := Scalar.muli v157 c256_i32_101
  let v187 : BitVec 32 := v186
  let v188 : Index := Scalar.indexCast v187
  let c0_102 : Index := 0#32
  ![v188.toNat, 0]
def k0_off23 (v1 : BitVec 32) : Fin 2 → Nat :=
  let c2_i32_83 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_76 : BitVec 32 := 0#32
  let v140 : BitVec 1 := Scalar.cmpi .sgt v114 c0_i32_76
  let v141 : BitVec 32 := Scalar.extui v140
  let c0_i32_77 : BitVec 32 := 0#32
  let v142 : BitVec 1 := Scalar.cmpi .slt v114 c0_i32_77
  let v143 : BitVec 32 := Scalar.extui v142
  let v144 : BitVec 32 := Scalar.subi v141 v143
  let c4_i32_75 : BitVec 32 := 4#32
  let c0_i32_78 : BitVec 32 := 0#32
  let v145 : BitVec 1 := Scalar.cmpi .sgt c4_i32_75 c0_i32_78
  let v146 : BitVec 32 := Scalar.extui v145
  let c0_i32_79 : BitVec 32 := 0#32
  let v147 : BitVec 1 := Scalar.cmpi .slt c4_i32_75 c0_i32_79
  let v148 : BitVec 32 := Scalar.extui v147
  let v149 : BitVec 32 := Scalar.subi v146 v148
  let v150 : BitVec 1 := Scalar.cmpi .ne v144 v149
  let v151 : BitVec 32 := Scalar.remsi v114 c4_i32_75
  let c0_i32_80 : BitVec 32 := 0#32
  let v152 : BitVec 1 := Scalar.cmpi .ne v151 c0_i32_80
  let v153 : BitVec 1 := Scalar.andi v150 v152
  let v139 : BitVec 32 := Scalar.divsi v114 c4_i32_75
  let c1_i32_81 : BitVec 32 := 1#32
  let v154 : BitVec 32 := Scalar.subi v139 c1_i32_81
  let v155 : BitVec 32 := Scalar.select v153 v154 v139
  let c4_i32_82 : BitVec 32 := 4#32
  let v156 : BitVec 32 := Scalar.muli v155 c4_i32_82
  let v157 : BitVec 32 := Scalar.addi c2_i32_83 v156
  let c256_i32_101 : BitVec 32 := 256#32
  let v186 : BitVec 32 := Scalar.muli v157 c256_i32_101
  let v187 : BitVec 32 := v186
  let v208 : Index := Scalar.indexCast v187
  let c0_114 : Index := 0#32
  ![v208.toNat, 0]
def k0_mult24 (v1 : BitVec 32) : BitVec 32 :=
  let c2_i32_83 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_76 : BitVec 32 := 0#32
  let v140 : BitVec 1 := Scalar.cmpi .sgt v114 c0_i32_76
  let v141 : BitVec 32 := Scalar.extui v140
  let c0_i32_77 : BitVec 32 := 0#32
  let v142 : BitVec 1 := Scalar.cmpi .slt v114 c0_i32_77
  let v143 : BitVec 32 := Scalar.extui v142
  let v144 : BitVec 32 := Scalar.subi v141 v143
  let c4_i32_75 : BitVec 32 := 4#32
  let c0_i32_78 : BitVec 32 := 0#32
  let v145 : BitVec 1 := Scalar.cmpi .sgt c4_i32_75 c0_i32_78
  let v146 : BitVec 32 := Scalar.extui v145
  let c0_i32_79 : BitVec 32 := 0#32
  let v147 : BitVec 1 := Scalar.cmpi .slt c4_i32_75 c0_i32_79
  let v148 : BitVec 32 := Scalar.extui v147
  let v149 : BitVec 32 := Scalar.subi v146 v148
  let v150 : BitVec 1 := Scalar.cmpi .ne v144 v149
  let v151 : BitVec 32 := Scalar.remsi v114 c4_i32_75
  let c0_i32_80 : BitVec 32 := 0#32
  let v152 : BitVec 1 := Scalar.cmpi .ne v151 c0_i32_80
  let v153 : BitVec 1 := Scalar.andi v150 v152
  let v139 : BitVec 32 := Scalar.divsi v114 c4_i32_75
  let c1_i32_81 : BitVec 32 := 1#32
  let v154 : BitVec 32 := Scalar.subi v139 c1_i32_81
  let v155 : BitVec 32 := Scalar.select v153 v154 v139
  let c4_i32_82 : BitVec 32 := 4#32
  let v156 : BitVec 32 := Scalar.muli v155 c4_i32_82
  let v157 : BitVec 32 := Scalar.addi c2_i32_83 v156
  let c1_i32_116 : BitVec 32 := 1#32
  let v215 : BitVec 32 := Scalar.addi v157 c1_i32_116
  let c256_i32_117 : BitVec 32 := 256#32
  let v216 : BitVec 32 := Scalar.muli v215 c256_i32_117
  v216
def k0_off24 (v1 : BitVec 32) : Fin 2 → Nat :=
  let c2_i32_83 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_76 : BitVec 32 := 0#32
  let v140 : BitVec 1 := Scalar.cmpi .sgt v114 c0_i32_76
  let v141 : BitVec 32 := Scalar.extui v140
  let c0_i32_77 : BitVec 32 := 0#32
  let v142 : BitVec 1 := Scalar.cmpi .slt v114 c0_i32_77
  let v143 : BitVec 32 := Scalar.extui v142
  let v144 : BitVec 32 := Scalar.subi v141 v143
  let c4_i32_75 : BitVec 32 := 4#32
  let c0_i32_78 : BitVec 32 := 0#32
  let v145 : BitVec 1 := Scalar.cmpi .sgt c4_i32_75 c0_i32_78
  let v146 : BitVec 32 := Scalar.extui v145
  let c0_i32_79 : BitVec 32 := 0#32
  let v147 : BitVec 1 := Scalar.cmpi .slt c4_i32_75 c0_i32_79
  let v148 : BitVec 32 := Scalar.extui v147
  let v149 : BitVec 32 := Scalar.subi v146 v148
  let v150 : BitVec 1 := Scalar.cmpi .ne v144 v149
  let v151 : BitVec 32 := Scalar.remsi v114 c4_i32_75
  let c0_i32_80 : BitVec 32 := 0#32
  let v152 : BitVec 1 := Scalar.cmpi .ne v151 c0_i32_80
  let v153 : BitVec 1 := Scalar.andi v150 v152
  let v139 : BitVec 32 := Scalar.divsi v114 c4_i32_75
  let c1_i32_81 : BitVec 32 := 1#32
  let v154 : BitVec 32 := Scalar.subi v139 c1_i32_81
  let v155 : BitVec 32 := Scalar.select v153 v154 v139
  let c4_i32_82 : BitVec 32 := 4#32
  let v156 : BitVec 32 := Scalar.muli v155 c4_i32_82
  let v157 : BitVec 32 := Scalar.addi c2_i32_83 v156
  let c1_i32_116 : BitVec 32 := 1#32
  let v215 : BitVec 32 := Scalar.addi v157 c1_i32_116
  let c256_i32_117 : BitVec 32 := 256#32
  let v216 : BitVec 32 := Scalar.muli v215 c256_i32_117
  let v217 : BitVec 32 := v216
  let v218 : Index := Scalar.indexCast v217
  let c0_118 : Index := 0#32
  ![v218.toNat, 0]
def k0_off25 (v1 : BitVec 32) : Fin 2 → Nat :=
  let c2_i32_83 : BitVec 32 := 2#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_63 : BitVec 32 := 2#32
  let v114 : BitVec 32 := Scalar.subi v23 c2_i32_63
  let c0_i32_76 : BitVec 32 := 0#32
  let v140 : BitVec 1 := Scalar.cmpi .sgt v114 c0_i32_76
  let v141 : BitVec 32 := Scalar.extui v140
  let c0_i32_77 : BitVec 32 := 0#32
  let v142 : BitVec 1 := Scalar.cmpi .slt v114 c0_i32_77
  let v143 : BitVec 32 := Scalar.extui v142
  let v144 : BitVec 32 := Scalar.subi v141 v143
  let c4_i32_75 : BitVec 32 := 4#32
  let c0_i32_78 : BitVec 32 := 0#32
  let v145 : BitVec 1 := Scalar.cmpi .sgt c4_i32_75 c0_i32_78
  let v146 : BitVec 32 := Scalar.extui v145
  let c0_i32_79 : BitVec 32 := 0#32
  let v147 : BitVec 1 := Scalar.cmpi .slt c4_i32_75 c0_i32_79
  let v148 : BitVec 32 := Scalar.extui v147
  let v149 : BitVec 32 := Scalar.subi v146 v148
  let v150 : BitVec 1 := Scalar.cmpi .ne v144 v149
  let v151 : BitVec 32 := Scalar.remsi v114 c4_i32_75
  let c0_i32_80 : BitVec 32 := 0#32
  let v152 : BitVec 1 := Scalar.cmpi .ne v151 c0_i32_80
  let v153 : BitVec 1 := Scalar.andi v150 v152
  let v139 : BitVec 32 := Scalar.divsi v114 c4_i32_75
  let c1_i32_81 : BitVec 32 := 1#32
  let v154 : BitVec 32 := Scalar.subi v139 c1_i32_81
  let v155 : BitVec 32 := Scalar.select v153 v154 v139
  let c4_i32_82 : BitVec 32 := 4#32
  let v156 : BitVec 32 := Scalar.muli v155 c4_i32_82
  let v157 : BitVec 32 := Scalar.addi c2_i32_83 v156
  let c1_i32_116 : BitVec 32 := 1#32
  let v215 : BitVec 32 := Scalar.addi v157 c1_i32_116
  let c256_i32_117 : BitVec 32 := 256#32
  let v216 : BitVec 32 := Scalar.muli v215 c256_i32_117
  let v217 : BitVec 32 := v216
  let v238 : Index := Scalar.indexCast v217
  let c0_130 : Index := 0#32
  ![v238.toNat, 0]
def k0_mult25 (v1 : BitVec 32) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c1_i32_101 : BitVec 32 := 1#32
  let v186 : BitVec 32 := Scalar.subi v23 c1_i32_101
  let c256_i32_102 : BitVec 32 := 256#32
  let v187 : BitVec 32 := Scalar.muli v186 c256_i32_102
  v187
def k0_cond13 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c2_i32_92 : BitVec 32 := 2#32
  let c0_i32_93 : BitVec 32 := 0#32
  let v171 : BitVec 1 := Scalar.cmpi .eq c2_i32_92 c0_i32_93
  let c1_i32_94 : BitVec 32 := 1#32
  let v172 : BitVec 32 := Scalar.select v171 c1_i32_94 c2_i32_92
  let v173 : BitVec 32 := Scalar.remsi v23 v172
  let c0_i32_96 : BitVec 32 := 0#32
  let v175 : BitVec 1 := Scalar.cmpi .slt v173 c0_i32_96
  let c0_i32_97 : BitVec 32 := 0#32
  let v176 : BitVec 1 := Scalar.cmpi .slt v172 c0_i32_97
  let v177 : BitVec 1 := Scalar.xori v175 v176
  let c0_i32_95 : BitVec 32 := 0#32
  let v174 : BitVec 1 := Scalar.cmpi .ne v173 c0_i32_95
  let v178 : BitVec 1 := Scalar.andi v177 v174
  let v179 : BitVec 32 := Scalar.addi v173 v172
  let v180 : BitVec 32 := Scalar.select v178 v179 v173
  let c1_i32_98 : BitVec 32 := 1#32
  let v181 : BitVec 1 := Scalar.cmpi .eq v180 c1_i32_98
  let v182 : BitVec 32 := Scalar.extui v181
  let c0_i32_99 : BitVec 32 := 0#32
  let v183 : BitVec 1 := Scalar.cmpi .ne v182 c0_i32_99
  v183

def k0_off26 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c1_i32_101 : BitVec 32 := 1#32
  let v186 : BitVec 32 := Scalar.subi v23 c1_i32_101
  let c256_i32_102 : BitVec 32 := 256#32
  let v187 : BitVec 32 := Scalar.muli v186 c256_i32_102
  let v188 : BitVec 32 := v187
  let v189 : Index := Scalar.indexCast v188
  let c0_103 : Index := 0#32
  ![v189.toNat, 0]
def k0_off27 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c1_i32_101 : BitVec 32 := 1#32
  let v186 : BitVec 32 := Scalar.subi v23 c1_i32_101
  let c256_i32_102 : BitVec 32 := 256#32
  let v187 : BitVec 32 := Scalar.muli v186 c256_i32_102
  let v188 : BitVec 32 := v187
  let v209 : Index := Scalar.indexCast v188
  let c0_115 : Index := 0#32
  ![v209.toNat, 0]
def k0_mult26 (v1 : BitVec 32) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_101 : BitVec 32 := 256#32
  let v186 : BitVec 32 := Scalar.muli v23 c256_i32_101
  v186
def k0_cond14 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c0_i32_5 : BitVec 32 := 0#32
  let v24 : BitVec 1 := Scalar.cmpi .sgt v20 c0_i32_5
  let c128_i32_6 : BitVec 32 := 128#32
  let v25 : BitVec 1 := Scalar.cmpi .sle v20 c128_i32_6
  let v26 : BitVec 1 := Scalar.andi v24 v25
  let v184 : BitVec 32 := Scalar.extui v26
  let c0_i32_100 : BitVec 32 := 0#32
  let v185 : BitVec 1 := Scalar.cmpi .ne v184 c0_i32_100
  v185

def k0_off28 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_101 : BitVec 32 := 256#32
  let v186 : BitVec 32 := Scalar.muli v23 c256_i32_101
  let v187 : BitVec 32 := v186
  let v188 : Index := Scalar.indexCast v187
  let c0_102 : Index := 0#32
  ![v188.toNat, 0]
def k0_off29 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_101 : BitVec 32 := 256#32
  let v186 : BitVec 32 := Scalar.muli v23 c256_i32_101
  let v187 : BitVec 32 := v186
  let v208 : Index := Scalar.indexCast v187
  let c0_114 : Index := 0#32
  ![v208.toNat, 0]
def k0_mult27 (v1 : BitVec 32) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_48 : BitVec 32 := 256#32
  let v92 : BitVec 32 := Scalar.muli v23 c256_i32_48
  v92
def k0_cond15 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c1_i32_15 : BitVec 32 := 1#32
  let v42 : BitVec 1 := Scalar.cmpi .eq v23 c1_i32_15
  let v43 : BitVec 32 := Scalar.extui v42
  let c0_i32_16 : BitVec 32 := 0#32
  let v44 : BitVec 1 := Scalar.cmpi .ne v43 c0_i32_16
  v44

def k0_cond16 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c0_i32_5 : BitVec 32 := 0#32
  let v24 : BitVec 1 := Scalar.cmpi .sgt v20 c0_i32_5
  let c128_i32_6 : BitVec 32 := 128#32
  let v25 : BitVec 1 := Scalar.cmpi .sle v20 c128_i32_6
  let v26 : BitVec 1 := Scalar.andi v24 v25
  let v90 : BitVec 32 := Scalar.extui v26
  let c0_i32_47 : BitVec 32 := 0#32
  let v91 : BitVec 1 := Scalar.cmpi .ne v90 c0_i32_47
  v91

def k0_off30 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_48 : BitVec 32 := 256#32
  let v92 : BitVec 32 := Scalar.muli v23 c256_i32_48
  let v93 : BitVec 32 := v92
  let v94 : Index := Scalar.indexCast v93
  let c0_49 : Index := 0#32
  ![v94.toNat, 0]
def k0_off31 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_48 : BitVec 32 := 256#32
  let v92 : BitVec 32 := Scalar.muli v23 c256_i32_48
  let v93 : BitVec 32 := v92
  let v114 : Index := Scalar.indexCast v93
  let c0_61 : Index := 0#32
  ![v114.toNat, 0]
def k0_mult28 (v1 : BitVec 32) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_33 : BitVec 32 := 256#32
  let v66 : BitVec 32 := Scalar.muli v23 c256_i32_33
  v66
def k0_cond17 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c0_i32_17 : BitVec 32 := 0#32
  let v45 : BitVec 1 := Scalar.cmpi .eq v23 c0_i32_17
  let v46 : BitVec 32 := Scalar.extui v45
  let c0_i32_18 : BitVec 32 := 0#32
  let v47 : BitVec 1 := Scalar.cmpi .ne v46 c0_i32_18
  v47

def k0_off32 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_33 : BitVec 32 := 256#32
  let v66 : BitVec 32 := Scalar.muli v23 c256_i32_33
  let v67 : BitVec 32 := v66
  let v68 : Index := Scalar.indexCast v67
  let c0_34 : Index := 0#32
  ![v68.toNat, 0]
def k0_off33 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_33 : BitVec 32 := 256#32
  let v66 : BitVec 32 := Scalar.muli v23 c256_i32_33
  let v67 : BitVec 32 := v66
  let v88 : Index := Scalar.indexCast v67
  let c0_43 : Index := 0#32
  ![v88.toNat, 0]
def k0_cond18 (i : grid0.Coords) : BitVec 1 :=
  let arg1 : BitVec 32 := BitVec.ofNat 32 (i 1).val
  let c27_i32 : BitVec 32 := 27#32
  let v36 : BitVec 1 := Scalar.cmpi .eq arg1 c27_i32
  let v37 : BitVec 32 := Scalar.extui v36
  let c0_i32_13 : BitVec 32 := 0#32
  let v38 : BitVec 1 := Scalar.cmpi .ne v37 c0_i32_13
  v38

def k0_off34 (i : grid0.Coords) : Fin 1 → Nat :=
  let arg0 : BitVec 32 := BitVec.ofNat 32 (i 0).val
  let v39 : Index := Scalar.indexCast arg0
  ![v39.toNat]
def k0_mult29 (v1 : BitVec 32) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_14 : BitVec 32 := 256#32
  let v42 : BitVec 32 := Scalar.muli v23 c256_i32_14
  v42
@[reducible] def k0_t5_loop (v1 : BitVec 32) : Scf.Loop 32 :=
  let c0_i32_15 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let v44 : BitVec 32 := Scalar.subi v23 c0_i32_15
  let c1_i32_17 : BitVec 32 := 1#32
  let v46 : BitVec 32 := Scalar.divsi v44 c1_i32_17
  let v47 : BitVec 32 := Scalar.muli v46 c1_i32_17
  let v48 : BitVec 32 := Scalar.addi c0_i32_15 v47
  let c1_i32_18 : BitVec 32 := 1#32
  ⟨c0_i32_15, v48, c1_i32_18⟩
def k0_mult30 (v1 : BitVec 32) (k0_t5 : Fin (k0_t5_loop v1).trips) : BitVec 32 :=
  let c0_i32_15 : BitVec 32 := 0#32
  let c1_i32_18 : BitVec 32 := 1#32
  let arg15 : BitVec 32 := Scf.iv c0_i32_15 c1_i32_18 k0_t5
  let c256_i32_27 : BitVec 32 := 256#32
  let v62 : BitVec 32 := Scalar.muli arg15 c256_i32_27
  v62
def k0_off35 (v1 : BitVec 32) (v40 : BitVec 32) (k0_t5 : Fin (k0_t5_loop v1).trips) : Fin 2 → Nat :=
  let c2048_i32 : BitVec 32 := 2048#32
  let v41 : BitVec 32 := Scalar.muli v40 c2048_i32
  let c0_i32_15 : BitVec 32 := 0#32
  let c1_i32_18 : BitVec 32 := 1#32
  let arg15 : BitVec 32 := Scf.iv c0_i32_15 c1_i32_18 k0_t5
  let c256_i32_27 : BitVec 32 := 256#32
  let v62 : BitVec 32 := Scalar.muli arg15 c256_i32_27
  let v63 : BitVec 32 := v62
  let v64 : BitVec 32 := Scalar.addi v41 v63
  let c0_i32_28 : BitVec 32 := 0#32
  ![v64.toNat, 0]

def k0_off36 (v1 : BitVec 32) (k0_t5 : Fin (k0_t5_loop v1).trips) : Fin 2 → Nat :=
  let c0_i32_15 : BitVec 32 := 0#32
  let c1_i32_18 : BitVec 32 := 1#32
  let arg15 : BitVec 32 := Scf.iv c0_i32_15 c1_i32_18 k0_t5
  let c256_i32_27 : BitVec 32 := 256#32
  let v62 : BitVec 32 := Scalar.muli arg15 c256_i32_27
  let v63 : BitVec 32 := v62
  let c0_i32_29 : BitVec 32 := 0#32
  ![v63.toNat, 0]
@[reducible] def k0_t6_loop (v1 : BitVec 32) : Scf.Loop 32 :=
  let c0_i32_15 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let v44 : BitVec 32 := Scalar.subi v23 c0_i32_15
  let c1_i32_17 : BitVec 32 := 1#32
  let v46 : BitVec 32 := Scalar.divsi v44 c1_i32_17
  let v47 : BitVec 32 := Scalar.muli v46 c1_i32_17
  let v48 : BitVec 32 := Scalar.addi c0_i32_15 v47
  let v45 : BitVec 32 := Scalar.addi c0_i32_15 v44
  let c1_i32_19 : BitVec 32 := 1#32
  ⟨v48, v45, c1_i32_19⟩
def k0_mult31 (v1 : BitVec 32) (k0_t6 : Fin (k0_t6_loop v1).trips) : BitVec 32 :=
  let c0_i32_15 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let v44 : BitVec 32 := Scalar.subi v23 c0_i32_15
  let c1_i32_17 : BitVec 32 := 1#32
  let v46 : BitVec 32 := Scalar.divsi v44 c1_i32_17
  let v47 : BitVec 32 := Scalar.muli v46 c1_i32_17
  let v48 : BitVec 32 := Scalar.addi c0_i32_15 v47
  let c1_i32_19 : BitVec 32 := 1#32
  let arg15 : BitVec 32 := Scf.iv v48 c1_i32_19 k0_t6
  let c256_i32_27 : BitVec 32 := 256#32
  let v62 : BitVec 32 := Scalar.muli arg15 c256_i32_27
  v62
def k0_off37 (v1 : BitVec 32) (v40 : BitVec 32) (k0_t6 : Fin (k0_t6_loop v1).trips) : Fin 2 → Nat :=
  let c2048_i32 : BitVec 32 := 2048#32
  let v41 : BitVec 32 := Scalar.muli v40 c2048_i32
  let c0_i32_15 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let v44 : BitVec 32 := Scalar.subi v23 c0_i32_15
  let c1_i32_17 : BitVec 32 := 1#32
  let v46 : BitVec 32 := Scalar.divsi v44 c1_i32_17
  let v47 : BitVec 32 := Scalar.muli v46 c1_i32_17
  let v48 : BitVec 32 := Scalar.addi c0_i32_15 v47
  let c1_i32_19 : BitVec 32 := 1#32
  let arg15 : BitVec 32 := Scf.iv v48 c1_i32_19 k0_t6
  let c256_i32_27 : BitVec 32 := 256#32
  let v62 : BitVec 32 := Scalar.muli arg15 c256_i32_27
  let v63 : BitVec 32 := v62
  let v64 : BitVec 32 := Scalar.addi v41 v63
  let c0_i32_28 : BitVec 32 := 0#32
  ![v64.toNat, 0]
def k0_off38 (v1 : BitVec 32) (k0_t6 : Fin (k0_t6_loop v1).trips) : Fin 2 → Nat :=
  let c0_i32_15 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let v44 : BitVec 32 := Scalar.subi v23 c0_i32_15
  let c1_i32_17 : BitVec 32 := 1#32
  let v46 : BitVec 32 := Scalar.divsi v44 c1_i32_17
  let v47 : BitVec 32 := Scalar.muli v46 c1_i32_17
  let v48 : BitVec 32 := Scalar.addi c0_i32_15 v47
  let c1_i32_19 : BitVec 32 := 1#32
  let arg15 : BitVec 32 := Scf.iv v48 c1_i32_19 k0_t6
  let c256_i32_27 : BitVec 32 := 256#32
  let v62 : BitVec 32 := Scalar.muli arg15 c256_i32_27
  let v63 : BitVec 32 := v62
  let c0_i32_29 : BitVec 32 := 0#32
  ![v63.toNat, 0]
def k0_off39 (v1 : BitVec 32) (v40 : BitVec 32) : Fin 2 → Nat :=
  let c2048_i32 : BitVec 32 := 2048#32
  let v41 : BitVec 32 := Scalar.muli v40 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_14 : BitVec 32 := 256#32
  let v42 : BitVec 32 := Scalar.muli v23 c256_i32_14
  let v43 : BitVec 32 := v42
  let v62 : BitVec 32 := Scalar.addi v41 v43
  let c0_i32_27 : BitVec 32 := 0#32
  ![v62.toNat, 0]
def k0_cond19 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c0_i32_5 : BitVec 32 := 0#32
  let v24 : BitVec 1 := Scalar.cmpi .sgt v20 c0_i32_5
  let c128_i32_6 : BitVec 32 := 128#32
  let v25 : BitVec 1 := Scalar.cmpi .sle v20 c128_i32_6
  let v26 : BitVec 1 := Scalar.andi v24 v25
  let v51 : BitVec 32 := Scalar.extui v26
  let c0_i32_20 : BitVec 32 := 0#32
  let v52 : BitVec 1 := Scalar.cmpi .ne v51 c0_i32_20
  v52

def k0_off40 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_14 : BitVec 32 := 256#32
  let v42 : BitVec 32 := Scalar.muli v23 c256_i32_14
  let v43 : BitVec 32 := v42
  let c0_i32_28 : BitVec 32 := 0#32
  ![v43.toNat, 0]
@[reducible] def k0_t7_loop (v1 : BitVec 32) : Scf.Loop 32 :=
  let c0_i32_21 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let v53 : BitVec 32 := Scalar.subi v23 c0_i32_21
  let c1_i32_23 : BitVec 32 := 1#32
  let v55 : BitVec 32 := Scalar.divsi v53 c1_i32_23
  let v56 : BitVec 32 := Scalar.muli v55 c1_i32_23
  let v57 : BitVec 32 := Scalar.addi c0_i32_21 v56
  let c1_i32_24 : BitVec 32 := 1#32
  ⟨c0_i32_21, v57, c1_i32_24⟩
def k0_mult32 (v1 : BitVec 32) (k0_t7 : Fin (k0_t7_loop v1).trips) : BitVec 32 :=
  let c0_i32_21 : BitVec 32 := 0#32
  let c1_i32_24 : BitVec 32 := 1#32
  let arg15 : BitVec 32 := Scf.iv c0_i32_21 c1_i32_24 k0_t7
  let c256_i32_27 : BitVec 32 := 256#32
  let v62 : BitVec 32 := Scalar.muli arg15 c256_i32_27
  v62
def k0_off41 (v1 : BitVec 32) (v40 : BitVec 32) (k0_t7 : Fin (k0_t7_loop v1).trips) : Fin 2 → Nat :=
  let c2048_i32 : BitVec 32 := 2048#32
  let v41 : BitVec 32 := Scalar.muli v40 c2048_i32
  let c0_i32_21 : BitVec 32 := 0#32
  let c1_i32_24 : BitVec 32 := 1#32
  let arg15 : BitVec 32 := Scf.iv c0_i32_21 c1_i32_24 k0_t7
  let c256_i32_27 : BitVec 32 := 256#32
  let v62 : BitVec 32 := Scalar.muli arg15 c256_i32_27
  let v63 : BitVec 32 := v62
  let v64 : BitVec 32 := Scalar.addi v41 v63
  let c0_i32_28 : BitVec 32 := 0#32
  ![v64.toNat, 0]
def k0_off42 (v1 : BitVec 32) (k0_t7 : Fin (k0_t7_loop v1).trips) : Fin 2 → Nat :=
  let c0_i32_21 : BitVec 32 := 0#32
  let c1_i32_24 : BitVec 32 := 1#32
  let arg15 : BitVec 32 := Scf.iv c0_i32_21 c1_i32_24 k0_t7
  let c256_i32_27 : BitVec 32 := 256#32
  let v62 : BitVec 32 := Scalar.muli arg15 c256_i32_27
  let v63 : BitVec 32 := v62
  let c0_i32_29 : BitVec 32 := 0#32
  ![v63.toNat, 0]
@[reducible] def k0_t8_loop (v1 : BitVec 32) : Scf.Loop 32 :=
  let c0_i32_21 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let v53 : BitVec 32 := Scalar.subi v23 c0_i32_21
  let c1_i32_23 : BitVec 32 := 1#32
  let v55 : BitVec 32 := Scalar.divsi v53 c1_i32_23
  let v56 : BitVec 32 := Scalar.muli v55 c1_i32_23
  let v57 : BitVec 32 := Scalar.addi c0_i32_21 v56
  let v54 : BitVec 32 := Scalar.addi c0_i32_21 v53
  let c1_i32_25 : BitVec 32 := 1#32
  ⟨v57, v54, c1_i32_25⟩
def k0_mult33 (v1 : BitVec 32) (k0_t8 : Fin (k0_t8_loop v1).trips) : BitVec 32 :=
  let c0_i32_21 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let v53 : BitVec 32 := Scalar.subi v23 c0_i32_21
  let c1_i32_23 : BitVec 32 := 1#32
  let v55 : BitVec 32 := Scalar.divsi v53 c1_i32_23
  let v56 : BitVec 32 := Scalar.muli v55 c1_i32_23
  let v57 : BitVec 32 := Scalar.addi c0_i32_21 v56
  let c1_i32_25 : BitVec 32 := 1#32
  let arg15 : BitVec 32 := Scf.iv v57 c1_i32_25 k0_t8
  let c256_i32_27 : BitVec 32 := 256#32
  let v62 : BitVec 32 := Scalar.muli arg15 c256_i32_27
  v62
def k0_off43 (v1 : BitVec 32) (v40 : BitVec 32) (k0_t8 : Fin (k0_t8_loop v1).trips) : Fin 2 → Nat :=
  let c2048_i32 : BitVec 32 := 2048#32
  let v41 : BitVec 32 := Scalar.muli v40 c2048_i32
  let c0_i32_21 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let v53 : BitVec 32 := Scalar.subi v23 c0_i32_21
  let c1_i32_23 : BitVec 32 := 1#32
  let v55 : BitVec 32 := Scalar.divsi v53 c1_i32_23
  let v56 : BitVec 32 := Scalar.muli v55 c1_i32_23
  let v57 : BitVec 32 := Scalar.addi c0_i32_21 v56
  let c1_i32_25 : BitVec 32 := 1#32
  let arg15 : BitVec 32 := Scf.iv v57 c1_i32_25 k0_t8
  let c256_i32_27 : BitVec 32 := 256#32
  let v62 : BitVec 32 := Scalar.muli arg15 c256_i32_27
  let v63 : BitVec 32 := v62
  let v64 : BitVec 32 := Scalar.addi v41 v63
  let c0_i32_28 : BitVec 32 := 0#32
  ![v64.toNat, 0]
def k0_off44 (v1 : BitVec 32) (k0_t8 : Fin (k0_t8_loop v1).trips) : Fin 2 → Nat :=
  let c0_i32_21 : BitVec 32 := 0#32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let v53 : BitVec 32 := Scalar.subi v23 c0_i32_21
  let c1_i32_23 : BitVec 32 := 1#32
  let v55 : BitVec 32 := Scalar.divsi v53 c1_i32_23
  let v56 : BitVec 32 := Scalar.muli v55 c1_i32_23
  let v57 : BitVec 32 := Scalar.addi c0_i32_21 v56
  let c1_i32_25 : BitVec 32 := 1#32
  let arg15 : BitVec 32 := Scf.iv v57 c1_i32_25 k0_t8
  let c256_i32_27 : BitVec 32 := 256#32
  let v62 : BitVec 32 := Scalar.muli arg15 c256_i32_27
  let v63 : BitVec 32 := v62
  let c0_i32_29 : BitVec 32 := 0#32
  ![v63.toNat, 0]
def k0_off45 (v1 : BitVec 32) (v40 : BitVec 32) : Fin 2 → Nat :=
  let c2048_i32 : BitVec 32 := 2048#32
  let v41 : BitVec 32 := Scalar.muli v40 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_14 : BitVec 32 := 256#32
  let v42 : BitVec 32 := Scalar.muli v23 c256_i32_14
  let v43 : BitVec 32 := v42
  let v62 : BitVec 32 := Scalar.addi v41 v43
  let c0_i32_27 : BitVec 32 := 0#32
  ![v62.toNat, 0]
def k0_cond20 (v1 : BitVec 32) : BitVec 1 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c0_i32_5 : BitVec 32 := 0#32
  let v24 : BitVec 1 := Scalar.cmpi .sgt v20 c0_i32_5
  let c128_i32_6 : BitVec 32 := 128#32
  let v25 : BitVec 1 := Scalar.cmpi .sle v20 c128_i32_6
  let v26 : BitVec 1 := Scalar.andi v24 v25
  let v60 : BitVec 32 := Scalar.extui v26
  let c0_i32_26 : BitVec 32 := 0#32
  let v61 : BitVec 1 := Scalar.cmpi .ne v60 c0_i32_26
  v61

def k0_chk2 (i : grid0.Coords) (v1 : BitVec 32) (v40 : BitVec 32) : Prop :=
  (∀ k0_t5 : Fin (k0_t5_loop v1).trips, ∀ (k0_h1 : k0_cond1 v1 = 1#1), ∀ (k0_h18 : k0_cond18 i = 1#1), ∀ a, (k0_off35 v1 v40 k0_t5) a + S256x2048.size a ≤ S28672x2048.size a) ∧
  (∀ k0_t6 : Fin (k0_t6_loop v1).trips, ∀ (k0_h1 : k0_cond1 v1 = 1#1), ∀ (k0_h18 : k0_cond18 i = 1#1), ∀ a, (k0_off37 v1 v40 k0_t6) a + S256x2048.size a ≤ S28672x2048.size a) ∧
  (∀ (k0_h1 : k0_cond1 v1 = 1#1), ∀ (k0_h18 : k0_cond18 i = 1#1), ∀ (k0_h19 : k0_cond19 v1 = 1#1), ∀ a, (k0_off39 v1 v40) a + S128x2048.size a ≤ S28672x2048.size a) ∧
  (∀ k0_t7 : Fin (k0_t7_loop v1).trips, ∀ (k0_h1 : k0_cond1 v1 = 1#1), ∀ (k0_h18 : k0_cond18 i = 1#1), ∀ a, (k0_off41 v1 v40 k0_t7) a + S256x2048.size a ≤ S28672x2048.size a) ∧
  (∀ k0_t8 : Fin (k0_t8_loop v1).trips, ∀ (k0_h1 : k0_cond1 v1 = 1#1), ∀ (k0_h18 : k0_cond18 i = 1#1), ∀ a, (k0_off43 v1 v40 k0_t8) a + S256x2048.size a ≤ S28672x2048.size a) ∧
  (∀ (k0_h1 : k0_cond1 v1 = 1#1), ∀ (k0_h18 : k0_cond18 i = 1#1), ∀ (k0_h20 : k0_cond20 v1 = 1#1), ∀ a, (k0_off45 v1 v40) a + S128x2048.size a ≤ S28672x2048.size a)
theorem k0_off35_inb : ∀ (i : grid0.Coords) (v1 : BitVec 32) (v40 : BitVec 32) (k0_hw2 : k0_chk2 i v1 v40) (k0_t5 : Fin (k0_t5_loop v1).trips), ∀ (k0_h1 : k0_cond1 v1 = 1#1), ∀ (k0_h18 : k0_cond18 i = 1#1), ∀ a, (k0_off35 v1 v40 k0_t5) a + S256x2048.size a ≤ S28672x2048.size a := fun i v1 v40 k0_hw2 k0_t5 k0_h1 k0_h18 => k0_hw2.1 k0_t5 k0_h1 k0_h18
theorem k0_off37_inb : ∀ (i : grid0.Coords) (v1 : BitVec 32) (v40 : BitVec 32) (k0_hw2 : k0_chk2 i v1 v40) (k0_t6 : Fin (k0_t6_loop v1).trips), ∀ (k0_h1 : k0_cond1 v1 = 1#1), ∀ (k0_h18 : k0_cond18 i = 1#1), ∀ a, (k0_off37 v1 v40 k0_t6) a + S256x2048.size a ≤ S28672x2048.size a := fun i v1 v40 k0_hw2 k0_t6 k0_h1 k0_h18 => k0_hw2.2.1 k0_t6 k0_h1 k0_h18
theorem k0_off39_inb : ∀ (i : grid0.Coords) (v1 : BitVec 32) (v40 : BitVec 32) (k0_hw2 : k0_chk2 i v1 v40), ∀ (k0_h1 : k0_cond1 v1 = 1#1), ∀ (k0_h18 : k0_cond18 i = 1#1), ∀ (k0_h19 : k0_cond19 v1 = 1#1), ∀ a, (k0_off39 v1 v40) a + S128x2048.size a ≤ S28672x2048.size a := fun i v1 v40 k0_hw2 k0_h1 k0_h18 k0_h19 => k0_hw2.2.2.1 k0_h1 k0_h18 k0_h19
theorem k0_off41_inb : ∀ (i : grid0.Coords) (v1 : BitVec 32) (v40 : BitVec 32) (k0_hw2 : k0_chk2 i v1 v40) (k0_t7 : Fin (k0_t7_loop v1).trips), ∀ (k0_h1 : k0_cond1 v1 = 1#1), ∀ (k0_h18 : k0_cond18 i = 1#1), ∀ a, (k0_off41 v1 v40 k0_t7) a + S256x2048.size a ≤ S28672x2048.size a := fun i v1 v40 k0_hw2 k0_t7 k0_h1 k0_h18 => k0_hw2.2.2.2.1 k0_t7 k0_h1 k0_h18
theorem k0_off43_inb : ∀ (i : grid0.Coords) (v1 : BitVec 32) (v40 : BitVec 32) (k0_hw2 : k0_chk2 i v1 v40) (k0_t8 : Fin (k0_t8_loop v1).trips), ∀ (k0_h1 : k0_cond1 v1 = 1#1), ∀ (k0_h18 : k0_cond18 i = 1#1), ∀ a, (k0_off43 v1 v40 k0_t8) a + S256x2048.size a ≤ S28672x2048.size a := fun i v1 v40 k0_hw2 k0_t8 k0_h1 k0_h18 => k0_hw2.2.2.2.2.1 k0_t8 k0_h1 k0_h18
theorem k0_off45_inb : ∀ (i : grid0.Coords) (v1 : BitVec 32) (v40 : BitVec 32) (k0_hw2 : k0_chk2 i v1 v40), ∀ (k0_h1 : k0_cond1 v1 = 1#1), ∀ (k0_h18 : k0_cond18 i = 1#1), ∀ (k0_h20 : k0_cond20 v1 = 1#1), ∀ a, (k0_off45 v1 v40) a + S128x2048.size a ≤ S28672x2048.size a := fun i v1 v40 k0_hw2 k0_h1 k0_h18 k0_h20 => k0_hw2.2.2.2.2.2 k0_h1 k0_h18 k0_h20

def k0_off46 (v1 : BitVec 32) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c256_i32 : BitVec 32 := 256#32
  let c0_i32_1 : BitVec 32 := 0#32
  let v8 : BitVec 1 := Scalar.cmpi .sgt c256_i32 c0_i32_1
  let v9 : BitVec 32 := Scalar.extui v8
  let c0_i32_2 : BitVec 32 := 0#32
  let v10 : BitVec 1 := Scalar.cmpi .slt c256_i32 c0_i32_2
  let v11 : BitVec 32 := Scalar.extui v10
  let v12 : BitVec 32 := Scalar.subi v9 v11
  let v13 : BitVec 1 := Scalar.cmpi .ne v7 v12
  let v14 : BitVec 32 := Scalar.remsi v1 c256_i32
  let c0_i32_3 : BitVec 32 := 0#32
  let v15 : BitVec 1 := Scalar.cmpi .ne v14 c0_i32_3
  let v16 : BitVec 1 := Scalar.andi v13 v15
  let v2 : BitVec 32 := Scalar.divsi v1 c256_i32
  let c1_i32 : BitVec 32 := 1#32
  let v17 : BitVec 32 := Scalar.subi v2 c1_i32
  let v18 : BitVec 32 := Scalar.select v16 v17 v2
  let c256_i32_4 : BitVec 32 := 256#32
  let v19 : BitVec 32 := Scalar.muli v18 c256_i32_4
  let v20 : BitVec 32 := Scalar.subi v1 v19
  let c128_i32 : BitVec 32 := 128#32
  let v21 : BitVec 1 := Scalar.cmpi .sgt v20 c128_i32
  let v22 : BitVec 32 := Scalar.extui v21
  let v23 : BitVec 32 := Scalar.addi v18 v22
  let c256_i32_14 : BitVec 32 := 256#32
  let v42 : BitVec 32 := Scalar.muli v23 c256_i32_14
  let v43 : BitVec 32 := v42
  let c0_i32_28 : BitVec 32 := 0#32
  ![v43.toNat, 0]

def k0_chk1_0 (i : grid0.Coords) (v1 : BitVec 32) : Prop :=
  (∀ (k0_h1 : k0_cond1 v1 = 1#1), ∀ (k0_h2 : k0_cond2 i = 1#1), ∀ (k0_h3 : k0_cond3 v1 = 1#1), (k0_t1_loop v1).OK) ∧
  (∀ k0_t1 : Fin (k0_t1_loop v1).trips, ∀ (k0_h1 : k0_cond1 v1 = 1#1), ∀ (k0_h2 : k0_cond2 i = 1#1), ∀ (k0_h3 : k0_cond3 v1 = 1#1), 256 ∣ (k0_mult1 v1 k0_t1).toNat) ∧
  (∀ k0_t1 : Fin (k0_t1_loop v1).trips, ∀ (k0_h1 : k0_cond1 v1 = 1#1), ∀ (k0_h2 : k0_cond2 i = 1#1), ∀ (k0_h3 : k0_cond3 v1 = 1#1), ∀ (r : Fin 4), ∀ a, (k0_off2 v1 k0_t1 (BitVec.ofNat 32 r.val)) a + S256x1024.size a ≤ S2048x1024.size a) ∧
  (∀ k0_t1 : Fin (k0_t1_loop v1).trips, ∀ (k0_h1 : k0_cond1 v1 = 1#1), ∀ (k0_h2 : k0_cond2 i = 1#1), ∀ (k0_h3 : k0_cond3 v1 = 1#1), ∀ (r : Fin 4), ∀ a, (k0_off3 v1 k0_t1 (BitVec.ofNat 32 r.val)) a + S256x2048.size a ≤ S2048x2048.size a) ∧
  (∀ k0_t1 : Fin (k0_t1_loop v1).trips, ∀ (k0_h1 : k0_cond1 v1 = 1#1), ∀ (k0_h2 : k0_cond2 i = 1#1), ∀ (k0_h3 : k0_cond3 v1 = 1#1), 256 ∣ (k0_mult2 v1 k0_t1).toNat) ∧
  (∀ k0_t1 : Fin (k0_t1_loop v1).trips, ∀ (k0_h1 : k0_cond1 v1 = 1#1), ∀ (k0_h2 : k0_cond2 i = 1#1), ∀ (k0_h3 : k0_cond3 v1 = 1#1), 256 ∣ (k0_mult3 v1 k0_t1).toNat) ∧
  (∀ k0_t1 : Fin (k0_t1_loop v1).trips, ∀ (k0_h1 : k0_cond1 v1 = 1#1), ∀ (k0_h2 : k0_cond2 i = 1#1), ∀ (k0_h3 : k0_cond3 v1 = 1#1), 256 ∣ (k0_mult4 v1 k0_t1).toNat) ∧
  (∀ (k0_h1 : k0_cond1 v1 = 1#1), ∀ (k0_h2 : k0_cond2 i = 1#1), ∀ (k0_h3 : k0_cond3 v1 = 1#1), (k0_t2_loop v1).OK) ∧
  (∀ k0_t2 : Fin (k0_t2_loop v1).trips, ∀ (k0_h1 : k0_cond1 v1 = 1#1), ∀ (k0_h2 : k0_cond2 i = 1#1), ∀ (k0_h3 : k0_cond3 v1 = 1#1), 256 ∣ (k0_mult5 v1 k0_t2).toNat) ∧
  (∀ k0_t2 : Fin (k0_t2_loop v1).trips, ∀ (k0_h1 : k0_cond1 v1 = 1#1), ∀ (k0_h2 : k0_cond2 i = 1#1), ∀ (k0_h3 : k0_cond3 v1 = 1#1), ∀ (r : Fin 4), ∀ a, (k0_off4 v1 k0_t2 (BitVec.ofNat 32 r.val)) a + S256x1024.size a ≤ S2048x1024.size a) ∧
  (∀ k0_t2 : Fin (k0_t2_loop v1).trips, ∀ (k0_h1 : k0_cond1 v1 = 1#1), ∀ (k0_h2 : k0_cond2 i = 1#1), ∀ (k0_h3 : k0_cond3 v1 = 1#1), ∀ (r : Fin 4), ∀ a, (k0_off5 v1 k0_t2 (BitVec.ofNat 32 r.val)) a + S256x2048.size a ≤ S2048x2048.size a) ∧
  (∀ k0_t2 : Fin (k0_t2_loop v1).trips, ∀ (k0_h1 : k0_cond1 v1 = 1#1), ∀ (k0_h2 : k0_cond2 i = 1#1), ∀ (k0_h3 : k0_cond3 v1 = 1#1), 256 ∣ (k0_mult6 v1 k0_t2).toNat) ∧
  (∀ k0_t2 : Fin (k0_t2_loop v1).trips, ∀ (k0_h1 : k0_cond1 v1 = 1#1), ∀ (k0_h2 : k0_cond2 i = 1#1), ∀ (k0_h3 : k0_cond3 v1 = 1#1), 256 ∣ (k0_mult7 v1 k0_t2).toNat) ∧
  (∀ k0_t2 : Fin (k0_t2_loop v1).trips, ∀ (k0_h1 : k0_cond1 v1 = 1#1), ∀ (k0_h2 : k0_cond2 i = 1#1), ∀ (k0_h3 : k0_cond3 v1 = 1#1), 256 ∣ (k0_mult8 v1 k0_t2).toNat) ∧
  (∀ (k0_h1 : k0_cond1 v1 = 1#1), ∀ (k0_h2 : k0_cond2 i = 1#1), ∀ (k0_h3 : k0_cond3 v1 = 1#1), ∀ (k0_h4 : k0_cond4 v1 = 1#1), 256 ∣ (k0_mult9 v1).toNat) ∧
  (∀ (k0_h1 : k0_cond1 v1 = 1#1), ∀ (k0_h2 : k0_cond2 i = 1#1), ∀ (k0_h3 : k0_cond3 v1 = 1#1), ∀ (k0_h4 : k0_cond4 v1 = 1#1), ∀ a, (k0_off6 v1) a + S256x1024.size a ≤ S2048x1024.size a) ∧
  (∀ (k0_h1 : k0_cond1 v1 = 1#1), ∀ (k0_h2 : k0_cond2 i = 1#1), ∀ (k0_h3 : k0_cond3 v1 = 1#1), ∀ (k0_h4 : k0_cond4 v1 = 1#1), ∀ a, (k0_off7 v1) a + S256x2048.size a ≤ S2048x2048.size a) ∧
  (∀ (k0_h1 : k0_cond1 v1 = 1#1), ∀ (k0_h2 : k0_cond2 i = 1#1), ∀ (k0_h3 : k0_cond3 v1 = 1#1), ∀ (k0_h4 : k0_cond4 v1 = 1#1), 256 ∣ (k0_mult10 v1).toNat) ∧
  (∀ (k0_h1 : k0_cond1 v1 = 1#1), ∀ (k0_h2 : k0_cond2 i = 1#1), ∀ (k0_h3 : k0_cond3 v1 = 1#1), ∀ (k0_h4 : k0_cond4 v1 = 1#1), ∀ a, (k0_off8 v1) a + S256x1024.size a ≤ S2048x1024.size a) ∧
  (∀ (k0_h1 : k0_cond1 v1 = 1#1), ∀ (k0_h2 : k0_cond2 i = 1#1), ∀ (k0_h3 : k0_cond3 v1 = 1#1), ∀ (k0_h4 : k0_cond4 v1 = 1#1), ∀ a, (k0_off9 v1) a + S256x2048.size a ≤ S2048x2048.size a) ∧
  (∀ (k0_h1 : k0_cond1 v1 = 1#1), ∀ (k0_h2 : k0_cond2 i = 1#1), ∀ (k0_h3 : k0_cond3 v1 = 1#1), ∀ (k0_h5 : k0_cond5 v1 = 1#1), 256 ∣ (k0_mult11 v1).toNat) ∧
  (∀ (k0_h1 : k0_cond1 v1 = 1#1), ∀ (k0_h2 : k0_cond2 i = 1#1), ∀ (k0_h3 : k0_cond3 v1 = 1#1), ∀ (k0_h5 : k0_cond5 v1 = 1#1), ∀ a, (k0_off10 v1) a + S256x1024.size a ≤ S2048x1024.size a) ∧
  (∀ (k0_h1 : k0_cond1 v1 = 1#1), ∀ (k0_h2 : k0_cond2 i = 1#1), ∀ (k0_h3 : k0_cond3 v1 = 1#1), ∀ (k0_h5 : k0_cond5 v1 = 1#1), ∀ a, (k0_off11 v1) a + S256x2048.size a ≤ S2048x2048.size a) ∧
  (∀ (k0_h1 : k0_cond1 v1 = 1#1), ∀ (k0_h2 : k0_cond2 i = 1#1), ∀ (k0_h3 : k0_cond3 v1 = 1#1), ∀ (k0_h6 : k0_cond6 v1 = 1#1), 256 ∣ (k0_mult12 v1).toNat) ∧
  (∀ (k0_h1 : k0_cond1 v1 = 1#1), ∀ (k0_h2 : k0_cond2 i = 1#1), ∀ (k0_h3 : k0_cond3 v1 = 1#1), ∀ (k0_h6 : k0_cond6 v1 = 1#1), ∀ a, (k0_off12 v1) a + S128x1024.size a ≤ S2048x1024.size a) ∧
  (∀ (k0_h1 : k0_cond1 v1 = 1#1), ∀ (k0_h2 : k0_cond2 i = 1#1), ∀ (k0_h3 : k0_cond3 v1 = 1#1), ∀ (k0_h6 : k0_cond6 v1 = 1#1), ∀ a, (k0_off13 v1) a + S128x2048.size a ≤ S2048x2048.size a) ∧
  (∀ (k0_h1 : k0_cond1 v1 = 1#1), ∀ (k0_h2 : k0_cond2 i = 1#1), ∀ (k0_h7 : k0_cond7 v1 = 1#1), ∀ (k0_h8 : k0_cond8 v1 = 1#1), 256 ∣ (k0_mult13 v1).toNat) ∧
  (∀ (k0_h1 : k0_cond1 v1 = 1#1), ∀ (k0_h2 : k0_cond2 i = 1#1), ∀ (k0_h7 : k0_cond7 v1 = 1#1), ∀ (k0_h8 : k0_cond8 v1 = 1#1), ∀ a, (k0_off14 v1) a + S128x1024.size a ≤ S2048x1024.size a) ∧
  (∀ (k0_h1 : k0_cond1 v1 = 1#1), ∀ (k0_h2 : k0_cond2 i = 1#1), ∀ (k0_h7 : k0_cond7 v1 = 1#1), ∀ (k0_h8 : k0_cond8 v1 = 1#1), ∀ a, (k0_off15 v1) a + S128x2048.size a ≤ S2048x2048.size a) ∧
  (∀ (k0_h1 : k0_cond1 v1 = 1#1), ∀ (k0_h2 : k0_cond2 i = 1#1), ∀ (k0_h9 : k0_cond9 v1 = 1#1), 256 ∣ (k0_mult14 v1).toNat) ∧
  (∀ (k0_h1 : k0_cond1 v1 = 1#1), ∀ (k0_h2 : k0_cond2 i = 1#1), ∀ (k0_h9 : k0_cond9 v1 = 1#1), ∀ a, (k0_off16 v1) a + S128x1024.size a ≤ S2048x1024.size a) ∧
  (∀ (k0_h1 : k0_cond1 v1 = 1#1), ∀ (k0_h2 : k0_cond2 i = 1#1), ∀ (k0_h9 : k0_cond9 v1 = 1#1), ∀ a, (k0_off17 v1) a + S128x2048.size a ≤ S2048x2048.size a)
def k0_chk1_1 (i : grid0.Coords) (v1 : BitVec 32) : Prop :=
  (∀ (k0_h1 : k0_cond1 v1 = 1#1), ∀ (k0_h10 : k0_cond10 i = 1#1), ∀ (k0_h11 : k0_cond11 v1 = 1#1), (k0_t3_loop v1).OK) ∧
  (∀ k0_t3 : Fin (k0_t3_loop v1).trips, ∀ (k0_h1 : k0_cond1 v1 = 1#1), ∀ (k0_h10 : k0_cond10 i = 1#1), ∀ (k0_h11 : k0_cond11 v1 = 1#1), 256 ∣ (k0_mult15 v1 k0_t3).toNat) ∧
  (∀ k0_t3 : Fin (k0_t3_loop v1).trips, ∀ (k0_h1 : k0_cond1 v1 = 1#1), ∀ (k0_h10 : k0_cond10 i = 1#1), ∀ (k0_h11 : k0_cond11 v1 = 1#1), ∀ (r : Fin 4), ∀ a, (k0_off18 v1 k0_t3 (BitVec.ofNat 32 r.val)) a + S256x1024.size a ≤ S2048x1024.size a) ∧
  (∀ k0_t3 : Fin (k0_t3_loop v1).trips, ∀ (k0_h1 : k0_cond1 v1 = 1#1), ∀ (k0_h10 : k0_cond10 i = 1#1), ∀ (k0_h11 : k0_cond11 v1 = 1#1), ∀ (r : Fin 4), ∀ a, (k0_off19 v1 k0_t3 (BitVec.ofNat 32 r.val)) a + S256x2048.size a ≤ S2048x2048.size a) ∧
  (∀ k0_t3 : Fin (k0_t3_loop v1).trips, ∀ (k0_h1 : k0_cond1 v1 = 1#1), ∀ (k0_h10 : k0_cond10 i = 1#1), ∀ (k0_h11 : k0_cond11 v1 = 1#1), 256 ∣ (k0_mult16 v1 k0_t3).toNat) ∧
  (∀ k0_t3 : Fin (k0_t3_loop v1).trips, ∀ (k0_h1 : k0_cond1 v1 = 1#1), ∀ (k0_h10 : k0_cond10 i = 1#1), ∀ (k0_h11 : k0_cond11 v1 = 1#1), 256 ∣ (k0_mult17 v1 k0_t3).toNat) ∧
  (∀ k0_t3 : Fin (k0_t3_loop v1).trips, ∀ (k0_h1 : k0_cond1 v1 = 1#1), ∀ (k0_h10 : k0_cond10 i = 1#1), ∀ (k0_h11 : k0_cond11 v1 = 1#1), 256 ∣ (k0_mult18 v1 k0_t3).toNat) ∧
  (∀ (k0_h1 : k0_cond1 v1 = 1#1), ∀ (k0_h10 : k0_cond10 i = 1#1), ∀ (k0_h11 : k0_cond11 v1 = 1#1), (k0_t4_loop v1).OK) ∧
  (∀ k0_t4 : Fin (k0_t4_loop v1).trips, ∀ (k0_h1 : k0_cond1 v1 = 1#1), ∀ (k0_h10 : k0_cond10 i = 1#1), ∀ (k0_h11 : k0_cond11 v1 = 1#1), 256 ∣ (k0_mult19 v1 k0_t4).toNat) ∧
  (∀ k0_t4 : Fin (k0_t4_loop v1).trips, ∀ (k0_h1 : k0_cond1 v1 = 1#1), ∀ (k0_h10 : k0_cond10 i = 1#1), ∀ (k0_h11 : k0_cond11 v1 = 1#1), ∀ (r : Fin 4), ∀ a, (k0_off20 v1 k0_t4 (BitVec.ofNat 32 r.val)) a + S256x1024.size a ≤ S2048x1024.size a) ∧
  (∀ k0_t4 : Fin (k0_t4_loop v1).trips, ∀ (k0_h1 : k0_cond1 v1 = 1#1), ∀ (k0_h10 : k0_cond10 i = 1#1), ∀ (k0_h11 : k0_cond11 v1 = 1#1), ∀ (r : Fin 4), ∀ a, (k0_off21 v1 k0_t4 (BitVec.ofNat 32 r.val)) a + S256x2048.size a ≤ S2048x2048.size a) ∧
  (∀ k0_t4 : Fin (k0_t4_loop v1).trips, ∀ (k0_h1 : k0_cond1 v1 = 1#1), ∀ (k0_h10 : k0_cond10 i = 1#1), ∀ (k0_h11 : k0_cond11 v1 = 1#1), 256 ∣ (k0_mult20 v1 k0_t4).toNat) ∧
  (∀ k0_t4 : Fin (k0_t4_loop v1).trips, ∀ (k0_h1 : k0_cond1 v1 = 1#1), ∀ (k0_h10 : k0_cond10 i = 1#1), ∀ (k0_h11 : k0_cond11 v1 = 1#1), 256 ∣ (k0_mult21 v1 k0_t4).toNat) ∧
  (∀ k0_t4 : Fin (k0_t4_loop v1).trips, ∀ (k0_h1 : k0_cond1 v1 = 1#1), ∀ (k0_h10 : k0_cond10 i = 1#1), ∀ (k0_h11 : k0_cond11 v1 = 1#1), 256 ∣ (k0_mult22 v1 k0_t4).toNat) ∧
  (∀ (k0_h1 : k0_cond1 v1 = 1#1), ∀ (k0_h10 : k0_cond10 i = 1#1), ∀ (k0_h11 : k0_cond11 v1 = 1#1), ∀ (k0_h12 : k0_cond12 v1 = 1#1), 256 ∣ (k0_mult23 v1).toNat) ∧
  (∀ (k0_h1 : k0_cond1 v1 = 1#1), ∀ (k0_h10 : k0_cond10 i = 1#1), ∀ (k0_h11 : k0_cond11 v1 = 1#1), ∀ (k0_h12 : k0_cond12 v1 = 1#1), ∀ a, (k0_off22 v1) a + S256x1024.size a ≤ S2048x1024.size a) ∧
  (∀ (k0_h1 : k0_cond1 v1 = 1#1), ∀ (k0_h10 : k0_cond10 i = 1#1), ∀ (k0_h11 : k0_cond11 v1 = 1#1), ∀ (k0_h12 : k0_cond12 v1 = 1#1), ∀ a, (k0_off23 v1) a + S256x2048.size a ≤ S2048x2048.size a) ∧
  (∀ (k0_h1 : k0_cond1 v1 = 1#1), ∀ (k0_h10 : k0_cond10 i = 1#1), ∀ (k0_h11 : k0_cond11 v1 = 1#1), ∀ (k0_h12 : k0_cond12 v1 = 1#1), 256 ∣ (k0_mult24 v1).toNat) ∧
  (∀ (k0_h1 : k0_cond1 v1 = 1#1), ∀ (k0_h10 : k0_cond10 i = 1#1), ∀ (k0_h11 : k0_cond11 v1 = 1#1), ∀ (k0_h12 : k0_cond12 v1 = 1#1), ∀ a, (k0_off24 v1) a + S256x1024.size a ≤ S2048x1024.size a) ∧
  (∀ (k0_h1 : k0_cond1 v1 = 1#1), ∀ (k0_h10 : k0_cond10 i = 1#1), ∀ (k0_h11 : k0_cond11 v1 = 1#1), ∀ (k0_h12 : k0_cond12 v1 = 1#1), ∀ a, (k0_off25 v1) a + S256x2048.size a ≤ S2048x2048.size a) ∧
  (∀ (k0_h1 : k0_cond1 v1 = 1#1), ∀ (k0_h10 : k0_cond10 i = 1#1), ∀ (k0_h11 : k0_cond11 v1 = 1#1), ∀ (k0_h13 : k0_cond13 v1 = 1#1), 256 ∣ (k0_mult25 v1).toNat) ∧
  (∀ (k0_h1 : k0_cond1 v1 = 1#1), ∀ (k0_h10 : k0_cond10 i = 1#1), ∀ (k0_h11 : k0_cond11 v1 = 1#1), ∀ (k0_h13 : k0_cond13 v1 = 1#1), ∀ a, (k0_off26 v1) a + S256x1024.size a ≤ S2048x1024.size a) ∧
  (∀ (k0_h1 : k0_cond1 v1 = 1#1), ∀ (k0_h10 : k0_cond10 i = 1#1), ∀ (k0_h11 : k0_cond11 v1 = 1#1), ∀ (k0_h13 : k0_cond13 v1 = 1#1), ∀ a, (k0_off27 v1) a + S256x2048.size a ≤ S2048x2048.size a) ∧
  (∀ (k0_h1 : k0_cond1 v1 = 1#1), ∀ (k0_h10 : k0_cond10 i = 1#1), ∀ (k0_h11 : k0_cond11 v1 = 1#1), ∀ (k0_h14 : k0_cond14 v1 = 1#1), 256 ∣ (k0_mult26 v1).toNat) ∧
  (∀ (k0_h1 : k0_cond1 v1 = 1#1), ∀ (k0_h10 : k0_cond10 i = 1#1), ∀ (k0_h11 : k0_cond11 v1 = 1#1), ∀ (k0_h14 : k0_cond14 v1 = 1#1), ∀ a, (k0_off28 v1) a + S128x1024.size a ≤ S2048x1024.size a) ∧
  (∀ (k0_h1 : k0_cond1 v1 = 1#1), ∀ (k0_h10 : k0_cond10 i = 1#1), ∀ (k0_h11 : k0_cond11 v1 = 1#1), ∀ (k0_h14 : k0_cond14 v1 = 1#1), ∀ a, (k0_off29 v1) a + S128x2048.size a ≤ S2048x2048.size a) ∧
  (∀ (k0_h1 : k0_cond1 v1 = 1#1), ∀ (k0_h10 : k0_cond10 i = 1#1), ∀ (k0_h15 : k0_cond15 v1 = 1#1), ∀ (k0_h16 : k0_cond16 v1 = 1#1), 256 ∣ (k0_mult27 v1).toNat) ∧
  (∀ (k0_h1 : k0_cond1 v1 = 1#1), ∀ (k0_h10 : k0_cond10 i = 1#1), ∀ (k0_h15 : k0_cond15 v1 = 1#1), ∀ (k0_h16 : k0_cond16 v1 = 1#1), ∀ a, (k0_off30 v1) a + S128x1024.size a ≤ S2048x1024.size a) ∧
  (∀ (k0_h1 : k0_cond1 v1 = 1#1), ∀ (k0_h10 : k0_cond10 i = 1#1), ∀ (k0_h15 : k0_cond15 v1 = 1#1), ∀ (k0_h16 : k0_cond16 v1 = 1#1), ∀ a, (k0_off31 v1) a + S128x2048.size a ≤ S2048x2048.size a) ∧
  (∀ (k0_h1 : k0_cond1 v1 = 1#1), ∀ (k0_h10 : k0_cond10 i = 1#1), ∀ (k0_h17 : k0_cond17 v1 = 1#1), 256 ∣ (k0_mult28 v1).toNat) ∧
  (∀ (k0_h1 : k0_cond1 v1 = 1#1), ∀ (k0_h10 : k0_cond10 i = 1#1), ∀ (k0_h17 : k0_cond17 v1 = 1#1), ∀ a, (k0_off32 v1) a + S128x1024.size a ≤ S2048x1024.size a) ∧
  (∀ (k0_h1 : k0_cond1 v1 = 1#1), ∀ (k0_h10 : k0_cond10 i = 1#1), ∀ (k0_h17 : k0_cond17 v1 = 1#1), ∀ a, (k0_off33 v1) a + S128x2048.size a ≤ S2048x2048.size a)
def k0_chk1_2 (i : grid0.Coords) (v1 : BitVec 32) : Prop :=
  (∀ (k0_h1 : k0_cond1 v1 = 1#1), ∀ (k0_h18 : k0_cond18 i = 1#1), 256 ∣ (k0_mult29 v1).toNat) ∧
  (∀ (k0_h1 : k0_cond1 v1 = 1#1), ∀ (k0_h18 : k0_cond18 i = 1#1), (k0_t5_loop v1).OK) ∧
  (∀ k0_t5 : Fin (k0_t5_loop v1).trips, ∀ (k0_h1 : k0_cond1 v1 = 1#1), ∀ (k0_h18 : k0_cond18 i = 1#1), 256 ∣ (k0_mult30 v1 k0_t5).toNat) ∧
  (∀ k0_t5 : Fin (k0_t5_loop v1).trips, ∀ (k0_h1 : k0_cond1 v1 = 1#1), ∀ (k0_h18 : k0_cond18 i = 1#1), ∀ a, (k0_off36 v1 k0_t5) a + S256x2048.size a ≤ S2048x2048.size a) ∧
  (∀ (k0_h1 : k0_cond1 v1 = 1#1), ∀ (k0_h18 : k0_cond18 i = 1#1), (k0_t6_loop v1).OK) ∧
  (∀ k0_t6 : Fin (k0_t6_loop v1).trips, ∀ (k0_h1 : k0_cond1 v1 = 1#1), ∀ (k0_h18 : k0_cond18 i = 1#1), 256 ∣ (k0_mult31 v1 k0_t6).toNat) ∧
  (∀ k0_t6 : Fin (k0_t6_loop v1).trips, ∀ (k0_h1 : k0_cond1 v1 = 1#1), ∀ (k0_h18 : k0_cond18 i = 1#1), ∀ a, (k0_off38 v1 k0_t6) a + S256x2048.size a ≤ S2048x2048.size a) ∧
  (∀ (k0_h1 : k0_cond1 v1 = 1#1), ∀ (k0_h18 : k0_cond18 i = 1#1), ∀ (k0_h19 : k0_cond19 v1 = 1#1), ∀ a, (k0_off40 v1) a + S128x2048.size a ≤ S2048x2048.size a) ∧
  (∀ (k0_h1 : k0_cond1 v1 = 1#1), ∀ (k0_h18 : k0_cond18 i = 1#1), (k0_t7_loop v1).OK) ∧
  (∀ k0_t7 : Fin (k0_t7_loop v1).trips, ∀ (k0_h1 : k0_cond1 v1 = 1#1), ∀ (k0_h18 : k0_cond18 i = 1#1), 256 ∣ (k0_mult32 v1 k0_t7).toNat) ∧
  (∀ k0_t7 : Fin (k0_t7_loop v1).trips, ∀ (k0_h1 : k0_cond1 v1 = 1#1), ∀ (k0_h18 : k0_cond18 i = 1#1), ∀ a, (k0_off42 v1 k0_t7) a + S256x2048.size a ≤ S2048x2048.size a) ∧
  (∀ (k0_h1 : k0_cond1 v1 = 1#1), ∀ (k0_h18 : k0_cond18 i = 1#1), (k0_t8_loop v1).OK) ∧
  (∀ k0_t8 : Fin (k0_t8_loop v1).trips, ∀ (k0_h1 : k0_cond1 v1 = 1#1), ∀ (k0_h18 : k0_cond18 i = 1#1), 256 ∣ (k0_mult33 v1 k0_t8).toNat) ∧
  (∀ k0_t8 : Fin (k0_t8_loop v1).trips, ∀ (k0_h1 : k0_cond1 v1 = 1#1), ∀ (k0_h18 : k0_cond18 i = 1#1), ∀ a, (k0_off44 v1 k0_t8) a + S256x2048.size a ≤ S2048x2048.size a) ∧
  (∀ (k0_h1 : k0_cond1 v1 = 1#1), ∀ (k0_h18 : k0_cond18 i = 1#1), ∀ (k0_h20 : k0_cond20 v1 = 1#1), ∀ a, (k0_off46 v1) a + S128x2048.size a ≤ S2048x2048.size a)
def k0_chk1 (i : grid0.Coords) (v1 : BitVec 32) : Prop :=
  k0_chk1_0 i v1 ∧
  k0_chk1_1 i v1 ∧
  k0_chk1_2 i v1
theorem k0_t1_ok : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), (k0_t1_loop v1).OK := fun i v1 k0_hw1 k0_h1 k0_h2 k0_h3 => k0_hw1.1.1 k0_h1 k0_h2 k0_h3
theorem k0_mult1_dvd : ∀ (i : grid0.Coords) (v1 : BitVec 32) (k0_hw1 : k0_chk1 i v1) (k0_t1 : Fin (k0_t1_loop v1).trips), ∀ (k0_h1 : k0_cond1 v1 = 1#1), ∀ (k0_h2 : k0_cond2 i = 1#1), ∀ (k0_h3 : k0_cond3 v1 = 1#1), 256 ∣ (k0_mult1 v1 k0_t1).toNat := fun i v1 k0_hw1 k0_t1 k0_h1 k0_h2 k0_h3 => k0_hw1.1.2.1 k0_t1 k0_h1 k0_h2 k0_h3
theorem k0_off2_inb : ∀ (i : grid0.Coords) (v1 : BitVec 32) (k0_hw1 : k0_chk1 i v1) (k0_t1 : Fin (k0_t1_loop v1).trips), ∀ (k0_h1 : k0_cond1 v1 = 1#1), ∀ (k0_h2 : k0_cond2 i = 1#1), ∀ (k0_h3 : k0_cond3 v1 = 1#1), ∀ (r : Fin 4), ∀ a, (k0_off2 v1 k0_t1 (BitVec.ofNat 32 r.val)) a + S256x1024.size a ≤ S2048x1024.size a := fun i v1 k0_hw1 k0_t1 k0_h1 k0_h2 k0_h3 r => k0_hw1.1.2.2.1 k0_t1 k0_h1 k0_h2 k0_h3 r
theorem k0_off3_inb : ∀ (i : grid0.Coords) (v1 : BitVec 32) (k0_hw1 : k0_chk1 i v1) (k0_t1 : Fin (k0_t1_loop v1).trips), ∀ (k0_h1 : k0_cond1 v1 = 1#1), ∀ (k0_h2 : k0_cond2 i = 1#1), ∀ (k0_h3 : k0_cond3 v1 = 1#1), ∀ (r : Fin 4), ∀ a, (k0_off3 v1 k0_t1 (BitVec.ofNat 32 r.val)) a + S256x2048.size a ≤ S2048x2048.size a := fun i v1 k0_hw1 k0_t1 k0_h1 k0_h2 k0_h3 r => k0_hw1.1.2.2.2.1 k0_t1 k0_h1 k0_h2 k0_h3 r
theorem k0_mult2_dvd : ∀ (i : grid0.Coords) (v1 : BitVec 32) (k0_hw1 : k0_chk1 i v1) (k0_t1 : Fin (k0_t1_loop v1).trips), ∀ (k0_h1 : k0_cond1 v1 = 1#1), ∀ (k0_h2 : k0_cond2 i = 1#1), ∀ (k0_h3 : k0_cond3 v1 = 1#1), 256 ∣ (k0_mult2 v1 k0_t1).toNat := fun i v1 k0_hw1 k0_t1 k0_h1 k0_h2 k0_h3 => k0_hw1.1.2.2.2.2.1 k0_t1 k0_h1 k0_h2 k0_h3
theorem k0_mult3_dvd : ∀ (i : grid0.Coords) (v1 : BitVec 32) (k0_hw1 : k0_chk1 i v1) (k0_t1 : Fin (k0_t1_loop v1).trips), ∀ (k0_h1 : k0_cond1 v1 = 1#1), ∀ (k0_h2 : k0_cond2 i = 1#1), ∀ (k0_h3 : k0_cond3 v1 = 1#1), 256 ∣ (k0_mult3 v1 k0_t1).toNat := fun i v1 k0_hw1 k0_t1 k0_h1 k0_h2 k0_h3 => k0_hw1.1.2.2.2.2.2.1 k0_t1 k0_h1 k0_h2 k0_h3
theorem k0_mult4_dvd : ∀ (i : grid0.Coords) (v1 : BitVec 32) (k0_hw1 : k0_chk1 i v1) (k0_t1 : Fin (k0_t1_loop v1).trips), ∀ (k0_h1 : k0_cond1 v1 = 1#1), ∀ (k0_h2 : k0_cond2 i = 1#1), ∀ (k0_h3 : k0_cond3 v1 = 1#1), 256 ∣ (k0_mult4 v1 k0_t1).toNat := fun i v1 k0_hw1 k0_t1 k0_h1 k0_h2 k0_h3 => k0_hw1.1.2.2.2.2.2.2.1 k0_t1 k0_h1 k0_h2 k0_h3
theorem k0_t2_ok : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), (k0_t2_loop v1).OK := fun i v1 k0_hw1 k0_h1 k0_h2 k0_h3 => k0_hw1.1.2.2.2.2.2.2.2.1 k0_h1 k0_h2 k0_h3
theorem k0_mult5_dvd : ∀ (i : grid0.Coords) (v1 : BitVec 32) (k0_hw1 : k0_chk1 i v1) (k0_t2 : Fin (k0_t2_loop v1).trips), ∀ (k0_h1 : k0_cond1 v1 = 1#1), ∀ (k0_h2 : k0_cond2 i = 1#1), ∀ (k0_h3 : k0_cond3 v1 = 1#1), 256 ∣ (k0_mult5 v1 k0_t2).toNat := fun i v1 k0_hw1 k0_t2 k0_h1 k0_h2 k0_h3 => k0_hw1.1.2.2.2.2.2.2.2.2.1 k0_t2 k0_h1 k0_h2 k0_h3
theorem k0_off4_inb : ∀ (i : grid0.Coords) (v1 : BitVec 32) (k0_hw1 : k0_chk1 i v1) (k0_t2 : Fin (k0_t2_loop v1).trips), ∀ (k0_h1 : k0_cond1 v1 = 1#1), ∀ (k0_h2 : k0_cond2 i = 1#1), ∀ (k0_h3 : k0_cond3 v1 = 1#1), ∀ (r : Fin 4), ∀ a, (k0_off4 v1 k0_t2 (BitVec.ofNat 32 r.val)) a + S256x1024.size a ≤ S2048x1024.size a := fun i v1 k0_hw1 k0_t2 k0_h1 k0_h2 k0_h3 r => k0_hw1.1.2.2.2.2.2.2.2.2.2.1 k0_t2 k0_h1 k0_h2 k0_h3 r
theorem k0_off5_inb : ∀ (i : grid0.Coords) (v1 : BitVec 32) (k0_hw1 : k0_chk1 i v1) (k0_t2 : Fin (k0_t2_loop v1).trips), ∀ (k0_h1 : k0_cond1 v1 = 1#1), ∀ (k0_h2 : k0_cond2 i = 1#1), ∀ (k0_h3 : k0_cond3 v1 = 1#1), ∀ (r : Fin 4), ∀ a, (k0_off5 v1 k0_t2 (BitVec.ofNat 32 r.val)) a + S256x2048.size a ≤ S2048x2048.size a := fun i v1 k0_hw1 k0_t2 k0_h1 k0_h2 k0_h3 r => k0_hw1.1.2.2.2.2.2.2.2.2.2.2.1 k0_t2 k0_h1 k0_h2 k0_h3 r
theorem k0_mult6_dvd : ∀ (i : grid0.Coords) (v1 : BitVec 32) (k0_hw1 : k0_chk1 i v1) (k0_t2 : Fin (k0_t2_loop v1).trips), ∀ (k0_h1 : k0_cond1 v1 = 1#1), ∀ (k0_h2 : k0_cond2 i = 1#1), ∀ (k0_h3 : k0_cond3 v1 = 1#1), 256 ∣ (k0_mult6 v1 k0_t2).toNat := fun i v1 k0_hw1 k0_t2 k0_h1 k0_h2 k0_h3 => k0_hw1.1.2.2.2.2.2.2.2.2.2.2.2.1 k0_t2 k0_h1 k0_h2 k0_h3
theorem k0_mult7_dvd : ∀ (i : grid0.Coords) (v1 : BitVec 32) (k0_hw1 : k0_chk1 i v1) (k0_t2 : Fin (k0_t2_loop v1).trips), ∀ (k0_h1 : k0_cond1 v1 = 1#1), ∀ (k0_h2 : k0_cond2 i = 1#1), ∀ (k0_h3 : k0_cond3 v1 = 1#1), 256 ∣ (k0_mult7 v1 k0_t2).toNat := fun i v1 k0_hw1 k0_t2 k0_h1 k0_h2 k0_h3 => k0_hw1.1.2.2.2.2.2.2.2.2.2.2.2.2.1 k0_t2 k0_h1 k0_h2 k0_h3
theorem k0_mult8_dvd : ∀ (i : grid0.Coords) (v1 : BitVec 32) (k0_hw1 : k0_chk1 i v1) (k0_t2 : Fin (k0_t2_loop v1).trips), ∀ (k0_h1 : k0_cond1 v1 = 1#1), ∀ (k0_h2 : k0_cond2 i = 1#1), ∀ (k0_h3 : k0_cond3 v1 = 1#1), 256 ∣ (k0_mult8 v1 k0_t2).toNat := fun i v1 k0_hw1 k0_t2 k0_h1 k0_h2 k0_h3 => k0_hw1.1.2.2.2.2.2.2.2.2.2.2.2.2.2.1 k0_t2 k0_h1 k0_h2 k0_h3
theorem k0_mult9_dvd : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h4 : k0_cond4 v1 = 1#1), 256 ∣ (k0_mult9 v1).toNat := fun i v1 k0_hw1 k0_h1 k0_h2 k0_h3 k0_h4 => k0_hw1.1.2.2.2.2.2.2.2.2.2.2.2.2.2.2.1 k0_h1 k0_h2 k0_h3 k0_h4
theorem k0_off6_inb : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h4 : k0_cond4 v1 = 1#1), ∀ a, (k0_off6 v1) a + S256x1024.size a ≤ S2048x1024.size a := fun i v1 k0_hw1 k0_h1 k0_h2 k0_h3 k0_h4 => k0_hw1.1.2.2.2.2.2.2.2.2.2.2.2.2.2.2.2.1 k0_h1 k0_h2 k0_h3 k0_h4
theorem k0_off7_inb : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h4 : k0_cond4 v1 = 1#1), ∀ a, (k0_off7 v1) a + S256x2048.size a ≤ S2048x2048.size a := fun i v1 k0_hw1 k0_h1 k0_h2 k0_h3 k0_h4 => k0_hw1.1.2.2.2.2.2.2.2.2.2.2.2.2.2.2.2.2.1 k0_h1 k0_h2 k0_h3 k0_h4
theorem k0_mult10_dvd : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h4 : k0_cond4 v1 = 1#1), 256 ∣ (k0_mult10 v1).toNat := fun i v1 k0_hw1 k0_h1 k0_h2 k0_h3 k0_h4 => k0_hw1.1.2.2.2.2.2.2.2.2.2.2.2.2.2.2.2.2.2.1 k0_h1 k0_h2 k0_h3 k0_h4
theorem k0_off8_inb : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h4 : k0_cond4 v1 = 1#1), ∀ a, (k0_off8 v1) a + S256x1024.size a ≤ S2048x1024.size a := fun i v1 k0_hw1 k0_h1 k0_h2 k0_h3 k0_h4 => k0_hw1.1.2.2.2.2.2.2.2.2.2.2.2.2.2.2.2.2.2.2.1 k0_h1 k0_h2 k0_h3 k0_h4
theorem k0_off9_inb : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h4 : k0_cond4 v1 = 1#1), ∀ a, (k0_off9 v1) a + S256x2048.size a ≤ S2048x2048.size a := fun i v1 k0_hw1 k0_h1 k0_h2 k0_h3 k0_h4 => k0_hw1.1.2.2.2.2.2.2.2.2.2.2.2.2.2.2.2.2.2.2.2.1 k0_h1 k0_h2 k0_h3 k0_h4
theorem k0_mult11_dvd : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h5 : k0_cond5 v1 = 1#1), 256 ∣ (k0_mult11 v1).toNat := fun i v1 k0_hw1 k0_h1 k0_h2 k0_h3 k0_h5 => k0_hw1.1.2.2.2.2.2.2.2.2.2.2.2.2.2.2.2.2.2.2.2.2.1 k0_h1 k0_h2 k0_h3 k0_h5
theorem k0_off10_inb : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h5 : k0_cond5 v1 = 1#1), ∀ a, (k0_off10 v1) a + S256x1024.size a ≤ S2048x1024.size a := fun i v1 k0_hw1 k0_h1 k0_h2 k0_h3 k0_h5 => k0_hw1.1.2.2.2.2.2.2.2.2.2.2.2.2.2.2.2.2.2.2.2.2.2.1 k0_h1 k0_h2 k0_h3 k0_h5
theorem k0_off11_inb : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h5 : k0_cond5 v1 = 1#1), ∀ a, (k0_off11 v1) a + S256x2048.size a ≤ S2048x2048.size a := fun i v1 k0_hw1 k0_h1 k0_h2 k0_h3 k0_h5 => k0_hw1.1.2.2.2.2.2.2.2.2.2.2.2.2.2.2.2.2.2.2.2.2.2.2.1 k0_h1 k0_h2 k0_h3 k0_h5
theorem k0_mult12_dvd : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h6 : k0_cond6 v1 = 1#1), 256 ∣ (k0_mult12 v1).toNat := fun i v1 k0_hw1 k0_h1 k0_h2 k0_h3 k0_h6 => k0_hw1.1.2.2.2.2.2.2.2.2.2.2.2.2.2.2.2.2.2.2.2.2.2.2.2.1 k0_h1 k0_h2 k0_h3 k0_h6
theorem k0_off12_inb : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h6 : k0_cond6 v1 = 1#1), ∀ a, (k0_off12 v1) a + S128x1024.size a ≤ S2048x1024.size a := fun i v1 k0_hw1 k0_h1 k0_h2 k0_h3 k0_h6 => k0_hw1.1.2.2.2.2.2.2.2.2.2.2.2.2.2.2.2.2.2.2.2.2.2.2.2.2.1 k0_h1 k0_h2 k0_h3 k0_h6
theorem k0_off13_inb : ∀ (i : grid0.Coords) (v1 : BitVec 32) (k0_hw1 : k0_chk1 i v1), ∀ (k0_h1 : k0_cond1 v1 = 1#1), ∀ (k0_h2 : k0_cond2 i = 1#1), ∀ (k0_h3 : k0_cond3 v1 = 1#1), ∀ (k0_h6 : k0_cond6 v1 = 1#1), ∀ a, (k0_off13 v1) a + S128x2048.size a ≤ S2048x2048.size a := fun i v1 k0_hw1 k0_h1 k0_h2 k0_h3 k0_h6 => k0_hw1.1.2.2.2.2.2.2.2.2.2.2.2.2.2.2.2.2.2.2.2.2.2.2.2.2.2.1 k0_h1 k0_h2 k0_h3 k0_h6
theorem k0_mult13_dvd : ∀ (i : grid0.Coords) (v1 : BitVec 32) (k0_hw1 : k0_chk1 i v1), ∀ (k0_h1 : k0_cond1 v1 = 1#1), ∀ (k0_h2 : k0_cond2 i = 1#1), ∀ (k0_h7 : k0_cond7 v1 = 1#1), ∀ (k0_h8 : k0_cond8 v1 = 1#1), 256 ∣ (k0_mult13 v1).toNat := fun i v1 k0_hw1 k0_h1 k0_h2 k0_h7 k0_h8 => k0_hw1.1.2.2.2.2.2.2.2.2.2.2.2.2.2.2.2.2.2.2.2.2.2.2.2.2.2.2.1 k0_h1 k0_h2 k0_h7 k0_h8
theorem k0_off14_inb : ∀ (i : grid0.Coords) (v1 : BitVec 32) (k0_hw1 : k0_chk1 i v1), ∀ (k0_h1 : k0_cond1 v1 = 1#1), ∀ (k0_h2 : k0_cond2 i = 1#1), ∀ (k0_h7 : k0_cond7 v1 = 1#1), ∀ (k0_h8 : k0_cond8 v1 = 1#1), ∀ a, (k0_off14 v1) a + S128x1024.size a ≤ S2048x1024.size a := fun i v1 k0_hw1 k0_h1 k0_h2 k0_h7 k0_h8 => k0_hw1.1.2.2.2.2.2.2.2.2.2.2.2.2.2.2.2.2.2.2.2.2.2.2.2.2.2.2.2.1 k0_h1 k0_h2 k0_h7 k0_h8
theorem k0_off15_inb : ∀ (i : grid0.Coords) (v1 : BitVec 32) (k0_hw1 : k0_chk1 i v1), ∀ (k0_h1 : k0_cond1 v1 = 1#1), ∀ (k0_h2 : k0_cond2 i = 1#1), ∀ (k0_h7 : k0_cond7 v1 = 1#1), ∀ (k0_h8 : k0_cond8 v1 = 1#1), ∀ a, (k0_off15 v1) a + S128x2048.size a ≤ S2048x2048.size a := fun i v1 k0_hw1 k0_h1 k0_h2 k0_h7 k0_h8 => k0_hw1.1.2.2.2.2.2.2.2.2.2.2.2.2.2.2.2.2.2.2.2.2.2.2.2.2.2.2.2.2.1 k0_h1 k0_h2 k0_h7 k0_h8
theorem k0_mult14_dvd : ∀ (i : grid0.Coords) (v1 : BitVec 32) (k0_hw1 : k0_chk1 i v1), ∀ (k0_h1 : k0_cond1 v1 = 1#1), ∀ (k0_h2 : k0_cond2 i = 1#1), ∀ (k0_h9 : k0_cond9 v1 = 1#1), 256 ∣ (k0_mult14 v1).toNat := fun i v1 k0_hw1 k0_h1 k0_h2 k0_h9 => k0_hw1.1.2.2.2.2.2.2.2.2.2.2.2.2.2.2.2.2.2.2.2.2.2.2.2.2.2.2.2.2.2.1 k0_h1 k0_h2 k0_h9
theorem k0_off16_inb : ∀ (i : grid0.Coords) (v1 : BitVec 32) (k0_hw1 : k0_chk1 i v1), ∀ (k0_h1 : k0_cond1 v1 = 1#1), ∀ (k0_h2 : k0_cond2 i = 1#1), ∀ (k0_h9 : k0_cond9 v1 = 1#1), ∀ a, (k0_off16 v1) a + S128x1024.size a ≤ S2048x1024.size a := fun i v1 k0_hw1 k0_h1 k0_h2 k0_h9 => k0_hw1.1.2.2.2.2.2.2.2.2.2.2.2.2.2.2.2.2.2.2.2.2.2.2.2.2.2.2.2.2.2.2.1 k0_h1 k0_h2 k0_h9
theorem k0_off17_inb : ∀ (i : grid0.Coords) (v1 : BitVec 32) (k0_hw1 : k0_chk1 i v1), ∀ (k0_h1 : k0_cond1 v1 = 1#1), ∀ (k0_h2 : k0_cond2 i = 1#1), ∀ (k0_h9 : k0_cond9 v1 = 1#1), ∀ a, (k0_off17 v1) a + S128x2048.size a ≤ S2048x2048.size a := fun i v1 k0_hw1 k0_h1 k0_h2 k0_h9 => k0_hw1.1.2.2.2.2.2.2.2.2.2.2.2.2.2.2.2.2.2.2.2.2.2.2.2.2.2.2.2.2.2.2.2 k0_h1 k0_h2 k0_h9
theorem k0_t3_ok : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), (k0_t3_loop v1).OK := fun i v1 k0_hw1 k0_h1 k0_h10 k0_h11 => k0_hw1.2.1.1 k0_h1 k0_h10 k0_h11
theorem k0_mult15_dvd : ∀ (i : grid0.Coords) (v1 : BitVec 32) (k0_hw1 : k0_chk1 i v1) (k0_t3 : Fin (k0_t3_loop v1).trips), ∀ (k0_h1 : k0_cond1 v1 = 1#1), ∀ (k0_h10 : k0_cond10 i = 1#1), ∀ (k0_h11 : k0_cond11 v1 = 1#1), 256 ∣ (k0_mult15 v1 k0_t3).toNat := fun i v1 k0_hw1 k0_t3 k0_h1 k0_h10 k0_h11 => k0_hw1.2.1.2.1 k0_t3 k0_h1 k0_h10 k0_h11
theorem k0_off18_inb : ∀ (i : grid0.Coords) (v1 : BitVec 32) (k0_hw1 : k0_chk1 i v1) (k0_t3 : Fin (k0_t3_loop v1).trips), ∀ (k0_h1 : k0_cond1 v1 = 1#1), ∀ (k0_h10 : k0_cond10 i = 1#1), ∀ (k0_h11 : k0_cond11 v1 = 1#1), ∀ (r : Fin 4), ∀ a, (k0_off18 v1 k0_t3 (BitVec.ofNat 32 r.val)) a + S256x1024.size a ≤ S2048x1024.size a := fun i v1 k0_hw1 k0_t3 k0_h1 k0_h10 k0_h11 r => k0_hw1.2.1.2.2.1 k0_t3 k0_h1 k0_h10 k0_h11 r
theorem k0_off19_inb : ∀ (i : grid0.Coords) (v1 : BitVec 32) (k0_hw1 : k0_chk1 i v1) (k0_t3 : Fin (k0_t3_loop v1).trips), ∀ (k0_h1 : k0_cond1 v1 = 1#1), ∀ (k0_h10 : k0_cond10 i = 1#1), ∀ (k0_h11 : k0_cond11 v1 = 1#1), ∀ (r : Fin 4), ∀ a, (k0_off19 v1 k0_t3 (BitVec.ofNat 32 r.val)) a + S256x2048.size a ≤ S2048x2048.size a := fun i v1 k0_hw1 k0_t3 k0_h1 k0_h10 k0_h11 r => k0_hw1.2.1.2.2.2.1 k0_t3 k0_h1 k0_h10 k0_h11 r
theorem k0_mult16_dvd : ∀ (i : grid0.Coords) (v1 : BitVec 32) (k0_hw1 : k0_chk1 i v1) (k0_t3 : Fin (k0_t3_loop v1).trips), ∀ (k0_h1 : k0_cond1 v1 = 1#1), ∀ (k0_h10 : k0_cond10 i = 1#1), ∀ (k0_h11 : k0_cond11 v1 = 1#1), 256 ∣ (k0_mult16 v1 k0_t3).toNat := fun i v1 k0_hw1 k0_t3 k0_h1 k0_h10 k0_h11 => k0_hw1.2.1.2.2.2.2.1 k0_t3 k0_h1 k0_h10 k0_h11
theorem k0_mult17_dvd : ∀ (i : grid0.Coords) (v1 : BitVec 32) (k0_hw1 : k0_chk1 i v1) (k0_t3 : Fin (k0_t3_loop v1).trips), ∀ (k0_h1 : k0_cond1 v1 = 1#1), ∀ (k0_h10 : k0_cond10 i = 1#1), ∀ (k0_h11 : k0_cond11 v1 = 1#1), 256 ∣ (k0_mult17 v1 k0_t3).toNat := fun i v1 k0_hw1 k0_t3 k0_h1 k0_h10 k0_h11 => k0_hw1.2.1.2.2.2.2.2.1 k0_t3 k0_h1 k0_h10 k0_h11
theorem k0_mult18_dvd : ∀ (i : grid0.Coords) (v1 : BitVec 32) (k0_hw1 : k0_chk1 i v1) (k0_t3 : Fin (k0_t3_loop v1).trips), ∀ (k0_h1 : k0_cond1 v1 = 1#1), ∀ (k0_h10 : k0_cond10 i = 1#1), ∀ (k0_h11 : k0_cond11 v1 = 1#1), 256 ∣ (k0_mult18 v1 k0_t3).toNat := fun i v1 k0_hw1 k0_t3 k0_h1 k0_h10 k0_h11 => k0_hw1.2.1.2.2.2.2.2.2.1 k0_t3 k0_h1 k0_h10 k0_h11
theorem k0_t4_ok : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), (k0_t4_loop v1).OK := fun i v1 k0_hw1 k0_h1 k0_h10 k0_h11 => k0_hw1.2.1.2.2.2.2.2.2.2.1 k0_h1 k0_h10 k0_h11
theorem k0_mult19_dvd : ∀ (i : grid0.Coords) (v1 : BitVec 32) (k0_hw1 : k0_chk1 i v1) (k0_t4 : Fin (k0_t4_loop v1).trips), ∀ (k0_h1 : k0_cond1 v1 = 1#1), ∀ (k0_h10 : k0_cond10 i = 1#1), ∀ (k0_h11 : k0_cond11 v1 = 1#1), 256 ∣ (k0_mult19 v1 k0_t4).toNat := fun i v1 k0_hw1 k0_t4 k0_h1 k0_h10 k0_h11 => k0_hw1.2.1.2.2.2.2.2.2.2.2.1 k0_t4 k0_h1 k0_h10 k0_h11
theorem k0_off20_inb : ∀ (i : grid0.Coords) (v1 : BitVec 32) (k0_hw1 : k0_chk1 i v1) (k0_t4 : Fin (k0_t4_loop v1).trips), ∀ (k0_h1 : k0_cond1 v1 = 1#1), ∀ (k0_h10 : k0_cond10 i = 1#1), ∀ (k0_h11 : k0_cond11 v1 = 1#1), ∀ (r : Fin 4), ∀ a, (k0_off20 v1 k0_t4 (BitVec.ofNat 32 r.val)) a + S256x1024.size a ≤ S2048x1024.size a := fun i v1 k0_hw1 k0_t4 k0_h1 k0_h10 k0_h11 r => k0_hw1.2.1.2.2.2.2.2.2.2.2.2.1 k0_t4 k0_h1 k0_h10 k0_h11 r
theorem k0_off21_inb : ∀ (i : grid0.Coords) (v1 : BitVec 32) (k0_hw1 : k0_chk1 i v1) (k0_t4 : Fin (k0_t4_loop v1).trips), ∀ (k0_h1 : k0_cond1 v1 = 1#1), ∀ (k0_h10 : k0_cond10 i = 1#1), ∀ (k0_h11 : k0_cond11 v1 = 1#1), ∀ (r : Fin 4), ∀ a, (k0_off21 v1 k0_t4 (BitVec.ofNat 32 r.val)) a + S256x2048.size a ≤ S2048x2048.size a := fun i v1 k0_hw1 k0_t4 k0_h1 k0_h10 k0_h11 r => k0_hw1.2.1.2.2.2.2.2.2.2.2.2.2.1 k0_t4 k0_h1 k0_h10 k0_h11 r
theorem k0_mult20_dvd : ∀ (i : grid0.Coords) (v1 : BitVec 32) (k0_hw1 : k0_chk1 i v1) (k0_t4 : Fin (k0_t4_loop v1).trips), ∀ (k0_h1 : k0_cond1 v1 = 1#1), ∀ (k0_h10 : k0_cond10 i = 1#1), ∀ (k0_h11 : k0_cond11 v1 = 1#1), 256 ∣ (k0_mult20 v1 k0_t4).toNat := fun i v1 k0_hw1 k0_t4 k0_h1 k0_h10 k0_h11 => k0_hw1.2.1.2.2.2.2.2.2.2.2.2.2.2.1 k0_t4 k0_h1 k0_h10 k0_h11
theorem k0_mult21_dvd : ∀ (i : grid0.Coords) (v1 : BitVec 32) (k0_hw1 : k0_chk1 i v1) (k0_t4 : Fin (k0_t4_loop v1).trips), ∀ (k0_h1 : k0_cond1 v1 = 1#1), ∀ (k0_h10 : k0_cond10 i = 1#1), ∀ (k0_h11 : k0_cond11 v1 = 1#1), 256 ∣ (k0_mult21 v1 k0_t4).toNat := fun i v1 k0_hw1 k0_t4 k0_h1 k0_h10 k0_h11 => k0_hw1.2.1.2.2.2.2.2.2.2.2.2.2.2.2.1 k0_t4 k0_h1 k0_h10 k0_h11
theorem k0_mult22_dvd : ∀ (i : grid0.Coords) (v1 : BitVec 32) (k0_hw1 : k0_chk1 i v1) (k0_t4 : Fin (k0_t4_loop v1).trips), ∀ (k0_h1 : k0_cond1 v1 = 1#1), ∀ (k0_h10 : k0_cond10 i = 1#1), ∀ (k0_h11 : k0_cond11 v1 = 1#1), 256 ∣ (k0_mult22 v1 k0_t4).toNat := fun i v1 k0_hw1 k0_t4 k0_h1 k0_h10 k0_h11 => k0_hw1.2.1.2.2.2.2.2.2.2.2.2.2.2.2.2.1 k0_t4 k0_h1 k0_h10 k0_h11
theorem k0_mult23_dvd : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h12 : k0_cond12 v1 = 1#1), 256 ∣ (k0_mult23 v1).toNat := fun i v1 k0_hw1 k0_h1 k0_h10 k0_h11 k0_h12 => k0_hw1.2.1.2.2.2.2.2.2.2.2.2.2.2.2.2.2.1 k0_h1 k0_h10 k0_h11 k0_h12
theorem k0_off22_inb : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h12 : k0_cond12 v1 = 1#1), ∀ a, (k0_off22 v1) a + S256x1024.size a ≤ S2048x1024.size a := fun i v1 k0_hw1 k0_h1 k0_h10 k0_h11 k0_h12 => k0_hw1.2.1.2.2.2.2.2.2.2.2.2.2.2.2.2.2.2.1 k0_h1 k0_h10 k0_h11 k0_h12
theorem k0_off23_inb : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h12 : k0_cond12 v1 = 1#1), ∀ a, (k0_off23 v1) a + S256x2048.size a ≤ S2048x2048.size a := fun i v1 k0_hw1 k0_h1 k0_h10 k0_h11 k0_h12 => k0_hw1.2.1.2.2.2.2.2.2.2.2.2.2.2.2.2.2.2.2.1 k0_h1 k0_h10 k0_h11 k0_h12
theorem k0_mult24_dvd : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h12 : k0_cond12 v1 = 1#1), 256 ∣ (k0_mult24 v1).toNat := fun i v1 k0_hw1 k0_h1 k0_h10 k0_h11 k0_h12 => k0_hw1.2.1.2.2.2.2.2.2.2.2.2.2.2.2.2.2.2.2.2.1 k0_h1 k0_h10 k0_h11 k0_h12
theorem k0_off24_inb : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h12 : k0_cond12 v1 = 1#1), ∀ a, (k0_off24 v1) a + S256x1024.size a ≤ S2048x1024.size a := fun i v1 k0_hw1 k0_h1 k0_h10 k0_h11 k0_h12 => k0_hw1.2.1.2.2.2.2.2.2.2.2.2.2.2.2.2.2.2.2.2.2.1 k0_h1 k0_h10 k0_h11 k0_h12
theorem k0_off25_inb : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h12 : k0_cond12 v1 = 1#1), ∀ a, (k0_off25 v1) a + S256x2048.size a ≤ S2048x2048.size a := fun i v1 k0_hw1 k0_h1 k0_h10 k0_h11 k0_h12 => k0_hw1.2.1.2.2.2.2.2.2.2.2.2.2.2.2.2.2.2.2.2.2.2.1 k0_h1 k0_h10 k0_h11 k0_h12
theorem k0_mult25_dvd : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h13 : k0_cond13 v1 = 1#1), 256 ∣ (k0_mult25 v1).toNat := fun i v1 k0_hw1 k0_h1 k0_h10 k0_h11 k0_h13 => k0_hw1.2.1.2.2.2.2.2.2.2.2.2.2.2.2.2.2.2.2.2.2.2.2.1 k0_h1 k0_h10 k0_h11 k0_h13
theorem k0_off26_inb : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h13 : k0_cond13 v1 = 1#1), ∀ a, (k0_off26 v1) a + S256x1024.size a ≤ S2048x1024.size a := fun i v1 k0_hw1 k0_h1 k0_h10 k0_h11 k0_h13 => k0_hw1.2.1.2.2.2.2.2.2.2.2.2.2.2.2.2.2.2.2.2.2.2.2.2.1 k0_h1 k0_h10 k0_h11 k0_h13
theorem k0_off27_inb : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h13 : k0_cond13 v1 = 1#1), ∀ a, (k0_off27 v1) a + S256x2048.size a ≤ S2048x2048.size a := fun i v1 k0_hw1 k0_h1 k0_h10 k0_h11 k0_h13 => k0_hw1.2.1.2.2.2.2.2.2.2.2.2.2.2.2.2.2.2.2.2.2.2.2.2.2.1 k0_h1 k0_h10 k0_h11 k0_h13
theorem k0_mult26_dvd : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h14 : k0_cond14 v1 = 1#1), 256 ∣ (k0_mult26 v1).toNat := fun i v1 k0_hw1 k0_h1 k0_h10 k0_h11 k0_h14 => k0_hw1.2.1.2.2.2.2.2.2.2.2.2.2.2.2.2.2.2.2.2.2.2.2.2.2.2.1 k0_h1 k0_h10 k0_h11 k0_h14
theorem k0_off28_inb : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h14 : k0_cond14 v1 = 1#1), ∀ a, (k0_off28 v1) a + S128x1024.size a ≤ S2048x1024.size a := fun i v1 k0_hw1 k0_h1 k0_h10 k0_h11 k0_h14 => k0_hw1.2.1.2.2.2.2.2.2.2.2.2.2.2.2.2.2.2.2.2.2.2.2.2.2.2.2.1 k0_h1 k0_h10 k0_h11 k0_h14
theorem k0_off29_inb : ∀ (i : grid0.Coords) (v1 : BitVec 32) (k0_hw1 : k0_chk1 i v1), ∀ (k0_h1 : k0_cond1 v1 = 1#1), ∀ (k0_h10 : k0_cond10 i = 1#1), ∀ (k0_h11 : k0_cond11 v1 = 1#1), ∀ (k0_h14 : k0_cond14 v1 = 1#1), ∀ a, (k0_off29 v1) a + S128x2048.size a ≤ S2048x2048.size a := fun i v1 k0_hw1 k0_h1 k0_h10 k0_h11 k0_h14 => k0_hw1.2.1.2.2.2.2.2.2.2.2.2.2.2.2.2.2.2.2.2.2.2.2.2.2.2.2.2.1 k0_h1 k0_h10 k0_h11 k0_h14
theorem k0_mult27_dvd : ∀ (i : grid0.Coords) (v1 : BitVec 32) (k0_hw1 : k0_chk1 i v1), ∀ (k0_h1 : k0_cond1 v1 = 1#1), ∀ (k0_h10 : k0_cond10 i = 1#1), ∀ (k0_h15 : k0_cond15 v1 = 1#1), ∀ (k0_h16 : k0_cond16 v1 = 1#1), 256 ∣ (k0_mult27 v1).toNat := fun i v1 k0_hw1 k0_h1 k0_h10 k0_h15 k0_h16 => k0_hw1.2.1.2.2.2.2.2.2.2.2.2.2.2.2.2.2.2.2.2.2.2.2.2.2.2.2.2.2.1 k0_h1 k0_h10 k0_h15 k0_h16
theorem k0_off30_inb : ∀ (i : grid0.Coords) (v1 : BitVec 32) (k0_hw1 : k0_chk1 i v1), ∀ (k0_h1 : k0_cond1 v1 = 1#1), ∀ (k0_h10 : k0_cond10 i = 1#1), ∀ (k0_h15 : k0_cond15 v1 = 1#1), ∀ (k0_h16 : k0_cond16 v1 = 1#1), ∀ a, (k0_off30 v1) a + S128x1024.size a ≤ S2048x1024.size a := fun i v1 k0_hw1 k0_h1 k0_h10 k0_h15 k0_h16 => k0_hw1.2.1.2.2.2.2.2.2.2.2.2.2.2.2.2.2.2.2.2.2.2.2.2.2.2.2.2.2.2.1 k0_h1 k0_h10 k0_h15 k0_h16
theorem k0_off31_inb : ∀ (i : grid0.Coords) (v1 : BitVec 32) (k0_hw1 : k0_chk1 i v1), ∀ (k0_h1 : k0_cond1 v1 = 1#1), ∀ (k0_h10 : k0_cond10 i = 1#1), ∀ (k0_h15 : k0_cond15 v1 = 1#1), ∀ (k0_h16 : k0_cond16 v1 = 1#1), ∀ a, (k0_off31 v1) a + S128x2048.size a ≤ S2048x2048.size a := fun i v1 k0_hw1 k0_h1 k0_h10 k0_h15 k0_h16 => k0_hw1.2.1.2.2.2.2.2.2.2.2.2.2.2.2.2.2.2.2.2.2.2.2.2.2.2.2.2.2.2.2.1 k0_h1 k0_h10 k0_h15 k0_h16
theorem k0_mult28_dvd : ∀ (i : grid0.Coords) (v1 : BitVec 32) (k0_hw1 : k0_chk1 i v1), ∀ (k0_h1 : k0_cond1 v1 = 1#1), ∀ (k0_h10 : k0_cond10 i = 1#1), ∀ (k0_h17 : k0_cond17 v1 = 1#1), 256 ∣ (k0_mult28 v1).toNat := fun i v1 k0_hw1 k0_h1 k0_h10 k0_h17 => k0_hw1.2.1.2.2.2.2.2.2.2.2.2.2.2.2.2.2.2.2.2.2.2.2.2.2.2.2.2.2.2.2.2.1 k0_h1 k0_h10 k0_h17
theorem k0_off32_inb : ∀ (i : grid0.Coords) (v1 : BitVec 32) (k0_hw1 : k0_chk1 i v1), ∀ (k0_h1 : k0_cond1 v1 = 1#1), ∀ (k0_h10 : k0_cond10 i = 1#1), ∀ (k0_h17 : k0_cond17 v1 = 1#1), ∀ a, (k0_off32 v1) a + S128x1024.size a ≤ S2048x1024.size a := fun i v1 k0_hw1 k0_h1 k0_h10 k0_h17 => k0_hw1.2.1.2.2.2.2.2.2.2.2.2.2.2.2.2.2.2.2.2.2.2.2.2.2.2.2.2.2.2.2.2.2.1 k0_h1 k0_h10 k0_h17
theorem k0_off33_inb : ∀ (i : grid0.Coords) (v1 : BitVec 32) (k0_hw1 : k0_chk1 i v1), ∀ (k0_h1 : k0_cond1 v1 = 1#1), ∀ (k0_h10 : k0_cond10 i = 1#1), ∀ (k0_h17 : k0_cond17 v1 = 1#1), ∀ a, (k0_off33 v1) a + S128x2048.size a ≤ S2048x2048.size a := fun i v1 k0_hw1 k0_h1 k0_h10 k0_h17 => k0_hw1.2.1.2.2.2.2.2.2.2.2.2.2.2.2.2.2.2.2.2.2.2.2.2.2.2.2.2.2.2.2.2.2.2 k0_h1 k0_h10 k0_h17
theorem k0_mult29_dvd : ∀ (i : grid0.Coords) (v1 : BitVec 32) (k0_hw1 : k0_chk1 i v1), ∀ (k0_h1 : k0_cond1 v1 = 1#1), ∀ (k0_h18 : k0_cond18 i = 1#1), 256 ∣ (k0_mult29 v1).toNat := fun i v1 k0_hw1 k0_h1 k0_h18 => k0_hw1.2.2.1 k0_h1 k0_h18
theorem k0_t5_ok : ∀ (i : grid0.Coords) (v1 : BitVec 32) (k0_hw1 : k0_chk1 i v1), ∀ (k0_h1 : k0_cond1 v1 = 1#1), ∀ (k0_h18 : k0_cond18 i = 1#1), (k0_t5_loop v1).OK := fun i v1 k0_hw1 k0_h1 k0_h18 => k0_hw1.2.2.2.1 k0_h1 k0_h18
theorem k0_mult30_dvd : ∀ (i : grid0.Coords) (v1 : BitVec 32) (k0_hw1 : k0_chk1 i v1) (k0_t5 : Fin (k0_t5_loop v1).trips), ∀ (k0_h1 : k0_cond1 v1 = 1#1), ∀ (k0_h18 : k0_cond18 i = 1#1), 256 ∣ (k0_mult30 v1 k0_t5).toNat := fun i v1 k0_hw1 k0_t5 k0_h1 k0_h18 => k0_hw1.2.2.2.2.1 k0_t5 k0_h1 k0_h18
theorem k0_off36_inb : ∀ (i : grid0.Coords) (v1 : BitVec 32) (k0_hw1 : k0_chk1 i v1) (k0_t5 : Fin (k0_t5_loop v1).trips), ∀ (k0_h1 : k0_cond1 v1 = 1#1), ∀ (k0_h18 : k0_cond18 i = 1#1), ∀ a, (k0_off36 v1 k0_t5) a + S256x2048.size a ≤ S2048x2048.size a := fun i v1 k0_hw1 k0_t5 k0_h1 k0_h18 => k0_hw1.2.2.2.2.2.1 k0_t5 k0_h1 k0_h18
theorem k0_t6_ok : ∀ (i : grid0.Coords) (v1 : BitVec 32) (k0_hw1 : k0_chk1 i v1), ∀ (k0_h1 : k0_cond1 v1 = 1#1), ∀ (k0_h18 : k0_cond18 i = 1#1), (k0_t6_loop v1).OK := fun i v1 k0_hw1 k0_h1 k0_h18 => k0_hw1.2.2.2.2.2.2.1 k0_h1 k0_h18
theorem k0_mult31_dvd : ∀ (i : grid0.Coords) (v1 : BitVec 32) (k0_hw1 : k0_chk1 i v1) (k0_t6 : Fin (k0_t6_loop v1).trips), ∀ (k0_h1 : k0_cond1 v1 = 1#1), ∀ (k0_h18 : k0_cond18 i = 1#1), 256 ∣ (k0_mult31 v1 k0_t6).toNat := fun i v1 k0_hw1 k0_t6 k0_h1 k0_h18 => k0_hw1.2.2.2.2.2.2.2.1 k0_t6 k0_h1 k0_h18
theorem k0_off38_inb : ∀ (i : grid0.Coords) (v1 : BitVec 32) (k0_hw1 : k0_chk1 i v1) (k0_t6 : Fin (k0_t6_loop v1).trips), ∀ (k0_h1 : k0_cond1 v1 = 1#1), ∀ (k0_h18 : k0_cond18 i = 1#1), ∀ a, (k0_off38 v1 k0_t6) a + S256x2048.size a ≤ S2048x2048.size a := fun i v1 k0_hw1 k0_t6 k0_h1 k0_h18 => k0_hw1.2.2.2.2.2.2.2.2.1 k0_t6 k0_h1 k0_h18
theorem k0_off40_inb : ∀ (i : grid0.Coords) (v1 : BitVec 32) (k0_hw1 : k0_chk1 i v1), ∀ (k0_h1 : k0_cond1 v1 = 1#1), ∀ (k0_h18 : k0_cond18 i = 1#1), ∀ (k0_h19 : k0_cond19 v1 = 1#1), ∀ a, (k0_off40 v1) a + S128x2048.size a ≤ S2048x2048.size a := fun i v1 k0_hw1 k0_h1 k0_h18 k0_h19 => k0_hw1.2.2.2.2.2.2.2.2.2.1 k0_h1 k0_h18 k0_h19
theorem k0_t7_ok : ∀ (i : grid0.Coords) (v1 : BitVec 32) (k0_hw1 : k0_chk1 i v1), ∀ (k0_h1 : k0_cond1 v1 = 1#1), ∀ (k0_h18 : k0_cond18 i = 1#1), (k0_t7_loop v1).OK := fun i v1 k0_hw1 k0_h1 k0_h18 => k0_hw1.2.2.2.2.2.2.2.2.2.2.1 k0_h1 k0_h18
theorem k0_mult32_dvd : ∀ (i : grid0.Coords) (v1 : BitVec 32) (k0_hw1 : k0_chk1 i v1) (k0_t7 : Fin (k0_t7_loop v1).trips), ∀ (k0_h1 : k0_cond1 v1 = 1#1), ∀ (k0_h18 : k0_cond18 i = 1#1), 256 ∣ (k0_mult32 v1 k0_t7).toNat := fun i v1 k0_hw1 k0_t7 k0_h1 k0_h18 => k0_hw1.2.2.2.2.2.2.2.2.2.2.2.1 k0_t7 k0_h1 k0_h18
theorem k0_off42_inb : ∀ (i : grid0.Coords) (v1 : BitVec 32) (k0_hw1 : k0_chk1 i v1) (k0_t7 : Fin (k0_t7_loop v1).trips), ∀ (k0_h1 : k0_cond1 v1 = 1#1), ∀ (k0_h18 : k0_cond18 i = 1#1), ∀ a, (k0_off42 v1 k0_t7) a + S256x2048.size a ≤ S2048x2048.size a := fun i v1 k0_hw1 k0_t7 k0_h1 k0_h18 => k0_hw1.2.2.2.2.2.2.2.2.2.2.2.2.1 k0_t7 k0_h1 k0_h18
theorem k0_t8_ok : ∀ (i : grid0.Coords) (v1 : BitVec 32) (k0_hw1 : k0_chk1 i v1), ∀ (k0_h1 : k0_cond1 v1 = 1#1), ∀ (k0_h18 : k0_cond18 i = 1#1), (k0_t8_loop v1).OK := fun i v1 k0_hw1 k0_h1 k0_h18 => k0_hw1.2.2.2.2.2.2.2.2.2.2.2.2.2.1 k0_h1 k0_h18
theorem k0_mult33_dvd : ∀ (i : grid0.Coords) (v1 : BitVec 32) (k0_hw1 : k0_chk1 i v1) (k0_t8 : Fin (k0_t8_loop v1).trips), ∀ (k0_h1 : k0_cond1 v1 = 1#1), ∀ (k0_h18 : k0_cond18 i = 1#1), 256 ∣ (k0_mult33 v1 k0_t8).toNat := fun i v1 k0_hw1 k0_t8 k0_h1 k0_h18 => k0_hw1.2.2.2.2.2.2.2.2.2.2.2.2.2.2.1 k0_t8 k0_h1 k0_h18
theorem k0_off44_inb : ∀ (i : grid0.Coords) (v1 : BitVec 32) (k0_hw1 : k0_chk1 i v1) (k0_t8 : Fin (k0_t8_loop v1).trips), ∀ (k0_h1 : k0_cond1 v1 = 1#1), ∀ (k0_h18 : k0_cond18 i = 1#1), ∀ a, (k0_off44 v1 k0_t8) a + S256x2048.size a ≤ S2048x2048.size a := fun i v1 k0_hw1 k0_t8 k0_h1 k0_h18 => k0_hw1.2.2.2.2.2.2.2.2.2.2.2.2.2.2.2.1 k0_t8 k0_h1 k0_h18
theorem k0_off46_inb : ∀ (i : grid0.Coords) (v1 : BitVec 32) (k0_hw1 : k0_chk1 i v1), ∀ (k0_h1 : k0_cond1 v1 = 1#1), ∀ (k0_h18 : k0_cond18 i = 1#1), ∀ (k0_h20 : k0_cond20 v1 = 1#1), ∀ a, (k0_off46 v1) a + S128x2048.size a ≤ S2048x2048.size a := fun i v1 k0_hw1 k0_h1 k0_h18 k0_h20 => k0_hw1.2.2.2.2.2.2.2.2.2.2.2.2.2.2.2.2 k0_h1 k0_h18 k0_h20

def cc0_transform_0 (k0_off1_inb : ∀ i : grid0.Coords, ∀ a, (k0_off1 i) a + S1.size a ≤ S14.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S14) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S14) ![v0.toNat] S1.size (k0_off1_inb i)) numel1_S1
  let v2 : Index := Scalar.indexCast arg0
  let v3 : BitVec 32 := pf.at 2 (Rect.unit (s := S14) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S14) ![v0.toNat] S1.size (k0_off1_inb i)) numel1_S1
  let v2 : Index := Scalar.indexCast arg0
  let v3 : BitVec 32 := pf.at 2 (Rect.unit (s := S14) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S14) ![v0.toNat] S1.size (k0_off1_inb i)) numel1_S1
  let v2 : Index := Scalar.indexCast arg0
  let v3 : BitVec 32 := pf.at 2 (Rect.unit (s := S14) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, v5.toNat, c0_i32_0.toNat]

abbrev stage0_0 : Fin 1 → Memref sig .tc .vmem S2048x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S28672x1024 : Shape := ⟨2, ![28672, 1024]⟩
abbrev S14 : Shape := ⟨1, ![14]⟩
abbrev S8x2048x7168 : Shape := ⟨3, ![8, 2048, 7168]⟩
abbrev S8x7168x2048 : Shape := ⟨3, ![8, 7168, 2048]⟩
abbrev S_ : Shape := ⟨0, ![]⟩
abbrev S28672x2048 : Shape := ⟨2, ![28672, 2048]⟩
abbrev S14x1 : Shape := ⟨2, ![14, 1]⟩
abbrev S14x2048 : Shape := ⟨2, ![14, 2048]⟩
abbrev S28672 : Shape := ⟨1, ![28672]⟩
abbrev S28672x1 : Shape := ⟨2, ![28672, 1]⟩
abbrev S1x8 : Shape := ⟨2, ![1, 8]⟩
abbrev S28672x8 : Shape := ⟨2, ![28672, 8]⟩
abbrev S1x2048x7168 : Shape := ⟨3, ![1, 2048, 7168]⟩
abbrev S2048x7168 : Shape := ⟨2, ![2048, 7168]⟩
abbrev S28672x7168 : Shape := ⟨2, ![28672, 7168]⟩
abbrev S1x7168x2048 : Shape := ⟨3, ![1, 7168, 2048]⟩
abbrev S7168x2048 : Shape := ⟨2, ![7168, 2048]⟩

abbrev nBuf : Space → Nat
  | .hbm => 210
  | .vmem => 0
  | .smem => 0
  | _ => 0

abbrev hbmTy0_0 (i : Nat) : BufTy := match i % 128 with
  | 0 => ⟨S28672x1024, .i32⟩
  | 1 => ⟨S14, .i32⟩
  | 2 => ⟨S14, .i32⟩
  | 3 => ⟨S14, .i32⟩
  | 4 => ⟨S8x2048x7168, .f32⟩
  | 5 => ⟨S8x2048x7168, .f32⟩
  | 6 => ⟨S8x7168x2048, .f32⟩
  | 7 => ⟨S_, .i32⟩
  | 8 => ⟨S28672x1024, .i32⟩
  | 9 => ⟨S28672x1024, .i32⟩
  | 10 => ⟨S_, .i32⟩
  | 11 => ⟨S28672x1024, .i32⟩
  | 12 => ⟨S28672x1024, .i32⟩
  | 13 => ⟨S28672x2048, .i32⟩
  | 14 => ⟨S28672x2048, .f32⟩
  | 15 => ⟨S14x1, .i32⟩
  | 16 => ⟨S14x2048, .i32⟩
  | 17 => ⟨S28672, .i32⟩
  | 18 => ⟨S28672x1, .i32⟩
  | 19 => ⟨S1x8, .i32⟩
  | 20 => ⟨S28672x8, .i32⟩
  | 21 => ⟨S28672x8, .i32⟩
  | 22 => ⟨S28672x8, .i1⟩
  | 23 => ⟨S28672x8, .f32⟩
  | 24 => ⟨S_, .f32⟩
  | 25 => ⟨S28672x2048, .f32⟩
  | 26 => ⟨S1x2048x7168, .f32⟩
  | 27 => ⟨S2048x7168, .f32⟩
  | 28 => ⟨S28672x7168, .f32⟩
  | 29 => ⟨S28672x7168, .f32⟩
  | 30 => ⟨S28672x7168, .f32⟩
  | 31 => ⟨S_, .f32⟩
  | 32 => ⟨S28672x7168, .f32⟩
  | 33 => ⟨S28672x7168, .f32⟩
  | 34 => ⟨S_, .f32⟩
  | 35 => ⟨S28672x7168, .f32⟩
  | 36 => ⟨S28672x7168, .f32⟩
  | 37 => ⟨S28672x7168, .f32⟩
  | 38 => ⟨S1x2048x7168, .f32⟩
  | 39 => ⟨S2048x7168, .f32⟩
  | 40 => ⟨S28672x7168, .f32⟩
  | 41 => ⟨S28672x7168, .f32⟩
  | 42 => ⟨S28672x1, .f32⟩
  | 43 => ⟨S1x7168x2048, .f32⟩
  | 44 => ⟨S7168x2048, .f32⟩
  | 45 => ⟨S28672x2048, .f32⟩
  | 46 => ⟨S28672x2048, .f32⟩
  | 47 => ⟨S28672x2048, .f32⟩
  | 48 => ⟨S28672x2048, .f32⟩
  | 49 => ⟨S1x2048x7168, .f32⟩
  | 50 => ⟨S2048x7168, .f32⟩
  | 51 => ⟨S28672x7168, .f32⟩
  | 52 => ⟨S28672x7168, .f32⟩
  | 53 => ⟨S28672x7168, .f32⟩
  | 54 => ⟨S_, .f32⟩
  | 55 => ⟨S28672x7168, .f32⟩
  | 56 => ⟨S28672x7168, .f32⟩
  | 57 => ⟨S_, .f32⟩
  | 58 => ⟨S28672x7168, .f32⟩
  | 59 => ⟨S28672x7168, .f32⟩
  | 60 => ⟨S28672x7168, .f32⟩
  | 61 => ⟨S1x2048x7168, .f32⟩
  | 62 => ⟨S2048x7168, .f32⟩
  | 63 => ⟨S28672x7168, .f32⟩
  | 64 => ⟨S28672x7168, .f32⟩
  | 65 => ⟨S28672x1, .f32⟩
  | 66 => ⟨S1x7168x2048, .f32⟩
  | 67 => ⟨S7168x2048, .f32⟩
  | 68 => ⟨S28672x2048, .f32⟩
  | 69 => ⟨S28672x2048, .f32⟩
  | 70 => ⟨S28672x2048, .f32⟩
  | 71 => ⟨S28672x2048, .f32⟩
  | 72 => ⟨S1x2048x7168, .f32⟩
  | 73 => ⟨S2048x7168, .f32⟩
  | 74 => ⟨S28672x7168, .f32⟩
  | 75 => ⟨S28672x7168, .f32⟩
  | 76 => ⟨S28672x7168, .f32⟩
  | 77 => ⟨S_, .f32⟩
  | 78 => ⟨S28672x7168, .f32⟩
  | 79 => ⟨S28672x7168, .f32⟩
  | 80 => ⟨S_, .f32⟩
  | 81 => ⟨S28672x7168, .f32⟩
  | 82 => ⟨S28672x7168, .f32⟩
  | 83 => ⟨S28672x7168, .f32⟩
  | 84 => ⟨S1x2048x7168, .f32⟩
  | 85 => ⟨S2048x7168, .f32⟩
  | 86 => ⟨S28672x7168, .f32⟩
  | 87 => ⟨S28672x7168, .f32⟩
  | 88 => ⟨S28672x1, .f32⟩
  | 89 => ⟨S1x7168x2048, .f32⟩
  | 90 => ⟨S7168x2048, .f32⟩
  | 91 => ⟨S28672x2048, .f32⟩
  | 92 => ⟨S28672x2048, .f32⟩
  | 93 => ⟨S28672x2048, .f32⟩
  | 94 => ⟨S28672x2048, .f32⟩
  | 95 => ⟨S1x2048x7168, .f32⟩
  | 96 => ⟨S2048x7168, .f32⟩
  | 97 => ⟨S28672x7168, .f32⟩
  | 98 => ⟨S28672x7168, .f32⟩
  | 99 => ⟨S28672x7168, .f32⟩
  | 100 => ⟨S_, .f32⟩
  | 101 => ⟨S28672x7168, .f32⟩
  | 102 => ⟨S28672x7168, .f32⟩
  | 103 => ⟨S_, .f32⟩
  | 104 => ⟨S28672x7168, .f32⟩
  | 105 => ⟨S28672x7168, .f32⟩
  | 106 => ⟨S28672x7168, .f32⟩
  | 107 => ⟨S1x2048x7168, .f32⟩
  | 108 => ⟨S2048x7168, .f32⟩
  | 109 => ⟨S28672x7168, .f32⟩
  | 110 => ⟨S28672x7168, .f32⟩
  | 111 => ⟨S28672x1, .f32⟩
  | 112 => ⟨S1x7168x2048, .f32⟩
  | 113 => ⟨S7168x2048, .f32⟩
  | 114 => ⟨S28672x2048, .f32⟩
  | 115 => ⟨S28672x2048, .f32⟩
  | 116 => ⟨S28672x2048, .f32⟩
  | 117 => ⟨S28672x2048, .f32⟩
  | 118 => ⟨S1x2048x7168, .f32⟩
  | 119 => ⟨S2048x7168, .f32⟩
  | 120 => ⟨S28672x7168, .f32⟩
  | 121 => ⟨S28672x7168, .f32⟩
  | 122 => ⟨S28672x7168, .f32⟩
  | 123 => ⟨S_, .f32⟩
  | 124 => ⟨S28672x7168, .f32⟩
  | 125 => ⟨S28672x7168, .f32⟩
  | 126 => ⟨S_, .f32⟩
  | 127 => ⟨S28672x7168, .f32⟩
  | _ => ⟨S28672x1024, .i32⟩

abbrev hbmTy0_1 (i : Nat) : BufTy := match i % 128 with
  | 0 => ⟨S28672x7168, .f32⟩
  | 1 => ⟨S28672x7168, .f32⟩
  | 2 => ⟨S1x2048x7168, .f32⟩
  | 3 => ⟨S2048x7168, .f32⟩
  | 4 => ⟨S28672x7168, .f32⟩
  | 5 => ⟨S28672x7168, .f32⟩
  | 6 => ⟨S28672x1, .f32⟩
  | 7 => ⟨S1x7168x2048, .f32⟩
  | 8 => ⟨S7168x2048, .f32⟩
  | 9 => ⟨S28672x2048, .f32⟩
  | 10 => ⟨S28672x2048, .f32⟩
  | 11 => ⟨S28672x2048, .f32⟩
  | 12 => ⟨S28672x2048, .f32⟩
  | 13 => ⟨S1x2048x7168, .f32⟩
  | 14 => ⟨S2048x7168, .f32⟩
  | 15 => ⟨S28672x7168, .f32⟩
  | 16 => ⟨S28672x7168, .f32⟩
  | 17 => ⟨S28672x7168, .f32⟩
  | 18 => ⟨S_, .f32⟩
  | 19 => ⟨S28672x7168, .f32⟩
  | 20 => ⟨S28672x7168, .f32⟩
  | 21 => ⟨S_, .f32⟩
  | 22 => ⟨S28672x7168, .f32⟩
  | 23 => ⟨S28672x7168, .f32⟩
  | 24 => ⟨S28672x7168, .f32⟩
  | 25 => ⟨S1x2048x7168, .f32⟩
  | 26 => ⟨S2048x7168, .f32⟩
  | 27 => ⟨S28672x7168, .f32⟩
  | 28 => ⟨S28672x7168, .f32⟩
  | 29 => ⟨S28672x1, .f32⟩
  | 30 => ⟨S1x7168x2048, .f32⟩
  | 31 => ⟨S7168x2048, .f32⟩
  | 32 => ⟨S28672x2048, .f32⟩
  | 33 => ⟨S28672x2048, .f32⟩
  | 34 => ⟨S28672x2048, .f32⟩
  | 35 => ⟨S28672x2048, .f32⟩
  | 36 => ⟨S1x2048x7168, .f32⟩
  | 37 => ⟨S2048x7168, .f32⟩
  | 38 => ⟨S28672x7168, .f32⟩
  | 39 => ⟨S28672x7168, .f32⟩
  | 40 => ⟨S28672x7168, .f32⟩
  | 41 => ⟨S_, .f32⟩
  | 42 => ⟨S28672x7168, .f32⟩
  | 43 => ⟨S28672x7168, .f32⟩
  | 44 => ⟨S_, .f32⟩
  | 45 => ⟨S28672x7168, .f32⟩
  | 46 => ⟨S28672x7168, .f32⟩
  | 47 => ⟨S28672x7168, .f32⟩
  | 48 => ⟨S1x2048x7168, .f32⟩
  | 49 => ⟨S2048x7168, .f32⟩
  | 50 => ⟨S28672x7168, .f32⟩
  | 51 => ⟨S28672x7168, .f32⟩
  | 52 => ⟨S28672x1, .f32⟩
  | 53 => ⟨S1x7168x2048, .f32⟩
  | 54 => ⟨S7168x2048, .f32⟩
  | 55 => ⟨S28672x2048, .f32⟩
  | 56 => ⟨S28672x2048, .f32⟩
  | 57 => ⟨S28672x2048, .f32⟩
  | 58 => ⟨S28672x2048, .f32⟩
  | 59 => ⟨S1x2048x7168, .f32⟩
  | 60 => ⟨S2048x7168, .f32⟩
  | 61 => ⟨S28672x7168, .f32⟩
  | 62 => ⟨S28672x7168, .f32⟩
  | 63 => ⟨S28672x7168, .f32⟩
  | 64 => ⟨S_, .f32⟩
  | 65 => ⟨S28672x7168, .f32⟩
  | 66 => ⟨S28672x7168, .f32⟩
  | 67 => ⟨S_, .f32⟩
  | 68 => ⟨S28672x7168, .f32⟩
  | 69 => ⟨S28672x7168, .f32⟩
  | 70 => ⟨S28672x7168, .f32⟩
  | 71 => ⟨S1x2048x7168, .f32⟩
  | 72 => ⟨S2048x7168, .f32⟩
  | 73 => ⟨S28672x7168, .f32⟩
  | 74 => ⟨S28672x7168, .f32⟩
  | 75 => ⟨S28672x1, .f32⟩
  | 76 => ⟨S1x7168x2048, .f32⟩
  | 77 => ⟨S7168x2048, .f32⟩
  | 78 => ⟨S28672x2048, .f32⟩
  | 79 => ⟨S28672x2048, .f32⟩
  | 80 => ⟨S28672x2048, .f32⟩
  | 81 => ⟨S28672x2048, .f32⟩
  | _ => ⟨S28672x1024, .i32⟩

abbrev hbmTy (i : Nat) : BufTy := match i / 128 with
  | 0 => hbmTy0_0 i
  | 1 => hbmTy0_1 i
  | _ => ⟨S28672x1024, .i32⟩

abbrev bufTy : (tb : Table) → Fin (tcTables nBuf tb) → BufTy
  | .hbm, ⟨i, _⟩ => hbmTy i
  | _, _ => ⟨S28672x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_call3_v0 : Ref sig .tc := ⟨.hbm, 75, rfl⟩
abbrev main_call3_v1 : Ref sig .tc := ⟨.hbm, 76, rfl⟩
abbrev main_call3_cst : Ref sig .tc := ⟨.hbm, 77, rfl⟩
abbrev main_call3_v2 : Ref sig .tc := ⟨.hbm, 78, rfl⟩
abbrev main_call3_v3 : Ref sig .tc := ⟨.hbm, 79, rfl⟩
abbrev main_call3_cst_0 : Ref sig .tc := ⟨.hbm, 80, rfl⟩
abbrev main_call3_v4 : Ref sig .tc := ⟨.hbm, 81, rfl⟩
abbrev main_call3_v5 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_call5_v0 : Ref sig .tc := ⟨.hbm, 121, rfl⟩
abbrev main_call5_v1 : Ref sig .tc := ⟨.hbm, 122, rfl⟩
abbrev main_call5_cst : Ref sig .tc := ⟨.hbm, 123, rfl⟩
abbrev main_call5_v2 : Ref sig .tc := ⟨.hbm, 124, rfl⟩
abbrev main_call5_v3 : Ref sig .tc := ⟨.hbm, 125, rfl⟩
abbrev main_call5_cst_0 : Ref sig .tc := ⟨.hbm, 126, rfl⟩
abbrev main_call5_v4 : Ref sig .tc := ⟨.hbm, 127, rfl⟩
abbrev main_call5_v5 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_call6_v0 : Ref sig .tc := ⟨.hbm, 144, rfl⟩
abbrev main_call6_v1 : Ref sig .tc := ⟨.hbm, 145, rfl⟩
abbrev main_call6_cst : Ref sig .tc := ⟨.hbm, 146, rfl⟩
abbrev main_call6_v2 : Ref sig .tc := ⟨.hbm, 147, rfl⟩
abbrev main_call6_v3 : Ref sig .tc := ⟨.hbm, 148, rfl⟩
abbrev main_call6_cst_0 : Ref sig .tc := ⟨.hbm, 149, rfl⟩
abbrev main_call6_v4 : Ref sig .tc := ⟨.hbm, 150, rfl⟩
abbrev main_call6_v5 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_call7_v0 : Ref sig .tc := ⟨.hbm, 167, rfl⟩
abbrev main_call7_v1 : Ref sig .tc := ⟨.hbm, 168, rfl⟩
abbrev main_call7_cst : Ref sig .tc := ⟨.hbm, 169, rfl⟩
abbrev main_call7_v2 : Ref sig .tc := ⟨.hbm, 170, rfl⟩
abbrev main_call7_v3 : Ref sig .tc := ⟨.hbm, 171, rfl⟩
abbrev main_call7_cst_0 : Ref sig .tc := ⟨.hbm, 172, rfl⟩
abbrev main_call7_v4 : Ref sig .tc := ⟨.hbm, 173, rfl⟩
abbrev main_call7_v5 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_call8_v0 : Ref sig .tc := ⟨.hbm, 190, rfl⟩
abbrev main_call8_v1 : Ref sig .tc := ⟨.hbm, 191, rfl⟩
abbrev main_call8_cst : Ref sig .tc := ⟨.hbm, 192, rfl⟩
abbrev main_call8_v2 : Ref sig .tc := ⟨.hbm, 193, rfl⟩
abbrev main_call8_v3 : Ref sig .tc := ⟨.hbm, 194, rfl⟩
abbrev main_call8_cst_0 : Ref sig .tc := ⟨.hbm, 195, rfl⟩
abbrev main_call8_v4 : Ref sig .tc := ⟨.hbm, 196, rfl⟩
abbrev main_call8_v5 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩

abbrev nD : Nat := 1
abbrev τ : Topo := Topo.v7x

variable {F : FTy → Type} [FloatOps F]
-- ==== Proof.Moe.Words.lean ====
/- What the precondition says of the three tables of the expert call: each item's expert, its block of rows and the number
   of its rows, word by word. -/
module

public import proofs.«01_k».proof.Proof.Gen.Pre_tables
public import Idealize.ShloMosaic.Lib.ReduceAll
public import Idealize.ShloMosaic.Lib.StableHlo.Predicate

@[expose] public section

namespace Cert.Moe

open Idealize.ShloMosaic Cert.Pre_tables Cert.Pre_tables.Gen

/-- Every expert is one of the eight, every block one of the fourteen, no item has more than 2048 rows, and an item that has
    rows has them in the block of its own number. -/
structure Good (e b r : IVec S14 32) : Prop where
  expert : ∀ x, (e x).toNat < 8
  block : ∀ x, (b x).toNat < 14
  rows : ∀ x, (r x).toNat ≤ 2048
  item : ∀ x, 0 < (r x).toNat → (b x).toNat = (x 0).val

/-- A word from 0 to below `n`, both read with the sign, is below `n`. -/
theorem below {w n : BitVec 32} (hn : n.toNat < 2 ^ 31) (h0 : IntOp.cmpi .sge w 0#32 = 1#1) (h1 : IntOp.cmpi .slt w n = 1#1) : w.toNat < n.toNat := by
  simp only [IntOp.cmpi, StableHlo.Predicate.ofBool_eq_one_iff, BitVec.sle, BitVec.slt, decide_eq_true_eq, BitVec.toInt, BitVec.toNat_ofNat] at h0 h1
  split at h1 <;> split at h1 <;> omega

/-- Likewise up to `n` itself. -/
theorem upto {w n : BitVec 32} (hn : n.toNat < 2 ^ 31) (h0 : IntOp.cmpi .sge w 0#32 = 1#1) (h1 : IntOp.cmpi .sle w n = 1#1) : w.toNat ≤ n.toNat := by
  simp only [IntOp.cmpi, StableHlo.Predicate.ofBool_eq_one_iff, BitVec.sle, BitVec.slt, decide_eq_true_eq, BitVec.toInt, BitVec.toNat_ofNat] at h0 h1
  split at h1 <;> split at h1 <;> omega

/-- One of two bits that join to 1 is 1. -/
theorem or_one {a b : BitVec 1} (h : IntOp.ori a b = 1#1) : a = 1#1 ∨ b = 1#1 := by
  revert a b; decide

/-- The precondition decoded. -/
theorem good_of_pre {F : FTy → Type} [FloatOps F] {a0 : IVec S28672x1024 32} {e b r : IVec S14 32} {a4 a5 : FVec F S8x2048x7168 .f32}
    {a6 : FVec F S8x7168x2048 .f32} (h : Cert.Pre_tables.fn (F := F) a0 e b r a4 a5 a6 = fun _ => 1#1) : Good e b r := by
  haveI : Subsingleton S_.Idx := ⟨fun x y => funext fun a => a.elim0⟩
  have h0 := congrFun h (fun a => a.elim0)
  simp only [Cert.Pre_tables.fn, fn_part1, andi, IntOp.andi_eq_one] at h0
  obtain ⟨⟨⟨he, hb⟩, hr⟩, hi⟩ := h0
  have he := Host.reduce_andi_all _ _ _ _ _ he
  have hb := Host.reduce_andi_all _ _ _ _ _ hb
  have hr := Host.reduce_andi_all _ _ _ _ _ hr
  have hi := Host.reduce_andi_all _ _ _ _ _ hi
  have he := fun x => IntOp.andi_eq_one.1 (he x)
  have hb := fun x => IntOp.andi_eq_one.1 (hb x)
  have hr := fun x => IntOp.andi_eq_one.1 (hr x)
  refine ⟨fun x => below (n := 8#32) (by decide) (he x).1 (he x).2, fun x => below (n := 14#32) (by decide) (hb x).1 (hb x).2,
    fun x => upto (n := 2048#32) (by decide) (hr x).1 (hr x).2, fun x hx => ?_⟩
  have hx14 : (x 0).val < 14 := (x 0).isLt
  rcases or_one (hi x) with h1 | h1
  · have h2 : r x = 0#32 := StableHlo.Predicate.cmpi_eq_iff.1 h1
    rw [h2] at hx; exact absurd hx (by decide)
  · have h2 : b x = BitVec.ofNat 32 (x 0).val := StableHlo.Predicate.cmpi_eq_iff.1 h1
    rw [h2, BitVec.toNat_ofNat]; exact Nat.mod_eq_of_lt (by omega)

end Cert.Moe
-- ==== Proof.Moe.NumBase.lean ====
/- The count of 128-row blocks. -/
module

public import proofs.«01_k».proof.Proof.Gen.Kernel4

@[expose] public section

set_option maxRecDepth 100000
set_option synthInstance.maxHeartbeats 0

namespace Cert.Kernel4.Moe

open Idealize.ShloMosaic Cert.Kernel4 Cert.Kernel4.Gen

/-- The number of blocks of 128 rows that `v` rows touch. -/
abbrev hv (v : ℕ) : ℕ := (v + 127) / 128

end Cert.Kernel4.Moe
-- ==== Proof.Moe.ChkFirst.lean ====
/- The conditions the body assumes of an item's row count hold of every count up to 2048, at a point of the first channel tile. -/
module

public import proofs.«01_k».proof.Proof.Gen.Kernel4

@[expose] public section

set_option maxRecDepth 100000
set_option synthInstance.maxHeartbeats 0

namespace Cert.Kernel4.Moe

open Idealize.ShloMosaic Cert.Kernel4 Cert.Kernel4.Gen

/-- A grid point of the first channel tile. -/
abbrev iFirst : grid0.Coords := grid0.coords ⟨0, by decide⟩
theorem chk_first : ∀ v : Fin 2049, k0_chk1 iFirst (BitVec.ofNat 32 v.val) := by decide +kernel

end Cert.Kernel4.Moe
-- ==== Proof.Moe.ChkLast.lean ====
/- The conditions the body assumes of an item's row count hold of every count up to 2048, at a point of the last channel tile. -/
module

public import proofs.«01_k».proof.Proof.Gen.Kernel4

@[expose] public section

set_option maxRecDepth 100000
set_option synthInstance.maxHeartbeats 0

namespace Cert.Kernel4.Moe

open Idealize.ShloMosaic Cert.Kernel4 Cert.Kernel4.Gen

/-- A grid point of the last channel tile. -/
abbrev iLast : grid0.Coords := grid0.coords ⟨27, by decide⟩
theorem chk_last : ∀ v : Fin 2049, k0_chk1 iLast (BitVec.ofNat 32 v.val) := by decide +kernel

end Cert.Kernel4.Moe
-- ==== Proof.MoeIdeal.Logic.lean ====
/- Rules for the experts' body: a program is followed over the contents of the four buffers it reads and the four it
   keeps, from a load to the next, with everything else it may need carried along. -/
module

public import proofs.«01_k».proof.Proof.Gen.Kernel4Ideal.Skeleton
public import proofs.«01_k».proof.Proof.Gen.Kernel4Ideal.Launch
public import Idealize.ShloMosaic.Lib.Pipeline.FrameBody
public import Idealize.ShloMosaic.Lib.Pipeline.FrameValue
public import Idealize.ShloMosaic.Lib.MixedBatch
public import Idealize.ShloMosaic.Lib.Claim
public import Idealize.ShloMosaic.Lib.Ring
public import Idealize.ShloMosaic.Lib.Pipeline.ValueKit.Tiles
public import Idealize.ShloMosaic.Lib.Tactic

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What is said of the resources of a run. -/
abbrev Res (F : FTy → Type) [FloatOps F] := sProp (MT nD τ sig Unit (Elt F) ℕ (Pipeline.UD sig nD τ) ℕ)

/-! ## Loads and stores of owned memrefs -/

/-- A store through a rectangle leaves its payload on the rectangle and the rest as it was. -/
theorem read_write_overlay {sp : CoreSpace} {s : Shape} {e : EltTy} (m : Memref sig .tc sp s e) (r : Rect s)
    (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨x, rfl⟩ : ∃ x, r.emb x = j := r.exists_idx_of_mem hj
    rw [Rect.overlay_emb]
    exact View.read_slice_write_emb r f w (Finset.mem_univ x)
  · rw [Rect.overlay_of_not_mem _ _ _ hj]
    exact View.read_slice_write_of_not_mem r f w _ (by rwa [Rect.map_emb_univ])

/-- A store through the whole of a shape leaves its payload. -/
theorem overlay_whole {s : Shape} {α : Type} (off : Fin s.rank → ℕ) (inb : ∀ a, off a + s.size a ≤ s.size a)
    (X w : s.Idx → α) : (Rect.unit (s := s) off s.size inb).overlay X w = w := by
  funext j
  have h : (Rect.unit (s := s) off s.size inb).emb j = j := by
    funext a
    apply Fin.ext
    have := Rect.idx_unit_val (s := s) off s.size inb j a
    have := inb a
    simp only [Rect.emb] at *
    have h2 : ((Rect.unit (s := s) off s.size inb).idx j a : ℕ) = off a + (j a : ℕ) := by assumption
    show ((Rect.unit (s := s) off s.size inb).idx j a : ℕ) = (j a : ℕ)
    omega
  exact (congrArg _ h.symm).trans (Rect.overlay_emb (Rect.unit (s := s) off s.size inb) X w j)

/-- A load through the whole of a shape reads the contents. -/
theorem ld_whole {s : Shape} {e : EltTy} (off : Fin s.rank → ℕ) (inb : ∀ a, off a + s.size a ≤ s.size a)
    (X : s.Idx → Elt F e) : View.ld X (Rect.unit (s := s) off s.size inb) = X := by
  funext j
  refine View.ld_unit_apply_of X off s.size inb j j fun a => ?_
  have := inb a
  omega

variable {α : Type} {c : Dev nD}

theorem owns_load {sp : CoreSpace} {s : Shape} {e : EltTy} {m : Memref sig .tc sp s e} {q : PosShare TreeShare} {r : Rect s}
    {h : m.view.LoadsAt r.toLoadRect} {x : s.Idx → Elt F e} {k : (r.shape.Idx → Elt F e) → Prog (TpuEff nD τ sig (Elt F) Λ₀ .tc) α} {K : α → sProp 𝕄} :
    owns (c : Thread nD τ) m q x ⊢ iprop((owns (c : Thread nD τ) m q x -∗ wp frame (wpE (defs₀ (F := F)) Variants.none (c : Thread nD τ) none) Set.univ (k (View.ld x r)) K)
      -∗ wp frame (wpE (defs₀ (F := F)) Variants.none (c : Thread nD τ) none) Set.univ (Prog.lift (TpuEff.load m r.toLoadRect h) >>= k) K) := by
  unfold owns
  iintro ⟨%f, %hf, H⟩ Hk
  subst hf
  iapply (wp_load_rect (c := (c : Thread nD τ)) (defs := defs₀ (F := F)) Variants.none none Set.univ (m := m) (r := r) (S := m.view.set) (hl := h) (k := k) (View.set_slice_subset _ _)) $$ H
  iintro H
  iapply Hk
  iexists f; isplitr
  · ipureintro; rfl
  · iexact H

theorem owns_store {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1} {x : s.Idx → Elt F e}
    {k : PUnit → Prog (TpuEff nD τ sig (Elt F) Λ₀ .tc) α} {K : α → sProp 𝕄} :
    owns (c : Thread nD τ) m fullShare x ⊢ iprop((owns (c : Thread nD τ) m fullShare (r.overlay x w) -∗ wp frame (wpE (defs₀ (F := F)) Variants.none (c : Thread nD τ) none) Set.univ (k ⟨⟩) K)
      -∗ wp frame (wpE (defs₀ (F := F)) Variants.none (c : Thread nD τ) none) Set.univ (Prog.lift (TpuEff.store m r w Finset.univ hx hm) >>= k) K) := by
  unfold owns
  iintro ⟨%f, %hf, H⟩ Hk
  subst hf
  iapply (wp_store (c := (c : Thread nD τ)) (defs := defs₀ (F := F)) Variants.none none Set.univ (m := m) (r := r) (w := w) (S := m.view.set) (hx := hx) (hm := hm) (k := k)
    (by rw [View.setOn_univ]; exact View.set_slice_subset _ _)) $$ H
  iintro H
  iapply Hk
  iexists _; isplitr
  swap; · iexact H
  ipureintro
  exact read_write_overlay m r f w

/-! ## The state and its rules -/

/-- The memrefs the accumulation works on. -/
structure Mems where
  a5 : Memref sig .tc .vmem S2048x1024 .i32
  a6 : Memref sig .tc .vmem S1x2048x256 .f32
  a7 : Memref sig .tc .vmem S1x2048x256 .f32
  a8 : Memref sig .tc .vmem S1x256x2048 .f32
  a10 : Memref sig .tc .vmem S2048x2048 .f32
  a11 : Memref sig .tc .vmem S2048x256 .bf16
  a12 : Memref sig .tc .vmem S2048x256 .bf16
  a13 : Memref sig .tc .vmem S256x2048 .bf16

/-- What it reads: the item's packed rows and the expert's three weight blocks. -/
structure Ins (F : FTy → Type) [FloatOps F] where
  x5 : Vec F S2048x1024 .i32
  x6 : Vec F S1x2048x256 .f32
  x7 : Vec F S1x2048x256 .f32
  x8 : Vec F S1x256x2048 .f32

/-- What it keeps: the accumulated rows and the rounded weights. -/
structure St (F : FTy → Type) [FloatOps F] where
  x10 : Vec F S2048x2048 .f32
  x11 : Vec F S2048x256 .bf16
  x12 : Vec F S2048x256 .bf16
  x13 : Vec F S256x2048 .bf16

/-- The eight buffers at their contents. -/
def Held (c : Dev nD) (M : Mems) (I : Ins F) (σ : St F) : sProp 𝕄 :=
  iprop(owns (c : Thread nD τ) M.a5 fullShare I.x5 ∗ owns (c : Thread nD τ) M.a6 fullShare I.x6 ∗ owns (c : Thread nD τ) M.a7 fullShare I.x7
    ∗ owns (c : Thread nD τ) M.a8 fullShare I.x8 ∗ owns (c : Thread nD τ) M.a10 fullShare σ.x10 ∗ owns (c : Thread nD τ) M.a11 fullShare σ.x11
    ∗ owns (c : Thread nD τ) M.a12 fullShare σ.x12 ∗ owns (c : Thread nD τ) M.a13 fullShare σ.x13)

/-- From the buffers at these contents, beside `X`, the program runs to `K`. -/
def Runs (c : Dev nD) (M : Mems) (I : Ins F) (X : sProp 𝕄) (K : α → sProp 𝕄) (σ : St F) (p : Prog (TpuEff nD τ sig (Elt F) Λ₀ .tc) α) : Prop :=
  iprop(Held c M I σ ∗ X) ⊢ wp frame (wpE (defs₀ (F := F)) Variants.none (c : Thread nD τ) none) Set.univ p K

variable {M : Mems} {I : Ins F} {X : Res F} {K : α → Res F} {σ : St F}

theorem Runs.pure {a : α} (h : iprop(Held c M I σ ∗ X) ⊢ K a) : Runs c M I X K σ (Pure.pure a) := by
  unfold Runs
  rw [wp_pure]
  exact h.trans (fupd_intro (PROP := sProp 𝕄))

theorem Runs.assoc {β γ : Type} {p : Prog (TpuEff nD τ sig (Elt F) Λ₀ .tc) β} {f : β → Prog (TpuEff nD τ sig (Elt F) Λ₀ .tc) γ}
    {g : γ → Prog (TpuEff nD τ sig (Elt F) Λ₀ .tc) α} (h : Runs c M I X K σ (p >>= fun a => f a >>= g)) : Runs c M I X K σ (p >>= f >>= g) := by
  rwa [Prog.bind_assoc]

theorem Runs.ret {β : Type} {a : β} {f : β → Prog (TpuEff nD τ sig (Elt F) Λ₀ .tc) α} (h : Runs c M I X K σ (f a)) :
    Runs c M I X K σ (Pure.pure a >>= f) := h

theorem Runs.ite {P : Prop} [Decidable P] {t : P → Prog (TpuEff nD τ sig (Elt F) Λ₀ .tc) α} {e : ¬ P → Prog (TpuEff nD τ sig (Elt F) Λ₀ .tc) α}
    (ht : ∀ h, Runs c M I X K σ (t h)) (he : ∀ h, Runs c M I X K σ (e h)) : Runs c M I X K σ (dite P t e) := by
  by_cases h : P
  · rw [dif_pos h]; exact ht h
  · rw [dif_neg h]; exact he h

theorem Runs.load5 {r : Rect S2048x1024} {h : M.a5.view.LoadsAt r.toLoadRect} {k : (r.shape.Idx → Elt F .i32) → Prog (TpuEff nD τ sig (Elt F) Λ₀ .tc) α}
    (hk : Runs c M I X K σ (k (View.ld I.x5 r))) : Runs c M I X K σ (Prog.lift (TpuEff.load M.a5 r.toLoadRect h) >>= k) := by
  unfold Runs Held at *
  iintro ⟨⟨H5, H6, H7, H8, H10, H11, H12, H13⟩, HX⟩
  iapply owns_load $$ H5
  iintro H5
  iapply hk
  iframe

theorem Runs.load10 {r : Rect S2048x2048} {h : M.a10.view.LoadsAt r.toLoadRect} {k : (r.shape.Idx → Elt F .f32) → Prog (TpuEff nD τ sig (Elt F) Λ₀ .tc) α}
    (hk : Runs c M I X K σ (k (View.ld σ.x10 r))) : Runs c M I X K σ (Prog.lift (TpuEff.load M.a10 r.toLoadRect h) >>= k) := by
  unfold Runs Held at *
  iintro ⟨⟨H5, H6, H7, H8, H10, H11, H12, H13⟩, HX⟩
  iapply owns_load $$ H10
  iintro H10
  iapply hk
  iframe

theorem Runs.store10 {r : Rect S2048x2048} {w : r.shape.Idx → Elt F .f32} {hx : (M.a10.access r).Stores Finset.univ}
    {hm : Finset.univ = Finset.univ ∨ ∀ a, r.stride a = 1} {k : PUnit → Prog (TpuEff nD τ sig (Elt F) Λ₀ .tc) α}
    (P : Vec F S2048x2048 .f32 → Prop) (hP : P (r.overlay σ.x10 w))
    (hk : ∀ y, P y → Runs c M I X K ⟨y, σ.x11, σ.x12, σ.x13⟩ (k ⟨⟩)) :
    Runs c M I X K σ (Prog.lift (TpuEff.store M.a10 r w Finset.univ hx hm) >>= k) := by
  have hk := hk _ hP
  unfold Runs Held at *
  iintro ⟨⟨H5, H6, H7, H8, H10, H11, H12, H13⟩, HX⟩
  iapply owns_store $$ H10
  iintro H10
  iapply hk
  iframe

theorem Runs.load6 {off : Fin S1x2048x256.rank → ℕ} {inb : ∀ a, off a + S1x2048x256.size a ≤ S1x2048x256.size a} {h : M.a6.view.LoadsAt (Rect.unit (s := S1x2048x256) off S1x2048x256.size inb).toLoadRect}
    {k : (S1x2048x256.Idx → Elt F .f32) → Prog (TpuEff nD τ sig (Elt F) Λ₀ .tc) α}
    (hk : Runs c M I X K σ (k I.x6)) : Runs c M I X K σ (Prog.lift (TpuEff.load M.a6 (Rect.unit (s := S1x2048x256) off S1x2048x256.size inb).toLoadRect h) >>= k) := by
  rw [← ld_whole off inb I.x6] at hk
  unfold Runs Held at *
  iintro ⟨⟨H5, H6, H7, H8, H10, H11, H12, H13⟩, HX⟩
  iapply owns_load $$ H6
  iintro H6
  iapply hk
  iframe

theorem Runs.load7 {off : Fin S1x2048x256.rank → ℕ} {inb : ∀ a, off a + S1x2048x256.size a ≤ S1x2048x256.size a} {h : M.a7.view.LoadsAt (Rect.unit (s := S1x2048x256) off S1x2048x256.size inb).toLoadRect}
    {k : (S1x2048x256.Idx → Elt F .f32) → Prog (TpuEff nD τ sig (Elt F) Λ₀ .tc) α}
    (hk : Runs c M I X K σ (k I.x7)) : Runs c M I X K σ (Prog.lift (TpuEff.load M.a7 (Rect.unit (s := S1x2048x256) off S1x2048x256.size inb).toLoadRect h) >>= k) := by
  rw [← ld_whole off inb I.x7] at hk
  unfold Runs Held at *
  iintro ⟨⟨H5, H6, H7, H8, H10, H11, H12, H13⟩, HX⟩
  iapply owns_load $$ H7
  iintro H7
  iapply hk
  iframe

theorem Runs.load8 {off : Fin S1x256x2048.rank → ℕ} {inb : ∀ a, off a + S1x256x2048.size a ≤ S1x256x2048.size a} {h : M.a8.view.LoadsAt (Rect.unit (s := S1x256x2048) off S1x256x2048.size inb).toLoadRect}
    {k : (S1x256x2048.Idx → Elt F .f32) → Prog (TpuEff nD τ sig (Elt F) Λ₀ .tc) α}
    (hk : Runs c M I X K σ (k I.x8)) : Runs c M I X K σ (Prog.lift (TpuEff.load M.a8 (Rect.unit (s := S1x256x2048) off S1x256x2048.size inb).toLoadRect h) >>= k) := by
  rw [← ld_whole off inb I.x8] at hk
  unfold Runs Held at *
  iintro ⟨⟨H5, H6, H7, H8, H10, H11, H12, H13⟩, HX⟩
  iapply owns_load $$ H8
  iintro H8
  iapply hk
  iframe

theorem Runs.load11 {off : Fin S2048x256.rank → ℕ} {inb : ∀ a, off a + S2048x256.size a ≤ S2048x256.size a} {h : M.a11.view.LoadsAt (Rect.unit (s := S2048x256) off S2048x256.size inb).toLoadRect}
    {k : (S2048x256.Idx → Elt F .bf16) → Prog (TpuEff nD τ sig (Elt F) Λ₀ .tc) α}
    (hk : Runs c M I X K σ (k σ.x11)) : Runs c M I X K σ (Prog.lift (TpuEff.load M.a11 (Rect.unit (s := S2048x256) off S2048x256.size inb).toLoadRect h) >>= k) := by
  rw [← ld_whole off inb σ.x11] at hk
  unfold Runs Held at *
  iintro ⟨⟨H5, H6, H7, H8, H10, H11, H12, H13⟩, HX⟩
  iapply owns_load $$ H11
  iintro H11
  iapply hk
  iframe

theorem Runs.load12 {off : Fin S2048x256.rank → ℕ} {inb : ∀ a, off a + S2048x256.size a ≤ S2048x256.size a} {h : M.a12.view.LoadsAt (Rect.unit (s := S2048x256) off S2048x256.size inb).toLoadRect}
    {k : (S2048x256.Idx → Elt F .bf16) → Prog (TpuEff nD τ sig (Elt F) Λ₀ .tc) α}
    (hk : Runs c M I X K σ (k σ.x12)) : Runs c M I X K σ (Prog.lift (TpuEff.load M.a12 (Rect.unit (s := S2048x256) off S2048x256.size inb).toLoadRect h) >>= k) := by
  rw [← ld_whole off inb σ.x12] at hk
  unfold Runs Held at *
  iintro ⟨⟨H5, H6, H7, H8, H10, H11, H12, H13⟩, HX⟩
  iapply owns_load $$ H12
  iintro H12
  iapply hk
  iframe

theorem Runs.load13 {off : Fin S256x2048.rank → ℕ} {inb : ∀ a, off a + S256x2048.size a ≤ S256x2048.size a} {h : M.a13.view.LoadsAt (Rect.unit (s := S256x2048) off S256x2048.size inb).toLoadRect}
    {k : (S256x2048.Idx → Elt F .bf16) → Prog (TpuEff nD τ sig (Elt F) Λ₀ .tc) α}
    (hk : Runs c M I X K σ (k σ.x13)) : Runs c M I X K σ (Prog.lift (TpuEff.load M.a13 (Rect.unit (s := S256x2048) off S256x2048.size inb).toLoadRect h) >>= k) := by
  rw [← ld_whole off inb σ.x13] at hk
  unfold Runs Held at *
  iintro ⟨⟨H5, H6, H7, H8, H10, H11, H12, H13⟩, HX⟩
  iapply owns_load $$ H13
  iintro H13
  iapply hk
  iframe

theorem Runs.store11 {off : Fin S2048x256.rank → ℕ} {inb : ∀ a, off a + S2048x256.size a ≤ S2048x256.size a} {w : S2048x256.Idx → Elt F .bf16}
    {hx : (M.a11.access (Rect.unit (s := S2048x256) off S2048x256.size inb)).Stores Finset.univ}
    {hm : Finset.univ = Finset.univ ∨ ∀ a, (Rect.unit (s := S2048x256) off S2048x256.size inb).stride a = 1} {k : PUnit → Prog (TpuEff nD τ sig (Elt F) Λ₀ .tc) α}
    (v : Vec F S2048x256 .bf16) (hv : w = v) (hk : Runs c M I X K ⟨σ.x10, v, σ.x12, σ.x13⟩ (k ⟨⟩)) :
    Runs c M I X K σ (Prog.lift (TpuEff.store M.a11 (Rect.unit (s := S2048x256) off S2048x256.size inb) w Finset.univ hx hm) >>= k) := by
  subst hv
  rw [← overlay_whole off inb σ.x11 w] at hk
  unfold Runs Held at *
  iintro ⟨⟨H5, H6, H7, H8, H10, H11, H12, H13⟩, HX⟩
  iapply owns_store $$ H11
  iintro H11
  iapply hk
  iframe

theorem Runs.store12 {off : Fin S2048x256.rank → ℕ} {inb : ∀ a, off a + S2048x256.size a ≤ S2048x256.size a} {w : S2048x256.Idx → Elt F .bf16}
    {hx : (M.a12.access (Rect.unit (s := S2048x256) off S2048x256.size inb)).Stores Finset.univ}
    {hm : Finset.univ = Finset.univ ∨ ∀ a, (Rect.unit (s := S2048x256) off S2048x256.size inb).stride a = 1} {k : PUnit → Prog (TpuEff nD τ sig (Elt F) Λ₀ .tc) α}
    (v : Vec F S2048x256 .bf16) (hv : w = v) (hk : Runs c M I X K ⟨σ.x10, σ.x11, v, σ.x13⟩ (k ⟨⟩)) :
    Runs c M I X K σ (Prog.lift (TpuEff.store M.a12 (Rect.unit (s := S2048x256) off S2048x256.size inb) w Finset.univ hx hm) >>= k) := by
  subst hv
  rw [← overlay_whole off inb σ.x12 w] at hk
  unfold Runs Held at *
  iintro ⟨⟨H5, H6, H7, H8, H10, H11, H12, H13⟩, HX⟩
  iapply owns_store $$ H12
  iintro H12
  iapply hk
  iframe

theorem Runs.store13 {off : Fin S256x2048.rank → ℕ} {inb : ∀ a, off a + S256x2048.size a ≤ S256x2048.size a} {w : S256x2048.Idx → Elt F .bf16}
    {hx : (M.a13.access (Rect.unit (s := S256x2048) off S256x2048.size inb)).Stores Finset.univ}
    {hm : Finset.univ = Finset.univ ∨ ∀ a, (Rect.unit (s := S256x2048) off S256x2048.size inb).stride a = 1} {k : PUnit → Prog (TpuEff nD τ sig (Elt F) Λ₀ .tc) α}
    (v : Vec F S256x2048 .bf16) (hv : w = v) (hk : Runs c M I X K ⟨σ.x10, σ.x11, σ.x12, v⟩ (k ⟨⟩)) :
    Runs c M I X K σ (Prog.lift (TpuEff.store M.a13 (Rect.unit (s := S256x2048) off S256x2048.size inb) w Finset.univ hx hm) >>= k) := by
  subst hv
  rw [← overlay_whole off inb σ.x13 w] at hk
  unfold Runs Held at *
  iintro ⟨⟨H5, H6, H7, H8, H10, H11, H12, H13⟩, HX⟩
  iapply owns_store $$ H13
  iintro H13
  iapply hk
  iframe

/-- A load from a table kept beside the buffers. -/
theorem Runs.smem {s : Shape} {m : Memref sig .tc .smem s .i32} {r : Rect s} {h1 : r.shape.numel = 1} {hp : EltTy.i32.packing = 1}
    {q : PosShare TreeShare} {tbl : s.Idx → Elt F .i32} {v : BitVec 32} {k : Elt F .i32 → Prog (TpuEff nD τ sig (Elt F) Λ₀ .tc) α}
    (hX : X ⊢ iprop(owns (c : Thread nD τ) m q tbl ∗ (owns (c : Thread nD τ) m q tbl -∗ X))) (hv : ∀ x, View.ld tbl r x = v)
    (hk : Runs c M I X K σ (k v)) : Runs c M I X K σ (smemLoad m r h1 hp >>= k) := by
  show Runs c M I X K σ (smemLoadElt m r (View.loads_smem_one hp h1) (Shape.Idx.first (h1.symm ▸ Nat.one_pos)) k)
  unfold Runs at *
  unfold owns at hX
  iintro ⟨H, HX⟩
  ihave HX := hX $$ HX
  icases HX with ⟨⟨%f, %hf, Ht⟩, HX⟩
  subst hf
  iapply (wp_smemLoadElt (c := (c : Thread nD τ)) (defs := defs₀ (F := F)) Variants.none none Set.univ (m := m) (r := r) (S := m.view.set) (View.set_slice_subset _ _)) $$ Ht
  iintro Ht
  have e : (m.access r).read (Elt F) f (Shape.Idx.first (h1.symm ▸ Nat.one_pos)) = v := hv _
  rw [e]
  iapply hk
  isplitl [H]
  · iexact H
  iapply HX
  iexists f; isplitr
  · ipureintro; rfl
  · iexact Ht

/-- An assumption of the program that holds. -/
theorem Runs.assume {P : Prop} {d : Decidable P} {k : PLift P → Prog (TpuEff nD τ sig (Elt F) Λ₀ .tc) α} (h : P)
    (hk : Runs c M I X K σ (k ⟨h⟩)) : Runs c M I X K σ (Prog.lift (TpuEff.assume P d) >>= k) :=
  hk.trans (wp_assume (c := (c : Thread nD τ)) (defs := defs₀ (F := F)) Variants.none none Set.univ h)

/-- What follows a part is met from what the part leaves. -/
theorem Runs.cut {β : Type} {p : Prog (TpuEff nD τ sig (Elt F) Λ₀ .tc) β} {k : β → Prog (TpuEff nD τ sig (Elt F) Λ₀ .tc) α} (P : St F → Prop)
    (hp : ∀ K' : β → Res F, (∀ a σ', P σ' → iprop(Held c M I σ' ∗ X) ⊢ K' a) → Runs c M I X K' σ p)
    (hk : ∀ a σ', P σ' → Runs c M I X K σ' (k a)) : Runs c M I X K σ (p >>= k) := by
  unfold Runs
  rw [wp_bind]
  exact hp _ fun a σ' h => hk a σ' h

/-- A counted loop that keeps `J` of the state. -/
theorem Runs.loop {w : ℕ} {β : Type} {l : Scf.Loop w} {hok : l.OK} {init : β} {body : Fin l.trips → β → Prog (TpuEff nD τ sig (Elt F) Λ₀ .tc) β}
    {k : β → Prog (TpuEff nD τ sig (Elt F) Λ₀ .tc) α} (J : ℕ → St F → Prop) (h0 : J 0 σ)
    (hb : ∀ (t : Fin l.trips) (acc : β) (σ' : St F), J t.val σ' → ∀ K' : β → sProp 𝕄,
      (∀ a σ'', J (t.val + 1) σ'' → iprop(Held c M I σ'' ∗ X) ⊢ K' a) → Runs c M I X K' σ' (body t acc))
    (hk : ∀ acc σ', J l.trips σ' → Runs c M I X K σ' (k acc)) :
    Runs c M I X K σ (Scf.Loop.for l hok init body >>= k) := by
  unfold Runs at *
  iintro H
  iapply (Scf.wp_for_bind (M := 𝕄) frame (wpE (defs₀ (F := F)) Variants.none (c : Thread nD τ) none) Set.univ l.lb l.ub l.st hok init body
    (fun n _ => iprop(∃ σ', ⌜J n σ'⌝ ∗ (Held c M I σ' ∗ X))) (fun t acc => by
      iintro ⟨%σ', %hJ, H⟩
      iapply (hb t acc σ' hJ _ (fun a σ'' h'' => by
        iintro H; iexists σ''; isplitr
        · ipureintro; exact h''
        · iexact H)) $$ H)) $$ [H]
  · iexists σ; isplitr
    · ipureintro; exact h0
    · iexact H
  iintro %acc ⟨%σ', %hJ, H⟩
  iapply (hk acc σ' hJ) $$ H

end Cert.Kernel4Ideal.Moe
-- ==== Proof.MoeIdeal.NumBase.lean ====
/- The count of 128-row blocks. -/
module

public import proofs.«01_k».proof.Proof.Gen.Kernel4Ideal

@[expose] public section

set_option maxRecDepth 100000
set_option synthInstance.maxHeartbeats 0

namespace Cert.Kernel4Ideal.Moe

open Idealize.ShloMosaic Cert.Kernel4Ideal Cert.Kernel4Ideal.Gen

/-- The number of blocks of 128 rows that `v` rows touch. -/
abbrev hv (v : ℕ) : ℕ := (v + 127) / 128

end Cert.Kernel4Ideal.Moe
-- ==== Proof.MoeIdeal.NumCond.lean ====
/- The body's conditions on an item's row count, by the number of 128-row blocks it touches. -/
module

public import proofs.«01_k».proof.Proof.Gen.Kernel4Ideal
public import proofs.«01_k».proof.Proof.MoeIdeal.NumBase

@[expose] public section

set_option maxRecDepth 100000
set_option synthInstance.maxHeartbeats 0

namespace Cert.Kernel4Ideal.Moe

open Idealize.ShloMosaic Cert.Kernel4Ideal Cert.Kernel4Ideal.Gen

theorem c1_0 : ∀ v : Fin 2049, (k0_cond1 (BitVec.ofNat 32 v.val) = 1#1 ↔ 0 < v.val) := by decide +kernel
theorem c3_0 : ∀ v : Fin 2049, (k0_cond3 (BitVec.ofNat 32 v.val) = 1#1 ↔ 4 ≤ hv v.val) := by decide +kernel
theorem c11_0 : ∀ v : Fin 2049, (k0_cond11 (BitVec.ofNat 32 v.val) = 1#1 ↔ 4 ≤ hv v.val) := by decide +kernel
theorem c7_0 : ∀ v : Fin 2049, (k0_cond7 (BitVec.ofNat 32 v.val) = 1#1 ↔ hv v.val / 2 = 1) := by decide +kernel
theorem c15_0 : ∀ v : Fin 2049, (k0_cond15 (BitVec.ofNat 32 v.val) = 1#1 ↔ hv v.val / 2 = 1) := by decide +kernel
theorem c9_0 : ∀ v : Fin 2049, 0 < v.val → (k0_cond9 (BitVec.ofNat 32 v.val) = 1#1 ↔ hv v.val = 1) := by decide +kernel
theorem c17_0 : ∀ v : Fin 2049, 0 < v.val → (k0_cond17 (BitVec.ofNat 32 v.val) = 1#1 ↔ hv v.val = 1) := by decide +kernel
theorem c8_0 : ∀ v : Fin 2049, hv v.val / 2 = 1 → (k0_cond8 (BitVec.ofNat 32 v.val) = 1#1 ↔ hv v.val = 3) := by decide +kernel
theorem c16_0 : ∀ v : Fin 2049, hv v.val / 2 = 1 → (k0_cond16 (BitVec.ofNat 32 v.val) = 1#1 ↔ hv v.val = 3) := by decide +kernel
theorem c4_0 : ∀ v : Fin 2049, 4 ≤ hv v.val → (k0_cond4 (BitVec.ofNat 32 v.val) = 1#1 ↔ 2 ≤ (hv v.val / 2 - 2) % 4) := by decide +kernel
theorem c12_0 : ∀ v : Fin 2049, 4 ≤ hv v.val → (k0_cond12 (BitVec.ofNat 32 v.val) = 1#1 ↔ 2 ≤ (hv v.val / 2 - 2) % 4) := by decide +kernel
theorem c5_0 : ∀ v : Fin 2049, 4 ≤ hv v.val → (k0_cond5 (BitVec.ofNat 32 v.val) = 1#1 ↔ hv v.val / 2 % 2 = 1) := by decide +kernel
theorem c13_0 : ∀ v : Fin 2049, 4 ≤ hv v.val → (k0_cond13 (BitVec.ofNat 32 v.val) = 1#1 ↔ hv v.val / 2 % 2 = 1) := by decide +kernel
theorem c6_0 : ∀ v : Fin 2049, 4 ≤ hv v.val → (k0_cond6 (BitVec.ofNat 32 v.val) = 1#1 ↔ hv v.val % 2 = 1) := by decide +kernel
theorem c14_0 : ∀ v : Fin 2049, 4 ≤ hv v.val → (k0_cond14 (BitVec.ofNat 32 v.val) = 1#1 ↔ hv v.val % 2 = 1) := by decide +kernel
theorem c19_0 : ∀ v : Fin 2049, 0 < v.val → (k0_cond19 (BitVec.ofNat 32 v.val) = 1#1 ↔ hv v.val % 2 = 1) := by decide +kernel
theorem c20_0 : ∀ v : Fin 2049, 0 < v.val → (k0_cond20 (BitVec.ofNat 32 v.val) = 1#1 ↔ hv v.val % 2 = 1) := by decide +kernel

end Cert.Kernel4Ideal.Moe
-- ==== Proof.MoeIdeal.NumLoop.lean ====
/- The trip counts of the body's loops and the rows their trips touch, by the number of 128-row blocks. -/
module

public import proofs.«01_k».proof.Proof.Gen.Kernel4Ideal
public import proofs.«01_k».proof.Proof.MoeIdeal.NumBase

@[expose] public section

set_option maxRecDepth 100000
set_option synthInstance.maxHeartbeats 0

namespace Cert.Kernel4Ideal.Moe

open Idealize.ShloMosaic Cert.Kernel4Ideal Cert.Kernel4Ideal.Gen

theorem t1_0 : ∀ v : Fin 2049, 4 ≤ hv v.val → (k0_t1_loop (BitVec.ofNat 32 v.val)).trips = (hv v.val / 2 - 2) / 4 := by decide +kernel
theorem t3_0 : ∀ v : Fin 2049, 4 ≤ hv v.val → (k0_t3_loop (BitVec.ofNat 32 v.val)).trips = (hv v.val / 2 - 2) / 4 := by decide +kernel
theorem t2_0 : ∀ v : Fin 2049, 4 ≤ hv v.val → (k0_t2_loop (BitVec.ofNat 32 v.val)).trips = 0 := by decide +kernel
theorem t4_0 : ∀ v : Fin 2049, 4 ≤ hv v.val → (k0_t4_loop (BitVec.ofNat 32 v.val)).trips = 0 := by decide +kernel
theorem t5_0 : ∀ v : Fin 2049, 0 < v.val → (k0_t5_loop (BitVec.ofNat 32 v.val)).trips = hv v.val / 2 := by decide +kernel
theorem t7_0 : ∀ v : Fin 2049, 0 < v.val → (k0_t7_loop (BitVec.ofNat 32 v.val)).trips = hv v.val / 2 := by decide +kernel
theorem t6_0 : ∀ v : Fin 2049, 0 < v.val → (k0_t6_loop (BitVec.ofNat 32 v.val)).trips = 0 := by decide +kernel
theorem t8_0 : ∀ v : Fin 2049, 0 < v.val → (k0_t8_loop (BitVec.ofNat 32 v.val)).trips = 0 := by decide +kernel
theorem o2_0 : ∀ v : Fin 2049, 4 ≤ hv v.val → ∀ (t : Fin (k0_t1_loop (BitVec.ofNat 32 v.val)).trips) (r : Fin 4), k0_off2 (BitVec.ofNat 32 v.val) t (BitVec.ofNat 32 r.val) = ![512 + 1024 * t.val + 256 * r.val, 0] := by decide +kernel
theorem o3_0 : ∀ v : Fin 2049, 4 ≤ hv v.val → ∀ (t : Fin (k0_t1_loop (BitVec.ofNat 32 v.val)).trips) (r : Fin 4), k0_off3 (BitVec.ofNat 32 v.val) t (BitVec.ofNat 32 r.val) = ![512 + 1024 * t.val + 256 * r.val, 0] := by decide +kernel
theorem o18_0 : ∀ v : Fin 2049, 4 ≤ hv v.val → ∀ (t : Fin (k0_t3_loop (BitVec.ofNat 32 v.val)).trips) (r : Fin 4), k0_off18 (BitVec.ofNat 32 v.val) t (BitVec.ofNat 32 r.val) = ![512 + 1024 * t.val + 256 * r.val, 0] := by decide +kernel
theorem o19_0 : ∀ v : Fin 2049, 4 ≤ hv v.val → ∀ (t : Fin (k0_t3_loop (BitVec.ofNat 32 v.val)).trips) (r : Fin 4), k0_off19 (BitVec.ofNat 32 v.val) t (BitVec.ofNat 32 r.val) = ![512 + 1024 * t.val + 256 * r.val, 0] := by decide +kernel

end Cert.Kernel4Ideal.Moe
-- ==== Proof.MoeIdeal.NumOff.lean ====
/- The rows the body's remaining accesses touch, by the number of 128-row blocks. -/
module

public import proofs.«01_k».proof.Proof.Gen.Kernel4Ideal
public import proofs.«01_k».proof.Proof.MoeIdeal.NumBase

@[expose] public section

set_option maxRecDepth 100000
set_option synthInstance.maxHeartbeats 0

namespace Cert.Kernel4Ideal.Moe

open Idealize.ShloMosaic Cert.Kernel4Ideal Cert.Kernel4Ideal.Gen

theorem o6_0 : ∀ v : Fin 2049, 4 ≤ hv v.val → 2 ≤ (hv v.val / 2 - 2) % 4 → k0_off6 (BitVec.ofNat 32 v.val) = ![512 + 1024 * ((hv v.val / 2 - 2) / 4), 0] := by decide +kernel
theorem o7_0 : ∀ v : Fin 2049, 4 ≤ hv v.val → 2 ≤ (hv v.val / 2 - 2) % 4 → k0_off7 (BitVec.ofNat 32 v.val) = ![512 + 1024 * ((hv v.val / 2 - 2) / 4), 0] := by decide +kernel
theorem o22_0 : ∀ v : Fin 2049, 4 ≤ hv v.val → 2 ≤ (hv v.val / 2 - 2) % 4 → k0_off22 (BitVec.ofNat 32 v.val) = ![512 + 1024 * ((hv v.val / 2 - 2) / 4), 0] := by decide +kernel
theorem o23_0 : ∀ v : Fin 2049, 4 ≤ hv v.val → 2 ≤ (hv v.val / 2 - 2) % 4 → k0_off23 (BitVec.ofNat 32 v.val) = ![512 + 1024 * ((hv v.val / 2 - 2) / 4), 0] := by decide +kernel
theorem o8_0 : ∀ v : Fin 2049, 4 ≤ hv v.val → 2 ≤ (hv v.val / 2 - 2) % 4 → k0_off8 (BitVec.ofNat 32 v.val) = ![768 + 1024 * ((hv v.val / 2 - 2) / 4), 0] := by decide +kernel
theorem o9_0 : ∀ v : Fin 2049, 4 ≤ hv v.val → 2 ≤ (hv v.val / 2 - 2) % 4 → k0_off9 (BitVec.ofNat 32 v.val) = ![768 + 1024 * ((hv v.val / 2 - 2) / 4), 0] := by decide +kernel
theorem o24_0 : ∀ v : Fin 2049, 4 ≤ hv v.val → 2 ≤ (hv v.val / 2 - 2) % 4 → k0_off24 (BitVec.ofNat 32 v.val) = ![768 + 1024 * ((hv v.val / 2 - 2) / 4), 0] := by decide +kernel
theorem o25_0 : ∀ v : Fin 2049, 4 ≤ hv v.val → 2 ≤ (hv v.val / 2 - 2) % 4 → k0_off25 (BitVec.ofNat 32 v.val) = ![768 + 1024 * ((hv v.val / 2 - 2) / 4), 0] := by decide +kernel
theorem o10_0 : ∀ v : Fin 2049, 4 ≤ hv v.val → hv v.val / 2 % 2 = 1 → k0_off10 (BitVec.ofNat 32 v.val) = ![256 * (hv v.val / 2 - 1), 0] := by decide +kernel
theorem o11_0 : ∀ v : Fin 2049, 4 ≤ hv v.val → hv v.val / 2 % 2 = 1 → k0_off11 (BitVec.ofNat 32 v.val) = ![256 * (hv v.val / 2 - 1), 0] := by decide +kernel
theorem o26_0 : ∀ v : Fin 2049, 4 ≤ hv v.val → hv v.val / 2 % 2 = 1 → k0_off26 (BitVec.ofNat 32 v.val) = ![256 * (hv v.val / 2 - 1), 0] := by decide +kernel
theorem o27_0 : ∀ v : Fin 2049, 4 ≤ hv v.val → hv v.val / 2 % 2 = 1 → k0_off27 (BitVec.ofNat 32 v.val) = ![256 * (hv v.val / 2 - 1), 0] := by decide +kernel
theorem o12_0 : ∀ v : Fin 2049, 4 ≤ hv v.val → hv v.val % 2 = 1 → k0_off12 (BitVec.ofNat 32 v.val) = ![256 * (hv v.val / 2), 0] := by decide +kernel
theorem o13_0 : ∀ v : Fin 2049, 4 ≤ hv v.val → hv v.val % 2 = 1 → k0_off13 (BitVec.ofNat 32 v.val) = ![256 * (hv v.val / 2), 0] := by decide +kernel
theorem o28_0 : ∀ v : Fin 2049, 4 ≤ hv v.val → hv v.val % 2 = 1 → k0_off28 (BitVec.ofNat 32 v.val) = ![256 * (hv v.val / 2), 0] := by decide +kernel
theorem o29_0 : ∀ v : Fin 2049, 4 ≤ hv v.val → hv v.val % 2 = 1 → k0_off29 (BitVec.ofNat 32 v.val) = ![256 * (hv v.val / 2), 0] := by decide +kernel
theorem o14_0 : ∀ v : Fin 2049, hv v.val = 3 → k0_off14 (BitVec.ofNat 32 v.val) = ![256, 0] := by decide +kernel
theorem o15_0 : ∀ v : Fin 2049, hv v.val = 3 → k0_off15 (BitVec.ofNat 32 v.val) = ![256, 0] := by decide +kernel
theorem o30_0 : ∀ v : Fin 2049, hv v.val = 3 → k0_off30 (BitVec.ofNat 32 v.val) = ![256, 0] := by decide +kernel
theorem o31_0 : ∀ v : Fin 2049, hv v.val = 3 → k0_off31 (BitVec.ofNat 32 v.val) = ![256, 0] := by decide +kernel
theorem o16_0 : ∀ v : Fin 2049, hv v.val = 1 → k0_off16 (BitVec.ofNat 32 v.val) = ![0, 0] := by decide +kernel
theorem o17_0 : ∀ v : Fin 2049, hv v.val = 1 → k0_off17 (BitVec.ofNat 32 v.val) = ![0, 0] := by decide +kernel
theorem o32_0 : ∀ v : Fin 2049, hv v.val = 1 → k0_off32 (BitVec.ofNat 32 v.val) = ![0, 0] := by decide +kernel
theorem o33_0 : ∀ v : Fin 2049, hv v.val = 1 → k0_off33 (BitVec.ofNat 32 v.val) = ![0, 0] := by decide +kernel
theorem o40_0 : ∀ v : Fin 2049, hv v.val % 2 = 1 → k0_off40 (BitVec.ofNat 32 v.val) = ![256 * (hv v.val / 2), 0] := by decide +kernel
theorem o36_0 : ∀ v : Fin 2049, 0 < v.val → ∀ t : Fin (k0_t5_loop (BitVec.ofNat 32 v.val)).trips, k0_off36 (BitVec.ofNat 32 v.val) t = ![256 * t.val, 0] := by decide +kernel

end Cert.Kernel4Ideal.Moe
-- ==== Proof.MoeIdeal.Num.lean ====
/- The facts about an item's row count, for a count given as a word. -/
module

public import proofs.«01_k».proof.Proof.MoeIdeal.NumCond
public import proofs.«01_k».proof.Proof.MoeIdeal.NumLoop
public import proofs.«01_k».proof.Proof.MoeIdeal.NumOff

@[expose] public section

namespace Cert.Kernel4Ideal.Moe

open Idealize.ShloMosaic Cert.Kernel4Ideal Cert.Kernel4Ideal.Gen

/-- What holds of every count up to 2048 holds of every word that is such a count. -/
theorem lift_word {P : BitVec 32 → ℕ → Prop} (h : ∀ w : Fin 2049, P (BitVec.ofNat 32 w.val) w.val) {v : BitVec 32} (hv : v.toNat ≤ 2048) : P v v.toNat := by
  have := h ⟨v.toNat, by omega⟩
  have e : BitVec.ofNat 32 v.toNat = v := by simp
  simp only at this
  rwa [e] at this

variable {v : BitVec 32} (hw : v.toNat ≤ 2048)
include hw

theorem c1 : (k0_cond1 v = 1#1 ↔ 0 < v.toNat) :=
  lift_word (P := fun v n => (k0_cond1 v = 1#1 ↔ 0 < n)) c1_0 hw
theorem c3 : (k0_cond3 v = 1#1 ↔ 4 ≤ hv v.toNat) :=
  lift_word (P := fun v n => (k0_cond3 v = 1#1 ↔ 4 ≤ hv n)) c3_0 hw
theorem c11 : (k0_cond11 v = 1#1 ↔ 4 ≤ hv v.toNat) :=
  lift_word (P := fun v n => (k0_cond11 v = 1#1 ↔ 4 ≤ hv n)) c11_0 hw
theorem c7 : (k0_cond7 v = 1#1 ↔ hv v.toNat / 2 = 1) :=
  lift_word (P := fun v n => (k0_cond7 v = 1#1 ↔ hv n / 2 = 1)) c7_0 hw
theorem c15 : (k0_cond15 v = 1#1 ↔ hv v.toNat / 2 = 1) :=
  lift_word (P := fun v n => (k0_cond15 v = 1#1 ↔ hv n / 2 = 1)) c15_0 hw
theorem c9 : 0 < v.toNat → (k0_cond9 v = 1#1 ↔ hv v.toNat = 1) :=
  lift_word (P := fun v n => 0 < n → (k0_cond9 v = 1#1 ↔ hv n = 1)) c9_0 hw
theorem c17 : 0 < v.toNat → (k0_cond17 v = 1#1 ↔ hv v.toNat = 1) :=
  lift_word (P := fun v n => 0 < n → (k0_cond17 v = 1#1 ↔ hv n = 1)) c17_0 hw
theorem c8 : hv v.toNat / 2 = 1 → (k0_cond8 v = 1#1 ↔ hv v.toNat = 3) :=
  lift_word (P := fun v n => hv n / 2 = 1 → (k0_cond8 v = 1#1 ↔ hv n = 3)) c8_0 hw
theorem c16 : hv v.toNat / 2 = 1 → (k0_cond16 v = 1#1 ↔ hv v.toNat = 3) :=
  lift_word (P := fun v n => hv n / 2 = 1 → (k0_cond16 v = 1#1 ↔ hv n = 3)) c16_0 hw
theorem c4 : 4 ≤ hv v.toNat → (k0_cond4 v = 1#1 ↔ 2 ≤ (hv v.toNat / 2 - 2) % 4) :=
  lift_word (P := fun v n => 4 ≤ hv n → (k0_cond4 v = 1#1 ↔ 2 ≤ (hv n / 2 - 2) % 4)) c4_0 hw
theorem c12 : 4 ≤ hv v.toNat → (k0_cond12 v = 1#1 ↔ 2 ≤ (hv v.toNat / 2 - 2) % 4) :=
  lift_word (P := fun v n => 4 ≤ hv n → (k0_cond12 v = 1#1 ↔ 2 ≤ (hv n / 2 - 2) % 4)) c12_0 hw
theorem c5 : 4 ≤ hv v.toNat → (k0_cond5 v = 1#1 ↔ hv v.toNat / 2 % 2 = 1) :=
  lift_word (P := fun v n => 4 ≤ hv n → (k0_cond5 v = 1#1 ↔ hv n / 2 % 2 = 1)) c5_0 hw
theorem c13 : 4 ≤ hv v.toNat → (k0_cond13 v = 1#1 ↔ hv v.toNat / 2 % 2 = 1) :=
  lift_word (P := fun v n => 4 ≤ hv n → (k0_cond13 v = 1#1 ↔ hv n / 2 % 2 = 1)) c13_0 hw
theorem c6 : 4 ≤ hv v.toNat → (k0_cond6 v = 1#1 ↔ hv v.toNat % 2 = 1) :=
  lift_word (P := fun v n => 4 ≤ hv n → (k0_cond6 v = 1#1 ↔ hv n % 2 = 1)) c6_0 hw
theorem c14 : 4 ≤ hv v.toNat → (k0_cond14 v = 1#1 ↔ hv v.toNat % 2 = 1) :=
  lift_word (P := fun v n => 4 ≤ hv n → (k0_cond14 v = 1#1 ↔ hv n % 2 = 1)) c14_0 hw
theorem c19 : 0 < v.toNat → (k0_cond19 v = 1#1 ↔ hv v.toNat % 2 = 1) :=
  lift_word (P := fun v n => 0 < n → (k0_cond19 v = 1#1 ↔ hv n % 2 = 1)) c19_0 hw
theorem c20 : 0 < v.toNat → (k0_cond20 v = 1#1 ↔ hv v.toNat % 2 = 1) :=
  lift_word (P := fun v n => 0 < n → (k0_cond20 v = 1#1 ↔ hv n % 2 = 1)) c20_0 hw
theorem t1 : 4 ≤ hv v.toNat → (k0_t1_loop v).trips = (hv v.toNat / 2 - 2) / 4 :=
  lift_word (P := fun v n => 4 ≤ hv n → (k0_t1_loop v).trips = (hv n / 2 - 2) / 4) t1_0 hw
theorem t3 : 4 ≤ hv v.toNat → (k0_t3_loop v).trips = (hv v.toNat / 2 - 2) / 4 :=
  lift_word (P := fun v n => 4 ≤ hv n → (k0_t3_loop v).trips = (hv n / 2 - 2) / 4) t3_0 hw
theorem t2 : 4 ≤ hv v.toNat → (k0_t2_loop v).trips = 0 :=
  lift_word (P := fun v n => 4 ≤ hv n → (k0_t2_loop v).trips = 0) t2_0 hw
theorem t4 : 4 ≤ hv v.toNat → (k0_t4_loop v).trips = 0 :=
  lift_word (P := fun v n => 4 ≤ hv n → (k0_t4_loop v).trips = 0) t4_0 hw
theorem t5 : 0 < v.toNat → (k0_t5_loop v).trips = hv v.toNat / 2 :=
  lift_word (P := fun v n => 0 < n → (k0_t5_loop v).trips = hv n / 2) t5_0 hw
theorem t7 : 0 < v.toNat → (k0_t7_loop v).trips = hv v.toNat / 2 :=
  lift_word (P := fun v n => 0 < n → (k0_t7_loop v).trips = hv n / 2) t7_0 hw
theorem t6 : 0 < v.toNat → (k0_t6_loop v).trips = 0 :=
  lift_word (P := fun v n => 0 < n → (k0_t6_loop v).trips = 0) t6_0 hw
theorem t8 : 0 < v.toNat → (k0_t8_loop v).trips = 0 :=
  lift_word (P := fun v n => 0 < n → (k0_t8_loop v).trips = 0) t8_0 hw
theorem o2 : 4 ≤ hv v.toNat → ∀ (t : Fin (k0_t1_loop v).trips) (r : Fin 4), k0_off2 v t (BitVec.ofNat 32 r.val) = ![512 + 1024 * t.val + 256 * r.val, 0] :=
  lift_word (P := fun v n => 4 ≤ hv n → ∀ (t : Fin (k0_t1_loop v).trips) (r : Fin 4), k0_off2 v t (BitVec.ofNat 32 r.val) = ![512 + 1024 * t.val + 256 * r.val, 0]) o2_0 hw
theorem o3 : 4 ≤ hv v.toNat → ∀ (t : Fin (k0_t1_loop v).trips) (r : Fin 4), k0_off3 v t (BitVec.ofNat 32 r.val) = ![512 + 1024 * t.val + 256 * r.val, 0] :=
  lift_word (P := fun v n => 4 ≤ hv n → ∀ (t : Fin (k0_t1_loop v).trips) (r : Fin 4), k0_off3 v t (BitVec.ofNat 32 r.val) = ![512 + 1024 * t.val + 256 * r.val, 0]) o3_0 hw
theorem o18 : 4 ≤ hv v.toNat → ∀ (t : Fin (k0_t3_loop v).trips) (r : Fin 4), k0_off18 v t (BitVec.ofNat 32 r.val) = ![512 + 1024 * t.val + 256 * r.val, 0] :=
  lift_word (P := fun v n => 4 ≤ hv n → ∀ (t : Fin (k0_t3_loop v).trips) (r : Fin 4), k0_off18 v t (BitVec.ofNat 32 r.val) = ![512 + 1024 * t.val + 256 * r.val, 0]) o18_0 hw
theorem o19 : 4 ≤ hv v.toNat → ∀ (t : Fin (k0_t3_loop v).trips) (r : Fin 4), k0_off19 v t (BitVec.ofNat 32 r.val) = ![512 + 1024 * t.val + 256 * r.val, 0] :=
  lift_word (P := fun v n => 4 ≤ hv n → ∀ (t : Fin (k0_t3_loop v).trips) (r : Fin 4), k0_off19 v t (BitVec.ofNat 32 r.val) = ![512 + 1024 * t.val + 256 * r.val, 0]) o19_0 hw
theorem o6 : 4 ≤ hv v.toNat → 2 ≤ (hv v.toNat / 2 - 2) % 4 → k0_off6 v = ![512 + 1024 * ((hv v.toNat / 2 - 2) / 4), 0] :=
  lift_word (P := fun v n => 4 ≤ hv n → 2 ≤ (hv n / 2 - 2) % 4 → k0_off6 v = ![512 + 1024 * ((hv n / 2 - 2) / 4), 0]) o6_0 hw
theorem o7 : 4 ≤ hv v.toNat → 2 ≤ (hv v.toNat / 2 - 2) % 4 → k0_off7 v = ![512 + 1024 * ((hv v.toNat / 2 - 2) / 4), 0] :=
  lift_word (P := fun v n => 4 ≤ hv n → 2 ≤ (hv n / 2 - 2) % 4 → k0_off7 v = ![512 + 1024 * ((hv n / 2 - 2) / 4), 0]) o7_0 hw
theorem o22 : 4 ≤ hv v.toNat → 2 ≤ (hv v.toNat / 2 - 2) % 4 → k0_off22 v = ![512 + 1024 * ((hv v.toNat / 2 - 2) / 4), 0] :=
  lift_word (P := fun v n => 4 ≤ hv n → 2 ≤ (hv n / 2 - 2) % 4 → k0_off22 v = ![512 + 1024 * ((hv n / 2 - 2) / 4), 0]) o22_0 hw
theorem o23 : 4 ≤ hv v.toNat → 2 ≤ (hv v.toNat / 2 - 2) % 4 → k0_off23 v = ![512 + 1024 * ((hv v.toNat / 2 - 2) / 4), 0] :=
  lift_word (P := fun v n => 4 ≤ hv n → 2 ≤ (hv n / 2 - 2) % 4 → k0_off23 v = ![512 + 1024 * ((hv n / 2 - 2) / 4), 0]) o23_0 hw
theorem o8 : 4 ≤ hv v.toNat → 2 ≤ (hv v.toNat / 2 - 2) % 4 → k0_off8 v = ![768 + 1024 * ((hv v.toNat / 2 - 2) / 4), 0] :=
  lift_word (P := fun v n => 4 ≤ hv n → 2 ≤ (hv n / 2 - 2) % 4 → k0_off8 v = ![768 + 1024 * ((hv n / 2 - 2) / 4), 0]) o8_0 hw
theorem o9 : 4 ≤ hv v.toNat → 2 ≤ (hv v.toNat / 2 - 2) % 4 → k0_off9 v = ![768 + 1024 * ((hv v.toNat / 2 - 2) / 4), 0] :=
  lift_word (P := fun v n => 4 ≤ hv n → 2 ≤ (hv n / 2 - 2) % 4 → k0_off9 v = ![768 + 1024 * ((hv n / 2 - 2) / 4), 0]) o9_0 hw
theorem o24 : 4 ≤ hv v.toNat → 2 ≤ (hv v.toNat / 2 - 2) % 4 → k0_off24 v = ![768 + 1024 * ((hv v.toNat / 2 - 2) / 4), 0] :=
  lift_word (P := fun v n => 4 ≤ hv n → 2 ≤ (hv n / 2 - 2) % 4 → k0_off24 v = ![768 + 1024 * ((hv n / 2 - 2) / 4), 0]) o24_0 hw
theorem o25 : 4 ≤ hv v.toNat → 2 ≤ (hv v.toNat / 2 - 2) % 4 → k0_off25 v = ![768 + 1024 * ((hv v.toNat / 2 - 2) / 4), 0] :=
  lift_word (P := fun v n => 4 ≤ hv n → 2 ≤ (hv n / 2 - 2) % 4 → k0_off25 v = ![768 + 1024 * ((hv n / 2 - 2) / 4), 0]) o25_0 hw
theorem o10 : 4 ≤ hv v.toNat → hv v.toNat / 2 % 2 = 1 → k0_off10 v = ![256 * (hv v.toNat / 2 - 1), 0] :=
  lift_word (P := fun v n => 4 ≤ hv n → hv n / 2 % 2 = 1 → k0_off10 v = ![256 * (hv n / 2 - 1), 0]) o10_0 hw
theorem o11 : 4 ≤ hv v.toNat → hv v.toNat / 2 % 2 = 1 → k0_off11 v = ![256 * (hv v.toNat / 2 - 1), 0] :=
  lift_word (P := fun v n => 4 ≤ hv n → hv n / 2 % 2 = 1 → k0_off11 v = ![256 * (hv n / 2 - 1), 0]) o11_0 hw
theorem o26 : 4 ≤ hv v.toNat → hv v.toNat / 2 % 2 = 1 → k0_off26 v = ![256 * (hv v.toNat / 2 - 1), 0] :=
  lift_word (P := fun v n => 4 ≤ hv n → hv n / 2 % 2 = 1 → k0_off26 v = ![256 * (hv n / 2 - 1), 0]) o26_0 hw
theorem o27 : 4 ≤ hv v.toNat → hv v.toNat / 2 % 2 = 1 → k0_off27 v = ![256 * (hv v.toNat / 2 - 1), 0] :=
  lift_word (P := fun v n => 4 ≤ hv n → hv n / 2 % 2 = 1 → k0_off27 v = ![256 * (hv n / 2 - 1), 0]) o27_0 hw
theorem o12 : 4 ≤ hv v.toNat → hv v.toNat % 2 = 1 → k0_off12 v = ![256 * (hv v.toNat / 2), 0] :=
  lift_word (P := fun v n => 4 ≤ hv n → hv n % 2 = 1 → k0_off12 v = ![256 * (hv n / 2), 0]) o12_0 hw
theorem o13 : 4 ≤ hv v.toNat → hv v.toNat % 2 = 1 → k0_off13 v = ![256 * (hv v.toNat / 2), 0] :=
  lift_word (P := fun v n => 4 ≤ hv n → hv n % 2 = 1 → k0_off13 v = ![256 * (hv n / 2), 0]) o13_0 hw
theorem o28 : 4 ≤ hv v.toNat → hv v.toNat % 2 = 1 → k0_off28 v = ![256 * (hv v.toNat / 2), 0] :=
  lift_word (P := fun v n => 4 ≤ hv n → hv n % 2 = 1 → k0_off28 v = ![256 * (hv n / 2), 0]) o28_0 hw
theorem o29 : 4 ≤ hv v.toNat → hv v.toNat % 2 = 1 → k0_off29 v = ![256 * (hv v.toNat / 2), 0] :=
  lift_word (P := fun v n => 4 ≤ hv n → hv n % 2 = 1 → k0_off29 v = ![256 * (hv n / 2), 0]) o29_0 hw
theorem o14 : hv v.toNat = 3 → k0_off14 v = ![256, 0] :=
  lift_word (P := fun v n => hv n = 3 → k0_off14 v = ![256, 0]) o14_0 hw
theorem o15 : hv v.toNat = 3 → k0_off15 v = ![256, 0] :=
  lift_word (P := fun v n => hv n = 3 → k0_off15 v = ![256, 0]) o15_0 hw
theorem o30 : hv v.toNat = 3 → k0_off30 v = ![256, 0] :=
  lift_word (P := fun v n => hv n = 3 → k0_off30 v = ![256, 0]) o30_0 hw
theorem o31 : hv v.toNat = 3 → k0_off31 v = ![256, 0] :=
  lift_word (P := fun v n => hv n = 3 → k0_off31 v = ![256, 0]) o31_0 hw
theorem o16 : hv v.toNat = 1 → k0_off16 v = ![0, 0] :=
  lift_word (P := fun v n => hv n = 1 → k0_off16 v = ![0, 0]) o16_0 hw
theorem o17 : hv v.toNat = 1 → k0_off17 v = ![0, 0] :=
  lift_word (P := fun v n => hv n = 1 → k0_off17 v = ![0, 0]) o17_0 hw
theorem o32 : hv v.toNat = 1 → k0_off32 v = ![0, 0] :=
  lift_word (P := fun v n => hv n = 1 → k0_off32 v = ![0, 0]) o32_0 hw
theorem o33 : hv v.toNat = 1 → k0_off33 v = ![0, 0] :=
  lift_word (P := fun v n => hv n = 1 → k0_off33 v = ![0, 0]) o33_0 hw
theorem o40 : hv v.toNat % 2 = 1 → k0_off40 v = ![256 * (hv v.toNat / 2), 0] :=
  lift_word (P := fun v n => hv n % 2 = 1 → k0_off40 v = ![256 * (hv n / 2), 0]) o40_0 hw
theorem o36 : 0 < v.toNat → ∀ t : Fin (k0_t5_loop v).trips, k0_off36 v t = ![256 * t.val, 0] :=
  lift_word (P := fun v n => 0 < n → ∀ t : Fin (k0_t5_loop v).trips, k0_off36 v t = ![256 * t.val, 0]) o36_0 hw

end Cert.Kernel4Ideal.Moe
-- ==== Proof.MoeIdeal.Accum.lean ====
/- The accumulation the body makes: whatever the row count, its branches go through the item's blocks of 128 rows in
   order, one or two at a time. -/
module

public import proofs.«01_k».proof.Proof.MoeIdeal.Logic
public import proofs.«01_k».proof.Proof.MoeIdeal.Num

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A block of 256 rows. -/
abbrev rTwo (off : Fin 2 → ℕ) (inb : ∀ a, off a + S256x2048.size a ≤ S2048x2048.size a) : Rect S2048x2048 :=
  Rect.unit (s := S2048x2048) off S256x2048.size inb
/-- A block of 128 rows. -/
abbrev rOne (off : Fin 2 → ℕ) (inb : ∀ a, off a + S128x2048.size a ≤ S2048x2048.size a) : Rect S2048x2048 :=
  Rect.unit (s := S2048x2048) off S128x2048.size inb
/-- A block of 256 rows of words. -/
abbrev rTwoX (off : Fin 2 → ℕ) (inb : ∀ a, off a + S256x1024.size a ≤ S2048x1024.size a) : Rect S2048x1024 :=
  Rect.unit (s := S2048x1024) off S256x1024.size inb
/-- A block of 128 rows of words. -/
abbrev rOneX (off : Fin 2 → ℕ) (inb : ∀ a, off a + S128x1024.size a ≤ S2048x1024.size a) : Rect S2048x1024 :=
  Rect.unit (s := S2048x1024) off S128x1024.size inb

/-- `J` is kept by the accumulation: where `k` blocks of 128 rows are done, the next one or two become done. -/
structure Steps (I : Ins F) (P2 : Vec F S256x1024 .i32 → Vec F S2048x256 .bf16 → Vec F S2048x256 .bf16 → Vec F S256x2048 .bf16 → Vec F S256x2048 .f32 → FVec F S256x2048 .f32)
    (P1 : Vec F S128x1024 .i32 → Vec F S2048x256 .bf16 → Vec F S2048x256 .bf16 → Vec F S256x2048 .bf16 → Vec F S128x2048 .f32 → FVec F S128x2048 .f32)
    (J : ℕ → Vec F S2048x2048 .f32 → Prop) : Prop where
  two : ∀ (k : ℕ) (x : Vec F S2048x2048 .f32) (offx : Fin 2 → ℕ) (inbx : ∀ a, offx a + S256x1024.size a ≤ S2048x1024.size a) (off : Fin 2 → ℕ) (inb : ∀ a, off a + S256x2048.size a ≤ S2048x2048.size a), J k x → offx = ![128 * k, 0] → off = ![128 * k, 0] →
    J (k + 2) ((rTwo off inb).overlay x (P2 (View.ld I.x5 (rTwoX offx inbx)) (k0_pay25 I.x6) (k0_pay26 I.x7) (k0_pay27 I.x8) (View.ld x (rTwo off inb))))
  one : ∀ (k : ℕ) (x : Vec F S2048x2048 .f32) (offx : Fin 2 → ℕ) (inbx : ∀ a, offx a + S128x1024.size a ≤ S2048x1024.size a) (off : Fin 2 → ℕ) (inb : ∀ a, off a + S128x2048.size a ≤ S2048x2048.size a), J k x → offx = ![128 * k, 0] → off = ![128 * k, 0] →
    J (k + 1) ((rOne off inb).overlay x (P1 (View.ld I.x5 (rOneX offx inbx)) (k0_pay25 I.x6) (k0_pay26 I.x7) (k0_pay27 I.x8) (View.ld x (rOne off inb))))

/-- The copies of the weights are the kernel's own. -/
def Wt (I : Ins F) (σ : St F) : Prop := σ.x11 = k0_pay25 I.x6 ∧ σ.x12 = k0_pay26 I.x7 ∧ σ.x13 = k0_pay27 I.x8

theorem at_block {off : Fin 2 → ℕ} {a k : ℕ} (h : off = ![a, 0]) (e : a = 128 * k) : off = ![128 * k, 0] := e ▸ h

variable {c : Dev nD} {M : Mems} {I : Ins F} {X : Res F} {K : PUnit → Res F} {σ : St F}
variable (i : grid0.Coords) (arg2 : Memref sig .tc .smem S14 .i32) (harg2 : arg2.IsWhole) (arg3 : Memref sig .tc .smem S14 .i32) (harg3 : arg3.IsWhole) (arg4 : Memref sig .tc .smem S14 .i32) (harg4 : arg4.IsWhole) (harg5 : M.a5.IsWhole) (harg6 : M.a6.IsWhole) (harg7 : M.a7.IsWhole) (harg8 : M.a8.IsWhole) (arg9 : Memref sig .tc .hbm S28672x2048 .f32) (harg9 : arg9.IsWhole) (harg10 : M.a10.IsWhole) (harg11 : M.a11.IsWhole) (harg12 : M.a12.IsWhole) (harg13 : M.a13.IsWhole) (arg14 : DmaSems sig S_)
variable {J : ℕ → Vec F S2048x2048 .f32 → Prop}

/-- The first steps' loop over four blocks of 256 rows at a time. -/
theorem part10_runs (hs : Steps I (fun a b c d _ => k0_pay2 a b c d) (fun a b c d _ => k0_pay3 a b c d) J) (v : BitVec 32) (hw : v.toNat ≤ 2048) (hw1 : k0_chk1 i v)
    (h1 : k0_cond1 v = 1#1) (h2 : k0_cond2 i = 1#1) (h3 : k0_cond3 v = 1#1) (a b c4 d e : BitVec 32) (y : Vec F S2048x2048 .f32) (hJ : J 4 y)
    {K : (Σ' (v153 : BitVec 32) (c4_i32_80 : BitVec 32), BitVec 32) → Res F}
    (hK : ∀ a σ', J (4 + 8 * (((hv v.toNat / 2) - 2) / 4)) σ'.x10 ∧ Wt I σ' → iprop(Held c M I σ' ∗ X) ⊢ K a) :
    Runs c M I X K ⟨y, k0_pay25 I.x6, k0_pay26 I.x7, k0_pay27 I.x8⟩ (k0_part10 i arg2 harg2 arg3 harg3 arg4 harg4 M.a5 harg5 M.a6 harg6 M.a7 harg7 M.a8 harg8 arg9 harg9 M.a10 harg10 M.a11 harg11 M.a12 harg12 M.a13 harg13 arg14 v hw1 h1 h2 h3 a b c4 d e) := by
  have h4 : 4 ≤ hv v.toNat := (c3 hw).1 h3
  rw [k0_part10_eq_skeleton]; unfold k0_part10_skel
  refine Runs.loop (fun t σ' => J (4 + 8 * t) σ'.x10 ∧ Wt I σ') ⟨hJ, rfl, rfl, rfl⟩ ?_ ?_
  · clear hJ
    intro t acc σ' hJW K' hK
    obtain ⟨hJ, hW⟩ := hJW
    obtain ⟨y, w1, w2, w3⟩ := σ'
    obtain ⟨e1, e2, e3⟩ := hW
    dsimp only at e1 e2 e3 hJ
    subst e1 e2 e3
    unfold k0_t1_body
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    rw [k0_part1_eq_skeleton]; unfold k0_part1_skel
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (4 + 8 * t.val + 2)) (hs.two (4 + 8 * t.val) _ _ _ _ _ hJ (at_block (o2 hw h4 t 0) (by show 512 + 1024 * t.val + 256 * 0 = _; omega)) (at_block (o3 hw h4 t 0) (by show 512 + 1024 * t.val + 256 * 0 = _; omega))) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    rw [k0_part2_eq_skeleton]; unfold k0_part2_skel
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (4 + 8 * t.val + 2 + 2)) (hs.two (4 + 8 * t.val + 2) _ _ _ _ _ hJ (at_block (o2 hw h4 t 1) (by show 512 + 1024 * t.val + 256 * 1 = _; omega)) (at_block (o3 hw h4 t 1) (by show 512 + 1024 * t.val + 256 * 1 = _; omega))) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    rw [k0_part3_eq_skeleton]; unfold k0_part3_skel
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (4 + 8 * t.val + 2 + 2 + 2)) (hs.two (4 + 8 * t.val + 2 + 2) _ _ _ _ _ hJ (at_block (o2 hw h4 t 2) (by show 512 + 1024 * t.val + 256 * 2 = _; omega)) (at_block (o3 hw h4 t 2) (by show 512 + 1024 * t.val + 256 * 2 = _; omega))) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (4 + 8 * t.val + 2 + 2 + 2 + 2)) (hs.two (4 + 8 * t.val + 2 + 2 + 2) _ _ _ _ _ hJ (at_block (o2 hw h4 t 3) (by show 512 + 1024 * t.val + 256 * 3 = _; omega)) (at_block (o3 hw h4 t 3) (by show 512 + 1024 * t.val + 256 * 3 = _; omega))) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    exact Runs.pure (hK _ _ ⟨hJ, rfl, rfl, rfl⟩)
  · intro acc σ' hJW
    rw [t1 hw h4] at hJW
    refine Runs.loop (fun _ σ' => J (4 + 8 * (((hv v.toNat / 2) - 2) / 4)) σ'.x10 ∧ Wt I σ') hJW ?_ ?_
    · intro t; exact absurd (lt_of_lt_of_eq t.isLt (t2 hw h4)) (Nat.not_lt_zero _)
    · clear hJ hJW
      intro acc σ' hJW
      obtain ⟨hJ, hW⟩ := hJW
      obtain ⟨y, w1, w2, w3⟩ := σ'
      obtain ⟨e1, e2, e3⟩ := hW
      dsimp only at e1 e2 e3 hJ
      subst e1 e2 e3
      exact Runs.pure (hK _ _ ⟨hJ, rfl, rfl, rfl⟩)

/-- The later steps' loop over four blocks of 256 rows at a time. -/
theorem part22_runs (hs : Steps I k0_pay8 k0_pay9 J) (v : BitVec 32) (hw : v.toNat ≤ 2048) (hw1 : k0_chk1 i v)
    (h1 : k0_cond1 v = 1#1) (h10 : k0_cond10 i = 1#1) (h11 : k0_cond11 v = 1#1) (v23 : BitVec 32) (y : Vec F S2048x2048 .f32) (hJ : J 4 y)
    {K : (Σ' (v114 : BitVec 32) (v139 : BitVec 32) (v153 : BitVec 1), BitVec 32) → Res F}
    (hK : ∀ a σ', J (4 + 8 * (((hv v.toNat / 2) - 2) / 4)) σ'.x10 ∧ Wt I σ' → iprop(Held c M I σ' ∗ X) ⊢ K a) :
    Runs c M I X K ⟨y, k0_pay25 I.x6, k0_pay26 I.x7, k0_pay27 I.x8⟩ (k0_part22 i arg2 harg2 arg3 harg3 arg4 harg4 M.a5 harg5 M.a6 harg6 M.a7 harg7 M.a8 harg8 arg9 harg9 M.a10 harg10 M.a11 harg11 M.a12 harg12 M.a13 harg13 arg14 v hw1 v23 h1 h10 h11) := by
  have h4 : 4 ≤ hv v.toNat := (c11 hw).1 h11
  rw [k0_part22_eq_skeleton]; unfold k0_part22_skel
  refine Runs.loop (fun t σ' => J (4 + 8 * t) σ'.x10 ∧ Wt I σ') ⟨hJ, rfl, rfl, rfl⟩ ?_ ?_
  · clear hJ
    intro t acc σ' hJW K' hK
    obtain ⟨hJ, hW⟩ := hJW
    obtain ⟨y, w1, w2, w3⟩ := σ'
    obtain ⟨e1, e2, e3⟩ := hW
    dsimp only at e1 e2 e3 hJ
    subst e1 e2 e3
    unfold k0_t3_body
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    rw [k0_part13_eq_skeleton]; unfold k0_part13_skel
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (4 + 8 * t.val + 2)) (hs.two (4 + 8 * t.val) _ _ _ _ _ hJ (at_block (o18 hw h4 t 0) (by show 512 + 1024 * t.val + 256 * 0 = _; omega)) (at_block (o19 hw h4 t 0) (by show 512 + 1024 * t.val + 256 * 0 = _; omega))) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    rw [k0_part14_eq_skeleton]; unfold k0_part14_skel
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (4 + 8 * t.val + 2 + 2)) (hs.two (4 + 8 * t.val + 2) _ _ _ _ _ hJ (at_block (o18 hw h4 t 1) (by show 512 + 1024 * t.val + 256 * 1 = _; omega)) (at_block (o19 hw h4 t 1) (by show 512 + 1024 * t.val + 256 * 1 = _; omega))) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    rw [k0_part15_eq_skeleton]; unfold k0_part15_skel
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (4 + 8 * t.val + 2 + 2 + 2)) (hs.two (4 + 8 * t.val + 2 + 2) _ _ _ _ _ hJ (at_block (o18 hw h4 t 2) (by show 512 + 1024 * t.val + 256 * 2 = _; omega)) (at_block (o19 hw h4 t 2) (by show 512 + 1024 * t.val + 256 * 2 = _; omega))) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (4 + 8 * t.val + 2 + 2 + 2 + 2)) (hs.two (4 + 8 * t.val + 2 + 2 + 2) _ _ _ _ _ hJ (at_block (o18 hw h4 t 3) (by show 512 + 1024 * t.val + 256 * 3 = _; omega)) (at_block (o19 hw h4 t 3) (by show 512 + 1024 * t.val + 256 * 3 = _; omega))) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    exact Runs.pure (hK _ _ ⟨hJ, rfl, rfl, rfl⟩)
  · intro acc σ' hJW
    rw [t3 hw h4] at hJW
    refine Runs.loop (fun _ σ' => J (4 + 8 * (((hv v.toNat / 2) - 2) / 4)) σ'.x10 ∧ Wt I σ') hJW ?_ ?_
    · intro t; exact absurd (lt_of_lt_of_eq t.isLt (t4 hw h4)) (Nat.not_lt_zero _)
    · clear hJ hJW
      intro acc σ' hJW
      obtain ⟨hJ, hW⟩ := hJW
      obtain ⟨y, w1, w2, w3⟩ := σ'
      obtain ⟨e1, e2, e3⟩ := hW
      dsimp only at e1 e2 e3 hJ
      subst e1 e2 e3
      exact Runs.pure (hK _ _ ⟨hJ, rfl, rfl, rfl⟩)

/-- The last step's copies: each block of rows of the accumulator is sent to the item's place in the result, and all are waited for. -/
def flight (i : grid0.Coords) (arg2 : Memref sig .tc .smem S14 .i32) (harg2 : arg2.IsWhole) (arg3 : Memref sig .tc .smem S14 .i32) (harg3 : arg3.IsWhole) (arg4 : Memref sig .tc .smem S14 .i32) (harg4 : arg4.IsWhole) (arg5 : Memref sig .tc .vmem S2048x1024 .i32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .hbm S28672x2048 .f32) (harg9 : arg9.IsWhole) (arg10 : Memref sig .tc .vmem S2048x2048 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S256x2048 .bf16) (harg13 : arg13.IsWhole) (arg14 : DmaSems sig S_) (v1 : Elt F .i32) (k0_hw1 : k0_chk1 i v1) (k0_h1 : k0_cond1 v1 = 1#1) (k0_h18 : k0_cond18 i = 1#1) :
    Prog (TpuEff nD τ sig (Elt F) Λ₀ .tc) PUnit := do
  let v40 : Elt F .i32 ← smemLoad arg3 (Rect.unit (s := S14) (k0_off34 i) S1.size (k0_off34_inb i k0_h18)) numel1_S1 rfl
  have k0_hw2 : k0_chk2 i v1 v40 := (← Prog.lift (TpuEff.assume (k0_chk2 i v1 v40) (k0_chk2.dec i v1 v40))).down
  let v49 : BitVec 32 ← Scf.Loop.for (k0_t5_loop v1) (k0_t5_ok i v1 k0_hw1 k0_h1 k0_h18) 0#32 (k0_t5_body i arg2 harg2 arg3 harg3 arg4 harg4 arg5 harg5 arg6 harg6 arg7 harg7 arg8 harg8 arg9 harg9 arg10 harg10 arg11 harg11 arg12 harg12 arg13 harg13 arg14 v1 k0_hw1 k0_h1 k0_h18 v40 k0_hw2)
  let v50 : BitVec 32 ← Scf.Loop.for (k0_t6_loop v1) (k0_t6_ok i v1 k0_hw1 k0_h1 k0_h18) v49 (k0_t6_body i arg2 harg2 arg3 harg3 arg4 harg4 arg5 harg5 arg6 harg6 arg7 harg7 arg8 harg8 arg9 harg9 arg10 harg10 arg11 harg11 arg12 harg12 arg13 harg13 arg14 v1 k0_hw1 k0_h1 k0_h18 v40 k0_hw2)
  if k0_h19 : k0_cond19 v1 = 1#1 then do
    let v63 : Memref sig .tc .hbm S128x2048 .f32 := arg9.slice (Rect.unit (s := S28672x2048) (k0_off39 v1 v40) S128x2048.size (k0_off39_inb i v1 v40 k0_hw2 k0_h1 k0_h18 k0_h19)) (fun _ => rfl)
    let v64 : Memref sig .tc .vmem S128x2048 .f32 := arg10.slice (Rect.unit (s := S2048x2048) (k0_off40 v1) S128x2048.size (k0_off40_inb i v1 k0_hw1 k0_h1 k0_h18 k0_h19)) (fun _ => rfl)
    Prog.lift (.enqueueDma v64 (.here v63) (.dma arg14.sem) (View.wordExact_bits rfl) (View.wordExact_bits rfl) ⟨Or.inl rfl, trivial⟩)
    pure ⟨⟩
  else do
    pure ⟨⟩
  let v58 : BitVec 32 ← Scf.Loop.for (k0_t7_loop v1) (k0_t7_ok i v1 k0_hw1 k0_h1 k0_h18) 0#32 (k0_t7_body i arg2 harg2 arg3 harg3 arg4 harg4 arg5 harg5 arg6 harg6 arg7 harg7 arg8 harg8 arg9 harg9 arg10 harg10 arg11 harg11 arg12 harg12 arg13 harg13 arg14 v1 k0_hw1 k0_h1 k0_h18 v40 k0_hw2)
  let v59 : BitVec 32 ← Scf.Loop.for (k0_t8_loop v1) (k0_t8_ok i v1 k0_hw1 k0_h1 k0_h18) v58 (k0_t8_body i arg2 harg2 arg3 harg3 arg4 harg4 arg5 harg5 arg6 harg6 arg7 harg7 arg8 harg8 arg9 harg9 arg10 harg10 arg11 harg11 arg12 harg12 arg13 harg13 arg14 v1 k0_hw1 k0_h1 k0_h18 v40 k0_hw2)
  if k0_h20 : k0_cond20 v1 = 1#1 then do
    let v63 : Memref sig .tc .hbm S128x2048 .f32 := arg9.slice (Rect.unit (s := S28672x2048) (k0_off45 v1 v40) S128x2048.size (k0_off45_inb i v1 v40 k0_hw2 k0_h1 k0_h18 k0_h20)) (fun _ => rfl)
    let v64 : Memref sig .tc .vmem S128x2048 .f32 := arg10.slice (Rect.unit (s := S2048x2048) (k0_off46 v1) S128x2048.size (k0_off46_inb i v1 k0_hw1 k0_h1 k0_h18 k0_h20)) (fun _ => rfl)
    Prog.lift (.waitDma2 arg14.sem v64 v63 (View.wordExact_bits rfl) (View.wordExact_bits rfl))
    pure ⟨⟩
  else do
    pure ⟨⟩
  pure ⟨⟩

set_option maxHeartbeats 4000000 in
/-- Every branch leaves all the blocks of 128 rows done that the item's rows touch. -/
theorem body_runs {q : PosShare TreeShare} {tbl : S14.Idx → Elt F .i32}
    (hX : X ⊢ iprop(owns (c : Thread nD τ) arg4 q tbl ∗ (owns (c : Thread nD τ) arg4 q tbl -∗ X)))
    (v : BitVec 32) (hword : ∀ x, View.ld tbl (Rect.unit (s := S14) (k0_off1 i) S1.size (k0_off1_inb i)) x = v) (hw : v.toNat ≤ 2048)
    (hchk : k0_chk1 i v)
    (hf : k0_cond2 i = 1#1 → Steps I (fun a b c d _ => k0_pay2 a b c d) (fun a b c d _ => k0_pay3 a b c d) J)
    (hl : k0_cond10 i = 1#1 → Steps I k0_pay8 k0_pay9 J)
    (h210 : k0_cond2 i = 1#1 ↔ ¬ k0_cond10 i = 1#1)
    (h0 : J 0 σ.x10)
    (hskip : v.toNat = 0 → iprop(Held c M I σ ∗ X) ⊢ K ⟨⟩)
    (hend : 0 < v.toNat → ¬ k0_cond18 i = 1#1 → ∀ σ' : St F, J (hv v.toNat) σ'.x10 → iprop(Held c M I σ' ∗ X) ⊢ K ⟨⟩)
    (hfly : 0 < v.toNat → ∀ (h1 : k0_cond1 v = 1#1) (h18 : k0_cond18 i = 1#1) (σ' : St F), J (hv v.toNat) σ'.x10 → Runs c M I X K σ' (flight i arg2 harg2 arg3 harg3 arg4 harg4 M.a5 harg5 M.a6 harg6 M.a7 harg7 M.a8 harg8 arg9 harg9 M.a10 harg10 M.a11 harg11 M.a12 harg12 M.a13 harg13 arg14 v hchk h1 h18)) :
    Runs c M I X K σ (cc0_moe_experts i arg2 harg2 arg3 harg3 arg4 harg4 M.a5 harg5 M.a6 harg6 M.a7 harg7 M.a8 harg8 arg9 harg9 M.a10 harg10 M.a11 harg11 M.a12 harg12 M.a13 harg13 arg14) := by
  rw [cc0_moe_experts_eq_skeleton]; unfold cc0_moe_experts_skel
  refine Runs.smem hX hword ?_
  refine Runs.assume hchk ?_
  extract_lets -underBinder +onlyGivenNames hw1 v2 v3 v4 v5 v6 v7 v8 v9 v10 v11 v12 v13 v14 v15 v16 v17 v18 v19 v20 v21 v22 v23 jp0
  refine Runs.ite (fun h1 => ?_) (fun h1 => Runs.pure (hskip (by have := mt (c1 hw).2 h1; omega)))
  have hpos : 0 < v.toNat := (c1 hw).1 h1
  extract_lets -underBinder +onlyGivenNames jp1
  have hjp1 : ∀ σ', (k0_cond2 i = 1#1 → J (hv v.toNat) σ'.x10) → (k0_cond10 i = 1#1 → J 0 σ'.x10) → Runs c M I X K σ' (jp1 PUnit.unit) := by
    intro σ' hJf hJl
    unfold jp1
    beta_reduce
    extract_lets -underBinder +onlyGivenNames jp2
    have hjp2 : ∀ σ', J (hv v.toNat) σ'.x10 → Runs c M I X K σ' (jp2 PUnit.unit) := by
      intro σ' hJ
      unfold jp2
      beta_reduce
      by_cases h18 : k0_cond18 i = 1#1
      · have := hfly hpos h1 h18 σ' hJ
        unfold flight at this
        rw [dif_pos h18]
        exact this
      · rw [dif_neg h18]
        exact Runs.pure (hend hpos h18 σ' hJ)
    clear_value jp2
    refine Runs.ite (fun h10 => ?_) (fun h10 => hjp2 _ (hJf (h210.2 h10)))
    have hs := hl h10
    have h0 := hJl h10
    have hdone : ∀ σ', J (hv v.toNat) σ'.x10 → Runs c M I X K σ' (jp2 PUnit.unit) := hjp2
    extract_lets -underBinder +onlyGivenNames lb
    have hlb : ∀ σ', (4 ≤ hv v.toNat → J (hv v.toNat) σ'.x10) → (hv v.toNat < 4 → J 0 σ'.x10) → Runs c M I X K σ' (lb PUnit.unit) := by
      intro σ' hbig hsmall
      unfold lb
      beta_reduce
      extract_lets -underBinder +onlyGivenNames lt
      have hlt : ∀ σ', (2 ≤ hv v.toNat → J (hv v.toNat) σ'.x10) → (hv v.toNat < 2 → J 0 σ'.x10) → Runs c M I X K σ' (lt PUnit.unit) := by
        intro σ' hbig hsmall
        unfold lt
        beta_reduce
        extract_lets -underBinder +onlyGivenNames lo
        have hlo : ∀ σ', J (hv v.toNat) σ'.x10 → Runs c M I X K σ' (lo PUnit.unit) := by
          intro σ' hJ
          unfold lo
          exact hdone σ' hJ
        clear_value lo
        refine Runs.ite (fun h => ?_) (fun h => hlo _ (hbig ?_))
        · have e := (c17 hw hpos).1 h
          have hJ := hsmall (by omega)
          repeat first
            | with_reducible refine Runs.assoc ?_
            | with_reducible refine Runs.ret ?_
            | with_reducible refine Runs.load5 ?_
            | with_reducible refine Runs.load6 ?_
            | with_reducible refine Runs.load7 ?_
            | with_reducible refine Runs.load8 ?_
            | with_reducible refine Runs.load10 ?_
            | with_reducible refine Runs.load11 ?_
            | with_reducible refine Runs.load12 ?_
            | with_reducible refine Runs.load13 ?_
            | with_reducible refine Runs.store11 _ rfl ?_
            | with_reducible refine Runs.store12 _ rfl ?_
            | with_reducible refine Runs.store13 _ rfl ?_
          rw [k0_part24_eq_skeleton]; unfold k0_part24_skel
          repeat first
            | with_reducible refine Runs.assoc ?_
            | with_reducible refine Runs.ret ?_
            | with_reducible refine Runs.load5 ?_
            | with_reducible refine Runs.load6 ?_
            | with_reducible refine Runs.load7 ?_
            | with_reducible refine Runs.load8 ?_
            | with_reducible refine Runs.load10 ?_
            | with_reducible refine Runs.load11 ?_
            | with_reducible refine Runs.load12 ?_
            | with_reducible refine Runs.load13 ?_
            | with_reducible refine Runs.store11 _ rfl ?_
            | with_reducible refine Runs.store12 _ rfl ?_
            | with_reducible refine Runs.store13 _ rfl ?_
          refine Runs.store10 (J (0 + 1)) (hs.one (0) _ _ _ _ _ hJ (at_block (o32 hw e) rfl) (at_block (o33 hw e) rfl)) ?_
          clear hJ; intro y hJ
          repeat first
            | with_reducible refine Runs.assoc ?_
            | with_reducible refine Runs.ret ?_
            | with_reducible refine Runs.load5 ?_
            | with_reducible refine Runs.load6 ?_
            | with_reducible refine Runs.load7 ?_
            | with_reducible refine Runs.load8 ?_
            | with_reducible refine Runs.load10 ?_
            | with_reducible refine Runs.load11 ?_
            | with_reducible refine Runs.load12 ?_
            | with_reducible refine Runs.load13 ?_
            | with_reducible refine Runs.store11 _ rfl ?_
            | with_reducible refine Runs.store12 _ rfl ?_
            | with_reducible refine Runs.store13 _ rfl ?_
          rw [show 0 + 1 = hv v.toNat by omega] at hJ
          exact hlo _ hJ
        · have e : ¬ hv v.toNat = 1 := fun e => h ((c17 hw hpos).2 e)
          have : 0 < hv v.toNat := by unfold hv; omega
          omega
      clear_value lt
      refine Runs.ite (fun h => ?_) (fun h => hlt _ (fun h' => hbig ?_) (fun h' => hsmall (by omega)))
      · have e := (c15 hw).1 h
        have hJ := hsmall (by omega)
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        rw [k0_part23_eq_skeleton]; unfold k0_part23_skel
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        refine Runs.store10 (J (0 + 2)) (hs.two (0) _ _ _ _ _ hJ (rfl) (rfl)) ?_
        clear hJ; intro y hJ
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        extract_lets -underBinder +onlyGivenNames lh
        have hlh : ∀ σ', J (hv v.toNat) σ'.x10 → Runs c M I X K σ' (lh PUnit.unit) := by
          intro σ' hJ
          unfold lh
          exact hlt σ' (fun _ => hJ) (fun h' => absurd h' (by omega))
        clear_value lh
        refine Runs.ite (fun h' => ?_) (fun h' => ?_)
        · have e' := (c16 hw e).1 h'
          repeat first
            | with_reducible refine Runs.assoc ?_
            | with_reducible refine Runs.ret ?_
            | with_reducible refine Runs.load5 ?_
            | with_reducible refine Runs.load6 ?_
            | with_reducible refine Runs.load7 ?_
            | with_reducible refine Runs.load8 ?_
            | with_reducible refine Runs.load10 ?_
            | with_reducible refine Runs.load11 ?_
            | with_reducible refine Runs.load12 ?_
            | with_reducible refine Runs.load13 ?_
            | with_reducible refine Runs.store11 _ rfl ?_
            | with_reducible refine Runs.store12 _ rfl ?_
            | with_reducible refine Runs.store13 _ rfl ?_
          refine Runs.store10 (J (0 + 2 + 1)) (hs.one (0 + 2) _ _ _ _ _ hJ (at_block (o30 hw e') rfl) (at_block (o31 hw e') rfl)) ?_
          clear hJ; intro y hJ
          repeat first
            | with_reducible refine Runs.assoc ?_
            | with_reducible refine Runs.ret ?_
            | with_reducible refine Runs.load5 ?_
            | with_reducible refine Runs.load6 ?_
            | with_reducible refine Runs.load7 ?_
            | with_reducible refine Runs.load8 ?_
            | with_reducible refine Runs.load10 ?_
            | with_reducible refine Runs.load11 ?_
            | with_reducible refine Runs.load12 ?_
            | with_reducible refine Runs.load13 ?_
            | with_reducible refine Runs.store11 _ rfl ?_
            | with_reducible refine Runs.store12 _ rfl ?_
            | with_reducible refine Runs.store13 _ rfl ?_
          rw [show 0 + 2 + 1 = hv v.toNat by omega] at hJ
          exact hlh _ hJ
        · have e' : ¬ hv v.toNat = 3 := fun e' => h' ((c16 hw e).2 e')
          rw [show 0 + 2 = hv v.toNat by omega] at hJ
          exact hlh _ hJ
      · have e : ¬ hv v.toNat / 2 = 1 := fun e => h ((c15 hw).2 e)
        omega
    clear_value lb
    refine Runs.ite (fun h => ?_) (fun h => hlb _ (fun h' => absurd ((c11 hw).2 h') h) (fun _ => h0))
    have h4 : 4 ≤ hv v.toNat := (c11 hw).1 h
    have hJ := h0
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    rw [k0_part20_eq_skeleton]; unfold k0_part20_skel
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    rw [k0_part21_eq_skeleton]; unfold k0_part21_skel
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (0 + 2)) (hs.two (0) _ _ _ _ _ hJ (rfl) (rfl)) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (0 + 2 + 2)) (hs.two (0 + 2) _ _ _ _ _ hJ (rfl) (rfl)) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    rw [show 0 + 2 + 2 = 4 by rfl] at hJ
    refine Runs.cut (fun σ' => J (4 + 8 * (((hv v.toNat / 2) - 2) / 4)) σ'.x10 ∧ Wt I σ') (fun K' hK => part22_runs _ _ _ _ _ _ _ _ _ _ _ _ _ _ _ _ _ _ hs v hw _ _ _ _ _ _ hJ hK) ?_
    clear hJ
    intro rr σ' hJW
    obtain ⟨hJ, hW⟩ := hJW
    revert hJ hW
    revert σ'
    intro σ' hJ hW
    obtain ⟨y, w1, w2, w3⟩ := σ'
    obtain ⟨e1, e2, e3⟩ := hW
    dsimp only at e1 e2 e3 hJ
    subst e1 e2 e3
    obtain ⟨r1, r2, r3, r4⟩ := rr
    dsimp -zeta only
    extract_lets -underBinder +onlyGivenNames v154 v155 v156 v157
    extract_lets -underBinder +onlyGivenNames lc
    have hlc : ∀ σ', J (2 * ((hv v.toNat / 2) - (hv v.toNat / 2) % 2)) σ'.x10 → Wt I σ' → Runs c M I X K σ' (lc PUnit.unit) := by
      intro σ' hJ hW
      obtain ⟨y, w1, w2, w3⟩ := σ'
      obtain ⟨e1, e2, e3⟩ := hW
      dsimp only at e1 e2 e3 hJ
      subst e1 e2 e3
      unfold lc
      beta_reduce
      extract_lets -underBinder +onlyGivenNames ld
      have hld : ∀ σ', J (2 * (hv v.toNat / 2)) σ'.x10 → Wt I σ' → Runs c M I X K σ' (ld PUnit.unit) := by
        intro σ' hJ hW
        obtain ⟨y, w1, w2, w3⟩ := σ'
        obtain ⟨e1, e2, e3⟩ := hW
        dsimp only at e1 e2 e3 hJ
        subst e1 e2 e3
        unfold ld
        beta_reduce
        extract_lets -underBinder +onlyGivenNames le
        have hle : ∀ σ', J (hv v.toNat) σ'.x10 → Runs c M I X K σ' (le PUnit.unit) := by
          intro σ' hJ
          unfold le
          exact hlb σ' (fun _ => hJ) (fun h' => absurd h' (by omega))
        clear_value le
        refine Runs.ite (fun h' => ?_) (fun h' => ?_)
        · have e := (c14 hw h4).1 h'
          repeat first
            | with_reducible refine Runs.assoc ?_
            | with_reducible refine Runs.ret ?_
            | with_reducible refine Runs.load5 ?_
            | with_reducible refine Runs.load6 ?_
            | with_reducible refine Runs.load7 ?_
            | with_reducible refine Runs.load8 ?_
            | with_reducible refine Runs.load10 ?_
            | with_reducible refine Runs.load11 ?_
            | with_reducible refine Runs.load12 ?_
            | with_reducible refine Runs.load13 ?_
            | with_reducible refine Runs.store11 _ rfl ?_
            | with_reducible refine Runs.store12 _ rfl ?_
            | with_reducible refine Runs.store13 _ rfl ?_
          refine Runs.store10 (J (2 * (hv v.toNat / 2) + 1)) (hs.one (2 * (hv v.toNat / 2)) _ _ _ _ _ hJ (at_block (o28 hw h4 e) (by omega)) (at_block (o29 hw h4 e) (by omega))) ?_
          clear hJ; intro y hJ
          repeat first
            | with_reducible refine Runs.assoc ?_
            | with_reducible refine Runs.ret ?_
            | with_reducible refine Runs.load5 ?_
            | with_reducible refine Runs.load6 ?_
            | with_reducible refine Runs.load7 ?_
            | with_reducible refine Runs.load8 ?_
            | with_reducible refine Runs.load10 ?_
            | with_reducible refine Runs.load11 ?_
            | with_reducible refine Runs.load12 ?_
            | with_reducible refine Runs.load13 ?_
            | with_reducible refine Runs.store11 _ rfl ?_
            | with_reducible refine Runs.store12 _ rfl ?_
            | with_reducible refine Runs.store13 _ rfl ?_
          rw [show 2 * (hv v.toNat / 2) + 1 = hv v.toNat by omega] at hJ
          exact hle _ hJ
        · have e : ¬ hv v.toNat % 2 = 1 := fun e => h' ((c14 hw h4).2 e)
          rw [show 2 * (hv v.toNat / 2) = hv v.toNat by omega] at hJ
          exact hle _ hJ
      clear_value ld
      refine Runs.ite (fun h' => ?_) (fun h' => ?_)
      · have e := (c13 hw h4).1 h'
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        refine Runs.store10 (J (2 * ((hv v.toNat / 2) - (hv v.toNat / 2) % 2) + 2)) (hs.two (2 * ((hv v.toNat / 2) - (hv v.toNat / 2) % 2)) _ _ _ _ _ hJ (at_block (o26 hw h4 e) (by omega)) (at_block (o27 hw h4 e) (by omega))) ?_
        clear hJ; intro y hJ
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        rw [show 2 * ((hv v.toNat / 2) - (hv v.toNat / 2) % 2) + 2 = 2 * (hv v.toNat / 2) by omega] at hJ
        exact hld _ hJ ⟨rfl, rfl, rfl⟩
      · have e : ¬ (hv v.toNat / 2) % 2 = 1 := fun e => h' ((c13 hw h4).2 e)
        rw [show 2 * ((hv v.toNat / 2) - (hv v.toNat / 2) % 2) = 2 * (hv v.toNat / 2) by omega] at hJ
        exact hld _ hJ ⟨rfl, rfl, rfl⟩
    clear_value lc
    refine Runs.ite (fun h4' => ?_) (fun h4' => ?_)
    · have hr := (c12 hw h4).1 h4'
      repeat first
        | with_reducible refine Runs.assoc ?_
        | with_reducible refine Runs.ret ?_
        | with_reducible refine Runs.load5 ?_
        | with_reducible refine Runs.load6 ?_
        | with_reducible refine Runs.load7 ?_
        | with_reducible refine Runs.load8 ?_
        | with_reducible refine Runs.load10 ?_
        | with_reducible refine Runs.load11 ?_
        | with_reducible refine Runs.load12 ?_
        | with_reducible refine Runs.load13 ?_
        | with_reducible refine Runs.store11 _ rfl ?_
        | with_reducible refine Runs.store12 _ rfl ?_
        | with_reducible refine Runs.store13 _ rfl ?_
      rw [k0_part19_eq_skeleton]; unfold k0_part19_skel
      repeat first
        | with_reducible refine Runs.assoc ?_
        | with_reducible refine Runs.ret ?_
        | with_reducible refine Runs.load5 ?_
        | with_reducible refine Runs.load6 ?_
        | with_reducible refine Runs.load7 ?_
        | with_reducible refine Runs.load8 ?_
        | with_reducible refine Runs.load10 ?_
        | with_reducible refine Runs.load11 ?_
        | with_reducible refine Runs.load12 ?_
        | with_reducible refine Runs.load13 ?_
        | with_reducible refine Runs.store11 _ rfl ?_
        | with_reducible refine Runs.store12 _ rfl ?_
        | with_reducible refine Runs.store13 _ rfl ?_
      refine Runs.store10 (J (4 + 8 * (((hv v.toNat / 2) - 2) / 4) + 2)) (hs.two (4 + 8 * (((hv v.toNat / 2) - 2) / 4)) _ _ _ _ _ hJ (at_block (o22 hw h4 hr) (by omega)) (at_block (o23 hw h4 hr) (by omega))) ?_
      clear hJ; intro y hJ
      repeat first
        | with_reducible refine Runs.assoc ?_
        | with_reducible refine Runs.ret ?_
        | with_reducible refine Runs.load5 ?_
        | with_reducible refine Runs.load6 ?_
        | with_reducible refine Runs.load7 ?_
        | with_reducible refine Runs.load8 ?_
        | with_reducible refine Runs.load10 ?_
        | with_reducible refine Runs.load11 ?_
        | with_reducible refine Runs.load12 ?_
        | with_reducible refine Runs.load13 ?_
        | with_reducible refine Runs.store11 _ rfl ?_
        | with_reducible refine Runs.store12 _ rfl ?_
        | with_reducible refine Runs.store13 _ rfl ?_
      refine Runs.store10 (J (4 + 8 * (((hv v.toNat / 2) - 2) / 4) + 2 + 2)) (hs.two (4 + 8 * (((hv v.toNat / 2) - 2) / 4) + 2) _ _ _ _ _ hJ (at_block (o24 hw h4 hr) (by omega)) (at_block (o25 hw h4 hr) (by omega))) ?_
      clear hJ; intro y hJ
      repeat first
        | with_reducible refine Runs.assoc ?_
        | with_reducible refine Runs.ret ?_
        | with_reducible refine Runs.load5 ?_
        | with_reducible refine Runs.load6 ?_
        | with_reducible refine Runs.load7 ?_
        | with_reducible refine Runs.load8 ?_
        | with_reducible refine Runs.load10 ?_
        | with_reducible refine Runs.load11 ?_
        | with_reducible refine Runs.load12 ?_
        | with_reducible refine Runs.load13 ?_
        | with_reducible refine Runs.store11 _ rfl ?_
        | with_reducible refine Runs.store12 _ rfl ?_
        | with_reducible refine Runs.store13 _ rfl ?_
      have e : 4 + 8 * (((hv v.toNat / 2) - 2) / 4) + 2 + 2 = 2 * ((hv v.toNat / 2) - (hv v.toNat / 2) % 2) := by omega
      rw [e] at hJ
      exact hlc _ hJ ⟨rfl, rfl, rfl⟩
    · have hr : ¬ 2 ≤ ((hv v.toNat / 2) - 2) % 4 := fun h => h4' ((c12 hw h4).2 h)
      have e : 4 + 8 * (((hv v.toNat / 2) - 2) / 4) = 2 * ((hv v.toNat / 2) - (hv v.toNat / 2) % 2) := by omega
      rw [e] at hJ
      exact hlc _ hJ ⟨rfl, rfl, rfl⟩
  clear_value jp1
  refine Runs.ite (fun h2 => ?_) (fun h2 => hjp1 _ (fun h => absurd h h2) (fun _ => h0))
  have hs := hf h2
  have hdone : ∀ σ', J (hv v.toNat) σ'.x10 → Runs c M I X K σ' (jp1 PUnit.unit) := fun σ' hJ => hjp1 σ' (fun _ => hJ) (fun h => absurd h (h210.1 h2))
  extract_lets -underBinder +onlyGivenNames fb
  have hfb : ∀ σ', (4 ≤ hv v.toNat → J (hv v.toNat) σ'.x10) → (hv v.toNat < 4 → J 0 σ'.x10) → Runs c M I X K σ' (fb PUnit.unit) := by
    intro σ' hbig hsmall
    unfold fb
    beta_reduce
    extract_lets -underBinder +onlyGivenNames ft
    have hft : ∀ σ', (2 ≤ hv v.toNat → J (hv v.toNat) σ'.x10) → (hv v.toNat < 2 → J 0 σ'.x10) → Runs c M I X K σ' (ft PUnit.unit) := by
      intro σ' hbig hsmall
      unfold ft
      beta_reduce
      extract_lets -underBinder +onlyGivenNames fo
      have hfo : ∀ σ', J (hv v.toNat) σ'.x10 → Runs c M I X K σ' (fo PUnit.unit) := by
        intro σ' hJ
        unfold fo
        exact hdone σ' hJ
      clear_value fo
      refine Runs.ite (fun h => ?_) (fun h => hfo _ (hbig ?_))
      · have e := (c9 hw hpos).1 h
        have hJ := hsmall (by omega)
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        rw [k0_part12_eq_skeleton]; unfold k0_part12_skel
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        refine Runs.store10 (J (0 + 1)) (hs.one (0) _ _ _ _ _ hJ (at_block (o16 hw e) rfl) (at_block (o17 hw e) rfl)) ?_
        clear hJ; intro y hJ
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        rw [show 0 + 1 = hv v.toNat by omega] at hJ
        exact hfo _ hJ
      · have e : ¬ hv v.toNat = 1 := fun e => h ((c9 hw hpos).2 e)
        have : 0 < hv v.toNat := by unfold hv; omega
        omega
    clear_value ft
    refine Runs.ite (fun h => ?_) (fun h => hft _ (fun h' => hbig ?_) (fun h' => hsmall (by omega)))
    · have e := (c7 hw).1 h
      have hJ := hsmall (by omega)
      repeat first
        | with_reducible refine Runs.assoc ?_
        | with_reducible refine Runs.ret ?_
        | with_reducible refine Runs.load5 ?_
        | with_reducible refine Runs.load6 ?_
        | with_reducible refine Runs.load7 ?_
        | with_reducible refine Runs.load8 ?_
        | with_reducible refine Runs.load10 ?_
        | with_reducible refine Runs.load11 ?_
        | with_reducible refine Runs.load12 ?_
        | with_reducible refine Runs.load13 ?_
        | with_reducible refine Runs.store11 _ rfl ?_
        | with_reducible refine Runs.store12 _ rfl ?_
        | with_reducible refine Runs.store13 _ rfl ?_
      rw [k0_part11_eq_skeleton]; unfold k0_part11_skel
      repeat first
        | with_reducible refine Runs.assoc ?_
        | with_reducible refine Runs.ret ?_
        | with_reducible refine Runs.load5 ?_
        | with_reducible refine Runs.load6 ?_
        | with_reducible refine Runs.load7 ?_
        | with_reducible refine Runs.load8 ?_
        | with_reducible refine Runs.load10 ?_
        | with_reducible refine Runs.load11 ?_
        | with_reducible refine Runs.load12 ?_
        | with_reducible refine Runs.load13 ?_
        | with_reducible refine Runs.store11 _ rfl ?_
        | with_reducible refine Runs.store12 _ rfl ?_
        | with_reducible refine Runs.store13 _ rfl ?_
      refine Runs.store10 (J (0 + 2)) (hs.two (0) _ _ _ _ _ hJ (rfl) (rfl)) ?_
      clear hJ; intro y hJ
      repeat first
        | with_reducible refine Runs.assoc ?_
        | with_reducible refine Runs.ret ?_
        | with_reducible refine Runs.load5 ?_
        | with_reducible refine Runs.load6 ?_
        | with_reducible refine Runs.load7 ?_
        | with_reducible refine Runs.load8 ?_
        | with_reducible refine Runs.load10 ?_
        | with_reducible refine Runs.load11 ?_
        | with_reducible refine Runs.load12 ?_
        | with_reducible refine Runs.load13 ?_
        | with_reducible refine Runs.store11 _ rfl ?_
        | with_reducible refine Runs.store12 _ rfl ?_
        | with_reducible refine Runs.store13 _ rfl ?_
      extract_lets -underBinder +onlyGivenNames fh
      have hfh : ∀ σ', J (hv v.toNat) σ'.x10 → Runs c M I X K σ' (fh PUnit.unit) := by
        intro σ' hJ
        unfold fh
        exact hft σ' (fun _ => hJ) (fun h' => absurd h' (by omega))
      clear_value fh
      refine Runs.ite (fun h' => ?_) (fun h' => ?_)
      · have e' := (c8 hw e).1 h'
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        refine Runs.store10 (J (0 + 2 + 1)) (hs.one (0 + 2) _ _ _ _ _ hJ (at_block (o14 hw e') rfl) (at_block (o15 hw e') rfl)) ?_
        clear hJ; intro y hJ
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        rw [show 0 + 2 + 1 = hv v.toNat by omega] at hJ
        exact hfh _ hJ
      · have e' : ¬ hv v.toNat = 3 := fun e' => h' ((c8 hw e).2 e')
        rw [show 0 + 2 = hv v.toNat by omega] at hJ
        exact hfh _ hJ
    · have e : ¬ hv v.toNat / 2 = 1 := fun e => h ((c7 hw).2 e)
      omega
  clear_value fb
  refine Runs.ite (fun h => ?_) (fun h => hfb _ (fun h' => absurd ((c3 hw).2 h') h) (fun _ => h0))
  have h4 : 4 ≤ hv v.toNat := (c3 hw).1 h
  have hJ := h0
  repeat first
    | with_reducible refine Runs.assoc ?_
    | with_reducible refine Runs.ret ?_
    | with_reducible refine Runs.load5 ?_
    | with_reducible refine Runs.load6 ?_
    | with_reducible refine Runs.load7 ?_
    | with_reducible refine Runs.load8 ?_
    | with_reducible refine Runs.load10 ?_
    | with_reducible refine Runs.load11 ?_
    | with_reducible refine Runs.load12 ?_
    | with_reducible refine Runs.load13 ?_
    | with_reducible refine Runs.store11 _ rfl ?_
    | with_reducible refine Runs.store12 _ rfl ?_
    | with_reducible refine Runs.store13 _ rfl ?_
  rw [k0_part8_eq_skeleton]; unfold k0_part8_skel
  repeat first
    | with_reducible refine Runs.assoc ?_
    | with_reducible refine Runs.ret ?_
    | with_reducible refine Runs.load5 ?_
    | with_reducible refine Runs.load6 ?_
    | with_reducible refine Runs.load7 ?_
    | with_reducible refine Runs.load8 ?_
    | with_reducible refine Runs.load10 ?_
    | with_reducible refine Runs.load11 ?_
    | with_reducible refine Runs.load12 ?_
    | with_reducible refine Runs.load13 ?_
    | with_reducible refine Runs.store11 _ rfl ?_
    | with_reducible refine Runs.store12 _ rfl ?_
    | with_reducible refine Runs.store13 _ rfl ?_
  rw [k0_part9_eq_skeleton]; unfold k0_part9_skel
  repeat first
    | with_reducible refine Runs.assoc ?_
    | with_reducible refine Runs.ret ?_
    | with_reducible refine Runs.load5 ?_
    | with_reducible refine Runs.load6 ?_
    | with_reducible refine Runs.load7 ?_
    | with_reducible refine Runs.load8 ?_
    | with_reducible refine Runs.load10 ?_
    | with_reducible refine Runs.load11 ?_
    | with_reducible refine Runs.load12 ?_
    | with_reducible refine Runs.load13 ?_
    | with_reducible refine Runs.store11 _ rfl ?_
    | with_reducible refine Runs.store12 _ rfl ?_
    | with_reducible refine Runs.store13 _ rfl ?_
  refine Runs.store10 (J (0 + 2)) (hs.two (0) _ _ _ _ _ hJ (rfl) (rfl)) ?_
  clear hJ; intro y hJ
  repeat first
    | with_reducible refine Runs.assoc ?_
    | with_reducible refine Runs.ret ?_
    | with_reducible refine Runs.load5 ?_
    | with_reducible refine Runs.load6 ?_
    | with_reducible refine Runs.load7 ?_
    | with_reducible refine Runs.load8 ?_
    | with_reducible refine Runs.load10 ?_
    | with_reducible refine Runs.load11 ?_
    | with_reducible refine Runs.load12 ?_
    | with_reducible refine Runs.load13 ?_
    | with_reducible refine Runs.store11 _ rfl ?_
    | with_reducible refine Runs.store12 _ rfl ?_
    | with_reducible refine Runs.store13 _ rfl ?_
  refine Runs.store10 (J (0 + 2 + 2)) (hs.two (0 + 2) _ _ _ _ _ hJ (rfl) (rfl)) ?_
  clear hJ; intro y hJ
  repeat first
    | with_reducible refine Runs.assoc ?_
    | with_reducible refine Runs.ret ?_
    | with_reducible refine Runs.load5 ?_
    | with_reducible refine Runs.load6 ?_
    | with_reducible refine Runs.load7 ?_
    | with_reducible refine Runs.load8 ?_
    | with_reducible refine Runs.load10 ?_
    | with_reducible refine Runs.load11 ?_
    | with_reducible refine Runs.load12 ?_
    | with_reducible refine Runs.load13 ?_
    | with_reducible refine Runs.store11 _ rfl ?_
    | with_reducible refine Runs.store12 _ rfl ?_
    | with_reducible refine Runs.store13 _ rfl ?_
  rw [show 0 + 2 + 2 = 4 by rfl] at hJ
  refine Runs.cut (fun σ' => J (4 + 8 * (((hv v.toNat / 2) - 2) / 4)) σ'.x10 ∧ Wt I σ') (fun K' hK => part10_runs _ _ _ _ _ _ _ _ _ _ _ _ _ _ _ _ _ _ hs v hw _ _ _ _ _ _ _ _ _ _ hJ hK) ?_
  clear hJ
  intro rr σ' hJW
  obtain ⟨hJ, hW⟩ := hJW
  revert hJ hW
  revert σ'
  intro σ' hJ hW
  obtain ⟨y, w1, w2, w3⟩ := σ'
  obtain ⟨e1, e2, e3⟩ := hW
  dsimp only at e1 e2 e3 hJ
  subst e1 e2 e3
  obtain ⟨r1, r2, r3⟩ := rr
  dsimp -zeta only
  extract_lets -underBinder +onlyGivenNames lc
  have hlc : ∀ σ', J (2 * ((hv v.toNat / 2) - (hv v.toNat / 2) % 2)) σ'.x10 → Wt I σ' → Runs c M I X K σ' (lc PUnit.unit) := by
    intro σ' hJ hW
    obtain ⟨y, w1, w2, w3⟩ := σ'
    obtain ⟨e1, e2, e3⟩ := hW
    dsimp only at e1 e2 e3 hJ
    subst e1 e2 e3
    unfold lc
    beta_reduce
    extract_lets -underBinder +onlyGivenNames fd
    have hfd : ∀ σ', J (2 * (hv v.toNat / 2)) σ'.x10 → Wt I σ' → Runs c M I X K σ' (fd PUnit.unit) := by
      intro σ' hJ hW
      obtain ⟨y, w1, w2, w3⟩ := σ'
      obtain ⟨e1, e2, e3⟩ := hW
      dsimp only at e1 e2 e3 hJ
      subst e1 e2 e3
      unfold fd
      beta_reduce
      extract_lets -underBinder +onlyGivenNames fe
      have hfe : ∀ σ', J (hv v.toNat) σ'.x10 → Runs c M I X K σ' (fe PUnit.unit) := by
        intro σ' hJ
        unfold fe
        exact hfb σ' (fun _ => hJ) (fun h' => absurd h' (by omega))
      clear_value fe
      refine Runs.ite (fun h' => ?_) (fun h' => ?_)
      · have e := (c6 hw h4).1 h'
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        refine Runs.store10 (J (2 * (hv v.toNat / 2) + 1)) (hs.one (2 * (hv v.toNat / 2)) _ _ _ _ _ hJ (at_block (o12 hw h4 e) (by omega)) (at_block (o13 hw h4 e) (by omega))) ?_
        clear hJ; intro y hJ
        repeat first
          | with_reducible refine Runs.assoc ?_
          | with_reducible refine Runs.ret ?_
          | with_reducible refine Runs.load5 ?_
          | with_reducible refine Runs.load6 ?_
          | with_reducible refine Runs.load7 ?_
          | with_reducible refine Runs.load8 ?_
          | with_reducible refine Runs.load10 ?_
          | with_reducible refine Runs.load11 ?_
          | with_reducible refine Runs.load12 ?_
          | with_reducible refine Runs.load13 ?_
          | with_reducible refine Runs.store11 _ rfl ?_
          | with_reducible refine Runs.store12 _ rfl ?_
          | with_reducible refine Runs.store13 _ rfl ?_
        rw [show 2 * (hv v.toNat / 2) + 1 = hv v.toNat by omega] at hJ
        exact hfe _ hJ
      · have e : ¬ hv v.toNat % 2 = 1 := fun e => h' ((c6 hw h4).2 e)
        rw [show 2 * (hv v.toNat / 2) = hv v.toNat by omega] at hJ
        exact hfe _ hJ
    clear_value fd
    refine Runs.ite (fun h' => ?_) (fun h' => ?_)
    · have e := (c5 hw h4).1 h'
      repeat first
        | with_reducible refine Runs.assoc ?_
        | with_reducible refine Runs.ret ?_
        | with_reducible refine Runs.load5 ?_
        | with_reducible refine Runs.load6 ?_
        | with_reducible refine Runs.load7 ?_
        | with_reducible refine Runs.load8 ?_
        | with_reducible refine Runs.load10 ?_
        | with_reducible refine Runs.load11 ?_
        | with_reducible refine Runs.load12 ?_
        | with_reducible refine Runs.load13 ?_
        | with_reducible refine Runs.store11 _ rfl ?_
        | with_reducible refine Runs.store12 _ rfl ?_
        | with_reducible refine Runs.store13 _ rfl ?_
      refine Runs.store10 (J (2 * ((hv v.toNat / 2) - (hv v.toNat / 2) % 2) + 2)) (hs.two (2 * ((hv v.toNat / 2) - (hv v.toNat / 2) % 2)) _ _ _ _ _ hJ (at_block (o10 hw h4 e) (by omega)) (at_block (o11 hw h4 e) (by omega))) ?_
      clear hJ; intro y hJ
      repeat first
        | with_reducible refine Runs.assoc ?_
        | with_reducible refine Runs.ret ?_
        | with_reducible refine Runs.load5 ?_
        | with_reducible refine Runs.load6 ?_
        | with_reducible refine Runs.load7 ?_
        | with_reducible refine Runs.load8 ?_
        | with_reducible refine Runs.load10 ?_
        | with_reducible refine Runs.load11 ?_
        | with_reducible refine Runs.load12 ?_
        | with_reducible refine Runs.load13 ?_
        | with_reducible refine Runs.store11 _ rfl ?_
        | with_reducible refine Runs.store12 _ rfl ?_
        | with_reducible refine Runs.store13 _ rfl ?_
      rw [show 2 * ((hv v.toNat / 2) - (hv v.toNat / 2) % 2) + 2 = 2 * (hv v.toNat / 2) by omega] at hJ
      exact hfd _ hJ ⟨rfl, rfl, rfl⟩
    · have e : ¬ (hv v.toNat / 2) % 2 = 1 := fun e => h' ((c5 hw h4).2 e)
      rw [show 2 * ((hv v.toNat / 2) - (hv v.toNat / 2) % 2) = 2 * (hv v.toNat / 2) by omega] at hJ
      exact hfd _ hJ ⟨rfl, rfl, rfl⟩
  clear_value lc
  refine Runs.ite (fun h4' => ?_) (fun h4' => ?_)
  · have hr := (c4 hw h4).1 h4'
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    rw [k0_part7_eq_skeleton]; unfold k0_part7_skel
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (4 + 8 * (((hv v.toNat / 2) - 2) / 4) + 2)) (hs.two (4 + 8 * (((hv v.toNat / 2) - 2) / 4)) _ _ _ _ _ hJ (at_block (o6 hw h4 hr) (by omega)) (at_block (o7 hw h4 hr) (by omega))) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    refine Runs.store10 (J (4 + 8 * (((hv v.toNat / 2) - 2) / 4) + 2 + 2)) (hs.two (4 + 8 * (((hv v.toNat / 2) - 2) / 4) + 2) _ _ _ _ _ hJ (at_block (o8 hw h4 hr) (by omega)) (at_block (o9 hw h4 hr) (by omega))) ?_
    clear hJ; intro y hJ
    repeat first
      | with_reducible refine Runs.assoc ?_
      | with_reducible refine Runs.ret ?_
      | with_reducible refine Runs.load5 ?_
      | with_reducible refine Runs.load6 ?_
      | with_reducible refine Runs.load7 ?_
      | with_reducible refine Runs.load8 ?_
      | with_reducible refine Runs.load10 ?_
      | with_reducible refine Runs.load11 ?_
      | with_reducible refine Runs.load12 ?_
      | with_reducible refine Runs.load13 ?_
      | with_reducible refine Runs.store11 _ rfl ?_
      | with_reducible refine Runs.store12 _ rfl ?_
      | with_reducible refine Runs.store13 _ rfl ?_
    have e : 4 + 8 * (((hv v.toNat / 2) - 2) / 4) + 2 + 2 = 2 * ((hv v.toNat / 2) - (hv v.toNat / 2) % 2) := by omega
    rw [e] at hJ
    exact hlc _ hJ ⟨rfl, rfl, rfl⟩
  · have hr : ¬ 2 ≤ ((hv v.toNat / 2) - 2) % 4 := fun h => h4' ((c4 hw h4).2 h)
    have e : 4 + 8 * (((hv v.toNat / 2) - 2) / 4) = 2 * ((hv v.toNat / 2) - (hv v.toNat / 2) % 2) := by omega
    rw [e] at hJ
    exact hlc _ hJ ⟨rfl, rfl, rfl⟩

end Cert.Kernel4Ideal.Moe
-- ==== Proof.MoeIdeal.ChkFirst.lean ====
/- The conditions the body assumes of an item's row count hold of every count up to 2048, at a point of the first channel tile. -/
module

public import proofs.«01_k».proof.Proof.Gen.Kernel4Ideal

@[expose] public section

set_option maxRecDepth 100000
set_option synthInstance.maxHeartbeats 0

namespace Cert.Kernel4Ideal.Moe

open Idealize.ShloMosaic Cert.Kernel4Ideal Cert.Kernel4Ideal.Gen

/-- A grid point of the first channel tile. -/
abbrev iFirst : grid0.Coords := grid0.coords ⟨0, by decide⟩
theorem chk_first : ∀ v : Fin 2049, k0_chk1 iFirst (BitVec.ofNat 32 v.val) := by decide +kernel

end Cert.Kernel4Ideal.Moe
-- ==== Proof.MoeIdeal.ChkLast.lean ====
/- The conditions the body assumes of an item's row count hold of every count up to 2048, at a point of the last channel tile. -/
module

public import proofs.«01_k».proof.Proof.Gen.Kernel4Ideal

@[expose] public section

set_option maxRecDepth 100000
set_option synthInstance.maxHeartbeats 0

namespace Cert.Kernel4Ideal.Moe

open Idealize.ShloMosaic Cert.Kernel4Ideal Cert.Kernel4Ideal.Gen

/-- A grid point of the last channel tile. -/
abbrev iLast : grid0.Coords := grid0.coords ⟨27, by decide⟩
theorem chk_last : ∀ v : Fin 2049, k0_chk1 iLast (BitVec.ofNat 32 v.val) := by decide +kernel

end Cert.Kernel4Ideal.Moe
-- ==== Proof.MoeIdeal.Check.lean ====
/- The conditions the body assumes of an item's row count and of its place in the result. -/
module

public import proofs.«01_k».proof.Proof.MoeIdeal.Num
public import proofs.«01_k».proof.Proof.MoeIdeal.ChkFirst
public import proofs.«01_k».proof.Proof.MoeIdeal.ChkLast

@[expose] public section

set_option maxRecDepth 16384

namespace Cert.Kernel4Ideal.Moe

open Idealize.ShloMosaic Cert.Kernel4Ideal Cert.Kernel4Ideal.Gen

theorem chk1_0_all {i : grid0.Coords} {v : BitVec 32} (hF : k0_chk1_0 iFirst v) (hL : k0_chk1_0 iLast v) : k0_chk1_0 i v := by
  have cF2 : k0_cond2 iFirst = 1#1 := by decide
  have cL10 : k0_cond10 iLast = 1#1 := by decide
  have cL18 : k0_cond18 iLast = 1#1 := by decide
  unfold k0_chk1_0 at hF hL
  obtain ⟨f0, f1, f2, f3, f4, f5, f6, f7, f8, f9, f10, f11, f12, f13, f14, f15, f16, f17, f18, f19, f20, f21, f22, f23, f24, f25, f26, f27, f28, f29, f30, f31⟩ := hF
  obtain ⟨l0, l1, l2, l3, l4, l5, l6, l7, l8, l9, l10, l11, l12, l13, l14, l15, l16, l17, l18, l19, l20, l21, l22, l23, l24, l25, l26, l27, l28, l29, l30, l31⟩ := hL
  unfold k0_chk1_0
  exact ⟨fun k0_h1 _ k0_h3 => f0 k0_h1 cF2 k0_h3,
    fun k0_t1 k0_h1 _ k0_h3 => f1 k0_t1 k0_h1 cF2 k0_h3,
    fun k0_t1 k0_h1 _ k0_h3 => f2 k0_t1 k0_h1 cF2 k0_h3,
    fun k0_t1 k0_h1 _ k0_h3 => f3 k0_t1 k0_h1 cF2 k0_h3,
    fun k0_t1 k0_h1 _ k0_h3 => f4 k0_t1 k0_h1 cF2 k0_h3,
    fun k0_t1 k0_h1 _ k0_h3 => f5 k0_t1 k0_h1 cF2 k0_h3,
    fun k0_t1 k0_h1 _ k0_h3 => f6 k0_t1 k0_h1 cF2 k0_h3,
    fun k0_h1 _ k0_h3 => f7 k0_h1 cF2 k0_h3,
    fun k0_t2 k0_h1 _ k0_h3 => f8 k0_t2 k0_h1 cF2 k0_h3,
    fun k0_t2 k0_h1 _ k0_h3 => f9 k0_t2 k0_h1 cF2 k0_h3,
    fun k0_t2 k0_h1 _ k0_h3 => f10 k0_t2 k0_h1 cF2 k0_h3,
    fun k0_t2 k0_h1 _ k0_h3 => f11 k0_t2 k0_h1 cF2 k0_h3,
    fun k0_t2 k0_h1 _ k0_h3 => f12 k0_t2 k0_h1 cF2 k0_h3,
    fun k0_t2 k0_h1 _ k0_h3 => f13 k0_t2 k0_h1 cF2 k0_h3,
    fun k0_h1 _ k0_h3 k0_h4 => f14 k0_h1 cF2 k0_h3 k0_h4,
    fun k0_h1 _ k0_h3 k0_h4 => f15 k0_h1 cF2 k0_h3 k0_h4,
    fun k0_h1 _ k0_h3 k0_h4 => f16 k0_h1 cF2 k0_h3 k0_h4,
    fun k0_h1 _ k0_h3 k0_h4 => f17 k0_h1 cF2 k0_h3 k0_h4,
    fun k0_h1 _ k0_h3 k0_h4 => f18 k0_h1 cF2 k0_h3 k0_h4,
    fun k0_h1 _ k0_h3 k0_h4 => f19 k0_h1 cF2 k0_h3 k0_h4,
    fun k0_h1 _ k0_h3 k0_h5 => f20 k0_h1 cF2 k0_h3 k0_h5,
    fun k0_h1 _ k0_h3 k0_h5 => f21 k0_h1 cF2 k0_h3 k0_h5,
    fun k0_h1 _ k0_h3 k0_h5 => f22 k0_h1 cF2 k0_h3 k0_h5,
    fun k0_h1 _ k0_h3 k0_h6 => f23 k0_h1 cF2 k0_h3 k0_h6,
    fun k0_h1 _ k0_h3 k0_h6 => f24 k0_h1 cF2 k0_h3 k0_h6,
    fun k0_h1 _ k0_h3 k0_h6 => f25 k0_h1 cF2 k0_h3 k0_h6,
    fun k0_h1 _ k0_h7 k0_h8 => f26 k0_h1 cF2 k0_h7 k0_h8,
    fun k0_h1 _ k0_h7 k0_h8 => f27 k0_h1 cF2 k0_h7 k0_h8,
    fun k0_h1 _ k0_h7 k0_h8 => f28 k0_h1 cF2 k0_h7 k0_h8,
    fun k0_h1 _ k0_h9 => f29 k0_h1 cF2 k0_h9,
    fun k0_h1 _ k0_h9 => f30 k0_h1 cF2 k0_h9,
    fun k0_h1 _ k0_h9 => f31 k0_h1 cF2 k0_h9⟩

theorem chk1_1_all {i : grid0.Coords} {v : BitVec 32} (hF : k0_chk1_1 iFirst v) (hL : k0_chk1_1 iLast v) : k0_chk1_1 i v := by
  have cF2 : k0_cond2 iFirst = 1#1 := by decide
  have cL10 : k0_cond10 iLast = 1#1 := by decide
  have cL18 : k0_cond18 iLast = 1#1 := by decide
  unfold k0_chk1_1 at hF hL
  obtain ⟨f0, f1, f2, f3, f4, f5, f6, f7, f8, f9, f10, f11, f12, f13, f14, f15, f16, f17, f18, f19, f20, f21, f22, f23, f24, f25, f26, f27, f28, f29, f30, f31⟩ := hF
  obtain ⟨l0, l1, l2, l3, l4, l5, l6, l7, l8, l9, l10, l11, l12, l13, l14, l15, l16, l17, l18, l19, l20, l21, l22, l23, l24, l25, l26, l27, l28, l29, l30, l31⟩ := hL
  unfold k0_chk1_1
  exact ⟨fun k0_h1 _ k0_h11 => l0 k0_h1 cL10 k0_h11,
    fun k0_t3 k0_h1 _ k0_h11 => l1 k0_t3 k0_h1 cL10 k0_h11,
    fun k0_t3 k0_h1 _ k0_h11 => l2 k0_t3 k0_h1 cL10 k0_h11,
    fun k0_t3 k0_h1 _ k0_h11 => l3 k0_t3 k0_h1 cL10 k0_h11,
    fun k0_t3 k0_h1 _ k0_h11 => l4 k0_t3 k0_h1 cL10 k0_h11,
    fun k0_t3 k0_h1 _ k0_h11 => l5 k0_t3 k0_h1 cL10 k0_h11,
    fun k0_t3 k0_h1 _ k0_h11 => l6 k0_t3 k0_h1 cL10 k0_h11,
    fun k0_h1 _ k0_h11 => l7 k0_h1 cL10 k0_h11,
    fun k0_t4 k0_h1 _ k0_h11 => l8 k0_t4 k0_h1 cL10 k0_h11,
    fun k0_t4 k0_h1 _ k0_h11 => l9 k0_t4 k0_h1 cL10 k0_h11,
    fun k0_t4 k0_h1 _ k0_h11 => l10 k0_t4 k0_h1 cL10 k0_h11,
    fun k0_t4 k0_h1 _ k0_h11 => l11 k0_t4 k0_h1 cL10 k0_h11,
    fun k0_t4 k0_h1 _ k0_h11 => l12 k0_t4 k0_h1 cL10 k0_h11,
    fun k0_t4 k0_h1 _ k0_h11 => l13 k0_t4 k0_h1 cL10 k0_h11,
    fun k0_h1 _ k0_h11 k0_h12 => l14 k0_h1 cL10 k0_h11 k0_h12,
    fun k0_h1 _ k0_h11 k0_h12 => l15 k0_h1 cL10 k0_h11 k0_h12,
    fun k0_h1 _ k0_h11 k0_h12 => l16 k0_h1 cL10 k0_h11 k0_h12,
    fun k0_h1 _ k0_h11 k0_h12 => l17 k0_h1 cL10 k0_h11 k0_h12,
    fun k0_h1 _ k0_h11 k0_h12 => l18 k0_h1 cL10 k0_h11 k0_h12,
    fun k0_h1 _ k0_h11 k0_h12 => l19 k0_h1 cL10 k0_h11 k0_h12,
    fun k0_h1 _ k0_h11 k0_h13 => l20 k0_h1 cL10 k0_h11 k0_h13,
    fun k0_h1 _ k0_h11 k0_h13 => l21 k0_h1 cL10 k0_h11 k0_h13,
    fun k0_h1 _ k0_h11 k0_h13 => l22 k0_h1 cL10 k0_h11 k0_h13,
    fun k0_h1 _ k0_h11 k0_h14 => l23 k0_h1 cL10 k0_h11 k0_h14,
    fun k0_h1 _ k0_h11 k0_h14 => l24 k0_h1 cL10 k0_h11 k0_h14,
    fun k0_h1 _ k0_h11 k0_h14 => l25 k0_h1 cL10 k0_h11 k0_h14,
    fun k0_h1 _ k0_h15 k0_h16 => l26 k0_h1 cL10 k0_h15 k0_h16,
    fun k0_h1 _ k0_h15 k0_h16 => l27 k0_h1 cL10 k0_h15 k0_h16,
    fun k0_h1 _ k0_h15 k0_h16 => l28 k0_h1 cL10 k0_h15 k0_h16,
    fun k0_h1 _ k0_h17 => l29 k0_h1 cL10 k0_h17,
    fun k0_h1 _ k0_h17 => l30 k0_h1 cL10 k0_h17,
    fun k0_h1 _ k0_h17 => l31 k0_h1 cL10 k0_h17⟩

theorem chk1_2_all {i : grid0.Coords} {v : BitVec 32} (hF : k0_chk1_2 iFirst v) (hL : k0_chk1_2 iLast v) : k0_chk1_2 i v := by
  have cF2 : k0_cond2 iFirst = 1#1 := by decide
  have cL10 : k0_cond10 iLast = 1#1 := by decide
  have cL18 : k0_cond18 iLast = 1#1 := by decide
  unfold k0_chk1_2 at hF hL
  obtain ⟨f0, f1, f2, f3, f4, f5, f6, f7, f8, f9, f10, f11, f12, f13, f14⟩ := hF
  obtain ⟨l0, l1, l2, l3, l4, l5, l6, l7, l8, l9, l10, l11, l12, l13, l14⟩ := hL
  unfold k0_chk1_2
  exact ⟨fun k0_h1 _ => l0 k0_h1 cL18,
    fun k0_h1 _ => l1 k0_h1 cL18,
    fun k0_t5 k0_h1 _ => l2 k0_t5 k0_h1 cL18,
    fun k0_t5 k0_h1 _ => l3 k0_t5 k0_h1 cL18,
    fun k0_h1 _ => l4 k0_h1 cL18,
    fun k0_t6 k0_h1 _ => l5 k0_t6 k0_h1 cL18,
    fun k0_t6 k0_h1 _ => l6 k0_t6 k0_h1 cL18,
    fun k0_h1 _ k0_h19 => l7 k0_h1 cL18 k0_h19,
    fun k0_h1 _ => l8 k0_h1 cL18,
    fun k0_t7 k0_h1 _ => l9 k0_t7 k0_h1 cL18,
    fun k0_t7 k0_h1 _ => l10 k0_t7 k0_h1 cL18,
    fun k0_h1 _ => l11 k0_h1 cL18,
    fun k0_t8 k0_h1 _ => l12 k0_t8 k0_h1 cL18,
    fun k0_t8 k0_h1 _ => l13 k0_t8 k0_h1 cL18,
    fun k0_h1 _ k0_h20 => l14 k0_h1 cL18 k0_h20⟩

/-- A row count up to 2048 is all the body assumes of it, whatever the grid point. -/
theorem chk1_all (i : grid0.Coords) {v : BitVec 32} (hw : v.toNat ≤ 2048) : k0_chk1 i v := by
  have F := lift_word (P := fun v _ => k0_chk1 iFirst v) chk_first hw
  have L := lift_word (P := fun v _ => k0_chk1 iLast v) chk_last hw
  exact ⟨chk1_0_all F.1 L.1, chk1_1_all F.2.1 L.2.1, chk1_2_all F.2.2 L.2.2⟩

theorem iv_toNat {t : ℕ} (ht : t < 9) : (Scf.iv (0#32) 1#32 t : BitVec 32).toNat = t := by
  unfold Scf.iv
  simp only [BitVec.toNat_add, BitVec.toNat_mul, BitVec.toNat_ofNat]
  omega

variable {v b : BitVec 32} (hw : v.toNat ≤ 2048) (hb : b.toNat < 14)
include hw hb

theorem o35 (hv0 : 0 < v.toNat) (t : Fin (k0_t5_loop v).trips) : k0_off35 v b t = ![2048 * b.toNat + 256 * t.val, 0] := by
  have ht : t.val < hv v.toNat / 2 := lt_of_lt_of_eq t.isLt (t5 hw hv0)
  have e : (Scalar.addi (Scalar.muli b 2048#32) (Scalar.muli (Scf.iv (0#32) 1#32 t.val) 256#32)).toNat = 2048 * b.toNat + 256 * t.val := by
    simp only [Scalar.addi, Scalar.muli, IntOp.addi, IntOp.muli, BitVec.toNat_add, BitVec.toNat_mul, iv_toNat (show t.val < 9 by unfold hv at ht; omega), BitVec.toNat_ofNat]
    unfold hv at ht
    omega
  show ![_, 0] = _
  rw [← e]

theorem o41 (hv0 : 0 < v.toNat) (t : Fin (k0_t7_loop v).trips) : k0_off41 v b t = ![2048 * b.toNat + 256 * t.val, 0] := by
  have ht : t.val < hv v.toNat / 2 := lt_of_lt_of_eq t.isLt (t7 hw hv0)
  have e : (Scalar.addi (Scalar.muli b 2048#32) (Scalar.muli (Scf.iv (0#32) 1#32 t.val) 256#32)).toNat = 2048 * b.toNat + 256 * t.val := by
    simp only [Scalar.addi, Scalar.muli, IntOp.addi, IntOp.muli, BitVec.toNat_add, BitVec.toNat_mul, iv_toNat (show t.val < 9 by unfold hv at ht; omega), BitVec.toNat_ofNat]
    unfold hv at ht
    omega
  show ![_, 0] = _
  rw [← e]

theorem o39 (hodd : hv v.toNat % 2 = 1) : k0_off39 v b = ![2048 * b.toNat + 256 * (hv v.toNat / 2), 0] := by
  have h24 : (k0_mult29 v).toNat = 256 * (hv v.toNat / 2) := congrFun (o40 hw hodd) 0
  have e : (Scalar.addi (Scalar.muli b 2048#32) (k0_mult29 v)).toNat = 2048 * b.toNat + 256 * (hv v.toNat / 2) := by
    simp only [Scalar.addi, Scalar.muli, IntOp.addi, IntOp.muli, BitVec.toNat_add, BitVec.toNat_mul, h24, BitVec.toNat_ofNat]
    unfold hv
    omega
  show ![_, 0] = _
  rw [← e]
  rfl

theorem o45 (hodd : hv v.toNat % 2 = 1) : k0_off45 v b = ![2048 * b.toNat + 256 * (hv v.toNat / 2), 0] := o39 hw hb hodd

/-- A place among the item blocks is all the body assumes of it. -/
theorem chk2_all (i : grid0.Coords) : k0_chk2 i v b := by
  have two : ∀ {off : Fin 2 → ℕ} {t : ℕ}, t < hv v.toNat / 2 → off = ![2048 * b.toNat + 256 * t, 0] → ∀ a, off a + S256x2048.size a ≤ S28672x2048.size a := by
    intro off t ht e a
    subst e
    unfold hv at ht
    fin_cases a
    · show 2048 * b.toNat + 256 * t + 256 ≤ 28672; omega
    · show 0 + 2048 ≤ 2048; omega
  have one : ∀ {off : Fin 2 → ℕ}, hv v.toNat % 2 = 1 → off = ![2048 * b.toNat + 256 * (hv v.toNat / 2), 0] → ∀ a, off a + S128x2048.size a ≤ S28672x2048.size a := by
    intro off ht e a
    subst e
    unfold hv at *
    fin_cases a
    · show 2048 * b.toNat + 256 * ((v.toNat + 127) / 128 / 2) + 128 ≤ 28672; omega
    · show 0 + 2048 ≤ 2048; omega
  refine ⟨fun t h1 _ => two (lt_of_lt_of_eq t.isLt (t5 hw ((c1 hw).1 h1))) (o35 hw hb ((c1 hw).1 h1) t),
    fun t h1 _ => absurd (lt_of_lt_of_eq t.isLt (t6 hw ((c1 hw).1 h1))) (Nat.not_lt_zero _),
    fun h1 _ h => one ((c19 hw ((c1 hw).1 h1)).1 h) (o39 hw hb ((c19 hw ((c1 hw).1 h1)).1 h)),
    fun t h1 _ => two (lt_of_lt_of_eq t.isLt (t7 hw ((c1 hw).1 h1))) (o41 hw hb ((c1 hw).1 h1) t),
    fun t h1 _ => absurd (lt_of_lt_of_eq t.isLt (t8 hw ((c1 hw).1 h1))) (Nat.not_lt_zero _),
    fun h1 _ h => one ((c20 hw ((c1 hw).1 h1)).1 h) (o45 hw hb ((c20 hw ((c1 hw).1 h1)).1 h))⟩

end Cert.Kernel4Ideal.Moe
-- ==== Proof.MoeIdeal.Flight.lean ====
/- The copies out: the finished rows of an item leave the accumulator in transfers of 256 rows, and one of 128 rows
   where their number is odd, all in flight on one semaphore before the first is waited for. -/
module

public import proofs.«01_k».proof.Proof.MoeIdeal.Accum
public import proofs.«01_k».proof.Proof.MoeIdeal.Check

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- The rows copied by the first `k` transfers of an item that has `h` halves of 256 rows. -/
def upTo (h k : ℕ) : ℕ := min (256 * k) (128 * h)

/-- The result's elements that the first `k` transfers of the item in block `b` leave alone. -/
def outLeft (b h k : ℕ) : Finset S28672x2048.Idx :=
  Finset.univ.filter fun i => ¬ (2048 * b ≤ (i 0).val ∧ (i 0).val < 2048 * b + upTo h k)

/-- The accumulator's elements that the first `k` transfers leave alone. -/
def accLeft (h k : ℕ) : Finset S2048x2048.Idx := Finset.univ.filter fun i => ¬ (i 0).val < upTo h k

/-- The result's elements of transfer `k`. -/
def outTile (b h k : ℕ) : Finset S28672x2048.Idx :=
  Finset.univ.filter fun i => 2048 * b + 256 * k ≤ (i 0).val ∧ (i 0).val < 2048 * b + upTo h (k + 1)

/-- The accumulator's elements of transfer `k`. -/
def accTile (h k : ℕ) : Finset S2048x2048.Idx := Finset.univ.filter fun i => 256 * k ≤ (i 0).val ∧ (i 0).val < upTo h (k + 1)

/-- The row of the accumulator that a row of the result takes. -/
def rowOf (b : ℕ) (i : S28672x2048.Idx) : S2048x2048.Idx :=
  fun a => match a with
    | 0 => ⟨min ((i 0).val - 2048 * b) 2047, show _ < 2048 by omega⟩
    | 1 => ⟨(i 1).val, (i 1).isLt⟩

/-- The result once the item in block `b` has copied `h` halves of 256 rows out. -/
def landed (b h : ℕ) (f : Vec F S2048x2048 .f32) (W : Vec F S28672x2048 .f32) : Vec F S28672x2048 .f32 := fun i =>
  if 2048 * b ≤ (i 0).val ∧ (i 0).val < 2048 * b + 128 * h then f (rowOf b i) else W i

section Sets

variable {b h k : ℕ}

theorem upTo_of_lt (hk : k < h / 2) : upTo h (k + 1) = 256 * k + 256 := by unfold upTo; omega
theorem upTo_of_eq (hk : k = h / 2) (ho : h % 2 = 1) : upTo h (k + 1) = 256 * k + 128 := by unfold upTo; omega
theorem upTo_before (hk : k < h / 2 + h % 2) : upTo h k = 256 * k := by unfold upTo; omega
theorem upTo_all : upTo h (h / 2 + h % 2) = 128 * h := by unfold upTo; omega

theorem outTile_sub (hk : k < h / 2 + h % 2) : outTile b h k ⊆ outLeft b h k := by
  intro i hi
  simp only [outTile, outLeft, Finset.mem_filter, Finset.mem_univ, true_and] at hi ⊢
  rw [upTo_before hk]; omega

theorem accTile_sub (hk : k < h / 2 + h % 2) : accTile h k ⊆ accLeft h k := by
  intro i hi
  simp only [accTile, accLeft, Finset.mem_filter, Finset.mem_univ, true_and] at hi ⊢
  rw [upTo_before hk]; omega

theorem outLeft_sdiff (hk : k < h / 2 + h % 2) : outLeft b h k \ outTile b h k = outLeft b h (k + 1) := by
  ext i
  have hu : 256 * k ≤ upTo h (k + 1) := by unfold upTo; omega
  simp only [outTile, outLeft, Finset.mem_filter, Finset.mem_univ, true_and, Finset.mem_sdiff, upTo_before hk]
  omega

theorem accLeft_sdiff (hk : k < h / 2 + h % 2) : accLeft h k \ accTile h k = accLeft h (k + 1) := by
  ext i
  have hu : 256 * k ≤ upTo h (k + 1) := by unfold upTo; omega
  simp only [accTile, accLeft, Finset.mem_filter, Finset.mem_univ, true_and, Finset.mem_sdiff, upTo_before hk]
  omega

theorem outLeft_zero : outLeft b h 0 = Finset.univ := by
  ext i
  have h0 : upTo h 0 = 0 := by unfold upTo; omega
  simp only [outLeft, h0, Finset.mem_filter, Finset.mem_univ, true_and, iff_true]; omega

theorem accLeft_zero : accLeft h 0 = Finset.univ := by
  ext i
  have h0 : upTo h 0 = 0 := by unfold upTo; omega
  simp only [accLeft, h0, Finset.mem_filter, Finset.mem_univ, true_and, iff_true]; omega

variable {r : ℕ} {off9 : Fin 2 → ℕ} {off10 : Fin 2 → ℕ}

theorem rect_outTile {inb} (h9 : off9 = ![2048 * b + 256 * k, 0]) (hr : upTo h (k + 1) = 256 * k + r) :
    (Rect.unit (s := S28672x2048) off9 ![r, 2048] inb).set = outTile b h k := by
  subst h9
  ext i
  rw [Rect.mem_set_unit]
  have h1 : (i 1).val < 2048 := (i 1).isLt
  simp only [outTile, Finset.mem_filter, Finset.mem_univ, true_and, hr]
  constructor
  · intro H; have := H 0; simp at this; omega
  · intro H a
    match a with
    | 0 => simp; omega
    | 1 => simpa using h1

theorem rect_accTile {inb} (h10 : off10 = ![256 * k, 0]) (hr : upTo h (k + 1) = 256 * k + r) :
    (Rect.unit (s := S2048x2048) off10 ![r, 2048] inb).set = accTile h k := by
  subst h10
  ext i
  rw [Rect.mem_set_unit]
  have h1 : (i 1).val < 2048 := (i 1).isLt
  simp only [accTile, Finset.mem_filter, Finset.mem_univ, true_and, hr]
  constructor
  · intro H; have := H 0; simp at this; omega
  · intro H a
    match a with
    | 0 => simp; omega
    | 1 => simpa using h1

end Sets

/-- A transfer's rows of the result are the accumulator's. -/
theorem landed_emb {b h k r : ℕ} {off9 : Fin 2 → ℕ} {off10 : Fin 2 → ℕ} {inb9} {inb10} (h9 : off9 = ![2048 * b + 256 * k, 0]) (h10 : off10 = ![256 * k, 0])
    (hr : upTo h (k + 1) = 256 * k + r) (hk : k < h / 2 + h % 2) (f : Vec F S2048x2048 .f32) (W : Vec F S28672x2048 .f32) (x) :
    f ((Rect.unit (s := S2048x2048) off10 ![r, 2048] inb10).emb x) = landed b h f W ((Rect.unit (s := S28672x2048) off9 ![r, 2048] inb9).emb x) := by
  subst h9; subst h10
  have u9 : ∀ a, ((Rect.unit (s := S28672x2048) ![2048 * b + 256 * k, 0] ![r, 2048] inb9).emb x a : ℕ) = (![2048 * b + 256 * k, 0] : Fin 2 → ℕ) a + (x a).val :=
    fun a => Rect.idx_unit_val (s := S28672x2048) _ _ inb9 x a
  have u10 : ∀ a, ((Rect.unit (s := S2048x2048) ![256 * k, 0] ![r, 2048] inb10).emb x a : ℕ) = (![256 * k, 0] : Fin 2 → ℕ) a + (x a).val :=
    fun a => Rect.idx_unit_val (s := S2048x2048) _ _ inb10 x a
  have hx : (x 0).val < r := (x 0).isLt
  have hb : 256 * k + r ≤ 2048 := inb10 0
  have hu : upTo h (k + 1) ≤ 128 * h := by unfold upTo; omega
  have u90 := u9 0
  have u91 := u9 1
  have u100 := u10 0
  have u101 := u10 1
  simp only [Matrix.cons_val_zero, Matrix.cons_val_one] at u90 u91 u100 u101
  unfold landed
  rw [if_pos (by omega)]
  congr 1
  funext a
  apply Fin.ext
  match a with
  | 0 => show _ = min _ _; omega
  | 1 => show _ = ((Rect.unit (s := S28672x2048) ![2048 * b + 256 * k, 0] ![r, 2048] inb9).emb x 1 : ℕ); omega

/-- What a transfer of `r` rows into the result adds to its semaphore. -/
def credit (r : ℕ) : ℕ := sig.dmaCredit .tc (Kind.tc.table .hbm) (View.whole (main_v0 : Ref sig .tc)).buf ⟨2, ![r, 2048]⟩ .f32

/-- The transfers' amounts, in the order of their issue. -/
def amt (h : ℕ) (t : Fin (h / 2 + h % 2)) : ℕ := if t.val < h / 2 then credit 256 else credit 128

theorem credit_256 : 0 < credit 256 := by decide
theorem credit_128 : 0 < credit 128 := by decide

variable (c : Dev nD)

/-- Where the result and the accumulator lie. -/
abbrev outLoc := (View.whole (main_v0 : Ref sig .tc)).loc (c : Thread nD τ)
abbrev accLoc := (View.whole (cc0_scratch0 : Ref sig .tc)).loc (c : Thread nD τ)

/-- What transfer `t` hands back: its rows of the result, written, and its rows of the accumulator. -/
def handed (b h : ℕ) (f : Vec F S2048x2048 .f32) (W : Vec F S28672x2048 .f32) (t : Fin (h / 2 + h % 2)) : sProp 𝕄 :=
  iprop((outLoc c ↦[outTile b h t.val]{fullShare} (landed b h f W : Buf (Elt F) (outLoc c))) ∗ (accLoc c ↦[accTile h t.val]{fullShare} (f : Buf (Elt F) (accLoc c))))

instance handed_storable (b h : ℕ) (f : Vec F S2048x2048 .f32) (W : Vec F S28672x2048 .f32) (t : Fin (h / 2 + h % 2)) :
    BI.Storable (upEmb : UEmb _ 𝕄) (handed c b h f W t) := by
  unfold handed; infer_instance

/-- The batch of an item's transfers, `j` of them issued and `u` of their amounts consumed. -/
abbrev Batch (b h : ℕ) (f : Vec F S2048x2048 .f32) (W : Vec F S28672x2048 .f32) (j u : ℕ) : Res F :=
  MixedBatch (Lvl := ℕ) (countersEmb (U := Pipeline.UD sig nD τ)) (c : Thread nD τ) (.dma (cc0_scratch4 : DmaSems sig S_).sem) () (amt h) (handed c b h f W) j u

/-- What is held after `j` transfers have been issued. -/
def Sending (b h : ℕ) (f : Vec F S2048x2048 .f32) (W : Vec F S28672x2048 .f32) (j : ℕ) : sProp 𝕄 :=
  iprop((outLoc c ↦[outLeft b h j]{fullShare} (W : Buf (Elt F) (outLoc c))) ∗ (accLoc c ↦[accLeft h j]{fullShare} (f : Buf (Elt F) (accLoc c))) ∗ Batch c b h f W j 0)

variable {c}

/-- Transfer `j` is issued. -/
theorem send {b h j r : ℕ} {f : Vec F S2048x2048 .f32} {W : Vec F S28672x2048 .f32} (hj : j < h / 2 + h % 2)
    {off9 : Fin 2 → ℕ} {off10 : Fin 2 → ℕ} {inb9} {inb10} {he1} {he2} {he3}
    (h9 : off9 = ![2048 * b + 256 * j, 0]) (h10 : off10 = ![256 * j, 0]) (hr : upTo h (j + 1) = 256 * j + r) (hA : credit r = amt h ⟨j, hj⟩)
    {α : Type} {kk : PUnit → Prog (TpuEff nD τ sig (Elt F) Λ₀ .tc) α} {K : α → Res F} :
    Sending c b h f W j ⊢ iprop((Sending c b h f W (j + 1) -∗ wp frame (wpE (defs₀ (F := F)) Variants.none (c : Thread nD τ) none) Set.univ (kk ⟨⟩) K)
      -∗ wp frame (wpE (defs₀ (F := F)) Variants.none (c : Thread nD τ) none) Set.univ
        (Prog.lift (.enqueueDma (e := .f32) (s := ⟨2, ![r, 2048]⟩) ((Memref.whole (cc0_scratch0 : Ref sig .tc)).slice (Rect.unit (s := S2048x2048) off10 ![r, 2048] inb10) (fun _ => rfl))
          (.here ((Memref.whole (main_v0 : Ref sig .tc)).slice (Rect.unit (s := S28672x2048) off9 ![r, 2048] inb9) (fun _ => rfl))) (.dma (cc0_scratch4 : DmaSems sig S_).sem) he1 he2 he3) >>= kk) K) := by
  have e9 := rect_outTile (b := b) (h := h) (k := j) (inb := inb9) h9 hr
  have e10 := rect_accTile (h := h) (k := j) (inb := inb10) h10 hr
  have s9 : ((Memref.whole (main_v0 : Ref sig .tc)).slice (Rect.unit (s := S28672x2048) off9 ![r, 2048] inb9) (fun _ => rfl)).view.set = outTile b h j :=
    (View.set_slice_whole (main_v0 : Ref sig .tc) _).trans e9
  have s10 : ((Memref.whole (cc0_scratch0 : Ref sig .tc)).slice (Rect.unit (s := S2048x2048) off10 ![r, 2048] inb10) (fun _ => rfl)).view.set = accTile h j :=
    (View.set_slice_whole (cc0_scratch0 : Ref sig .tc) _).trans e10
  unfold Sending
  iintro ⟨H9, H10, HB⟩ Hk
  ihave H9 := (pointsTo_split_subset (ℓ := outLoc c) (outTile_sub hj)).1 $$ H9
  ihave H10 := (pointsTo_split_subset (ℓ := accLoc c) (accTile_sub hj)).1 $$ H10
  icases H9 with ⟨H9, R9⟩
  icases H10 with ⟨H10, R10⟩
  iapply (wp_dmaMixedBatch (countersEmb (U := Pipeline.UD sig nD τ)) Variants.none (c : Thread nD τ) none
    (src := (Memref.whole (cc0_scratch0 : Ref sig .tc)).slice (Rect.unit (s := S2048x2048) off10 ![r, 2048] inb10) (fun _ => rfl))
    (dst := (Memref.whole (main_v0 : Ref sig .tc)).slice (Rect.unit (s := S28672x2048) off9 ![r, 2048] inb9) (fun _ => rfl))
    (fs := (f : Buf (Elt F) (accLoc c))) (fd := (W : Buf (Elt F) (outLoc c))) (q := fullShare) (Sd := outTile b h j)
    (sm := .dma (cc0_scratch4 : DmaSems sig S_).sem) (D := handed c b h f W) () (amt h) (le_of_eq s9) hj hA (Nat.zero_le _) ?_) $$ [H9 H10 HB]
  · unfold handed
    refine sep_mono (Entails.of_eq (pointsTo_congr fun i hi => ?_)) (Entails.of_eq (by rw [s10]))
    rw [← e9] at hi
    obtain ⟨x, rfl⟩ : ∃ x, (Rect.unit (s := S28672x2048) off9 ![r, 2048] inb9).emb x = i :=
      (Rect.unit (s := S28672x2048) off9 ![r, 2048] inb9).exists_idx_of_mem hi
    refine Eq.trans (View.write_emb_of_mem (v := ((Memref.whole (main_v0 : Ref sig .tc)).slice (Rect.unit (s := S28672x2048) off9 ![r, 2048] inb9) (fun _ => rfl)).view)
      _ _ (Finset.mem_univ x)) ?_
    exact landed_emb h9 h10 hr hj f W x
  · rw [s10]
    isplitl [H10]; · iexact H10
    isplitl [H9]; · iexact H9
    iexact HB
  iintro HB
  iapply Hk
  isplitl [R9]; · rw [← outLeft_sdiff hj]; iexact R9
  isplitl [R10]; · rw [← accLeft_sdiff hj]; iexact R10
  iexact HB

/-- The last step once the item's place is known. -/
def copies (i : grid0.Coords) (arg2 : Memref sig .tc .smem S14 .i32) (harg2 : arg2.IsWhole) (arg3 : Memref sig .tc .smem S14 .i32) (harg3 : arg3.IsWhole) (arg4 : Memref sig .tc .smem S14 .i32) (harg4 : arg4.IsWhole) (arg5 : Memref sig .tc .vmem S2048x1024 .i32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .hbm S28672x2048 .f32) (harg9 : arg9.IsWhole) (arg10 : Memref sig .tc .vmem S2048x2048 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S256x2048 .bf16) (harg13 : arg13.IsWhole) (arg14 : DmaSems sig S_) (v1 : Elt F .i32) (k0_hw1 : k0_chk1 i v1) (k0_h1 : k0_cond1 v1 = 1#1) (k0_h18 : k0_cond18 i = 1#1) (v40 : Elt F .i32) (k0_hw2 : k0_chk2 i v1 v40) :
    Prog (TpuEff nD τ sig (Elt F) Λ₀ .tc) PUnit := do
  let v49 : BitVec 32 ← Scf.Loop.for (k0_t5_loop v1) (k0_t5_ok i v1 k0_hw1 k0_h1 k0_h18) 0#32 (k0_t5_body i arg2 harg2 arg3 harg3 arg4 harg4 arg5 harg5 arg6 harg6 arg7 harg7 arg8 harg8 arg9 harg9 arg10 harg10 arg11 harg11 arg12 harg12 arg13 harg13 arg14 v1 k0_hw1 k0_h1 k0_h18 v40 k0_hw2)
  let v50 : BitVec 32 ← Scf.Loop.for (k0_t6_loop v1) (k0_t6_ok i v1 k0_hw1 k0_h1 k0_h18) v49 (k0_t6_body i arg2 harg2 arg3 harg3 arg4 harg4 arg5 harg5 arg6 harg6 arg7 harg7 arg8 harg8 arg9 harg9 arg10 harg10 arg11 harg11 arg12 harg12 arg13 harg13 arg14 v1 k0_hw1 k0_h1 k0_h18 v40 k0_hw2)
  if k0_h19 : k0_cond19 v1 = 1#1 then do
    let v63 : Memref sig .tc .hbm S128x2048 .f32 := arg9.slice (Rect.unit (s := S28672x2048) (k0_off39 v1 v40) S128x2048.size (k0_off39_inb i v1 v40 k0_hw2 k0_h1 k0_h18 k0_h19)) (fun _ => rfl)
    let v64 : Memref sig .tc .vmem S128x2048 .f32 := arg10.slice (Rect.unit (s := S2048x2048) (k0_off40 v1) S128x2048.size (k0_off40_inb i v1 k0_hw1 k0_h1 k0_h18 k0_h19)) (fun _ => rfl)
    Prog.lift (.enqueueDma v64 (.here v63) (.dma arg14.sem) (View.wordExact_bits rfl) (View.wordExact_bits rfl) ⟨Or.inl rfl, trivial⟩)
    pure ⟨⟩
  else do
    pure ⟨⟩
  let v58 : BitVec 32 ← Scf.Loop.for (k0_t7_loop v1) (k0_t7_ok i v1 k0_hw1 k0_h1 k0_h18) 0#32 (k0_t7_body i arg2 harg2 arg3 harg3 arg4 harg4 arg5 harg5 arg6 harg6 arg7 harg7 arg8 harg8 arg9 harg9 arg10 harg10 arg11 harg11 arg12 harg12 arg13 harg13 arg14 v1 k0_hw1 k0_h1 k0_h18 v40 k0_hw2)
  let v59 : BitVec 32 ← Scf.Loop.for (k0_t8_loop v1) (k0_t8_ok i v1 k0_hw1 k0_h1 k0_h18) v58 (k0_t8_body i arg2 harg2 arg3 harg3 arg4 harg4 arg5 harg5 arg6 harg6 arg7 harg7 arg8 harg8 arg9 harg9 arg10 harg10 arg11 harg11 arg12 harg12 arg13 harg13 arg14 v1 k0_hw1 k0_h1 k0_h18 v40 k0_hw2)
  if k0_h20 : k0_cond20 v1 = 1#1 then do
    let v63 : Memref sig .tc .hbm S128x2048 .f32 := arg9.slice (Rect.unit (s := S28672x2048) (k0_off45 v1 v40) S128x2048.size (k0_off45_inb i v1 v40 k0_hw2 k0_h1 k0_h18 k0_h20)) (fun _ => rfl)
    let v64 : Memref sig .tc .vmem S128x2048 .f32 := arg10.slice (Rect.unit (s := S2048x2048) (k0_off46 v1) S128x2048.size (k0_off46_inb i v1 k0_hw1 k0_h1 k0_h18 k0_h20)) (fun _ => rfl)
    Prog.lift (.waitDma2 arg14.sem v64 v63 (View.wordExact_bits rfl) (View.wordExact_bits rfl))
    pure ⟨⟩
  else do
    pure ⟨⟩
  pure ⟨⟩

/-- One of the transfers is waited for. -/
theorem await {b h u r : ℕ} {f : Vec F S2048x2048 .f32} {W : Vec F S28672x2048 .f32} {Wt : Waits sig Unit}
    {off9 : Fin 2 → ℕ} {off10 : Fin 2 → ℕ} {inb9} {inb10} {he1} {he2}
    (hu : u + credit r ≤ sumTo (amt h) (h / 2 + h % 2))
    {α : Type} {kk : PUnit → Prog (TpuEff nD τ sig (Elt F) Λ₀ .tc) α} {K : α → Res F} :
    iprop(Batch c b h f W (h / 2 + h % 2) u ∗ owes (c : Thread nD τ) 0 Wt) ⊢ iprop(((Batch c b h f W (h / 2 + h % 2) (u + credit r) ∗ ∃ Wt', owes (c : Thread nD τ) 0 Wt') -∗ wp frame (wpE (defs₀ (F := F)) Variants.none (c : Thread nD τ) none) Set.univ (kk ⟨⟩) K)
      -∗ wp frame (wpE (defs₀ (F := F)) Variants.none (c : Thread nD τ) none) Set.univ
        (Prog.lift (.waitDma2 (e := .f32) (s := ⟨2, ![r, 2048]⟩) (cc0_scratch4 : DmaSems sig S_).sem ((Memref.whole (cc0_scratch0 : Ref sig .tc)).slice (Rect.unit (s := S2048x2048) off10 ![r, 2048] inb10) (fun _ => rfl))
          ((Memref.whole (main_v0 : Ref sig .tc)).slice (Rect.unit (s := S28672x2048) off9 ![r, 2048] inb9) (fun _ => rfl)) he1 he2) >>= kk) K) := by
  iintro ⟨HB, HW⟩ Hk
  iapply (wp_waitMixedBatch (countersEmb (U := Pipeline.UD sig nD τ)) Variants.none (c : Thread nD τ) none
    (srcw := (Memref.whole (cc0_scratch0 : Ref sig .tc)).slice (Rect.unit (s := S2048x2048) off10 ![r, 2048] inb10) (fun _ => rfl))
    (dstw := (Memref.whole (main_v0 : Ref sig .tc)).slice (Rect.unit (s := S28672x2048) off9 ![r, 2048] inb9) (fun _ => rfl))
    (sem := (cc0_scratch4 : DmaSems sig S_).sem) (D := handed c b h f W) (A := amt h) () (J := credit r) rfl hu) $$ [HB HW]
  · isplitl [HB]; · iexact HB
    iexact HW
  iintro ⟨HB, HW⟩
  iapply Hk
  isplitl [HB]; · iexact HB
  iexists _; iexact HW

/-- The amounts of the transfers of 256 rows. -/
theorem sum_two {h : ℕ} : ∀ {k : ℕ}, k ≤ h / 2 → sumTo (amt h) k = k * credit 256
  | 0, _ => (Nat.zero_mul _).symm
  | k + 1, hk => by
    rw [sumTo_succ (amt h) (by omega : k < h / 2 + h % 2), sum_two (by omega : k ≤ h / 2), Nat.succ_mul]
    congr 1
    exact if_pos (by show k < h / 2; omega)

/-- The amounts of all, their number even. -/
theorem sum_even {h : ℕ} (e : h % 2 = 0) : sumTo (amt h) (h / 2 + h % 2) = h / 2 * credit 256 :=
  (congrArg (sumTo (amt h)) (by omega : h / 2 + h % 2 = h / 2)).trans (sum_two le_rfl)

/-- The amounts of all, their number odd. -/
theorem sum_odd {h : ℕ} (e : h % 2 = 1) : sumTo (amt h) (h / 2 + h % 2) = h / 2 * credit 256 + credit 128 := by
  refine (congrArg (sumTo (amt h)) (by omega : h / 2 + h % 2 = h / 2 + 1)).trans ?_
  rw [sumTo_succ (amt h) (by omega : h / 2 < h / 2 + h % 2), sum_two le_rfl]
  congr 1
  exact if_neg (by show ¬ h / 2 < h / 2; omega)

/-- A transfer of 256 rows not yet waited for is among all. -/
theorem sum_ge {h k : ℕ} (hk : k < h / 2) : k * credit 256 + credit 256 ≤ sumTo (amt h) (h / 2 + h % 2) := by
  have h1 : k * credit 256 + credit 256 ≤ h / 2 * credit 256 := by rw [← Nat.succ_mul]; exact Nat.mul_le_mul_right _ hk
  rcases Nat.mod_two_eq_zero_or_one h with e | e
  · rw [sum_even e]; exact h1
  · rw [sum_odd e]; omega

theorem amt_pos {h : ℕ} (t : Fin (h / 2 + h % 2)) : 0 < amt h t := by
  unfold amt; split
  · exact credit_256
  · exact credit_128

/-- What transfer `k` hands back joins what it left alone. -/
theorem gather_step {b h k : ℕ} {f : Vec F S2048x2048 .f32} {W : Vec F S28672x2048 .f32} (hk : k < h / 2 + h % 2) :
    iprop(handed c b h f W ⟨k, hk⟩ ∗ ((outLoc c ↦[outLeft b h (k + 1)]{fullShare} (landed b h f W : Buf (Elt F) (outLoc c)))
        ∗ (accLoc c ↦[accLeft h (k + 1)]{fullShare} (f : Buf (Elt F) (accLoc c)))))
      ⊢ iprop((outLoc c ↦[outLeft b h k]{fullShare} (landed b h f W : Buf (Elt F) (outLoc c))) ∗ (accLoc c ↦[accLeft h k]{fullShare} (f : Buf (Elt F) (accLoc c)))) := by
  unfold handed
  iintro ⟨⟨T9, T10⟩, ⟨H9, H10⟩⟩
  isplitl [H9 T9]
  · iapply (pointsTo_split_subset (ℓ := outLoc c) (outTile_sub hk)).2
    rw [outLeft_sdiff hk]
    isplitl [T9]; · iexact T9
    iexact H9
  · iapply (pointsTo_split_subset (ℓ := accLoc c) (accTile_sub hk)).2
    rw [accLeft_sdiff hk]
    isplitl [T10]; · iexact T10
    iexact H10

/-- What the transfers hand back joins what they left alone. -/
theorem gather {b h : ℕ} {f : Vec F S2048x2048 .f32} {W : Vec F S28672x2048 .f32} (m : ℕ) : ∀ k : ℕ, k + m = h / 2 + h % 2 →
    iprop(bigSep (pending k) (handed c b h f W) ∗ ((outLoc c ↦[outLeft b h (h / 2 + h % 2)]{fullShare} (landed b h f W : Buf (Elt F) (outLoc c)))
        ∗ (accLoc c ↦[accLeft h (h / 2 + h % 2)]{fullShare} (f : Buf (Elt F) (accLoc c)))))
      ⊢ iprop((outLoc c ↦[outLeft b h k]{fullShare} (landed b h f W : Buf (Elt F) (outLoc c))) ∗ (accLoc c ↦[accLeft h k]{fullShare} (f : Buf (Elt F) (accLoc c)))) := by
  induction m with
  | zero =>
    intro k hk
    obtain rfl : k = h / 2 + h % 2 := by omega
    iintro ⟨-, H⟩
    iexact H
  | succ m ih =>
    intro k hk
    have hk' : k < h / 2 + h % 2 := by omega
    have step := gather_step (c := c) (b := b) (f := f) (W := W) hk'
    have ih' := ih (k + 1) (by omega)
    iintro ⟨Hs, H⟩
    ihave Hs := (show bigSep (pending k) (handed c b h f W) ⊢ iprop(handed c b h f W ⟨k, hk'⟩ ∗ bigSep (pending (k + 1)) (handed c b h f W))
      from Entails.of_eq (by rw [pending_succ hk', bigSep_insert (not_mem_pending_succ hk')]; rfl)) $$ Hs
    icases Hs with ⟨Ht, Hs⟩
    iapply step
    isplitl [Ht]; · iexact Ht
    iapply ih'
    isplitl [Hs]; · iexact Hs
    iexact H

/-- Off the item's rows nothing changes. -/
theorem landed_off {b h : ℕ} {f : Vec F S2048x2048 .f32} {W : Vec F S28672x2048 .f32} :
    ∀ i ∈ outLeft b h (h / 2 + h % 2), W i = landed b h f W i := by
  intro i hi
  simp only [outLeft, Finset.mem_filter, Finset.mem_univ, true_and, upTo_all] at hi
  exact (if_neg hi).symm

set_option maxHeartbeats 4000000 in
/-- The copies leave the item's rows in the result. -/
theorem copies_wp {i : grid0.Coords} {arg2 : Memref sig .tc .smem S14 .i32} {harg2 : arg2.IsWhole} {arg3 : Memref sig .tc .smem S14 .i32} {harg3 : arg3.IsWhole} {arg4 : Memref sig .tc .smem S14 .i32} {harg4 : arg4.IsWhole} {arg5 : Memref sig .tc .vmem S2048x1024 .i32} {harg5 : arg5.IsWhole} {arg6 : Memref sig .tc .vmem S1x2048x256 .f32} {harg6 : arg6.IsWhole} {arg7 : Memref sig .tc .vmem S1x2048x256 .f32} {harg7 : arg7.IsWhole} {arg8 : Memref sig .tc .vmem S1x256x2048 .f32} {harg8 : arg8.IsWhole} {harg9} {harg10} {arg11 : Memref sig .tc .vmem S2048x256 .bf16} {harg11 : arg11.IsWhole} {arg12 : Memref sig .tc .vmem S2048x256 .bf16} {harg12 : arg12.IsWhole} {arg13 : Memref sig .tc .vmem S256x2048 .bf16} {harg13 : arg13.IsWhole}  {v b : BitVec 32} (hw : v.toNat ≤ 2048) (hb : b.toNat < 14) (hpos : 0 < v.toNat) {h0 : k0_chk1 i v} {h1 h18} {h2 : k0_chk2 i v b}
    {f : Vec F S2048x2048 .f32} {W : Vec F S28672x2048 .f32} {Wt : Waits sig Unit} {K : PUnit → Res F} :
    iprop((outLoc c ↦{fullShare} (W : Buf (Elt F) (outLoc c))) ∗ (accLoc c ↦{fullShare} (f : Buf (Elt F) (accLoc c))) ∗ semVal ((c : Thread nD τ), .dma (cc0_scratch4 : DmaSems sig S_).sem) 0 ∗ owes (c : Thread nD τ) 0 Wt)
    ⊢ iprop((((outLoc c ↦{fullShare} (landed b.toNat (hv v.toNat) f W : Buf (Elt F) (outLoc c))) ∗ (accLoc c ↦{fullShare} (f : Buf (Elt F) (accLoc c)))
        ∗ semVal ((c : Thread nD τ), .dma (cc0_scratch4 : DmaSems sig S_).sem) 0 ∗ ∃ Wt', owes (c : Thread nD τ) 0 Wt') -∗ K ⟨⟩)
      -∗ wp frame (wpE (defs₀ (F := F)) Variants.none (c : Thread nD τ) none) Set.univ (copies (F := F) i arg2 harg2 arg3 harg3 arg4 harg4 arg5 harg5 arg6 harg6 arg7 harg7 arg8 harg8 (Memref.whole (main_v0 : Ref sig .tc)) harg9 (Memref.whole (cc0_scratch0 : Ref sig .tc)) harg10 arg11 harg11 arg12 harg12 arg13 harg13 (cc0_scratch4 : DmaSems sig S_) v h0 h1 h18 b h2) K) := by
  iintro ⟨H9, H10, Hs, HW⟩ Hk
  unfold copies
  imod (Transfers.mixedBatch_alloc' (Lvl := ℕ) (countersEmb (U := Pipeline.UD sig nD τ)) (c : Thread nD τ) () (amt (hv v.toNat))
    (handed c b.toNat (hv v.toNat) f W) (sm := .dma (cc0_scratch4 : DmaSems sig S_).sem) (E := Set.univ)) $$ Hs with HB
  iapply (Scf.wp_for_bind (M := 𝕄) frame (wpE (defs₀ (F := F)) Variants.none (c : Thread nD τ) none) Set.univ _ _ _ _ _ _
    (fun n _ => Sending c b.toNat (hv v.toNat) f W n) (fun t acc => by
      have ht : t.val < hv v.toNat / 2 := lt_of_lt_of_eq t.isLt (t5 hw hpos)
      unfold k0_t5_body
      iintro H
      iapply (send (by omega : t.val < hv v.toNat / 2 + hv v.toNat % 2) (o35 hw hb hpos t) (o36 hw hpos t) (upTo_of_lt ht) (if_pos ht).symm) $$ H
      iintro H
      rw [wp_pure]
      iexact H)) $$ [H9 H10 HB]
  · unfold Sending
    rw [outLeft_zero, accLeft_zero]
    isplitl [H9]; · iexact H9
    isplitl [H10]; · iexact H10
    iexact HB
  rw [show Scf.trips (k0_t5_loop v).lb (k0_t5_loop v).ub (k0_t5_loop v).st = hv v.toNat / 2 from t5 hw hpos]
  iintro %acc5 HS
  iapply (Scf.wp_for_bind (M := 𝕄) frame (wpE (defs₀ (F := F)) Variants.none (c : Thread nD τ) none) Set.univ _ _ _ _ _ _
    (fun n _ => Sending c b.toNat (hv v.toNat) f W (hv v.toNat / 2)) (fun t acc => absurd (lt_of_lt_of_eq t.isLt (t6 hw hpos)) (Nat.not_lt_zero _))) $$ HS
  iintro %acc6 HS
  extract_lets -underBinder +onlyGivenNames jp1
  have hjp1 : iprop(Sending c b.toNat (hv v.toNat) f W (hv v.toNat / 2 + hv v.toNat % 2) ∗ owes (c : Thread nD τ) 0 Wt)
      ⊢ iprop((((outLoc c ↦{fullShare} (landed b.toNat (hv v.toNat) f W : Buf (Elt F) (outLoc c))) ∗ (accLoc c ↦{fullShare} (f : Buf (Elt F) (accLoc c)))
        ∗ semVal ((c : Thread nD τ), .dma (cc0_scratch4 : DmaSems sig S_).sem) 0 ∗ ∃ Wt', owes (c : Thread nD τ) 0 Wt') -∗ K ⟨⟩)
      -∗ wp frame (wpE (defs₀ (F := F)) Variants.none (c : Thread nD τ) none) Set.univ (jp1 PUnit.unit) K) := by
    unfold jp1 Sending
    iintro ⟨⟨H9, H10, HB⟩, HW⟩ Hk
    iapply (Scf.wp_for_bind (M := 𝕄) frame (wpE (defs₀ (F := F)) Variants.none (c : Thread nD τ) none) Set.univ _ _ _ _ _ _
      (fun n _ => iprop(Batch c b.toNat (hv v.toNat) f W (hv v.toNat / 2 + hv v.toNat % 2) (n * credit 256) ∗ ∃ Wt', owes (c : Thread nD τ) 0 Wt')) (fun t acc => by
        have ht : t.val < hv v.toNat / 2 := lt_of_lt_of_eq t.isLt (t7 hw hpos)
        unfold k0_t7_body
        iintro ⟨HB, ⟨%Wt', HW⟩⟩
        iapply (await (sum_ge ht)) $$ [HB HW]
        · isplitl [HB]; · iexact HB
          iexact HW
        iintro ⟨HB, HW⟩
        rw [wp_pure, Nat.succ_mul]
        isplitl [HB]; · iexact HB
        iexact HW)) $$ [HB HW]
    · rw [Nat.zero_mul]
      isplitl [HB]; · iexact HB
      iexists _; iexact HW
    rw [show Scf.trips (k0_t7_loop v).lb (k0_t7_loop v).ub (k0_t7_loop v).st = hv v.toNat / 2 from t7 hw hpos]
    iintro %acc7 HB
    iapply (Scf.wp_for_bind (M := 𝕄) frame (wpE (defs₀ (F := F)) Variants.none (c : Thread nD τ) none) Set.univ _ _ _ _ _ _
      (fun n _ => iprop(Batch c b.toNat (hv v.toNat) f W (hv v.toNat / 2 + hv v.toNat % 2) (hv v.toNat / 2 * credit 256) ∗ ∃ Wt', owes (c : Thread nD τ) 0 Wt'))
      (fun t acc => absurd (lt_of_lt_of_eq t.isLt (t8 hw hpos)) (Nat.not_lt_zero _))) $$ HB
    iintro %acc8 ⟨HB, ⟨%Wt', HW⟩⟩
    have hend : iprop(Batch c b.toNat (hv v.toNat) f W (hv v.toNat / 2 + hv v.toNat % 2) (sumTo (amt (hv v.toNat)) (hv v.toNat / 2 + hv v.toNat % 2)) ∗ (∃ Wt', owes (c : Thread nD τ) 0 Wt')
        ∗ (outLoc c ↦[outLeft b.toNat (hv v.toNat) (hv v.toNat / 2 + hv v.toNat % 2)]{fullShare} (W : Buf (Elt F) (outLoc c)))
        ∗ (accLoc c ↦[accLeft (hv v.toNat) (hv v.toNat / 2 + hv v.toNat % 2)]{fullShare} (f : Buf (Elt F) (accLoc c)))
        ∗ (((outLoc c ↦{fullShare} (landed b.toNat (hv v.toNat) f W : Buf (Elt F) (outLoc c))) ∗ (accLoc c ↦{fullShare} (f : Buf (Elt F) (accLoc c)))
        ∗ semVal ((c : Thread nD τ), .dma (cc0_scratch4 : DmaSems sig S_).sem) 0 ∗ ∃ Wt', owes (c : Thread nD τ) 0 Wt') -∗ K ⟨⟩))
        ⊢ wp frame (wpE (defs₀ (F := F)) Variants.none (c : Thread nD τ) none) Set.univ (Pure.pure PUnit.unit) K := by
      have g := gather (c := c) (b := b.toNat) (h := hv v.toNat) (f := f) (W := W) (hv v.toNat / 2 + hv v.toNat % 2) 0 (Nat.zero_add _)
      rw [outLeft_zero, accLeft_zero, pending_zero] at g
      rw [pointsTo_congr (ℓ := outLoc c) (f := W) (landed_off (b := b.toNat) (h := hv v.toNat) (f := f) (W := W))]
      iintro ⟨HB, HW, H9, H10, Hk⟩
      imod (mixedBatch_collect' (Lvl := ℕ) (countersEmb (U := Pipeline.UD sig nD τ)) (c : Thread nD τ) amt_pos) $$ HB with ⟨HD, Hs⟩
      rw [wp_pure]
      imodintro
      iapply Hk
      ihave G := g $$ [HD H9 H10]
      · isplitl [HD]; · iexact HD
        isplitl [H9]; · iexact H9
        iexact H10
      icases G with ⟨H9, H10⟩
      isplitl [H9]; · iexact H9
      isplitl [H10]; · iexact H10
      isplitl [Hs]; · iexact Hs
      iexact HW
    by_cases ho : hv v.toNat % 2 = 1
    · rw [dif_pos ((c20 hw hpos).2 ho)]
      iapply (await (le_of_eq (sum_odd ho).symm)) $$ [HB HW]
      · isplitl [HB]; · iexact HB
        iexact HW
      rw [← sum_odd ho]
      iintro ⟨HB, HW⟩
      iapply hend
      isplitl [HB]; · iexact HB
      isplitl [HW]; · iexact HW
      isplitl [H9]; · iexact H9
      isplitl [H10]; · iexact H10
      iexact Hk
    · rw [← sum_even (by omega)]
      ihave G := hend $$ [HB HW H9 H10 Hk]
      · isplitl [HB]; · iexact HB
        isplitl [HW]; · iexists _; iexact HW
        isplitl [H9]; · iexact H9
        isplitl [H10]; · iexact H10
        iexact Hk
      rw [dif_neg (fun h => ho ((c20 hw hpos).1 h))]
      iexact G
  by_cases ho : hv v.toNat % 2 = 1
  · rw [dif_pos ((c19 hw hpos).2 ho)]
    iapply (send (by omega : hv v.toNat / 2 < hv v.toNat / 2 + hv v.toNat % 2) (o39 hw hb ho) (o40 hw ho) (upTo_of_eq rfl ho) (if_neg (Nat.lt_irrefl _)).symm) $$ HS
    iintro HS
    rw [show hv v.toNat / 2 + 1 = hv v.toNat / 2 + hv v.toNat % 2 by omega]
    iapply hjp1 $$ [HS HW]
    · isplitl [HS]; · iexact HS
      iexact HW
    iexact Hk
  · ihave HS := (Entails.of_eq (show Sending c b.toNat (hv v.toNat) f W (hv v.toNat / 2) = Sending c b.toNat (hv v.toNat) f W (hv v.toNat / 2 + hv v.toNat % 2) from congrArg _ (by omega))) $$ HS
    ihave Hg := hjp1 $$ [HS HW]
    · isplitl [HS]; · iexact HS
      iexact HW
    rw [dif_neg (fun h => ho ((c19 hw hpos).1 h))]
    iapply Hg $$ Hk

end Cert.Kernel4Ideal.Moe
-- ==== Proof.MoeIdeal.Tables.lean ====
/- The three tables as the expert call reads them: the block each window takes at a grid point, and that it lies inside its
   array. -/
module

public import proofs.«01_k».proof.Proof.Moe.Words
public import proofs.«01_k».proof.Proof.MoeIdeal.Flight
public import proofs.«01_k».proof.Proof.Gen.Kernel4Ideal.Launch

@[expose] public section

noncomputable section

namespace Cert.Kernel4Ideal.Moe

open Idealize.ShloMosaic Idealize.ShloMosaic.TcCoe Cert.Kernel4Ideal Cert.Kernel4Ideal.Gen

variable {F : FTy → Type} [FloatOps F]

/-- The place of a grid point's item in the tables. -/
def item (i : grid0.Coords) : S14.Idx := fun a => match a with | 0 => i 0

/-- The tables' contents `pf` are good tables. -/
def GoodT (pf : pre0.Contents (Elt F)) : Prop := Cert.Moe.Good (pf 0) (pf 1) (pf 2)

/-- The channels a window takes at a point: the point's own, and the last of an item without rows. -/
def chan (pf : pre0.Contents (Elt F)) (i : grid0.Coords) : ℕ := if 0 < (pf 2 (item i) : BitVec 32).toNat then (i 1).val else 27

theorem pick (w : BitVec 32) (hw : w.toNat ≤ 2048) (k : ℕ) (hk : k < 28) :
    (Scalar.select (Scalar.cmpi .sgt w 0#32) (BitVec.ofNat 32 k) 27#32 : BitVec 32).toNat = if 0 < w.toNat then k else 27 := by
  have h : (Scalar.cmpi .sgt w 0#32 = 1#1) ↔ 0 < w.toNat := by
    refine (StableHlo.Predicate.sgt_iff_toNat (by omega) (by decide)).trans ?_
    rfl
  unfold Scalar.select
  split
  · rw [if_pos (h.1 ‹_›), BitVec.toNat_ofNat]; omega
  · rw [if_neg (fun hp => ‹¬ _› (h.2 hp))]; rfl

/-- Where a one-word access of a table at a point's item reads. -/
theorem word_at (i : grid0.Coords) (h : ∀ a, (k0_off1 i) a + S1.size a ≤ S14.size a) (h1) :
    (Rect.unit (s := S14) (k0_off1 i) S1.size h).emb (Shape.Idx.first h1) = item i := by
  funext a
  match a with
  | 0 =>
    apply Fin.ext
    have : k0_off1 i 0 = (i 0).val := by rw [k0_off1_eq]; rfl
    show k0_off1 i 0 + 1 * _ = (i 0).val
    rw [this]; rfl

variable {pf : pre0.Contents (Elt F)}

theorem map0 (i : grid0.Coords) : cc0_transform_0 k0_off1_inb numel1_S1 pf i = ![(pf 1 (item i) : BitVec 32).toNat, 0] := by
  unfold cc0_transform_0
  have := word_at i (k0_off1_inb i) (numel1_S1.symm ▸ Nat.one_pos)
  show ![(pf 1 _ : BitVec 32).toNat, 0] = _
  rw [← this]; rfl

theorem map1 (hg : GoodT pf) (i : grid0.Coords) : cc0_transform_1 k0_off1_inb numel1_S1 pf i = ![(pf 0 (item i) : BitVec 32).toNat, 0, chan pf i] := by
  unfold chan; rw [← pick _ (hg.rows _) _ (i 1).isLt, ← word_at i (k0_off1_inb i) (numel1_S1.symm ▸ Nat.one_pos)]; rfl

theorem map2 (hg : GoodT pf) (i : grid0.Coords) : cc0_transform_2 k0_off1_inb numel1_S1 pf i = ![(pf 0 (item i) : BitVec 32).toNat, 0, chan pf i] := by
  unfold chan; rw [← pick _ (hg.rows _) _ (i 1).isLt, ← word_at i (k0_off1_inb i) (numel1_S1.symm ▸ Nat.one_pos)]; rfl

theorem map3 (hg : GoodT pf) (i : grid0.Coords) : cc0_transform_3 k0_off1_inb numel1_S1 pf i = ![(pf 0 (item i) : BitVec 32).toNat, chan pf i, 0] := by
  unfold chan; rw [← pick _ (hg.rows _) _ (i 1).isLt, ← word_at i (k0_off1_inb i) (numel1_S1.symm ▸ Nat.one_pos)]; rfl

theorem chan_lt (pf : pre0.Contents (Elt F)) (i : grid0.Coords) : chan pf i < 28 := by
  have : (i 1).val < 28 := (i 1).isLt
  unfold chan; split <;> omega

/-- Good tables put every window's block inside its array. -/
theorem ok_of_good (hg : GoodT pf) : ok0 pf := by
  refine ⟨fun i => ?_, fun i => ?_, fun i => ?_, fun i => ?_⟩
  · have hb : (pf 1 (item i) : BitVec 32).toNat < 14 := hg.block _
    have hin : ∀ a, (cc0_transform_0 k0_off1_inb numel1_S1 pf i a + 1) * S2048x1024.size a ≤ S28672x1024.size a := by
      rw [map0]
      intro a
      match a with
      | 0 => show (_ + 1) * 2048 ≤ 28672; simp only [Matrix.cons_val_zero]; omega
      | 1 => show (0 + 1) * 1024 ≤ 1024; omega
    exact ⟨hin, .inl rfl⟩
  · have he : (pf 0 (item i) : BitVec 32).toNat < 8 := hg.expert _
    have hc := chan_lt pf i
    refine ⟨?_, .inl rfl⟩
    rw [map1 hg]
    intro a
    match a with
    | 0 => show (_ + 1) * 1 ≤ 8; simp only [Matrix.cons_val_zero]; omega
    | 1 => show (0 + 1) * 2048 ≤ 2048; omega
    | 2 => show (_ + 1) * 256 ≤ 7168; show (chan pf i + 1) * 256 ≤ 7168; omega
  · have he : (pf 0 (item i) : BitVec 32).toNat < 8 := hg.expert _
    have hc := chan_lt pf i
    refine ⟨?_, .inl rfl⟩
    rw [map2 hg]
    intro a
    match a with
    | 0 => show (_ + 1) * 1 ≤ 8; simp only [Matrix.cons_val_zero]; omega
    | 1 => show (0 + 1) * 2048 ≤ 2048; omega
    | 2 => show (_ + 1) * 256 ≤ 7168; show (chan pf i + 1) * 256 ≤ 7168; omega
  · have he : (pf 0 (item i) : BitVec 32).toNat < 8 := hg.expert _
    have hc := chan_lt pf i
    refine ⟨?_, .inl rfl⟩
    rw [map3 hg]
    intro a
    match a with
    | 0 => show (_ + 1) * 1 ≤ 8; simp only [Matrix.cons_val_zero]; omega
    | 1 => show (_ + 1) * 256 ≤ 7168; show (chan pf i + 1) * 256 ≤ 7168; omega
    | 2 => show (0 + 1) * 2048 ≤ 2048; omega

/-- The tables as the launch memory has them. -/
def tbl (m : (ℓ : Loc nD τ sig) → Buf (Elt F) ℓ) : pre0.Contents (Elt F) := fun j => m (((0 : Dev nD) : Thread nD τ).loc (pre0.ref j))

theorem good_tbl {m : (ℓ : Loc nD τ sig) → Buf (Elt F) ℓ}
    (h : Cert.Pre_tables.fn (F := F) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) (m (((0 : Dev nD) : Thread nD τ).loc main_arg6)) = fun _ => 1#1) :
    GoodT (tbl m) := Cert.Moe.good_of_pre h

end Cert.Kernel4Ideal.Moe
-- ==== Proof.MoeIdeal.Sweep.lean ====
/- The sweep over the grid: 14 items of 28 channel blocks each. What the accumulator and the result hold between two points is
   left open (`Plan`); the body keeps any plan. -/
module

public import proofs.«01_k».proof.Proof.MoeIdeal.Tables
public import Idealize.ShloMosaic.Lib.Pipeline.FrameValue
public import Idealize.ShloMosaic.Lib.Pipeline.TableIdle

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (Pipeline.UD sig nD τ) ℕ

/-! ## The grid's points -/

theorem coord0 (t : Fin grid0.N) : ((grid0.coords t) 0).val = t.val / 28 := by
  have h : t.val < 392 := lt_of_lt_of_eq t.isLt N_0
  have hs : grid0.stride 0 = 28 := by decide
  show t.val / grid0.stride 0 % 14 = _
  rw [hs]; omega

theorem coord1 (t : Fin grid0.N) : ((grid0.coords t) 1).val = t.val % 28 := by
  have hs : grid0.stride 1 = 1 := by decide
  show t.val / grid0.stride 1 % 28 = _
  rw [hs]; omega

theorem first_iff (i : grid0.Coords) : k0_cond2 i = 1#1 ↔ (i 1).val = 0 := by
  have key : ∀ k : Fin 28, (let arg1 : BitVec 32 := BitVec.ofNat 32 k.val
      Scalar.cmpi .ne (Scalar.extui (Scalar.cmpi .eq arg1 0#32) : BitVec 32) 0#32) = 1#1 ↔ k.val = 0 := by decide
  exact key (i 1)

theorem later_iff (i : grid0.Coords) : k0_cond10 i = 1#1 ↔ 0 < (i 1).val := by
  have key : ∀ k : Fin 28, (let arg1 : BitVec 32 := BitVec.ofNat 32 k.val
      Scalar.cmpi .ne (Scalar.extui (Scalar.cmpi .sgt arg1 0#32) : BitVec 32) 0#32) = 1#1 ↔ 0 < k.val := by decide
  exact key (i 1)

theorem last_iff (i : grid0.Coords) : k0_cond18 i = 1#1 ↔ (i 1).val = 27 := by
  have key : ∀ k : Fin 28, (let arg1 : BitVec 32 := BitVec.ofNat 32 k.val
      Scalar.cmpi .ne (Scalar.extui (Scalar.cmpi .eq arg1 27#32) : BitVec 32) 0#32) = 1#1 ↔ k.val = 27 := by decide
  exact key (i 1)

/-! ## The pipeline at the tables' contents -/

variable (m : (ℓ : Loc nD τ sig) → Buf (Elt F) ℓ) (hg : GoodT (tbl m))

/-- The tables' contents, admitted. -/
abbrev adm : (p : Fin 1) → (pcfgs (F := F) p).Adm := fun _ => ⟨tbl m, ok_of_good hg⟩

/-- The pipeline at these contents. -/
abbrev cfgM : Cfg sig Λ₀ := Pipeline.pin (pcfgs (F := F)) (adm m hg) 0

/-- A core's buffers at the start. -/
abbrev V (c : Dev nD) (b : Ref sig .tc) : Buf (Elt F) ((c : Thread nD τ).loc b) := m ((c : Thread nD τ).loc b)

/-- The sweep's data with the invariant `Φ`: the windows are inputs, left as they are found. -/
def rd (c : Dev nD) (Φ : Fin ((cfgM m hg).N + 1) → sProp 𝕄) : RDat τ (Elt F) Unit ℕ (Pipeline.UD sig nD τ) ℕ (cfgM m hg) c where
  A w := V m c (Pipeline.arrRef spec0 w)
  after _ _ Y X := Y = X
  Φ := Φ
  q w := Pipeline.shareOf spec0 w
  owed _ := 0

/-- The block a window takes at a point. -/
def blockAt (c : Dev nD) (w : Fin (cfgM m hg).W) (t : Fin (cfgM m hg).N) : ((cfgM m hg).win w).block.Idx → Elt F ((cfgM m hg).win w).elt :=
  (rd m hg c fun _ => iprop(emp)).fetched w t fun _ => Classical.arbitrary _

theorem isIn (w : Fin (cfgM m hg).W) : ((cfgM m hg).win w).isOut = false := by
  revert w; exact fun | 0 => rfl | 1 => rfl | 2 => rfl | 3 => rfl | ⟨_ + 4, h⟩ => absurd h (Nat.not_lt.2 (Nat.le_add_left _ _))

variable {c : Dev nD} {Φ : Fin ((cfgM m hg).N + 1) → Res F}

/-- A fetched block is whole: what the buffer held before is gone. -/
theorem fetched_whole (w : Fin (cfgM m hg).W) (t : Fin (cfgM m hg).N) (d) : (rd m hg c Φ).fetched w t d = blockAt m hg c w t := by
  unfold blockAt RDat.fetched Window.fill
  have hm : ∀ x, ((cfgM m hg).win w).moved ((cfgM m hg).grid.coords t) x = true := fun x => by
    rw [Window.moved_iff]; intro a; exact lt_of_lt_of_eq (x a).isLt rfl
  funext x
  rw [dif_pos (hm x), dif_pos (hm x)]
  rfl

/-- At every point the body finds the window's block of that point. -/
theorem finds_block (w : Fin (cfgM m hg).W) : ∀ (n : ℕ) (t : Fin (cfgM m hg).N), t.val = n → ∀ Y, (rd m hg c Φ).Finds w t Y → Y = blockAt m hg c w t := by
  intro n
  induction n with
  | zero =>
    intro t ht Y hY
    have hf : ((cfgM m hg).win w).fetch t = true := by rw [Window.fetch, isIn m hg w, decide_eq_true ht]; rfl
    obtain ⟨d, hd⟩ := ((rd m hg c Φ).finds_of_fetch hf Y).1 hY
    exact hd.trans (fetched_whole m hg w t d)
  | succ n ih =>
    intro t ht Y hY
    by_cases hf : ((cfgM m hg).win w).fetch t = true
    · obtain ⟨d, hd⟩ := ((rd m hg c Φ).finds_of_fetch hf Y).1 hY
      exact hd.trans (fetched_whole m hg w t d)
    · have hf' : ((cfgM m hg).win w).fetch t = false := by simpa using hf
      rcases ((rd m hg c Φ).finds_of_pos hf' (by omega) Y).1 hY with h | ⟨Y', hY', h⟩
      · rw [Window.flush, isIn m hg w, Bool.false_and] at h; exact absurd h (by decide)
      · have h1 := ih ⟨t.val - 1, lt_of_le_of_lt (Nat.sub_le _ _) t.isLt⟩ (by show t.val - 1 = n; omega) Y' hY'
        have h2 : Y' = Y := h
        have hi : ((cfgM m hg).win w).index t = ((cfgM m hg).win w).index ⟨t.val - 1, lt_of_le_of_lt (Nat.sub_le _ _) t.isLt⟩ := by
          by_contra hne
          apply hf
          have h3 : ∃ h : 0 < t.val, ((cfgM m hg).win w).index t ≠ ((cfgM m hg).win w).index ⟨t.val - 1, lt_of_le_of_lt (Nat.sub_le _ _) t.isLt⟩ := ⟨by omega, hne⟩
          rw [Window.fetch, isIn m hg w, decide_eq_true h3]; simp
        rw [← h2, h1]
        exact ((rd m hg c fun _ => iprop(emp)).fetched_congr w hi (by funext a; rfl) _).symm

end Cert.Kernel4Ideal.Moe

end
-- ==== Proof.MoeIdeal.Body.lean ====
/- One grid point of the sweep: the body keeps any plan for what the accumulator and the result hold. -/
module

public import proofs.«01_k».proof.Proof.MoeIdeal.Sweep

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (Pipeline.UD sig nD τ) ℕ

variable (m : (ℓ : Loc nD τ sig) → Buf (Elt F) ℓ) (hg : GoodT (tbl m))

/-- Place `n` of a table. -/
def at14 (n : ℕ) (h : n < 14) : S14.Idx := fun a => match a with | 0 => ⟨n, h⟩

/-- The experts, blocks and rows as the body's memrefs read them. -/
def expertT (pf : pre0.Contents (Elt F)) : Vec F S14 .i32 := pf 0
@[inherit_doc expertT] def blockT (pf : pre0.Contents (Elt F)) : Vec F S14 .i32 := pf 1
@[inherit_doc expertT] def rowsT (pf : pre0.Contents (Elt F)) : Vec F S14 .i32 := pf 2

/-- The rows of item `n`. -/
def rowsN (n : ℕ) : ℕ := if h : n < 14 then (tbl m 2 (at14 n h) : BitVec 32).toNat else 0

/-- The block of item `n`. -/
def blockN (n : ℕ) : ℕ := if h : n < 14 then (tbl m 1 (at14 n h) : BitVec 32).toNat else 0

/-- What a grid point's body reads from the arrays. -/
def insAt (c : Dev nD) (t : Fin (cfgM m hg).N) : Ins F :=
  ⟨blockAt m hg c 0 t, blockAt m hg c 1 t, blockAt m hg c 2 t, blockAt m hg c 3 t⟩

/-- What the sweep keeps: the accumulator after `k` channel blocks of an item (`Acc`), within a point after `n` halves of
    rows (`J`), and the result after a number of items (`Outs`). -/
structure Plan (c : Dev nD) where
  Acc : ℕ → ℕ → Vec F S2048x2048 .f32 → Prop
  J : Fin (cfgM m hg).N → ℕ → Vec F S2048x2048 .f32 → Prop
  Outs : ℕ → Vec F S28672x2048 .f32 → Prop
  start : ∀ (t : Fin (cfgM m hg).N) f, 0 < rowsN m (t.val / 28) → (t.val % 28 = 0 ∨ Acc (t.val / 28) (t.val % 28) f) → J t 0 f
  first : ∀ (t : Fin (cfgM m hg).N), 0 < rowsN m (t.val / 28) → t.val % 28 = 0 →
    Steps (insAt m hg c t) (fun a b c d _ => k0_pay2 a b c d) (fun a b c d _ => k0_pay3 a b c d) (J t)
  later : ∀ (t : Fin (cfgM m hg).N), 0 < rowsN m (t.val / 28) → 0 < t.val % 28 → Steps (insAt m hg c t) k0_pay8 k0_pay9 (J t)
  next : ∀ (t : Fin (cfgM m hg).N) f, 0 < rowsN m (t.val / 28) → J t (hv (rowsN m (t.val / 28))) f → Acc (t.val / 28) (t.val % 28 + 1) f
  out0 : Outs 0 (V m c main_v0)
  skip : ∀ n W, n < 14 → rowsN m n = 0 → Outs n W → Outs (n + 1) W
  land : ∀ n f W, n < 14 → 0 < rowsN m n → Acc n 28 f → Outs n W → Outs (n + 1) (landed (blockN m n) (hv (rowsN m n)) f W)

variable {m hg} {c : Dev nD}

/-- What the core holds between two points, the windows apart, when the buffers hold `f`, `W` and `x11`, `x12`, `x13`. -/
def between (c : Dev nD) (f : Vec F S2048x2048 .f32) (W : Vec F S28672x2048 .f32) (x11 x12 : Vec F S2048x256 .bf16) (x13 : Vec F S256x2048 .bf16) : Res F :=
  iprop(owns (c : Thread nD τ) (Memref.whole cc0_scratch0) fullShare f ∗ owns (c : Thread nD τ) (Memref.whole cc0_scratch1) fullShare x11
    ∗ owns (c : Thread nD τ) (Memref.whole cc0_scratch2) fullShare x12 ∗ owns (c : Thread nD τ) (Memref.whole cc0_scratch3) fullShare x13
    ∗ (outLoc c ↦{fullShare} (W : Buf (Elt F) (outLoc c)))
    ∗ semVal ((c : Thread nD τ), .dma (cc0_scratch4 : DmaSems sig S_).sem) 0)

/-- The generator's state and the tables. -/
def aside (m : (ℓ : Loc nD τ sig) → Buf (Elt F) ℓ) (c : Dev nD) : Res F :=
  iprop((∃ r, prngReg c r) ∗ Pipeline.ΦT pre0 (tbl m) c)

/-- What holds before point `n`. -/
def inv (P : Plan m hg c) (n : ℕ) : Res F :=
  iprop(∃ f W x11 x12 x13, ⌜0 < rowsN m (n / 28) → 0 < n % 28 → P.Acc (n / 28) (n % 28) f⌝ ∗ ⌜P.Outs (n / 28) W⌝
    ∗ between c f W x11 x12 x13 ∗ aside m c)

theorem tables_eq (pf : pre0.Contents (Elt F)) (c : Dev nD) :
    (Pipeline.ΦT pre0 pf c : sProp 𝕄)
      = iprop(owns (c : Thread nD τ) (Memref.whole main_arg1) fullShare.right (expertT pf)
        ∗ owns (c : Thread nD τ) (Memref.whole main_arg2) fullShare.right (blockT pf)
        ∗ owns (c : Thread nD τ) (Memref.whole main_arg3) fullShare.right (rowsT pf)) := by
  rw [owns_whole, owns_whole, owns_whole]
  exact bigSep_univ_eq_bigSepL [(0 : Fin 3), (1 : Fin 3), (2 : Fin 3)] (by decide) (by decide) _

theorem item_coords (t : Fin grid0.N) : item (grid0.coords t)
    = at14 (t.val / 28) (by have h := lt_of_lt_of_eq t.isLt N_0; omega) := by
  funext a
  match a with
  | 0 => exact Fin.ext (coord0 t)

theorem rows_word (t : Fin grid0.N) : (tbl m 2 (item (grid0.coords t)) : BitVec 32).toNat = rowsN m (t.val / 28) := by
  have h := lt_of_lt_of_eq t.isLt N_0
  unfold rowsN
  rw [dif_pos (by omega : t.val / 28 < 14), item_coords]

theorem block_word (t : Fin grid0.N) : (tbl m 1 (item (grid0.coords t)) : BitVec 32).toNat = blockN m (t.val / 28) := by
  have h := lt_of_lt_of_eq t.isLt N_0
  unfold blockN
  rw [dif_pos (by omega : t.val / 28 < 14), item_coords]

/-- What the core holds beside its eight buffers. -/
def rest (m : (ℓ : Loc nD τ sig) → Buf (Elt F) ℓ) (c : Dev nD) (W : Vec F S28672x2048 .f32) (Wt : Waits sig Unit) : Res F :=
  iprop((outLoc c ↦{fullShare} (W : Buf (Elt F) (outLoc c))) ∗ semVal ((c : Thread nD τ), .dma (cc0_scratch4 : DmaSems sig S_).sem) 0
    ∗ owes (c : Thread nD τ) 0 Wt ∗ aside m c)

theorem rest_rows (W : Vec F S28672x2048 .f32) (Wt : Waits sig Unit) :
    rest m c W Wt ⊢ iprop(owns (c : Thread nD τ) (Memref.whole main_arg3) fullShare.right (rowsT (tbl m))
      ∗ (owns (c : Thread nD τ) (Memref.whole main_arg3) fullShare.right (rowsT (tbl m)) -∗ rest m c W Wt)) := by
  unfold rest aside
  rw [tables_eq]
  iintro ⟨HW, Hs, HO, Hg, H0, H1, H2⟩
  isplitl [H2]; · iexact H2
  iintro H2
  isplitl [HW]; · iexact HW
  isplitl [Hs]; · iexact Hs
  isplitl [HO]; · iexact HO
  isplitl [Hg]; · iexact Hg
  isplitl [H0]; · iexact H0
  isplitl [H1]; · iexact H1
  iexact H2

theorem rest_blocks (W : Vec F S28672x2048 .f32) (Wt : Waits sig Unit) :
    rest m c W Wt ⊢ iprop(owns (c : Thread nD τ) (Memref.whole main_arg2) fullShare.right (blockT (tbl m))
      ∗ (owns (c : Thread nD τ) (Memref.whole main_arg2) fullShare.right (blockT (tbl m)) -∗ rest m c W Wt)) := by
  unfold rest aside
  rw [tables_eq]
  iintro ⟨HW, Hs, HO, Hg, H0, H1, H2⟩
  isplitl [H1]; · iexact H1
  iintro H1
  isplitl [HW]; · iexact HW
  isplitl [Hs]; · iexact Hs
  isplitl [HO]; · iexact HO
  isplitl [Hg]; · iexact Hg
  isplitl [H0]; · iexact H0
  isplitl [H1]; · iexact H1
  iexact H2

theorem one_place (x : S1.Idx) (h : 0 < S1.numel) : x = Shape.Idx.first h := by
  funext a
  match a with
  | 0 => exact Fin.ext (by have := (x 0).isLt; have h2 := (Shape.Idx.first h 0).isLt; change _ < 1 at this; change _ < 1 at h2; omega)

theorem load_rows (i : grid0.Coords) (T : Vec F S14 .i32) (x) :
    View.ld T (Rect.unit (s := S14) (k0_off1 i) S1.size (k0_off1_inb i)) x = T (item i) := by
  show T ((Rect.unit (s := S14) (k0_off1 i) S1.size (k0_off1_inb i)).emb x) = _
  rw [one_place x (by decide), word_at]

theorem load_block (i : grid0.Coords) (h18) (T : Vec F S14 .i32) (x) :
    View.ld T (Rect.unit (s := S14) (k0_off34 i) S1.size (k0_off34_inb i h18)) x = T (item i) := by
  show T ((Rect.unit (s := S14) (k0_off34 i) S1.size (k0_off34_inb i h18)).emb x) = _
  have e : ∀ a, (k0_off1 i) a + S1.size a ≤ S14.size a := k0_off1_inb i
  rw [one_place x (by decide)]
  exact congrArg T (word_at i e (by show 0 < S1.numel; decide))

/-- The buffers of a point whose windows' buffers are `a5`, …, `a8`. -/
def mems (a5 : Memref sig .tc .vmem S2048x1024 .i32) (a6 : Memref sig .tc .vmem S1x2048x256 .f32) (a7 : Memref sig .tc .vmem S1x2048x256 .f32)
    (a8 : Memref sig .tc .vmem S1x256x2048 .f32) : Mems :=
  ⟨a5, a6, a7, a8, Memref.whole cc0_scratch0, Memref.whole cc0_scratch1, Memref.whole cc0_scratch2, Memref.whole cc0_scratch3⟩

/-- What the core holds before point `n`, its windows' buffers at `I`. -/
def at_point (P : Plan m hg c) (a5 : Memref sig .tc .vmem S2048x1024 .i32) (a6 : Memref sig .tc .vmem S1x2048x256 .f32)
    (a7 : Memref sig .tc .vmem S1x2048x256 .f32) (a8 : Memref sig .tc .vmem S1x256x2048 .f32) (I : Ins F) (n : ℕ) : Res F :=
  iprop(owns (c : Thread nD τ) a5 fullShare I.x5 ∗ owns (c : Thread nD τ) a6 fullShare I.x6
    ∗ owns (c : Thread nD τ) a7 fullShare I.x7 ∗ owns (c : Thread nD τ) a8 fullShare I.x8
    ∗ inv P n ∗ ∃ Wt, owes (c : Thread nD τ) 0 Wt)

variable {a5 : Memref sig .tc .vmem S2048x1024 .i32} {a6 : Memref sig .tc .vmem S1x2048x256 .f32} {a7 : Memref sig .tc .vmem S1x2048x256 .f32}
  {a8 : Memref sig .tc .vmem S1x256x2048 .f32}

theorem at_point_of (P : Plan m hg c) (I : Ins F) (n : ℕ) (σ : St F) (W : Vec F S28672x2048 .f32) (Wt : Waits sig Unit)
    (hA : 0 < rowsN m (n / 28) → 0 < n % 28 → P.Acc (n / 28) (n % 28) σ.x10) (hW : P.Outs (n / 28) W) :
    iprop(Held c (mems a5 a6 a7 a8) I σ ∗ rest m c W Wt) ⊢ at_point P a5 a6 a7 a8 I n := by
  unfold Held rest at_point inv between mems
  iintro ⟨⟨H5, H6, H7, H8, S0, S1, S2, S3⟩, HW, Hs, HO, HX⟩
  isplitl [H5]; · iexact H5
  isplitl [H6]; · iexact H6
  isplitl [H7]; · iexact H7
  isplitl [H8]; · iexact H8
  isplitr [HO]
  · iexists σ.x10; iexists W; iexists σ.x11; iexists σ.x12; iexists σ.x13
    isplitr; · ipureintro; exact hA
    isplitr; · ipureintro; exact hW
    isplitr [HX]
    · isplitl [S0]; · iexact S0
      isplitl [S1]; · iexact S1
      isplitl [S2]; · iexact S2
      isplitl [S3]; · iexact S3
      isplitl [HW]; · iexact HW
      iexact Hs
    · iexact HX
  · iexists Wt; iexact HO

theorem of_at_point (P : Plan m hg c) (I : Ins F) (n : ℕ) {G : Res F}
    (h : ∀ (σ : St F) W Wt, (0 < rowsN m (n / 28) → 0 < n % 28 → P.Acc (n / 28) (n % 28) σ.x10) → P.Outs (n / 28) W →
      iprop(Held c (mems a5 a6 a7 a8) I σ ∗ rest m c W Wt) ⊢ G) : at_point P a5 a6 a7 a8 I n ⊢ G := by
  unfold at_point inv between
  iintro ⟨H5, H6, H7, H8, ⟨%f, %W, %x11, %x12, %x13, %hA, %hW, ⟨S0, S1, S2, S3, HW, Hs⟩, HX⟩, %Wt, HO⟩
  have g := h ⟨f, x11, x12, x13⟩ W Wt hA hW
  unfold Held rest mems at g
  iapply g
  isplitr [HW Hs HO HX]
  · isplitl [H5]; · iexact H5
    isplitl [H6]; · iexact H6
    isplitl [H7]; · iexact H7
    isplitl [H8]; · iexact H8
    isplitl [S0]; · iexact S0
    isplitl [S1]; · iexact S1
    isplitl [S2]; · iexact S2
    iexact S3
  · isplitl [HW]; · iexact HW
    isplitl [Hs]; · iexact Hs
    isplitl [HO]; · iexact HO
    iexact HX

set_option maxHeartbeats 4000000 in
/-- One point's body. -/
theorem point (P : Plan m hg c) (t : Fin (cfgM m hg).N)
    (harg2 harg3 harg4) (harg5 : a5.IsWhole) (harg6 : a6.IsWhole) (harg7 : a7.IsWhole) (harg8 : a8.IsWhole) (harg9 harg10 harg11 harg12 harg13) :
    at_point P a5 a6 a7 a8 (insAt m hg c t) t.val
      ⊢ wp frame (wpE (defs₀ (F := F)) Variants.none (c : Thread nD τ) none) Set.univ
          (cc0_moe_experts (F := F) (grid0.coords t) (Memref.whole main_arg1) harg2 (Memref.whole main_arg2) harg3 (Memref.whole main_arg3) harg4
            a5 harg5 a6 harg6 a7 harg7 a8 harg8 (Memref.whole main_v0) harg9 (Memref.whole cc0_scratch0) harg10 (Memref.whole cc0_scratch1) harg11
            (Memref.whole cc0_scratch2) harg12 (Memref.whole cc0_scratch3) harg13 cc0_scratch4)
          fun _ => at_point P a5 a6 a7 a8 (insAt m hg c t) (t.val + 1) := by
  have ht : t.val < 392 := lt_of_lt_of_eq t.isLt N_0
  have e1 := coord1 t
  have hr : (rowsT (tbl m) (item (grid0.coords t)) : BitVec 32).toNat = rowsN m (t.val / 28) := rows_word t
  have hb : (blockT (tbl m) (item (grid0.coords t)) : BitVec 32).toNat = blockN m (t.val / 28) := block_word t
  have hw : (rowsT (tbl m) (item (grid0.coords t)) : BitVec 32).toNat ≤ 2048 := hg.rows _
  have hb14 : (blockT (tbl m) (item (grid0.coords t)) : BitVec 32).toNat < 14 := hg.block _
  refine of_at_point P _ _ fun σ W Wt hA hW => ?_
  refine body_runs (c := c) (M := mems a5 a6 a7 a8) (I := insAt m hg c t) (X := rest m c W Wt) (σ := σ)
    (J := fun k x => 0 < rowsN m (t.val / 28) → P.J t k x)
    (grid0.coords t) (Memref.whole main_arg1) harg2 (Memref.whole main_arg2) harg3 (Memref.whole main_arg3) harg4 harg5 harg6 harg7 harg8
    (Memref.whole main_v0) harg9 harg10 harg11 harg12 harg13 cc0_scratch4
    (rest_rows W Wt) (rowsT (tbl m) (item (grid0.coords t))) (load_rows _ _) hw (chk1_all _ hw) ?_ ?_ ?_ ?_ ?_ ?_ ?_
  · intro h2
    have h0 : t.val % 28 = 0 := by rw [← e1]; exact (first_iff _).1 h2
    exact ⟨fun k x offx inbx off inb hJ hx ho h => (P.first t h h0).two k x offx inbx off inb (hJ h) hx ho, fun k x offx inbx off inb hJ hx ho h => (P.first t h h0).one k x offx inbx off inb (hJ h) hx ho⟩
  · intro h2
    have h0 : 0 < t.val % 28 := by rw [← e1]; exact (later_iff _).1 h2
    exact ⟨fun k x offx inbx off inb hJ hx ho h => (P.later t h h0).two k x offx inbx off inb (hJ h) hx ho, fun k x offx inbx off inb hJ hx ho h => (P.later t h h0).one k x offx inbx off inb (hJ h) hx ho⟩
  · rw [first_iff, later_iff]; omega
  · intro h
    refine P.start t _ h ?_
    rcases Nat.eq_zero_or_pos (t.val % 28) with h0 | h0
    · exact Or.inl h0
    · exact Or.inr (hA h h0)
  · intro hv0
    rw [hr] at hv0
    refine at_point_of P _ _ σ W Wt ?_ ?_
    · intro h h0
      have : (t.val + 1) / 28 = t.val / 28 := by omega
      rw [this] at h; omega
    · by_cases h27 : t.val % 28 = 27
      · have : (t.val + 1) / 28 = t.val / 28 + 1 := by omega
        rw [this]; exact P.skip _ _ (by omega) hv0 hW
      · have : (t.val + 1) / 28 = t.val / 28 := by omega
        rw [this]; exact hW
  · intro hpos h18 σ' hJ
    rw [hr] at hpos hJ
    have h27 : t.val % 28 ≠ 27 := fun h => h18 ((last_iff _).2 (e1.trans h))
    have hd : (t.val + 1) / 28 = t.val / 28 := by omega
    have hm : (t.val + 1) % 28 = t.val % 28 + 1 := by omega
    refine at_point_of P _ _ σ' W Wt ?_ ?_
    · intro _ _
      rw [hd, hm]; exact P.next t _ hpos (hJ hpos)
    · rw [hd]; exact hW
  · intro hpos h1 h18 σ' hJ
    have h27 : t.val % 28 = 27 := by rw [← e1]; exact (last_iff _).1 h18
    have hd : (t.val + 1) / 28 = t.val / 28 + 1 := by omega
    have hpos' := hpos
    rw [hr] at hpos' hJ
    unfold flight
    refine Runs.smem (rest_blocks W Wt) (load_block _ h18 _) ?_
    refine Runs.assume (chk2_all hw hb14 _) ?_
    have hland : P.Outs ((t.val + 1) / 28) (landed (blockT (tbl m) (item (grid0.coords t)) : BitVec 32).toNat
        (hv (rowsT (tbl m) (item (grid0.coords t)) : BitVec 32).toNat) σ'.x10 W) := by
      rw [hd, hb, hr]
      have h28 := P.next t σ'.x10 hpos' (hJ hpos')
      rw [h27] at h28
      exact P.land _ _ _ (by omega) hpos' h28 hW
    have fin := fun Wt' => at_point_of (a5 := a5) (a6 := a6) (a7 := a7) (a8 := a8) P (insAt m hg c t) (t.val + 1) σ' _ Wt' (by intro _ h; omega) hland
    unfold Runs
    show iprop(Held c (mems a5 a6 a7 a8) (insAt m hg c t) σ' ∗ rest m c W Wt) ⊢ wp _ _ _ (copies _ _ _ _ _ _ _ _ _ _ _ _ _ _ _ _ _ _ _ _ _ _ _ _ _ _ _ _ _ _ _ _) _
    unfold Held rest mems at fin ⊢
    dsimp only at fin ⊢
    rw [owns_whole (c : Thread nD τ) cc0_scratch0] at fin ⊢
    iintro ⟨⟨H5, H6, H7, H8, S0, S1, S2, S3⟩, HW, Hs, HO, HX⟩
    ihave G := (copies_wp (c := c) (f := σ'.x10) (W := W) (Wt := Wt) hw hb14 hpos) $$ [HW S0 Hs HO]
    · isplitl [HW]; · iexact HW
      isplitl [S0]; · iexact S0
      isplitl [Hs]; · iexact Hs
      iexact HO
    iapply G
    iintro ⟨HW, S0, Hs, %Wt', HO⟩
    iapply (fin Wt')
    isplitr [HW Hs HO HX]
    · isplitl [H5]; · iexact H5
      isplitl [H6]; · iexact H6
      isplitl [H7]; · iexact H7
      isplitl [H8]; · iexact H8
      isplitl [S0]; · iexact S0
      isplitl [S1]; · iexact S1
      isplitl [S2]; · iexact S2
      iexact S3
    · isplitl [HW]; · iexact HW
      isplitl [Hs]; · iexact Hs
      isplitl [HO]; · iexact HO
      iexact HX

end Cert.Kernel4Ideal.Moe

end
-- ==== Proof.MoeIdeal.Frame.lean ====
/- The launch: the call runs, keeps its arguments and leaves in its result what a plan says. -/
module

public import proofs.«01_k».proof.Proof.MoeIdeal.Body
public import Idealize.ShloMosaic.Lib.Claim

@[expose] public section

set_option maxRecDepth 16384

noncomputable section

namespace Cert.Kernel4Ideal.Moe

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (Pipeline.UD sig nD τ) ℕ

variable {m : (ℓ : Loc nD τ sig) → Buf (Elt F) ℓ} {hg : GoodT (tbl m)}

/-- The sweep's data under a plan. -/
abbrev dat (P : (c : Dev nD) → Plan m hg c) (c : Dev nD) : RDat τ (Elt F) Unit ℕ (Pipeline.UD sig nD τ) ℕ (cfgM m hg) c :=
  rd m hg c fun t => inv (P c) t.val

theorem defs₀_row (c : Dev nD) (t : Fin grid0.N) (s) : defs₀ (F := F) .tc 0 (t, s)
    = cc0_moe_experts (grid0.coords t) (Memref.whole main_arg1) (Memref.isWhole_whole _) (Memref.whole main_arg2) (Memref.isWhole_whole _) (Memref.whole main_arg3) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 := by
  unfold defs₀; rw [Defs.onTc_tc]

section ends

variable {a5 : Memref sig .tc .vmem S2048x1024 .i32} {a6 : Memref sig .tc .vmem S1x2048x256 .f32} {a7 : Memref sig .tc .vmem S1x2048x256 .f32}
  {a8 : Memref sig .tc .vmem S1x256x2048 .f32}

theorem found {c : Dev nD} (P : Plan m hg c) (I : Ins F) (n : ℕ) (Q : Waits sig Unit → Prop) :
    iprop(inv P n ∗ (∃ W, ⌜Q W⌝ ∗ owes (c : Thread nD τ) 0 W) ∗ owns (c : Thread nD τ) a5 fullShare I.x5 ∗ owns (c : Thread nD τ) a6 fullShare I.x6
      ∗ owns (c : Thread nD τ) a7 fullShare I.x7 ∗ owns (c : Thread nD τ) a8 fullShare I.x8) ⊢ at_point P a5 a6 a7 a8 I n := by
  unfold at_point
  iintro ⟨HI, ⟨%Wt, -, HO⟩, H5, H6, H7, H8⟩
  isplitl [H5]; · iexact H5
  isplitl [H6]; · iexact H6
  isplitl [H7]; · iexact H7
  isplitl [H8]; · iexact H8
  isplitl [HI]; · iexact HI
  iexists Wt; iexact HO

theorem left {c : Dev nD} (P : Plan m hg c) (I : Ins F) (n : ℕ) (Q : Waits sig Unit → Prop) (hQ : ∀ W, Q W) :
    at_point P a5 a6 a7 a8 I n ⊢ iprop(inv P n ∗ (∃ W, ⌜Q W⌝ ∗ owes (c : Thread nD τ) 0 W)
      ∗ (∃ X, ⌜I.x5 = X⌝ ∗ owns (c : Thread nD τ) a5 fullShare X) ∗ (∃ X, ⌜I.x6 = X⌝ ∗ owns (c : Thread nD τ) a6 fullShare X)
      ∗ (∃ X, ⌜I.x7 = X⌝ ∗ owns (c : Thread nD τ) a7 fullShare X) ∗ (∃ X, ⌜I.x8 = X⌝ ∗ owns (c : Thread nD τ) a8 fullShare X)) := by
  unfold at_point
  iintro ⟨H5, H6, H7, H8, HI, %Wt, HO⟩
  isplitl [HI]; · iexact HI
  isplitl [HO]
  · iexists Wt; isplitr; · ipureintro; exact hQ Wt
    iexact HO
  isplitl [H5]
  · iexists I.x5; isplitr; · ipureintro; rfl
    iexact H5
  isplitl [H6]
  · iexists I.x6; isplitr; · ipureintro; rfl
    iexact H6
  isplitl [H7]
  · iexists I.x7; isplitr; · ipureintro; rfl
    iexact H7
  iexists I.x8; isplitr; · ipureintro; rfl
  iexact H8

end ends

theorem body_ok (P : (c : Dev nD) → Plan m hg c) (c : Dev nD) : (dat P c).BodyObligation (defs₀ (F := F)) Variants.none () Set.univ := by
  intro t Y hY
  have h0 : Y 0 = (insAt m hg c t).x5 := finds_block m hg 0 t.val t rfl _ (hY 0)
  have h1 : Y 1 = (insAt m hg c t).x6 := finds_block m hg 1 t.val t rfl _ (hY 1)
  have h2 : Y 2 = (insAt m hg c t).x7 := finds_block m hg 2 t.val t rfl _ (hY 2)
  have h3 : Y 3 = (insAt m hg c t).x8 := finds_block m hg 3 t.val t rfl _ (hY 3)
  have key := point (c := c) (P c) t (Memref.isWhole_whole _) (Memref.isWhole_whole _) (Memref.isWhole_whole _)
    (hstage0_0 (((cfgM m hg).slots t 0).cast nbuf0_0)) (hstage0_1 (((cfgM m hg).slots t 1).cast nbuf0_1))
    (hstage0_2 (((cfgM m hg).slots t 2).cast nbuf0_2)) (hstage0_3 (((cfgM m hg).slots t 3).cast nbuf0_3))
    (Memref.isWhole_whole _) (Memref.isWhole_whole _) (Memref.isWhole_whole _) (Memref.isWhole_whole _) (Memref.isWhole_whole _)
  rw [bigSep_W0, bigSep_W0, h0, h1, h2, h3]
  have hbody : defs₀ (F := F) .tc (cfgM m hg).body ((cfgM m hg).bodyArgs t ((cfgM m hg).slots t)) = _ := defs₀_row c t ((cfgM m hg).slots t)
  rw [hbody]
  have hΦ : (dat P c).Φ t.castSucc = inv (P c) t.val := congrArg (inv (P c)) (Fin.val_castSucc t)
  rw [hΦ]
  refine triple_restated key rfl ?_ ?_
  · exact found (P c) (insAt m hg c t) t.val _
  · intro _; exact left (P c) (insAt m hg c t) (t.val + 1) _ (fun _ _ _ => Or.inl trivial)

/-- The one semaphore of the body's own transfers. -/
abbrev osem : Fin 1 → SemLoc sig := fun _ => SemLoc.dma 7

theorem osem_facts : Pipeline.OwnSemFacts spec0 osem := by decide

/-- The buffer the body writes itself. -/
abbrev written : Finset (Ref sig .tc) := {main_v0}

theorem written_rest : written ⊆ Pipeline.restRefsP sig pre0 spec0 \ ∅ := by decide

theorem sems_eq (c : Dev nD) :
    (Pipeline.ownSems0 (Ix := Unit) (Name := ℕ) (U := Pipeline.UD sig nD τ) (Lvl := ℕ) (Val := Elt F) (τ := τ) osem c : sProp 𝕄)
      = semVal ((c : Thread nD τ), .dma (cc0_scratch4 : DmaSems sig S_).sem) 0 := by
  rw [Pipeline.ownSems0_eq_of_list c osem [0] (by decide) (by decide)]; rfl

theorem routed_eq (c : Dev nD) (W : (b : Ref sig .tc) → Buf (Elt F) ((c : Thread nD τ).loc b)) :
    (Pipeline.routed written c W : sProp 𝕄) = (outLoc c ↦{fullShare} W main_v0) := by
  unfold Pipeline.routed
  rw [BI.bigSep_eq_bigSepL_of_eq [main_v0] (by decide) (by decide)]; rfl

theorem enter (P : (c : Dev nD) → Plan m hg c) (c : Dev nD) :
    iprop(Pipeline.ΦDRG osem spec0 ∅ written (V m) (V m) c ∗ Pipeline.ΦT pre0 (tbl m) c) ⊢ (dat P c).Φ 0 := by
  rw [Pipeline.ΦDRG_eq, scopedRest0_eq, sems_eq, routed_eq]
  show _ ⊢ inv (P c) 0
  unfold inv between aside
  simp only [owns_whole]
  iintro ⟨⟨⟨⟨%f0, S0⟩, ⟨%f1, S1⟩, ⟨%f2, S2⟩, ⟨%f3, S3⟩⟩, Hg, Hs, -, HW⟩, HT⟩
  iexists f0; iexists (V m c main_v0); iexists f1; iexists f2; iexists f3
  isplitr; · ipureintro; intro _ h; exact absurd h (by decide)
  isplitr; · ipureintro; exact (P c).out0
  isplitr [Hg HT]
  · isplitl [S0]; · iexact S0
    isplitl [S1]; · iexact S1
    isplitl [S2]; · iexact S2
    isplitl [S3]; · iexact S3
    isplitl [HW]; · iexact HW
    iexact Hs
  · isplitl [Hg]; · iexact Hg
    iexact HT

theorem leave (P : (c : Dev nD) → Plan m hg c) (c : Dev nD) :
    (dat P c).Φ (Fin.last (cfgM m hg).N) ⊢ iprop(Pipeline.ΦD osem spec0 ∅ (V m) c ∗ Pipeline.routedSat written c fun W => (P c).Outs 14 (W main_v0)) := by
  show inv (P c) grid0.N ⊢ _
  rw [N_0, Pipeline.ΦD_eq, scopedRest0_eq, sems_eq]
  unfold Pipeline.routedSat inv between aside
  simp only [owns_whole]
  iintro ⟨%f, %W, %x11, %x12, %x13, -, %hW, ⟨S0, S1, S2, S3, HW, Hs⟩, Hg, HT⟩
  isplitr [HW]
  · isplitl [S0 S1 S2 S3]
    · isplitl [S0]; · iexists f; iexact S0
      isplitl [S1]; · iexists x11; iexact S1
      isplitl [S2]; · iexists x12; iexact S2
      iexists x13; iexact S3
    isplitl [Hg]; · iexact Hg
    isplitl [Hs]; · iexact Hs
    rw [BI.bigSep_empty]
    iempintro
  · iexists (Function.update (V m c) main_v0 W)
    rw [routed_eq, Function.update_self]
    isplitr
    · ipureintro; exact hW
    · iexact HW

set_option backward.isDefEq.respectTransparency.types false in
/-- The call runs; at the end every semaphore is at zero, the windows' arrays and the other arguments are as they were, and the
    result is as the plan says. -/
theorem run (P : (c : Dev nD) → Plan m hg c) (ρ : Dev nD → PrngReg) :
    θ_run (defs (F := F)) (onTc (τ := τ) (main (F := F))) ⟨m, fun _ => 0, ρ⟩ (fun r =>
      (RDat.FramePostR (cfgM m hg) (dat P) written (V m) r
        ∧ ∀ c : Dev nD, ∃ W : (b : Ref sig .tc) → Buf (Elt F) ((c : Thread nD τ).loc b), (P c).Outs 14 (W main_v0)
          ∧ ∀ b ∈ written, r.2.mem ((c : Thread nD τ).loc b) = W b) ∧ r.2.sem = fun _ => 0) :=
  RDat.θ_run_frameP_dmaRSat_shared (pcfgs (F := F)) (adm m hg) (0 : Fin 1) launch0.to₀ osem (defs₀ (F := F)) Variants.none
    (dat P) osem_facts ∅ written (Finset.empty_subset _) written_rest m ρ main (body_ok P) (fun _ _ _ => rfl) (fun _ _ => rfl) (V m)
    (Pipeline.hmainP_region (pcfgs (F := F)) 0 (defs₀ (F := F)) Variants.none m main fun c => (main_chain c).trans rfl)
    (fun _ _ => rfl) (fun c k => by rw [Subsingleton.elim c 0]; rfl)
    (fun c W => (P c).Outs 14 (W main_v0)) (enter P) (leave P) _ (fun _ h => h)

/-- The arguments at the end. -/
theorem kept {P : (c : Dev nD) → Plan m hg c} {r : PUnit × MemSt nD τ sig (Elt F)} (h : RDat.FramePostR (cfgM m hg) (dat P) written (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  have hw : ∀ w : Fin (cfgM m hg).W, r.2.mem (((cfgM m hg).spec w).arr.view.loc (c : Thread nD τ)) = (dat P c).A w := fun w => by
    have := (h c).1 w
    rw [(dat P c).ArrAt_in w (isIn m hg w)] at this
    exact this
  have hr : ∀ b ∈ Pipeline.restRefs sig spec0 \ written, r.2.mem ((c : Thread nD τ).loc b) = V m c b := (h c).2
  exact ⟨hw 0, hr main_arg1 (by decide), hr main_arg2 (by decide), hr main_arg3 (by decide), hw 1, hw 2, hw 3⟩

/-- A plan that says nothing. -/
def idle (c : Dev nD) : Plan m hg c where
  Acc _ _ _ := True
  J _ _ _ := True
  Outs _ _ := True
  start _ _ _ _ := trivial
  first _ _ _ := ⟨fun _ _ _ _ _ _ _ _ _ => trivial, fun _ _ _ _ _ _ _ _ _ => trivial⟩
  later _ _ _ := ⟨fun _ _ _ _ _ _ _ _ _ => trivial, fun _ _ _ _ _ _ _ _ _ => trivial⟩
  next _ _ _ _ := trivial
  out0 := trivial
  skip _ _ _ _ _ := trivial
  land _ _ _ _ _ _ _ := trivial

/-- The frame, at good tables. -/
theorem frame (hg : GoodT (tbl m)) (ρ : Dev nD → PrngReg) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run _ _ _).mono (fun _ h => ⟨fun c => kept h.1.1 c, h.2⟩) (run (fun c => idle (hg := hg) c) ρ)

end Cert.Kernel4Ideal.Moe

end
-- ==== Proof.Ffn.Spec.lean ====
/- The feed-forward of one token in scalars: the modulated row, the gated hidden channels, their product with the second weight,
   the scaled residual and its layer norm. -/
module

public import Idealize.ShloMosaic.Lib.Pipeline.ValueKit
public import Idealize.ShloMosaic.Lib.Pointwise

@[expose] public section

noncomputable section

open Idealize.ShloMosaic

namespace Cert.Ffn

/-- The layer norm of a row `z` with weights `g`, `b`. -/
def lnRow (z g b : Fin 2048 → EReal) (d : Fin 2048) : EReal :=
  let mu := Ideal.div (∑ e, z e) (Scalar.ofBits (F := Ideal) .f32 0x45000000#32)
  let var := Ideal.div (∑ e, (z e - mu) * (z e - mu)) (Scalar.ofBits (F := Ideal) .f32 0x45000000#32)
  (z d - mu) * Ideal.rsqrt (var + Scalar.ofBits (F := Ideal) .f32 0x3727C5AC#32) * g d + b d

/-- The conditioning row of token `n`: row 0 for the 4096 context tokens, then one row for each latent sequence of 1024. -/
def cnd (n : Fin 6144) : Fin 8 := ⟨n / 1024 - 3, by omega⟩

/-- Column `d` of part `k` of a conditioning row. -/
def col (k : Fin 6) (d : Fin 2048) : Fin 12288 := ⟨k * 2048 + d, by omega⟩

/-- The modulated row. -/
def modRow (x sh sc : Fin 2048 → EReal) (e : Fin 2048) : EReal := x e * (Scalar.ofBits (F := Ideal) .f32 0x3F800000#32 + sc e) + sh e

/-- A hidden channel: the first product by its logistic, by the second product. -/
def hid (u w1 w3 : Fin 2048 → EReal) : EReal :=
  (∑ e, u e * w1 e) * Ideal.logistic (∑ e, u e * w1 e) * ∑ e, u e * w3 e

/-- The residual row: the token scaled, with the gated feed-forward. -/
def resRow (x gate y : Fin 2048 → EReal) (e : Fin 2048) : EReal := Scalar.ofBits (F := Ideal) .f32 0x3FB504F3#32 * x e + gate e * y e

end Cert.Ffn
-- ==== Proof.Moe.Deco.lean ====
/- A row of packed words as its 2048 numbers: the words' low halves, then their high halves, each half the leading half of the
   bits of a number. -/
module

public import Idealize.ShloMosaic.Lib.Pipeline.ValueKit
public import Idealize.ShloMosaic.Lib.Pointwise

@[expose] public section

noncomputable section

open Idealize.ShloMosaic

namespace Cert.Moe

/-- Number `k` of a row of packed words. -/
def deco (w : Fin 1024 → BitVec 32) (k : Fin 2048) : EReal :=
  if h : (k : ℕ) < 1024 then Scalar.ofBits (F := Ideal) .f32 (w ⟨k, h⟩ <<< 16#32)
  else Scalar.ofBits (F := Ideal) .f32 (w ⟨k - 1024, by omega⟩ &&& 4294901760#32)

/-- The two halves put beside each other and read as numbers by `g`, at an entry. -/
theorem deco_concat {α : Type} (g : α → EReal) {R : ℕ} (x : IVec ⟨2, ![R, 1024]⟩ 32) (lo hi : (⟨2, ![R, 1024]⟩ : Shape).Idx → α)
    (hlo : ∀ i, g (lo i) = Scalar.ofBits (F := Ideal) .f32 (x i <<< 16#32))
    (hhi : ∀ i, g (hi i) = Scalar.ofBits (F := Ideal) .f32 (x i &&& 4294901760#32))
    (h : Shape.Concatenates [⟨2, ![R, 1024]⟩, ⟨2, ![R, 1024]⟩] ⟨2, ![R, 2048]⟩ 1) (r : Fin R) (k : Fin 2048) :
    g (concatenate ⟨2, ![R, 2048]⟩ 1 [⟨⟨2, ![R, 1024]⟩, lo⟩, ⟨⟨2, ![R, 1024]⟩, hi⟩] h (ix2 r k)) = deco (fun e => x (ix2 r e)) k := by
  unfold deco
  split
  · rename_i hk
    refine (congrArg g (concatenate_pair_apply_left 1 lo hi h (ix2 r k) rfl (ix2 r ⟨k, hk⟩) fun b => ?_)).trans (hlo _)
    fin_cases b <;> rfl
  · rename_i hk
    refine (congrArg g (concatenate_pair_apply_right 1 lo hi h (ix2 r k) rfl rfl (ix2 r ⟨k - 1024, by omega⟩) (fun b hb => ?_) ?_)).trans (hhi _)
    · fin_cases b
      · rfl
      · exact absurd rfl hb
    · show (k : ℕ) - 1024 + 1024 = k
      omega

end Cert.Moe

end
-- ==== Proof.MoeIdeal.Unpack.lean ====
/- The expert call's payloads at an entry: the words' numbers through the gated feed-forward of 256 hidden channels. -/
module

public import proofs.«01_k».proof.Proof.Ffn.Spec
public import proofs.«01_k».proof.Proof.Moe.Deco
public import proofs.«01_k».proof.Proof.Gen.Kernel4Ideal.Skeleton

@[expose] public section

set_option maxRecDepth 16384

noncomputable section

namespace Cert.Kernel4Ideal.Moe

open Cert.Kernel4Ideal Cert.Kernel4Ideal.Gen Cert.Ffn
open Cert.Moe (deco deco_concat)
open Idealize.ShloMosaic Idealize.ShloMosaic.TcCoe

/-- 256 rows of words as numbers. -/
def unpack256 (u : IVec S256x1024 32) : FVec Ideal S256x2048 .bf16 :=
  truncf .bf16 (concatenate S256x2048 1 [⟨S256x1024, bitcastToFloat (F := Ideal) .f32 (shli u (broadcast S256x1024 16#32))⟩,
    ⟨S256x1024, bitcastToFloat (F := Ideal) .f32 (andi u (broadcast S256x1024 4294901760#32))⟩] concatenates_S256x1024_S256x1024_S256x2048_d1) bitsLt_bf16_f32

/-- 128 rows of words as numbers. -/
def unpack128 (u : IVec S128x1024 32) : FVec Ideal S128x2048 .bf16 :=
  truncf .bf16 (concatenate S128x2048 1 [⟨S128x1024, bitcastToFloat (F := Ideal) .f32 (shli u (broadcast S128x1024 16#32))⟩,
    ⟨S128x1024, bitcastToFloat (F := Ideal) .f32 (andi u (broadcast S128x1024 4294901760#32))⟩] concatenates_S128x1024_S128x1024_S128x2048_d1) bitsLt_bf16_f32

/-- 256 rows through 256 hidden channels. -/
def core256 (x : FVec Ideal S256x2048 .bf16) (w1 w3 : FVec Ideal S2048x256 .bf16) (w2 : FVec Ideal S256x2048 .bf16) : FVec Ideal S256x2048 .f32 :=
  have a : FVec Ideal S256x256 .f32 := matmul dot_S256x2048_S2048x256_S256x256_1_0_0_1_n_n none x w1 (constant S256x256 .f32 0x00000000#32)
  have b : FVec Ideal S256x256 .f32 := matmul dot_S256x2048_S2048x256_S256x256_1_0_0_1_n_n none x w3 (constant S256x256 .f32 0x00000000#32)
  matmul dot_S256x256_S256x2048_S256x2048_1_0_0_1_n_n none (truncf .bf16 (mulf (mulf a (logistic a)) b) bitsLt_bf16_f32) w2
    (constant S256x2048 .f32 0x00000000#32)

/-- 128 rows through 256 hidden channels. -/
def core128 (x : FVec Ideal S128x2048 .bf16) (w1 w3 : FVec Ideal S2048x256 .bf16) (w2 : FVec Ideal S256x2048 .bf16) : FVec Ideal S128x2048 .f32 :=
  have a : FVec Ideal S128x256 .f32 := matmul dot_S128x2048_S2048x256_S128x256_1_0_0_1_n_n none x w1 (constant S128x256 .f32 0x00000000#32)
  have b : FVec Ideal S128x256 .f32 := matmul dot_S128x2048_S2048x256_S128x256_1_0_0_1_n_n none x w3 (constant S128x256 .f32 0x00000000#32)
  matmul dot_S128x256_S256x2048_S128x2048_1_0_0_1_n_n none (truncf .bf16 (mulf (mulf a (logistic a)) b) bitsLt_bf16_f32) w2
    (constant S128x2048 .f32 0x00000000#32)

theorem unpack256_at (u : IVec S256x1024 32) (r : Fin 256) (k : Fin 2048) : unpack256 u (ix2 r k) = deco (fun e => u (ix2 r e)) k :=
  deco_concat (fun y => y) u (bitcastToFloat (F := Ideal) .f32 (shli u (broadcast S256x1024 16#32))) (bitcastToFloat (F := Ideal) .f32 (andi u (broadcast S256x1024 4294901760#32)))
    (fun _ => rfl) (fun _ => rfl) concatenates_S256x1024_S256x1024_S256x2048_d1 r k

theorem unpack128_at (u : IVec S128x1024 32) (r : Fin 128) (k : Fin 2048) : unpack128 u (ix2 r k) = deco (fun e => u (ix2 r e)) k :=
  deco_concat (fun y => y) u (bitcastToFloat (F := Ideal) .f32 (shli u (broadcast S128x1024 16#32))) (bitcastToFloat (F := Ideal) .f32 (andi u (broadcast S128x1024 4294901760#32)))
    (fun _ => rfl) (fun _ => rfl) concatenates_S128x1024_S128x1024_S128x2048_d1 r k

variable (w1 w3 : Vec Ideal S2048x256 .bf16) (w2 : Vec Ideal S256x2048 .bf16)

theorem core256_at (x : FVec Ideal S256x2048 .bf16) (r : Fin 256) (d : Fin 2048) : core256 x w1 w3 w2 (ix2 r d)
    = ∑ q : Fin 256, hid (fun e => x (ix2 r e)) (fun e => w1 (ix2 e q)) (fun e => w3 (ix2 e q)) * w2 (ix2 q d) := by
  pointwise [core256, hid]

theorem core128_at (x : FVec Ideal S128x2048 .bf16) (r : Fin 128) (d : Fin 2048) : core128 x w1 w3 w2 (ix2 r d)
    = ∑ q : Fin 256, hid (fun e => x (ix2 r e)) (fun e => w1 (ix2 e q)) (fun e => w3 (ix2 e q)) * w2 (ix2 q d) := by
  pointwise [core128, hid]

theorem pay2_at (u : Vec Ideal S256x1024 .i32) (r : Fin 256) (d : Fin 2048) : k0_pay2 (F := Ideal) u w1 w3 w2 (ix2 r d)
    = ∑ q : Fin 256, hid (deco fun e => u (ix2 r e)) (fun e => w1 (ix2 e q)) (fun e => w3 (ix2 e q)) * w2 (ix2 q d) := by
  have h : k0_pay2 (F := Ideal) u w1 w3 w2 = shapeCast S256x2048 (core256 (unpack256 u) w1 w3 w2) shapeCasts_S256x2048_S256x2048 := rfl
  rw [h, shapeCast_self, core256_at, show (fun e => unpack256 u (ix2 r e)) = deco fun e => u (ix2 r e) from funext fun e => unpack256_at u r e]

theorem pay3_at (u : Vec Ideal S128x1024 .i32) (r : Fin 128) (d : Fin 2048) : k0_pay3 (F := Ideal) u w1 w3 w2 (ix2 r d)
    = ∑ q : Fin 256, hid (deco fun e => u (ix2 r e)) (fun e => w1 (ix2 e q)) (fun e => w3 (ix2 e q)) * w2 (ix2 q d) := by
  have h : k0_pay3 (F := Ideal) u w1 w3 w2 = shapeCast S128x2048 (core128 (unpack128 u) w1 w3 w2) shapeCasts_S128x2048_S128x2048 := rfl
  rw [h, shapeCast_self, core128_at, show (fun e => unpack128 u (ix2 r e)) = deco fun e => u (ix2 r e) from funext fun e => unpack128_at u r e]

theorem pay8_at (u : Vec Ideal S256x1024 .i32) (a : Vec Ideal S256x2048 .f32) (r : Fin 256) (d : Fin 2048) :
    k0_pay8 (F := Ideal) u w1 w3 w2 a (ix2 r d)
      = a (ix2 r d) + ∑ q : Fin 256, hid (deco fun e => u (ix2 r e)) (fun e => w1 (ix2 e q)) (fun e => w3 (ix2 e q)) * w2 (ix2 q d) := by
  have h : k0_pay8 (F := Ideal) u w1 w3 w2 a = shapeCast S256x2048 (addf a (core256 (unpack256 u) w1 w3 w2)) shapeCasts_S256x2048_S256x2048 := rfl
  rw [h, shapeCast_self]
  refine congrArg (a (ix2 r d) + ·) ?_
  rw [core256_at, show (fun e => unpack256 u (ix2 r e)) = deco fun e => u (ix2 r e) from funext fun e => unpack256_at u r e]

theorem pay9_at (u : Vec Ideal S128x1024 .i32) (a : Vec Ideal S128x2048 .f32) (r : Fin 128) (d : Fin 2048) :
    k0_pay9 (F := Ideal) u w1 w3 w2 a (ix2 r d)
      = a (ix2 r d) + ∑ q : Fin 256, hid (deco fun e => u (ix2 r e)) (fun e => w1 (ix2 e q)) (fun e => w3 (ix2 e q)) * w2 (ix2 q d) := by
  have h : k0_pay9 (F := Ideal) u w1 w3 w2 a = shapeCast S128x2048 (addf a (core128 (unpack128 u) w1 w3 w2)) shapeCasts_S128x2048_S128x2048 := rfl
  rw [h, shapeCast_self]
  refine congrArg (a (ix2 r d) + ·) ?_
  rw [core128_at, show (fun e => unpack128 u (ix2 r e)) = deco fun e => u (ix2 r e) from funext fun e => unpack128_at u r e]

theorem pay25_at (w : Vec Ideal S1x2048x256 .f32) (e : Fin 2048) (q : Fin 256) : k0_pay25 (F := Ideal) w (ix2 e q) = w (ix3 0 e q) := by
  pointwise [k0_pay25]

theorem pay26_at (w : Vec Ideal S1x2048x256 .f32) (e : Fin 2048) (q : Fin 256) : k0_pay26 (F := Ideal) w (ix2 e q) = w (ix3 0 e q) := by
  pointwise [k0_pay26]

theorem pay27_at (w : Vec Ideal S1x256x2048 .f32) (q : Fin 256) (d : Fin 2048) : k0_pay27 (F := Ideal) w (ix2 q d) = w (ix3 0 q d) := by
  pointwise [k0_pay27]

end Cert.Kernel4Ideal.Moe

end
-- ==== Proof.MoeIdeal.Spec.lean ====
/- The expert feed-forward in scalars: a row's gated hidden channels by the second weight of its expert, summed over the channels
   done so far. -/
module

public import proofs.«01_k».proof.Proof.MoeIdeal.Unpack
public import proofs.«01_k».proof.Proof.MoeIdeal.Body
public import Idealize.ShloMosaic.Lib.Pipeline.ValueKit
public import Idealize.ShloMosaic.Lib.Pointwise

@[expose] public section

set_option maxRecDepth 16384

noncomputable section

namespace Cert.Kernel4Ideal.Moe

open Cert.Kernel4Ideal Cert.Kernel4Ideal.Gen Cert.Ffn
open Cert.Moe (deco)
open Idealize.ShloMosaic Idealize.ShloMosaic.TcCoe

/-! ## The sums -/

/-- Row `r` of item `n`. -/
def row (n r : ℕ) : Fin 28672 := ⟨min (2048 * n + r) 28671, by omega⟩

/-- Hidden channel `k`. -/
def hc (k : ℕ) : Fin 7168 := ⟨min k 7167, by omega⟩

/-- Expert `e`. -/
def ex (e : ℕ) : Fin 8 := ⟨min e 7, by omega⟩

/-- One hidden channel's part of row `i` at channel `j` under expert `e`. -/
def term (x : Vec Ideal S28672x1024 .i32) (w1 w3 : Vec Ideal S8x2048x7168 .f32) (w2 : Vec Ideal S8x7168x2048 .f32)
    (e : Fin 8) (i : Fin 28672) (j : Fin 2048) (k : Fin 7168) : EReal :=
  hid (deco fun d => x (ix2 i d)) (fun d => w1 (ix3 e d k)) (fun d => w3 (ix3 e d k)) * w2 (ix3 e k j)

/-- The first `n` hidden channels' part. -/
def part (x : Vec Ideal S28672x1024 .i32) (w1 w3 : Vec Ideal S8x2048x7168 .f32) (w2 : Vec Ideal S8x7168x2048 .f32)
    (e : Fin 8) (i : Fin 28672) (j : Fin 2048) (n : ℕ) : EReal := ∑ k ∈ Finset.range n, term x w1 w3 w2 e i j (hc k)

variable (x : Vec Ideal S28672x1024 .i32) (w1 w3 : Vec Ideal S8x2048x7168 .f32) (w2 : Vec Ideal S8x7168x2048 .f32)
  (e : Fin 8) (i : Fin 28672) (j : Fin 2048)

theorem part_next (ch : ℕ) : part x w1 w3 w2 e i j (256 * (ch + 1))
    = part x w1 w3 w2 e i j (256 * ch) + ∑ q : Fin 256, term x w1 w3 w2 e i j (hc (256 * ch + q)) := by
  unfold part
  rw [show 256 * (ch + 1) = 256 * ch + 256 from by omega, Finset.sum_range_add, Finset.sum_range (n := 256)]

theorem part_all : part x w1 w3 w2 e i j 7168 = ∑ k : Fin 7168, term x w1 w3 w2 e i j k := by
  unfold part
  rw [Finset.sum_range]
  refine Finset.sum_congr rfl fun k _ => congrArg _ (Fin.ext ?_)
  show min (k : ℕ) 7167 = k
  omega

theorem part_zero : part x w1 w3 w2 e i j 0 = 0 := by
  unfold part; rw [Finset.sum_range_zero]

end Cert.Kernel4Ideal.Moe

end
-- ==== Proof.MoeIdeal.Arrays.lean ====
/- The blocks the expert call reads at a grid point of an item with rows, as entries of its arrays. -/
module

public import proofs.«01_k».proof.Proof.MoeIdeal.Spec

@[expose] public section

set_option maxRecDepth 16384

noncomputable section

namespace Cert.Kernel4Ideal.Moe

open Cert.Kernel4Ideal Cert.Kernel4Ideal.Gen Cert.Ffn
open Idealize.ShloMosaic Idealize.ShloMosaic.TcCoe
open Idealize.ShloMosaic.Pipeline (RDat Cfg Window)

variable (m : (ℓ : Loc nD τ sig) → Buf (Elt Ideal) ℓ) (hg : GoodT (tbl m)) (c : Dev nD)

/-- The expert of item `n`. -/
def expertN (n : ℕ) : ℕ := if h : n < 14 then (tbl m 0 (at14 n h) : BitVec 32).toNat else 0

variable (t : Fin (cfgM m hg).N)

theorem t_lt : t.val < 392 := lt_of_lt_of_eq t.isLt N_0

theorem item_at (h : t.val / 28 < 14) : item (grid0.coords t) = at14 (t.val / 28) h := by
  funext a
  match a with
  | 0 => exact Fin.ext (coord0 t)

theorem expert_at : (tbl m 0 (item (grid0.coords t)) : BitVec 32).toNat = expertN m (t.val / 28) := by
  have h : t.val / 28 < 14 := by have := t_lt m hg t; omega
  unfold expertN
  rw [dif_pos h, item_at m hg t h]

include hg in
theorem expert_lt (n : ℕ) : expertN m n < 8 := by
  unfold expertN
  split
  · exact hg.expert _
  · omega

theorem chan_at (hr : 0 < rowsN m (t.val / 28)) : chan (tbl m) (grid0.coords t) = t.val % 28 := by
  unfold chan
  rw [if_pos (lt_of_lt_of_eq hr (rows_word (m := m) t).symm)]
  exact coord1 t

/-- An item with rows has its own block. -/
theorem block_at (hr : 0 < rowsN m (t.val / 28)) : (tbl m 1 (item (grid0.coords t)) : BitVec 32).toNat = t.val / 28 := by
  refine (hg.item _ ?_).trans (coord0 t)
  have := rows_word (m := m) t
  exact lt_of_lt_of_eq hr this.symm

theorem x_blk (hr : 0 < rowsN m (t.val / 28)) (r : Fin 2048) (e : Fin 1024) :
    blockAt m hg c 0 t (ix2 r e : S2048x1024.Idx) = m ((c : Thread nD τ).loc main_arg0) (ix2 (row (t.val / 28) r) e : S28672x1024.Idx) := by
  have hm : ∀ x, ((cfgM m hg).win 0).moved ((cfgM m hg).grid.coords t) x = true := fun x => by
    rw [Window.moved_iff]; intro a; exact lt_of_lt_of_eq (x a).isLt rfl
  have ht := t_lt m hg t
  have hb := block_at m hg t hr
  unfold blockAt RDat.fetched Window.fill
  refine (dif_pos (hm _)).trans ?_
  refine congrArg (m ((c : Thread nD τ).loc main_arg0)) (funext fun a => ?_)
  fin_cases a <;> apply Fin.ext
  · show cc0_transform_0 k0_off1_inb numel1_S1 (tbl m) (grid0.coords t) 0 * 2048 + 1 * (r : ℕ) = min (2048 * (t.val / 28) + r) 28671
    rw [map0]
    show (tbl m 1 (item (grid0.coords t)) : BitVec 32).toNat * 2048 + 1 * (r : ℕ) = _; rw [hb]; omega
  · show cc0_transform_0 k0_off1_inb numel1_S1 (tbl m) (grid0.coords t) 1 * 1024 + 1 * (e : ℕ) = (e : ℕ)
    rw [map0]
    show 0 * 1024 + 1 * (e : ℕ) = _; omega

theorem w1_blk (hr : 0 < rowsN m (t.val / 28)) (e : Fin 2048) (q : Fin 256) :
    blockAt m hg c 1 t (ix3 0 e q : S1x2048x256.Idx) = m ((c : Thread nD τ).loc main_arg4) (ix3 (ex (expertN m (t.val / 28))) e (hc (256 * (t.val % 28) + q)) : S8x2048x7168.Idx) := by
  have hm : ∀ x, ((cfgM m hg).win 1).moved ((cfgM m hg).grid.coords t) x = true := fun x => by
    rw [Window.moved_iff]; intro a; exact lt_of_lt_of_eq (x a).isLt rfl
  have ht := t_lt m hg t
  have he := expert_at m hg t
  have hl := expert_lt m hg (t.val / 28)
  have hc := chan_at m hg t hr
  unfold blockAt RDat.fetched Window.fill
  refine (dif_pos (hm _)).trans ?_
  refine congrArg (m ((c : Thread nD τ).loc main_arg4)) (funext fun a => ?_)
  fin_cases a <;> apply Fin.ext
  · show cc0_transform_1 k0_off1_inb numel1_S1 (tbl m) (grid0.coords t) 0 * 1 + 1 * 0 = min (expertN m (t.val / 28)) 7
    rw [map1 hg]
    show (tbl m 0 (item (grid0.coords t)) : BitVec 32).toNat * 1 + 1 * 0 = _; rw [he]; omega
  · show cc0_transform_1 k0_off1_inb numel1_S1 (tbl m) (grid0.coords t) 1 * 2048 + 1 * (e : ℕ) = (e : ℕ)
    rw [map1 hg]
    show 0 * 2048 + 1 * (e : ℕ) = _; omega
  · show cc0_transform_1 k0_off1_inb numel1_S1 (tbl m) (grid0.coords t) 2 * 256 + 1 * (q : ℕ) = min (256 * (t.val % 28) + q) 7167
    rw [map1 hg]
    show chan (tbl m) (grid0.coords t) * 256 + 1 * (q : ℕ) = _; rw [hc]; omega

theorem w3_blk (hr : 0 < rowsN m (t.val / 28)) (e : Fin 2048) (q : Fin 256) :
    blockAt m hg c 2 t (ix3 0 e q : S1x2048x256.Idx) = m ((c : Thread nD τ).loc main_arg5) (ix3 (ex (expertN m (t.val / 28))) e (hc (256 * (t.val % 28) + q)) : S8x2048x7168.Idx) := by
  have hm : ∀ x, ((cfgM m hg).win 2).moved ((cfgM m hg).grid.coords t) x = true := fun x => by
    rw [Window.moved_iff]; intro a; exact lt_of_lt_of_eq (x a).isLt rfl
  have ht := t_lt m hg t
  have he := expert_at m hg t
  have hl := expert_lt m hg (t.val / 28)
  have hc := chan_at m hg t hr
  unfold blockAt RDat.fetched Window.fill
  refine (dif_pos (hm _)).trans ?_
  refine congrArg (m ((c : Thread nD τ).loc main_arg5)) (funext fun a => ?_)
  fin_cases a <;> apply Fin.ext
  · show cc0_transform_2 k0_off1_inb numel1_S1 (tbl m) (grid0.coords t) 0 * 1 + 1 * 0 = min (expertN m (t.val / 28)) 7
    rw [map2 hg]
    show (tbl m 0 (item (grid0.coords t)) : BitVec 32).toNat * 1 + 1 * 0 = _; rw [he]; omega
  · show cc0_transform_2 k0_off1_inb numel1_S1 (tbl m) (grid0.coords t) 1 * 2048 + 1 * (e : ℕ) = (e : ℕ)
    rw [map2 hg]
    show 0 * 2048 + 1 * (e : ℕ) = _; omega
  · show cc0_transform_2 k0_off1_inb numel1_S1 (tbl m) (grid0.coords t) 2 * 256 + 1 * (q : ℕ) = min (256 * (t.val % 28) + q) 7167
    rw [map2 hg]
    show chan (tbl m) (grid0.coords t) * 256 + 1 * (q : ℕ) = _; rw [hc]; omega

theorem w2_blk (hr : 0 < rowsN m (t.val / 28)) (q : Fin 256) (d : Fin 2048) :
    blockAt m hg c 3 t (ix3 0 q d : S1x256x2048.Idx) = m ((c : Thread nD τ).loc main_arg6) (ix3 (ex (expertN m (t.val / 28))) (hc (256 * (t.val % 28) + q)) d : S8x7168x2048.Idx) := by
  have hm : ∀ x, ((cfgM m hg).win 3).moved ((cfgM m hg).grid.coords t) x = true := fun x => by
    rw [Window.moved_iff]; intro a; exact lt_of_lt_of_eq (x a).isLt rfl
  have ht := t_lt m hg t
  have he := expert_at m hg t
  have hl := expert_lt m hg (t.val / 28)
  have hc := chan_at m hg t hr
  unfold blockAt RDat.fetched Window.fill
  refine (dif_pos (hm _)).trans ?_
  refine congrArg (m ((c : Thread nD τ).loc main_arg6)) (funext fun a => ?_)
  fin_cases a <;> apply Fin.ext
  · show cc0_transform_3 k0_off1_inb numel1_S1 (tbl m) (grid0.coords t) 0 * 1 + 1 * 0 = min (expertN m (t.val / 28)) 7
    rw [map3 hg]
    show (tbl m 0 (item (grid0.coords t)) : BitVec 32).toNat * 1 + 1 * 0 = _; rw [he]; omega
  · show cc0_transform_3 k0_off1_inb numel1_S1 (tbl m) (grid0.coords t) 1 * 256 + 1 * (q : ℕ) = min (256 * (t.val % 28) + q) 7167
    rw [map3 hg]
    show chan (tbl m) (grid0.coords t) * 256 + 1 * (q : ℕ) = _; rw [hc]; omega
  · show cc0_transform_3 k0_off1_inb numel1_S1 (tbl m) (grid0.coords t) 2 * 2048 + 1 * (d : ℕ) = (d : ℕ)
    rw [map3 hg]
    show 0 * 2048 + 1 * (d : ℕ) = _; omega

end Cert.Kernel4Ideal.Moe

end
-- ==== Proof.MoeIdeal.Step.lean ====
/- The plan of the expert call's sweep: the accumulator holds, for the rows in use, the hidden channels' parts done so far, and
   the result the finished items' rows. -/
module

public import proofs.«01_k».proof.Proof.MoeIdeal.Arrays

@[expose] public section

set_option maxRecDepth 16384

noncomputable section

namespace Cert.Kernel4Ideal.Moe

open Cert.Kernel4Ideal Cert.Kernel4Ideal.Gen Cert.Ffn
open Cert.Moe (deco)
open Idealize.ShloMosaic Idealize.ShloMosaic.TcCoe
open Idealize.ShloMosaic.Pipeline (RDat Cfg Window)

/-! ## A block of rows in the accumulator -/

theorem emb_two {off : Fin 2 → ℕ} (inb : ∀ a, off a + S256x2048.size a ≤ S2048x2048.size a) {k : ℕ} (ho : off = ![128 * k, 0])
    (r' : Fin 256) (d r : Fin 2048) (h : (r : ℕ) = 128 * k + r') : (rTwo off inb).emb (ix2 r' d) = ix2 r d := by
  funext a
  fin_cases a <;> apply Fin.ext
  · show off 0 + 1 * (r' : ℕ) = r
    rw [ho]; show 128 * k + 1 * (r' : ℕ) = r; omega
  · show off 1 + 1 * (d : ℕ) = d
    rw [ho]; show 0 + 1 * (d : ℕ) = d; omega

theorem emb_twoX {off : Fin 2 → ℕ} (inb : ∀ a, off a + S256x1024.size a ≤ S2048x1024.size a) {k : ℕ} (ho : off = ![128 * k, 0])
    (r' : Fin 256) (d : Fin 1024) (r : Fin 2048) (h : (r : ℕ) = 128 * k + r') : (rTwoX off inb).emb (ix2 r' d : S256x1024.Idx) = (ix2 r d : S2048x1024.Idx) := by
  funext a
  fin_cases a <;> apply Fin.ext
  · show off 0 + 1 * (r' : ℕ) = r
    rw [ho]; show 128 * k + 1 * (r' : ℕ) = r; omega
  · show off 1 + 1 * (d : ℕ) = d
    rw [ho]; show 0 + 1 * (d : ℕ) = d; omega

theorem emb_one {off : Fin 2 → ℕ} (inb : ∀ a, off a + S128x2048.size a ≤ S2048x2048.size a) {k : ℕ} (ho : off = ![128 * k, 0])
    (r' : Fin 128) (d r : Fin 2048) (h : (r : ℕ) = 128 * k + r') : (rOne off inb).emb (ix2 r' d) = ix2 r d := by
  funext a
  fin_cases a <;> apply Fin.ext
  · show off 0 + 1 * (r' : ℕ) = r
    rw [ho]; show 128 * k + 1 * (r' : ℕ) = r; omega
  · show off 1 + 1 * (d : ℕ) = d
    rw [ho]; show 0 + 1 * (d : ℕ) = d; omega

theorem emb_oneX {off : Fin 2 → ℕ} (inb : ∀ a, off a + S128x1024.size a ≤ S2048x1024.size a) {k : ℕ} (ho : off = ![128 * k, 0])
    (r' : Fin 128) (d : Fin 1024) (r : Fin 2048) (h : (r : ℕ) = 128 * k + r') : (rOneX off inb).emb (ix2 r' d : S128x1024.Idx) = (ix2 r d : S2048x1024.Idx) := by
  funext a
  fin_cases a <;> apply Fin.ext
  · show off 0 + 1 * (r' : ℕ) = r
    rw [ho]; show 128 * k + 1 * (r' : ℕ) = r; omega
  · show off 1 + 1 * (d : ℕ) = d
    rw [ho]; show 0 + 1 * (d : ℕ) = d; omega

theorem out_two {off : Fin 2 → ℕ} (inb : ∀ a, off a + S256x2048.size a ≤ S2048x2048.size a) {k : ℕ} (ho : off = ![128 * k, 0])
    (x : Vec Ideal S2048x2048 .f32) (G : Vec Ideal S256x2048 .f32) (r d : Fin 2048) (h : ¬(128 * k ≤ (r : ℕ) ∧ (r : ℕ) < 128 * k + 256)) :
    (rTwo off inb).overlay x G (ix2 r d) = x (ix2 r d) := by
  refine Rect.overlay_of_not_mem _ _ _ fun hm => h ?_
  rw [← Rect.map_emb_univ, Finset.mem_map] at hm
  obtain ⟨y, _, hy⟩ := hm
  have h0 : off 0 + 1 * (y 0 : ℕ) = r := congrArg (fun z : S2048x2048.Idx => (z 0 : ℕ)) hy
  have hl : (y 0 : ℕ) < 256 := (y 0).isLt
  have ho' : off 0 = 128 * k := by rw [ho]; rfl
  omega

theorem out_one {off : Fin 2 → ℕ} (inb : ∀ a, off a + S128x2048.size a ≤ S2048x2048.size a) {k : ℕ} (ho : off = ![128 * k, 0])
    (x : Vec Ideal S2048x2048 .f32) (G : Vec Ideal S128x2048 .f32) (r d : Fin 2048) (h : ¬(128 * k ≤ (r : ℕ) ∧ (r : ℕ) < 128 * k + 128)) :
    (rOne off inb).overlay x G (ix2 r d) = x (ix2 r d) := by
  refine Rect.overlay_of_not_mem _ _ _ fun hm => h ?_
  rw [← Rect.map_emb_univ, Finset.mem_map] at hm
  obtain ⟨y, _, hy⟩ := hm
  have h0 : off 0 + 1 * (y 0 : ℕ) = r := congrArg (fun z : S2048x2048.Idx => (z 0 : ℕ)) hy
  have hl : (y 0 : ℕ) < 128 := (y 0).isLt
  have ho' : off 0 = 128 * k := by rw [ho]; rfl
  omega

variable (m : (ℓ : Loc nD τ sig) → Buf (Elt Ideal) ℓ) (hg : GoodT (tbl m)) (c : Dev nD)

/-- The first `k` hidden channels' part of row `r` of item `n` at channel `j`. -/
def done (n : ℕ) (r j : Fin 2048) (k : ℕ) : EReal :=
  part (m ((c : Thread nD τ).loc main_arg0)) (m ((c : Thread nD τ).loc main_arg4)) (m ((c : Thread nD τ).loc main_arg5))
    (m ((c : Thread nD τ).loc main_arg6)) (ex (expertN m n)) (row n r) j k

/-- The rows an item's halves of 256 cover. -/
def used (n : ℕ) : ℕ := 128 * hv (rowsN m n)

variable (t : Fin (cfgM m hg).N)

/-- The accumulator within a point, `k` blocks of 128 rows done. -/
def within (k : ℕ) (f : Vec Ideal S2048x2048 .f32) : Prop := ∀ r j : Fin 2048, (r : ℕ) < used m (t.val / 28) →
  ((r : ℕ) < 128 * k → f (ix2 r j) = done m c (t.val / 28) r j (256 * (t.val % 28 + 1)))
    ∧ (128 * k ≤ (r : ℕ) → t.val % 28 = 0 ∨ f (ix2 r j) = done m c (t.val / 28) r j (256 * (t.val % 28)))

/-- A point's product for one row: the point's 256 hidden channels' part. -/
theorem point_sum (hr : 0 < rowsN m (t.val / 28)) (r j : Fin 2048) (u : Fin 1024 → BitVec 32) (hu : ∀ e, u e = (insAt m hg c t).x5 (ix2 r e)) :
    ∑ q : Fin 256, hid (deco u) (fun e => k0_pay25 (F := Ideal) (insAt m hg c t).x6 (ix2 e q)) (fun e => k0_pay26 (F := Ideal) (insAt m hg c t).x7 (ix2 e q))
        * k0_pay27 (F := Ideal) (insAt m hg c t).x8 (ix2 q j)
      = ∑ q : Fin 256, term (m ((c : Thread nD τ).loc main_arg0)) (m ((c : Thread nD τ).loc main_arg4)) (m ((c : Thread nD τ).loc main_arg5))
          (m ((c : Thread nD τ).loc main_arg6)) (ex (expertN m (t.val / 28))) (row (t.val / 28) r) j (hc (256 * (t.val % 28) + q)) := by
  refine Finset.sum_congr rfl fun q _ => ?_
  unfold term
  have e0 : u = fun e => m ((c : Thread nD τ).loc main_arg0) (ix2 (row (t.val / 28) r) e : S28672x1024.Idx) :=
    funext fun e => (hu e).trans (x_blk m hg c t hr r e)
  have e1 : (fun e => k0_pay25 (F := Ideal) (insAt m hg c t).x6 (ix2 e q)) = _ := funext fun e => (pay25_at _ e q).trans (w1_blk m hg c t hr e q)
  have e3 : (fun e => k0_pay26 (F := Ideal) (insAt m hg c t).x7 (ix2 e q)) = _ := funext fun e => (pay26_at _ e q).trans (w3_blk m hg c t hr e q)
  have e2 := (pay27_at (insAt m hg c t).x8 q j).trans (w2_blk m hg c t hr q j)
  rw [e0, e1, e3, e2]

theorem done_next (n : ℕ) (r j : Fin 2048) (ch : ℕ) : done m c n r j (256 * (ch + 1))
    = done m c n r j (256 * ch) + ∑ q : Fin 256, term (m ((c : Thread nD τ).loc main_arg0)) (m ((c : Thread nD τ).loc main_arg4)) (m ((c : Thread nD τ).loc main_arg5))
          (m ((c : Thread nD τ).loc main_arg6)) (ex (expertN m n)) (row n r) j (hc (256 * ch + q)) := part_next ..

/-- A block of rows done: what changes inside it, and that nothing changes outside. -/
theorem within_next (k d : ℕ) (x y : Vec Ideal S2048x2048 .f32) (h : within m hg c t k x)
    (hin : ∀ r j : Fin 2048, 128 * k ≤ (r : ℕ) → (r : ℕ) < 128 * k + 128 * d → (t.val % 28 = 0 ∨ x (ix2 r j) = done m c (t.val / 28) r j (256 * (t.val % 28))) →
      y (ix2 r j) = done m c (t.val / 28) r j (256 * (t.val % 28 + 1)))
    (hout : ∀ r j : Fin 2048, ¬(128 * k ≤ (r : ℕ) ∧ (r : ℕ) < 128 * k + 128 * d) → y (ix2 r j) = x (ix2 r j)) : within m hg c t (k + d) y := by
  intro r j hu
  obtain ⟨h1, h2⟩ := h r j hu
  constructor
  · intro hk
    by_cases hb : (r : ℕ) < 128 * k
    · rw [hout r j (by omega)]; exact h1 hb
    · exact hin r j (by omega) (by omega) (h2 (by omega))
  · intro hk
    rw [hout r j (by omega)]; exact h2 (by omega)

theorem first_steps (hr : 0 < rowsN m (t.val / 28)) (h0 : t.val % 28 = 0) :
    Steps (insAt m hg c t) (fun a b c d _ => k0_pay2 a b c d) (fun a b c d _ => k0_pay3 a b c d) (within m hg c t) where
  two k x offx inbx off inb h hx ho := by
    refine within_next m hg c t k 2 x _ h (fun r j hk hk' _ => ?_) fun r j hn => out_two inb ho _ _ r j hn
    have hr' : (r : ℕ) - 128 * k < 256 := by omega
    have he := emb_two inb ho ⟨r - 128 * k, hr'⟩ j r (by show (r : ℕ) = 128 * k + (r - 128 * k); omega)
    rw [← he, Rect.overlay_emb]
    refine (pay2_at _ _ _ _ _ _).trans ?_
    refine (point_sum m hg c t hr r j _ fun e => ?_).trans ?_
    · exact congrArg (insAt m hg c t).x5 (emb_twoX inbx hx ⟨r - 128 * k, hr'⟩ e r (by show (r : ℕ) = 128 * k + (r - 128 * k); omega))
    · refine Eq.trans ?_ (done_next m c (t.val / 28) r j (t.val % 28)).symm
      rw [h0]
      exact ((congrArg (· + _) (part_zero ..)).trans (zero_add _)).symm
  one k x offx inbx off inb h hx ho := by
    refine within_next m hg c t k 1 x _ h (fun r j hk hk' _ => ?_) fun r j hn => out_one inb ho _ _ r j hn
    have hr' : (r : ℕ) - 128 * k < 128 := by omega
    have he := emb_one inb ho ⟨r - 128 * k, hr'⟩ j r (by show (r : ℕ) = 128 * k + (r - 128 * k); omega)
    rw [← he, Rect.overlay_emb]
    refine (pay3_at _ _ _ _ _ _).trans ?_
    refine (point_sum m hg c t hr r j _ fun e => ?_).trans ?_
    · exact congrArg (insAt m hg c t).x5 (emb_oneX inbx hx ⟨r - 128 * k, hr'⟩ e r (by show (r : ℕ) = 128 * k + (r - 128 * k); omega))
    · refine Eq.trans ?_ (done_next m c (t.val / 28) r j (t.val % 28)).symm
      rw [h0]
      exact ((congrArg (· + _) (part_zero ..)).trans (zero_add _)).symm

theorem later_steps (hr : 0 < rowsN m (t.val / 28)) (h0 : 0 < t.val % 28) : Steps (insAt m hg c t) k0_pay8 k0_pay9 (within m hg c t) where
  two k x offx inbx off inb h hx ho := by
    refine within_next m hg c t k 2 x _ h (fun r j hk hk' hd => ?_) fun r j hn => out_two inb ho _ _ r j hn
    have hr' : (r : ℕ) - 128 * k < 256 := by omega
    have hd := hd.resolve_left (by omega)
    have he := emb_two inb ho ⟨r - 128 * k, hr'⟩ j r (by show (r : ℕ) = 128 * k + (r - 128 * k); omega)
    refine (congrArg _ he.symm).trans ((Rect.overlay_emb ..).trans ?_)
    refine (pay8_at _ _ _ _ _ _ _).trans ?_
    refine Eq.trans ?_ (done_next m c (t.val / 28) r j (t.val % 28)).symm
    refine congrArg₂ (· + ·) ((congrArg x he).trans hd) (point_sum m hg c t hr r j _ fun e => ?_)
    exact congrArg (insAt m hg c t).x5 (emb_twoX inbx hx ⟨r - 128 * k, hr'⟩ e r (by show (r : ℕ) = 128 * k + (r - 128 * k); omega))
  one k x offx inbx off inb h hx ho := by
    refine within_next m hg c t k 1 x _ h (fun r j hk hk' hd => ?_) fun r j hn => out_one inb ho _ _ r j hn
    have hr' : (r : ℕ) - 128 * k < 128 := by omega
    have hd := hd.resolve_left (by omega)
    have he := emb_one inb ho ⟨r - 128 * k, hr'⟩ j r (by show (r : ℕ) = 128 * k + (r - 128 * k); omega)
    refine (congrArg _ he.symm).trans ((Rect.overlay_emb ..).trans ?_)
    refine (pay9_at _ _ _ _ _ _ _).trans ?_
    refine Eq.trans ?_ (done_next m c (t.val / 28) r j (t.val % 28)).symm
    refine congrArg₂ (· + ·) ((congrArg x he).trans hd) (point_sum m hg c t hr r j _ fun e => ?_)
    exact congrArg (insAt m hg c t).x5 (emb_oneX inbx hx ⟨r - 128 * k, hr'⟩ e r (by show (r : ℕ) = 128 * k + (r - 128 * k); omega))

include hg in
/-- An item with rows lands in its own block. -/
theorem blockN_own (n : ℕ) (h : n < 14) (hr : 0 < rowsN m n) : blockN m n = n := by
  unfold rowsN at hr
  unfold blockN
  rw [dif_pos h] at hr ⊢
  exact hg.item _ hr

/-- The result after `n` items: the rows of the items so far hold their feed-forward. -/
def landedTo (n : ℕ) (W : Vec Ideal S28672x2048 .f32) : Prop := ∀ it, it < n → it < 14 → 0 < rowsN m it → ∀ r j : Fin 2048, (r : ℕ) < used m it →
  W (ix2 (row it r) j) = done m c it r j 7168

/-- The sweep's plan. -/
def plan : Plan m hg c where
  Acc n k f := ∀ r j : Fin 2048, (r : ℕ) < used m n → f (ix2 r j) = done m c n r j (256 * k)
  J t k f := within m hg c t k f
  Outs n W := landedTo m c n W
  start t f hr h r j hu := ⟨fun hk => absurd hk (by omega), fun _ => h.imp id fun h => h r j hu⟩
  first t hr h0 := first_steps m hg c t hr h0
  later t hr h0 := later_steps m hg c t hr h0
  next t f hr h r j hu := (h r j hu).1 hu
  out0 := fun it h => absurd h (by omega)
  skip n W hn h0 h it hit h14 hr := by
    refine h it ?_ h14 hr
    rcases Nat.lt_succ_iff_lt_or_eq.1 hit with hl | he
    · exact hl
    · subst he; omega
  land n f W hn hr hf h it hit h14 hri r j hu := by
    have hrow : (row it r : ℕ) = 2048 * it + r := by show min (2048 * it + (r : ℕ)) 28671 = _; omega
    rw [blockN_own m hg n hn hr]
    rcases Nat.lt_succ_iff_lt_or_eq.1 hit with hl | he
    · refine (if_neg ?_).trans (h it hl h14 hri r j hu)
      show ¬(2048 * n ≤ (row it r : ℕ) ∧ _)
      omega
    · subst he
      refine (if_pos ?_).trans ?_
      · show 2048 * it ≤ (row it r : ℕ) ∧ (row it r : ℕ) < 2048 * it + 128 * hv (rowsN m it)
        have : (r : ℕ) < 128 * hv (rowsN m it) := hu
        omega
      · refine (congrArg f ?_).trans (hf r j hu)
        funext a
        fin_cases a <;> apply Fin.ext
        · show min ((row it r : ℕ) - 2048 * it) 2047 = r
          omega
        · rfl

end Cert.Kernel4Ideal.Moe

end
-- ==== Proof.MoeIdeal.Ref.lean ====
/- What the reference of the experts computes, its term cut at the experts, each part read at an index. -/
module

public import proofs.«01_k».proof.Defs
public import proofs.«01_k».proof.Proof.Gen.Reference4Ideal.Run
public import proofs.«01_k».proof.Proof.Gen.Pre_tables
public import proofs.«01_k».proof.Proof.Gen.On_routed
public import proofs.«01_k».proof.Proof.Ffn.Spec
public import proofs.«01_k».proof.Proof.Moe.Deco
public import Idealize.ShloMosaic.Lib.StableHlo.Predicate

@[expose] public section

set_option maxRecDepth 16384

noncomputable section

open Idealize.ShloMosaic Idealize.ShloMosaic.TcCoe Idealize.SL.Sem

namespace Cert.Reference4Ideal.Moe

open Cert.Reference4Ideal Cert.Reference4Ideal.Gen Cert.Ffn
open Cert.Moe (deco deco_concat)

/-- Each row's expert as eight zeros and ones. -/
def hot (E : IVec S14 32) : FVec Ideal S28672x8 .f32 :=
  uitofp .f32 (cmpi .eq (broadcastInDim S28672x8 ![0, 1] bcast_S28672x1_S28672x8_0_1 (broadcastInDim S28672x1 ![0] bcast_S28672_S28672x1_0 (shapeCast _ (broadcastInDim S14x2048 ![0, 1] bcast_S14x1_S14x2048_0_1 (broadcastInDim S14x1 ![0] bcast_S14_S14x1_0 E)) shapeCasts_S14x2048_S28672))) (broadcastInDim S28672x8 ![0, 1] bcast_S1x8_S28672x8_0_1 (iotaInDim S1x8 32 1)))

/-- Expert `k`'s column, along the channels. -/
def column (k : ℕ) (h : S28672x8.Slices ![0, k] S28672x1) (P : FVec Ideal S28672x8 .f32) : FVec Ideal S28672x2048 .f32 :=
  broadcastInDim S28672x2048 ![0, 1] bcast_S28672x1_S28672x2048_0_1 (extractStridedSlice S28672x1 ![0, k] P h)

/-- The rows of words as numbers. -/
def decoded (X : IVec S28672x1024 32) : FVec Ideal S28672x2048 .f32 :=
  bitcastToFloat (F := Ideal) .f32 (concatenate S28672x2048 1 [⟨S28672x1024, Host.shli X (broadcastInDim S28672x1024 ![] bcast_S_S28672x1024 (constantI S_ 32 16#32))⟩,
    ⟨S28672x1024, andi X (broadcastInDim S28672x1024 ![] bcast_S_S28672x1024 (constantI S_ 32 4294901760#32))⟩]
    concatenates_S28672x1024_S28672x1024_S28672x2048_d1)

/-- The rows by expert `k`'s weight. -/
def prod (k : ℕ) (h : S8x2048x7168.Slices ![k, 0, 0] S1x2048x7168) (X : FVec Ideal S28672x2048 .f32) (W : FVec Ideal S8x2048x7168 .f32) :
    FVec Ideal S28672x7168 .f32 :=
  Host.dotGeneral dot_S28672x2048_S2048x7168_S28672x7168_1_0_0_1_n_n none X
    (shapeCast _ (extractStridedSlice S1x2048x7168 ![k, 0, 0] W h) shapeCasts_S1x2048x7168_S2048x7168)

/-- A channel by its logistic. -/
def silu (A : FVec Ideal S28672x7168 .f32) : FVec Ideal S28672x7168 .f32 :=
  mulf A (Host.divf (broadcastInDim S28672x7168 ![] bcast_S_S28672x7168 (constant S_ .f32 0x3F800000#32)) (addf (broadcastInDim S28672x7168 ![] bcast_S_S28672x7168 (constant S_ .f32 0x3F800000#32)) (Host.exp (Host.negf A))))

/-- The hidden channels by expert `k`'s second weight. -/
def back (k : ℕ) (h : S8x7168x2048.Slices ![k, 0, 0] S1x7168x2048) (A : FVec Ideal S28672x7168 .f32) (W : FVec Ideal S8x7168x2048 .f32) :
    FVec Ideal S28672x2048 .f32 :=
  Host.dotGeneral dot_S28672x7168_S7168x2048_S28672x2048_1_0_0_1_n_n none A
    (shapeCast _ (extractStridedSlice S1x7168x2048 ![k, 0, 0] W h) shapeCasts_S1x7168x2048_S7168x2048)

/-- Expert `k`'s part of the result. -/
def one (k : ℕ) (h0 : S28672x8.Slices ![0, k] S28672x1) (h : S8x2048x7168.Slices ![k, 0, 0] S1x2048x7168)
    (h2 : S8x7168x2048.Slices ![k, 0, 0] S1x7168x2048) (X : FVec Ideal S28672x2048 .f32) (E : IVec S14 32)
    (W1 W3 : FVec Ideal S8x2048x7168 .f32) (W2 : FVec Ideal S8x7168x2048 .f32) : FVec Ideal S28672x2048 .f32 :=
  mulf (column k h0 (hot E)) (back k h2 (mulf (silu (prod k h X W1)) (prod k h X W3)) W2)

/-- The reference's result. -/
def result (X : IVec S28672x1024 32) (E : IVec S14 32) (W1 W3 : FVec Ideal S8x2048x7168 .f32) (W2 : FVec Ideal S8x7168x2048 .f32) :
    FVec Ideal S28672x2048 .f32 :=
  addf (addf (addf (addf (addf (addf (addf (addf (broadcastInDim S28672x2048 ![] bcast_S_S28672x2048 (constant S_ .f32 0x00000000#32))
    (one 0 slices_S28672x8_S28672x1_0_0 slices_S8x2048x7168_S1x2048x7168_0_0_0 slices_S8x7168x2048_S1x7168x2048_0_0_0 (decoded X) E W1 W3 W2))
    (one 1 slices_S28672x8_S28672x1_0_1 slices_S8x2048x7168_S1x2048x7168_1_0_0 slices_S8x7168x2048_S1x7168x2048_1_0_0 (decoded X) E W1 W3 W2))
    (one 2 slices_S28672x8_S28672x1_0_2 slices_S8x2048x7168_S1x2048x7168_2_0_0 slices_S8x7168x2048_S1x7168x2048_2_0_0 (decoded X) E W1 W3 W2))
    (one 3 slices_S28672x8_S28672x1_0_3 slices_S8x2048x7168_S1x2048x7168_3_0_0 slices_S8x7168x2048_S1x7168x2048_3_0_0 (decoded X) E W1 W3 W2))
    (one 4 slices_S28672x8_S28672x1_0_4 slices_S8x2048x7168_S1x2048x7168_4_0_0 slices_S8x7168x2048_S1x7168x2048_4_0_0 (decoded X) E W1 W3 W2))
    (one 5 slices_S28672x8_S28672x1_0_5 slices_S8x2048x7168_S1x2048x7168_5_0_0 slices_S8x7168x2048_S1x7168x2048_5_0_0 (decoded X) E W1 W3 W2))
    (one 6 slices_S28672x8_S28672x1_0_6 slices_S8x2048x7168_S1x2048x7168_6_0_0 slices_S8x7168x2048_S1x7168x2048_6_0_0 (decoded X) E W1 W3 W2))
    (one 7 slices_S28672x8_S28672x1_0_7 slices_S8x2048x7168_S1x2048x7168_7_0_0 slices_S8x7168x2048_S1x7168x2048_7_0_0 (decoded X) E W1 W3 W2)

set_option maxHeartbeats 4000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v130)
          = result (m ((c.tc : Thread nD τ).loc main_arg0)) (m ((c.tc : Thread nD τ).loc main_arg1)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference4Ideal.Value.run m ρ

/-- The reference runs to its end, its arguments kept and its counters back at zero. -/
theorem frame_ref : Cert.quiescent_Reference4Ideal := fun m ρ _ =>
  (θ_run Cert.Reference4Ideal.defs _ _).mono (fun r h => ⟨fun c => (h c).2,
      Idealize.ShloMosaic.sem_eq_zero_of_no_sems (by decide) r.2⟩)
    (run m ρ)

variable (X : FVec Ideal S28672x2048 .f32) (E : IVec S14 32) (W1 W3 : FVec Ideal S8x2048x7168 .f32) (W2 : FVec Ideal S8x7168x2048 .f32)
  (k : Fin 8) (n : Fin 28672) (d : Fin 2048)

/-- The item of row `n`. -/
def itemOf (n : Fin 28672) : Fin 14 := ⟨n / 2048, by omega⟩

theorem hot_at : hot E (ix2 n k) = if E (ix1 (itemOf n)) = BitVec.ofNat 32 k then 1 else 0 := by
  pointwise [hot]
  refine Eq.trans (congrArg (FloatOps.uitofp (F := Ideal) FTy.f32) (show IntOp.cmpi .eq _ _ = if E (ix1 (itemOf n)) = BitVec.ofNat 32 k then 1#1 else 0#1 from ?_)) ?_
  · show BitVec.ofBool (E (ix1 (itemOf n)) == BitVec.ofNat 32 k) = _
    by_cases h : E (ix1 (itemOf n)) = BitVec.ofNat 32 k
    · rw [if_pos h, h, beq_self_eq_true]; rfl
    · rw [if_neg h, beq_false_of_ne h]; rfl
  · split
    · show ((((1#1 : BitVec 1).toNat : ℝ)) : EReal) = 1
      simp
    · show ((((0#1 : BitVec 1).toNat : ℝ)) : EReal) = 0
      simp

theorem column_at (h) (P : FVec Ideal S28672x8 .f32) : column k h P (ix2 n d) = P (ix2 n k) := by
  pointwise [column]

theorem prod_at (h) (W : FVec Ideal S8x2048x7168 .f32) (f : Fin 7168) :
    prod k h X W (ix2 n f) = ∑ e : Fin 2048, X (ix2 n e) * W (ix3 k e f) := by
  pointwise [prod]

theorem silu_at (A : FVec Ideal S28672x7168 .f32) (f : Fin 7168) :
    silu A (ix2 n f) = A (ix2 n f) * Ideal.logistic (A (ix2 n f)) := by
  pointwise [silu]
  rfl

theorem back_at (h) (A : FVec Ideal S28672x7168 .f32) : back k h A W2 (ix2 n d) = ∑ f : Fin 7168, A (ix2 n f) * W2 (ix3 k f d) := by
  pointwise [back]

theorem one_at (h0) (h) (h2) : one k h0 h h2 X E W1 W3 W2 (ix2 n d)
    = (if E (ix1 (itemOf n)) = BitVec.ofNat 32 k then 1 else 0)
      * ∑ f : Fin 7168, hid (fun e => X (ix2 n e)) (fun e => W1 (ix3 k e f)) (fun e => W3 (ix3 k e f)) * W2 (ix3 k f d) := by
  show column k h0 (hot E) (ix2 n d) * back k h2 _ W2 (ix2 n d) = _
  rw [column_at, hot_at, back_at]
  refine congrArg _ (Finset.sum_congr rfl fun f _ => congrArg (· * _) ?_)
  show silu (prod k h X W1) (ix2 n f) * prod k h X W3 (ix2 n f) = _
  rw [silu_at, prod_at, prod_at]
  rfl

/-- Of eight parts, seven by zero and one by one, the sum is that one. -/
theorem pick (e : Fin 8) (w : BitVec 32) (hw : w = BitVec.ofNat 32 e) (y : Fin 8 → EReal) :
    ((((((((0 + (if w = BitVec.ofNat 32 (0 : Fin 8) then 1 else 0) * y 0) + (if w = BitVec.ofNat 32 (1 : Fin 8) then 1 else 0) * y 1)
      + (if w = BitVec.ofNat 32 (2 : Fin 8) then 1 else 0) * y 2) + (if w = BitVec.ofNat 32 (3 : Fin 8) then 1 else 0) * y 3)
      + (if w = BitVec.ofNat 32 (4 : Fin 8) then 1 else 0) * y 4) + (if w = BitVec.ofNat 32 (5 : Fin 8) then 1 else 0) * y 5)
      + (if w = BitVec.ofNat 32 (6 : Fin 8) then 1 else 0) * y 6) + (if w = BitVec.ofNat 32 (7 : Fin 8) then 1 else 0) * y 7) = y e := by
  subst hw
  fin_cases e <;> simp

variable (Y : IVec S28672x1024 32)

theorem decoded_at (a : Fin 2048) : decoded Y (ix2 n a) = deco (fun e => Y (ix2 n e)) a :=
  deco_concat (fun w : BitVec 32 => Scalar.ofBits (F := Ideal) .f32 w) Y _ _ (fun _ => rfl) (fun _ => rfl) concatenates_S28672x1024_S28672x1024_S28672x2048_d1 n a

/-- The reference's result at row `n`, channel `d`, of an item of expert `e`. -/
theorem result_at (e : Fin 8) (he : E (ix1 (itemOf n)) = BitVec.ofNat 32 e) : result Y E W1 W3 W2 (ix2 n d)
    = ∑ f : Fin 7168, hid (deco fun a => Y (ix2 n a)) (fun a => W1 (ix3 e a f)) (fun a => W3 (ix3 e a f)) * W2 (ix3 e f d) := by
  have hdec : (deco fun a => Y (ix2 n a)) = fun a => decoded Y (ix2 n a) := funext fun a => (decoded_at n Y a).symm
  rw [hdec]
  refine Eq.trans ?_ (pick e _ he fun k => ∑ f : Fin 7168, hid (fun a => decoded Y (ix2 n a)) (fun a => W1 (ix3 k a f)) (fun a => W3 (ix3 k a f)) * W2 (ix3 k f d))
  refine congrArg₂ (· + ·) (congrArg₂ (· + ·) (congrArg₂ (· + ·) (congrArg₂ (· + ·) (congrArg₂ (· + ·) (congrArg₂ (· + ·) (congrArg₂ (· + ·) (congrArg₂ (· + ·) ?_
    (one_at (decoded Y) E W1 W3 W2 0 n d _ _ _)) (one_at (decoded Y) E W1 W3 W2 1 n d _ _ _)) (one_at (decoded Y) E W1 W3 W2 2 n d _ _ _)) (one_at (decoded Y) E W1 W3 W2 3 n d _ _ _))
    (one_at (decoded Y) E W1 W3 W2 4 n d _ _ _)) (one_at (decoded Y) E W1 W3 W2 5 n d _ _ _)) (one_at (decoded Y) E W1 W3 W2 6 n d _ _ _)) (one_at (decoded Y) E W1 W3 W2 7 n d _ _ _)
  pointwise

/-- A row the claim covers is one of its item's rows. -/
theorem routed_at (e b r : IVec S14 32) (h : Cert.On_routed.fn (F := Ideal) Y e b r W1 W3 W2 (ix2 n d) = 1#1)
    (hr : (r (ix1 (itemOf n))).toNat ≤ 2048) : (n : ℕ) % 2048 < (r (ix1 (itemOf n))).toNat := by
  revert h
  pointwise [Cert.On_routed.fn]
  intro h
  have hlt : (n : ℕ) % 2048 < 2048 := Nat.mod_lt _ (by decide)
  have hw : (BitVec.ofNat 32 ((n : ℕ) % 2048)).toNat = (n : ℕ) % 2048 := by rw [BitVec.toNat_ofNat]; omega
  have h' := (StableHlo.Predicate.slt_iff_toNat (by rw [hw]; omega) (lt_of_le_of_lt hr (by decide))).1 h
  rwa [hw] at h'

end Cert.Reference4Ideal.Moe

end
-- ==== Proof.MoeIdeal.Claim.lean ====
/- The expert call's rows in use are the reference's. -/
module

public import proofs.«01_k».proof.Defs
public import proofs.«01_k».proof.Proof.MoeIdeal.Frame
public import proofs.«01_k».proof.Proof.MoeIdeal.Step
public import proofs.«01_k».proof.Proof.MoeIdeal.Ref

@[expose] public section

set_option maxRecDepth 16384

noncomputable section

open Idealize.ShloMosaic Idealize.ShloMosaic.TcCoe Idealize.SL.Sem

namespace Cert.Moe

open Cert.Kernel4Ideal Cert.Kernel4Ideal.Gen Cert.Kernel4Ideal.Moe Cert.Ffn
open Cert.Reference4Ideal.Moe (itemOf result result_at routed_at)

variable (m : (ℓ : Loc nD τ sig) → Buf (Elt Ideal) ℓ) (hg : GoodT (tbl m)) (c : Dev nD)

/-- The reference's result of the call's arguments. -/
abbrev wanted : Vec Ideal S28672x2048 .f32 :=
  result (m ((c.tc : Thread nD τ).loc main_arg0)) (m ((c.tc : Thread nD τ).loc main_arg1)) (m ((c.tc : Thread nD τ).loc main_arg4))
    (m ((c.tc : Thread nD τ).loc main_arg5)) (m ((c.tc : Thread nD τ).loc main_arg6))

theorem dev_zero : c = 0 := Subsingleton.elim _ _

theorem at14_eq (n : Fin 28672) (h : (n : ℕ) / 2048 < 14) : at14 ((n : ℕ) / 2048) h = ix1 (itemOf n) := by
  funext a
  match a with
  | 0 => rfl

include hg in
/-- After the last item every row in use holds the reference's. -/
theorem rows_eq (W : Vec Ideal S28672x2048 .f32) (h : landedTo m c 14 W) (n : Fin 28672) (d : Fin 2048)
    (hm : Cert.On_routed.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (ix2 n d) = 1#1) : W (ix2 n d) = wanted m c (ix2 n d) := by
  obtain rfl := dev_zero c
  have h14 : (n : ℕ) / 2048 < 14 := by omega
  have hw := routed_at _ _ _ n d _ _ _ _ hm (hg.rows _)
  have hrows : (n : ℕ) % 2048 < rowsN m ((n : ℕ) / 2048) := by
    unfold rowsN
    rw [dif_pos h14, at14_eq n h14]
    exact hw
  have hu : (n : ℕ) % 2048 < used m ((n : ℕ) / 2048) := by
    show _ < 128 * ((rowsN m ((n : ℕ) / 2048) + 127) / 128)
    omega
  have hrow : row ((n : ℕ) / 2048) ((n : ℕ) % 2048) = n := Fin.ext (by show min (2048 * ((n : ℕ) / 2048) + (n : ℕ) % 2048) 28671 = n; omega)
  have key := h _ h14 h14 (lt_of_le_of_lt (Nat.zero_le _) hrows) ⟨(n : ℕ) % 2048, Nat.mod_lt _ (by decide)⟩ d hu
  rw [hrow] at key
  refine key.trans ?_
  have hdone : done m 0 ((n : ℕ) / 2048) ⟨(n : ℕ) % 2048, Nat.mod_lt _ (by decide)⟩ d 7168 = _ := part_all ..
  refine hdone.trans ?_
  rw [hrow]
  refine (result_at _ _ _ _ n d _ (ex (expertN m ((n : ℕ) / 2048))) ?_).symm
  have he : (tbl m 0 (ix1 (itemOf n)) : BitVec 32).toNat = expertN m ((n : ℕ) / 2048) := by
    unfold expertN
    rw [dif_pos h14, at14_eq n h14]
  have hl := expert_lt m hg ((n : ℕ) / 2048)
  apply BitVec.eq_of_toNat_eq
  refine he.trans ?_
  rw [BitVec.toNat_ofNat]
  show _ = min (expertN m ((n : ℕ) / 2048)) 7 % 2 ^ 32
  omega

/-- The equation of the experts. -/
theorem algebraic : Cert.algebraic_Kernel4Ideal_Reference4Ideal_on_routed := by
  intro m ρ m' ρ' hpre hagree
  have hg : GoodT (tbl m) := good_tbl (hpre 0)
  refine ⟨fun c => wanted m c, ?_, ?_⟩
  · refine (θ_run Cert.Kernel4Ideal.defs _ _).mono (fun r h c => ⟨fun i hi => ?_, kept h.1.1 c⟩) (run (fun c => plan m hg c) ρ)
    obtain ⟨W, hW, hmem⟩ := h.1.2 c
    obtain ⟨n, d, rfl⟩ : ∃ (n : Fin 28672) (d : Fin 2048), i = ix2 n d := ⟨i 0, i 1, eq_ix2 i⟩
    exact (congrFun (hmem main_v0 (Finset.mem_singleton_self _)) _).trans (rows_eq m hg c _ hW n d hi)
  · refine (θ_run Cert.Reference4Ideal.defs _ _).mono (fun r h c => ⟨fun i hi => ?_, (h c).2⟩) (Cert.Reference4Ideal.Moe.run m' ρ')
    refine (congrFun (h c).1 i).trans ?_
    obtain ⟨a0, a1, a2, a3, a4, a5, a6⟩ := hagree c
    rw [a0, a1, a4, a5, a6]

end Cert.Moe

end
-- ==== Proof.Scal.lean ====
/- The attention of one query row in scalars: the normalised head, the score, the softmax weight, the weighted sum. -/
module

public import Idealize.ShloMosaic.Lib.Pipeline.ValueKit
public import Idealize.ShloMosaic.Lib.Pointwise

@[expose] public section

noncomputable section

open Idealize.ShloMosaic

namespace Cert.Scal

/-- A head of 128 channels divided by its root mean square and scaled by the gain. -/
def unit (x g : Fin 128 → EReal) (d : Fin 128) : EReal :=
  x d * Ideal.rsqrt (Ideal.div (∑ e, x e * x e) (Ideal.ofBits .f32 0x43000000#32) + Ideal.ofBits .f32 0x358637BD#32) * g d

/-- The scaled product of a query with a key. -/
def score (q k : Fin 128 → EReal) : EReal := (∑ d, q d * k d) * Ideal.ofBits .f32 0x3DB504F3#32

/-- The exponential of a score below the row's greatest. -/
def expo {n : ℕ} (s : Fin n → EReal) (k : Fin n) : EReal :=
  Ideal.exp (s k - Finset.fold max (Ideal.ofBits .f32 0xFF800000#32) s Finset.univ)

/-- The softmax weight of a key. -/
def weight {n : ℕ} (s : Fin n → EReal) (k : Fin n) : EReal := Ideal.div (expo s k) (∑ l, expo s l)

/-- One query's attention over its keys: channel `d` of the weighted sum of the values. -/
def attend {n : ℕ} (q : Fin 128 → EReal) (K V : Fin n → Fin 128 → EReal) (d : Fin 128) : EReal :=
  ∑ k, weight (fun l => score q (K l)) k * V k d

/-- A greatest value taken from a start is at least the start: a maximum with the start changes nothing. -/
theorem max_fold {n : ℕ} (c : EReal) (s : Fin n → EReal) :
    max c (Finset.fold max c s Finset.univ) = Finset.fold max c s Finset.univ :=
  max_eq_right ((Finset.le_fold_max c).2 (Or.inl le_rfl))

end Cert.Scal
-- ==== Proof.Ctx.Body.lean ====
/- What one grid point of the context attention stores, read at an index: four heads, the normalised keys, the values. -/
module

public import proofs.«01_k».proof.Defs
public import proofs.«01_k».proof.Proof.Gen.KernelIdeal.Frame
public import proofs.«01_k».proof.Proof.Scal

@[expose] public section

set_option maxRecDepth 16384

noncomputable section

open Idealize.ShloMosaic Idealize.ShloMosaic.TcCoe Idealize.SL.Sem

namespace Cert.KernelIdeal.Ctx

open Cert.KernelIdeal Cert.KernelIdeal.Gen Cert.Scal

variable (K V : FVec Ideal S256x128 .bf16) (x : FVec Ideal S256x128 .f32) (g : FVec Ideal S1x128 .f32)

/-- One head of one point: the attention of the block's query rows. -/
abbrev head (r : Fin 256) (d : Fin 128) : EReal :=
  attend (unit (fun e => x (ix2 r e)) fun e => g (ix2 0 e)) (fun (l : Fin 256) e => K (ix2 l e)) (fun l e => V (ix2 l e)) d

theorem key_at (r : Fin 256) (d : Fin 128) : k0_pay2 (F := Ideal) x g (ix2 r d) = unit (fun e => x (ix2 r e)) (fun e => g (ix2 0 e)) d := by
  pointwise [k0_pay2, unit]

theorem keyb_at (r : Fin 256) (d : Fin 128) : k0_pay3 (F := Ideal) x g (ix2 r d) = unit (fun e => x (ix2 r e)) (fun e => g (ix2 0 e)) d := by
  pointwise [k0_pay3, k0_pay2, unit]

theorem head3_at (r : Fin 256) (d : Fin 128) : k0_pay1 (F := Ideal) K V x g (ix2 r d) = head K V x g r d := by
  pointwise [k0_pay1, attend, weight, expo, score, unit]

theorem head2_at (r : Fin 256) (d : Fin 128) : k0_pay10 (F := Ideal) K V x g (ix2 r d) = head K V x g r d := by
  pointwise [k0_pay10, attend, weight, expo, score, unit]

theorem head1_at (r : Fin 256) (d : Fin 128) :
    k0_pay9 (F := Ideal) V (k0_pay7 K x g) (k0_pay8 K x g) (ix2 r d) = head K V x g r d := by
  pointwise [k0_pay9, k0_pay7, k0_pay8, attend, weight, expo, score, unit]

theorem head0_at (r : Fin 256) (d : Fin 128) :
    k0_pay6 (F := Ideal) K V (k0_pay5 x g) (ix2 r d) = head K V x g r d := by
  pointwise [k0_pay6, k0_pay5, attend, weight, expo, score, unit]

end Cert.KernelIdeal.Ctx
-- ==== Proof.Ctx.Tiles.lean ====
/- The three blocks one grid point of the context attention leaves, from its input blocks, read at an index. -/
module

public import proofs.«01_k».proof.Proof.Ctx.Body

@[expose] public section

set_option maxRecDepth 16384

noncomputable section

open Idealize.ShloMosaic Idealize.ShloMosaic.TcCoe Idealize.SL.Sem

namespace Cert.KernelIdeal.Ctx

open Cert.KernelIdeal Cert.KernelIdeal.Gen Cert.Scal

variable (x0 : FVec Ideal S256x512 .f32) (x1 x2 : FVec Ideal S256x128 .f32) (x3 x4 : FVec Ideal S1x128 .f32)

theorem keys_at (l : Fin 256) (e : Fin 128) :
    k0_pay11 (F := Ideal) x0 x1 x2 x3 x4 (ix2 l e) = unit (fun e => x1 (ix2 l e)) (fun e => x4 (ix2 0 e)) e := by
  unfold k0_pay11
  refine (keyb_at _ _ l e).trans ?_
  pointwise

theorem vals_at (l : Fin 256) (e : Fin 128) : k0_pay12 (F := Ideal) x0 x1 x2 x3 x4 (ix2 l e) = x2 (ix2 l e) := by
  pointwise [k0_pay12, k0_pay4]

/-- A head over the point's keys and values, its query block read at tile `j`. -/
theorem head_glue (x : FVec Ideal S256x128 .f32) (g : FVec Ideal S1x128 .f32) (r : Fin 256) (j : Fin 4) (d : Fin 128)
    (hx : ∀ e : Fin 128, x (ix2 r e) = x0 (ix2 r ⟨j * 128 + e, by omega⟩)) (hg : ∀ e : Fin 128, g (ix2 0 e) = x3 (ix2 0 e)) :
    head (k0_pay11 x0 x1 x2 x3 x4) (k0_pay12 x0 x1 x2 x3 x4) x g r d
      = attend (unit (fun e => x0 (ix2 r ⟨j * 128 + e, by omega⟩)) fun e => x3 (ix2 0 e))
          (fun l : Fin 256 => unit (fun e => x1 (ix2 l e)) fun e => x4 (ix2 0 e)) (fun l e => x2 (ix2 l e)) d := by
  unfold head
  simp only [hx, hg, keys_at, vals_at]

/-- Head `j` of the block at row `r`: the query head is the tile `j` of the query block. -/
theorem out5_at (r : Fin 256) (j : Fin 4) (d : Fin 128) (y : S256x512.Idx) (hy0 : (y 0 : ℕ) = r) (hy1 : (y 1 : ℕ) = j * 128 + d) :
    out0_5 (F := Ideal) x0 x1 x2 x3 x4 y
      = attend (unit (fun e => x0 (ix2 r ⟨j * 128 + e, by omega⟩)) fun e => x3 (ix2 0 e))
          (fun l : Fin 256 => unit (fun e => x1 (ix2 l e)) fun e => x4 (ix2 0 e)) (fun l e => x2 (ix2 l e)) d := by
  unfold out0_5
  have hxe : ∀ x : S256x128.Idx, (x 0 : ℕ) = r → (x 1 : ℕ) = d → x = ix2 r d := fun x a b => by
    rw [eq_ix2 x]; exact (ix2_inj ..).2 ⟨Fin.ext a, Fin.ext b⟩
  canon_tiles x h
  case piece0 =>
    rw [hxe x (by omega) (by omega), head3_at]
    exact head_glue x0 x1 x2 x3 x4 _ _ r j d (fun e => by pointwise; blk_ext) (fun e => by pointwise)
  case piece1 =>
    rw [hxe x (by omega) (by omega), head2_at]
    exact head_glue x0 x1 x2 x3 x4 _ _ r j d (fun e => by pointwise; blk_ext) (fun e => by pointwise)
  case piece2 =>
    rw [hxe x (by omega) (by omega), head1_at]
    exact head_glue x0 x1 x2 x3 x4 _ _ r j d (fun e => by pointwise; blk_ext) (fun e => by pointwise)
  case piece3 =>
    rw [hxe x (by omega) (by omega), head0_at]
    exact head_glue x0 x1 x2 x3 x4 _ _ r j d (fun e => by pointwise; blk_ext) (fun e => by pointwise)

theorem out6_at (r : Fin 256) (d : Fin 128) :
    out0_6 (F := Ideal) x0 x1 x2 x3 x4 (ix2 r d) = unit (fun e => x1 (ix2 r e)) (fun e => x4 (ix2 0 e)) d := by
  frame_out
  exact key_at _ _ r d

theorem out7_at (r : Fin 256) (d : Fin 128) : out0_7 (F := Ideal) x0 x1 x2 x3 x4 (ix2 r d) = x2 (ix2 r d) := by
  frame_out

end Cert.KernelIdeal.Ctx
-- ==== Proof.Ctx.Arrays.lean ====
/- What the three result arrays of the context attention hold after the run, index by index. -/
module

public import proofs.«01_k».proof.Proof.Gen.KernelIdeal.Value
public import proofs.«01_k».proof.Proof.Ctx.Tiles
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Ctx

open Cert.KernelIdeal Cert.KernelIdeal.Gen Cert.Scal

variable (m : (ℓ : Loc nD τ sig) → Buf (Elt Ideal) ℓ)

/-- The windows' index maps at point `2 b + h`. -/
theorem idx : ∀ t : Fin cfg0.N, win0_0.index t = ![t.val / 2, t.val % 2] ∧ win0_1.index t = ![t.val / 2, 8 + t.val % 2]
    ∧ win0_2.index t = ![t.val / 2, 10 + t.val % 2] ∧ win0_3.index t = ![0, 0] ∧ win0_4.index t = ![0, 0]
    ∧ win0_5.index t = ![t.val / 2, t.val % 2] ∧ win0_6.index t = ![t.val / 2, t.val % 2]
    ∧ win0_7.index t = ![t.val / 2, t.val % 2] :=
  (by decide +kernel : ∀ t : Fin grid0.N, _)

/-- The grid point of sequence `b` and key head `h`. -/
def pt (b : Fin 16) (h : Fin 2) : Fin cfg0.N := ⟨b * 2 + h, by rw [show cfg0.N = 32 from N_0]; omega⟩

theorem pt_val (b : Fin 16) (h : Fin 2) : (pt b h : ℕ) = b * 2 + h := rfl

variable (c : Dev nD) (b : Fin 16) (h : Fin 2)

theorem q_blk (r : Fin 256) (e : Fin 512) : iblk m c 0 (pt b h) (ix2 r e : S256x512.Idx)
    = m ((c : Thread nD τ).loc main_arg0) (ix2 ⟨b * 256 + r, by omega⟩ ⟨h * 512 + e, by omega⟩ : S6144x3584.Idx) := by
  have := pt_val b h
  blk_ext [iblk, V, idx (pt b h)]

theorem k_blk (r : Fin 256) (e : Fin 128) : iblk m c 1 (pt b h) (ix2 r e : S256x128.Idx)
    = m ((c : Thread nD τ).loc main_arg0) (ix2 ⟨b * 256 + r, by omega⟩ ⟨1024 + h * 128 + e, by omega⟩ : S6144x3584.Idx) := by
  have := pt_val b h
  blk_ext [iblk, V, idx (pt b h)]

theorem v_blk (r : Fin 256) (e : Fin 128) : iblk m c 2 (pt b h) (ix2 r e : S256x128.Idx)
    = m ((c : Thread nD τ).loc main_arg0) (ix2 ⟨b * 256 + r, by omega⟩ ⟨1280 + h * 128 + e, by omega⟩ : S6144x3584.Idx) := by
  have := pt_val b h
  blk_ext [iblk, V, idx (pt b h)]

theorem qg_blk (e : Fin 128) : iblk m c 3 (pt b h) (ix2 0 e : S1x128.Idx) = m ((c : Thread nD τ).loc main_arg1) (ix1 e : S128.Idx) := by
  blk_simp [iblk, idx (pt b h)]
  entry_read
  pointwise
  blk_ext [idx (pt b h)]

theorem kg_blk (e : Fin 128) : iblk m c 4 (pt b h) (ix2 0 e : S1x128.Idx) = m ((c : Thread nD τ).loc main_arg2) (ix1 e : S128.Idx) := by
  blk_simp [iblk, idx (pt b h)]
  entry_read
  pointwise
  blk_ext [idx (pt b h)]

end Cert.KernelIdeal.Ctx
-- ==== Proof.Ctx.Ref.lean ====
/- What the reference of the context attention computes, its term cut at the heads, the scores and the weights, each part read
   at an index. -/
module

public import proofs.«01_k».proof.Defs
public import proofs.«01_k».proof.Proof.Gen.ReferenceIdeal.Run
public import proofs.«01_k».proof.Proof.Scal

@[expose] public section

set_option maxRecDepth 16384

noncomputable section

open Idealize.ShloMosaic Idealize.ShloMosaic.TcCoe Idealize.SL.Sem

namespace Cert.ReferenceIdeal.Ctx

open Cert.ReferenceIdeal Cert.ReferenceIdeal.Gen Cert.Scal

/-- The query heads of the context rows. -/
def qraw (X : FVec Ideal S6144x3584 .f32) : FVec Ideal S16x256x2x4x128 .f32 :=
  (shapeCast _ (extractStridedSlice S16x256x1024 ![0, 0, 0] (shapeCast _ (extractStridedSlice S4096x3584 ![0, 0] X slices_S6144x3584_S4096x3584_0_0) shapeCasts_S4096x3584_S16x256x3584) slices_S16x256x3584_S16x256x1024_0_0_0) shapeCasts_S16x256x1024_S16x256x2x4x128)

/-- The key heads of the context rows. -/
def kraw (X : FVec Ideal S6144x3584 .f32) : FVec Ideal S16x256x2x128 .f32 :=
  (shapeCast _ (extractStridedSlice S16x256x256 ![0, 0, 1024] (shapeCast _ (extractStridedSlice S4096x3584 ![0, 0] X slices_S6144x3584_S4096x3584_0_0) shapeCasts_S4096x3584_S16x256x3584) slices_S16x256x3584_S16x256x256_0_0_1024) shapeCasts_S16x256x256_S16x256x2x128)

/-- The value heads of the context rows. -/
def vraw (X : FVec Ideal S6144x3584 .f32) : FVec Ideal S16x256x2x128 .f32 :=
  (shapeCast _ (extractStridedSlice S16x256x256 ![0, 0, 1280] (shapeCast _ (extractStridedSlice S4096x3584 ![0, 0] X slices_S6144x3584_S4096x3584_0_0) shapeCasts_S4096x3584_S16x256x3584) slices_S16x256x3584_S16x256x256_0_0_1280) shapeCasts_S16x256x256_S16x256x2x128)

/-- The query heads normalised. -/
def qn (Q : FVec Ideal S16x256x2x4x128 .f32) (g : FVec Ideal S128 .f32) : FVec Ideal S16x256x2x4x128 .f32 :=
  (mulf (mulf Q (broadcastInDim S16x256x2x4x128 ![0, 1, 2, 3, 4] bcast_S16x256x2x4x1_S16x256x2x4x128_0_1_2_3_4 (Host.rsqrt (addf (Host.divf (broadcastInDim S16x256x2x4x1 ![0, 1, 2, 3] bcast_S16x256x2x4_S16x256x2x4x1_0_1_2_3 (Host.reduceAdd (mulf Q Q) ((constant S_ .f32 0x00000000#32)) reducesTo_S16x256x2x4x128_S16x256x2x4_d4 h_S_)) (broadcastInDim S16x256x2x4x1 ![] bcast_S_S16x256x2x4x1 ((constant S_ .f32 0x43000000#32)))) (broadcastInDim S16x256x2x4x1 ![] bcast_S_S16x256x2x4x1 ((constant S_ .f32 0x358637BD#32))))))) (broadcastInDim S16x256x2x4x128 ![0, 1, 2, 3, 4] bcast_S1x1x1x1x128_S16x256x2x4x128_0_1_2_3_4 (broadcastInDim S1x1x1x1x128 ![4] bcast_S128_S1x1x1x1x128_4 g)))

/-- The key heads normalised. -/
def kn (K : FVec Ideal S16x256x2x128 .f32) (g : FVec Ideal S128 .f32) : FVec Ideal S16x256x2x128 .f32 :=
  (mulf (mulf K (broadcastInDim S16x256x2x128 ![0, 1, 2, 3] bcast_S16x256x2x1_S16x256x2x128_0_1_2_3 (Host.rsqrt (addf (Host.divf (broadcastInDim S16x256x2x1 ![0, 1, 2] bcast_S16x256x2_S16x256x2x1_0_1_2 (Host.reduceAdd (mulf K K) ((constant S_ .f32 0x00000000#32)) reducesTo_S16x256x2x128_S16x256x2_d3 h_S_)) (broadcastInDim S16x256x2x1 ![] bcast_S_S16x256x2x1 ((constant S_ .f32 0x43000000#32)))) (broadcastInDim S16x256x2x1 ![] bcast_S_S16x256x2x1 ((constant S_ .f32 0x358637BD#32))))))) (broadcastInDim S16x256x2x128 ![0, 1, 2, 3] bcast_S1x1x1x128_S16x256x2x128_0_1_2_3 (broadcastInDim S1x1x1x128 ![3] bcast_S128_S1x1x1x128_3 g)))

/-- The scaled scores. -/
def sc (K : FVec Ideal S16x256x2x128 .f32) (Q : FVec Ideal S16x256x2x4x128 .f32) : FVec Ideal S16x2x4x256x256 .f32 :=
  (mulf (transpose S16x2x4x256x256 [0, 1, 4, 3, 2] (Host.dotGeneral dot_S16x256x2x128_S16x256x2x4x128_S16x2x256x256x4_3_4_1_13_02_02 none K Q) transposes_S16x2x256x256x4_S16x2x4x256x256_0_1_4_3_2) (broadcastInDim S16x2x4x256x256 ![] bcast_S_S16x2x4x256x256 ((constant S_ .f32 0x3DB504F3#32))))

/-- The greatest score of each row. -/
def mx (S : FVec Ideal S16x2x4x256x256 .f32) : FVec Ideal S16x2x4x256 .f32 :=
  (maximumf (broadcastInDim S16x2x4x256 ![] bcast_S_S16x2x4x256 ((constant S_ .f32 0xFF800000#32))) (Host.reduce FloatOps.maximumf S ((constant S_ .f32 0xFF800000#32)) reducesTo_S16x2x4x256x256_S16x2x4x256_d4 h_S_))

/-- The exponentials of the scores below their row's greatest. -/
def ex (S : FVec Ideal S16x2x4x256x256 .f32) : FVec Ideal S16x2x4x256x256 .f32 :=
  (Host.exp (subf S (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (mx S)))))

/-- The softmax weights. -/
def pr (E : FVec Ideal S16x2x4x256x256 .f32) : FVec Ideal S16x2x4x256x256 .f32 :=
  (Host.divf E (broadcastInDim S16x2x4x256x256 ![0, 1, 2, 3, 4] bcast_S16x2x4x256x1_S16x2x4x256x256_0_1_2_3_4 (broadcastInDim S16x2x4x256x1 ![0, 1, 2, 3] bcast_S16x2x4x256_S16x2x4x256x1_0_1_2_3 (Host.reduceAdd E ((constant S_ .f32 0x00000000#32)) reducesTo_S16x2x4x256x256_S16x2x4x256_d4 h_S_))))

/-- The weighted sums of the values, as rows of the array. -/
def at' (P : FVec Ideal S16x2x4x256x256 .f32) (V : FVec Ideal S16x256x2x128 .f32) : FVec Ideal S4096x1024 .bf16 :=
  (truncf .bf16 (shapeCast _ (transpose S16x256x2x4x128 [0, 4, 1, 3, 2] (Host.dotGeneral dot_S16x256x2x128_S16x2x4x256x256_S16x2x128x4x256_1_4_3_23_02_01 none V P) transposes_S16x2x128x4x256_S16x256x2x4x128_0_4_1_3_2) shapeCasts_S16x256x2x4x128_S4096x1024) bitsLt_bf16_f32)

/-- The attention below the context rows filled with zeros. -/
def whole (A : FVec Ideal S4096x1024 .bf16) : FVec Ideal S6144x1024 .bf16 :=
  (concatenate S6144x1024 0 [⟨S4096x1024, A⟩, ⟨S2048x1024, (broadcastInDim S2048x1024 ![] bcast_S_S2048x1024 ((constant S_ .bf16 0x0000#16)))⟩] concatenates_S4096x1024_S2048x1024_S6144x1024_d0)

variable (X : FVec Ideal S6144x3584 .f32) (g : FVec Ideal S128 .f32)

theorem qraw_at (b : Fin 16) (t : Fin 256) (h : Fin 2) (j : Fin 4) (d : Fin 128) :
    qraw X (ix5 b t h j d) = X (ix2 ⟨b * 256 + t, by omega⟩ ⟨h * 512 + j * 128 + d, by omega⟩) := by
  pointwise [qraw]; blk_ext

theorem kraw_at (b : Fin 16) (t : Fin 256) (h : Fin 2) (d : Fin 128) :
    kraw X (ix4 b t h d) = X (ix2 ⟨b * 256 + t, by omega⟩ ⟨1024 + h * 128 + d, by omega⟩) := by
  pointwise [kraw]; blk_ext

theorem vraw_at (b : Fin 16) (t : Fin 256) (h : Fin 2) (d : Fin 128) :
    vraw X (ix4 b t h d) = X (ix2 ⟨b * 256 + t, by omega⟩ ⟨1280 + h * 128 + d, by omega⟩) := by
  pointwise [vraw]; blk_ext

theorem qn_at (Q : FVec Ideal S16x256x2x4x128 .f32) (b : Fin 16) (t : Fin 256) (h : Fin 2) (j : Fin 4) (d : Fin 128) :
    qn Q g (ix5 b t h j d) = unit (fun e => Q (ix5 b t h j e)) (fun e => g (ix1 e)) d := by
  pointwise [qn, unit]

theorem kn_at (K : FVec Ideal S16x256x2x128 .f32) (b : Fin 16) (t : Fin 256) (h : Fin 2) (d : Fin 128) :
    kn K g (ix4 b t h d) = unit (fun e => K (ix4 b t h e)) (fun e => g (ix1 e)) d := by
  pointwise [kn, unit]

theorem sc_at (K : FVec Ideal S16x256x2x128 .f32) (Q : FVec Ideal S16x256x2x4x128 .f32) (b : Fin 16) (h : Fin 2) (j : Fin 4)
    (t l : Fin 256) :
    sc K Q (ix5 b h j t l) = score (fun d => Q (ix5 b t h j d)) (fun d => K (ix4 b l h d)) := by
  pointwise [sc, score]
  exact congrArg (· * _) (Finset.sum_congr rfl fun _ _ => mul_comm _ _)

theorem red_at (S : FVec Ideal S16x2x4x256x256 .f32) (c : FVec Ideal S_ .f32) (b : Fin 16) (h : Fin 2) (j : Fin 4) (t : Fin 256) :
    Host.reduce FloatOps.maximumf S c reducesTo_S16x2x4x256x256_S16x2x4x256_d4 h_S_ (ix4 b h j t)
      = Finset.fold max (c (Shape.Idx.first h_S_)) (fun k : Fin 256 => S (ix5 b h j t k)) Finset.univ := by
  rw [Host.reduce_eq_fold_single FloatOps.maximumf S c _ (by decide)]
  refine Finset.fold_congr fun k _ => ?_
  refine congrArg S ?_
  funext a
  fin_cases a <;> rfl

theorem top_at (R : FVec Ideal S16x2x4x256 .f32) (y : S16x2x4x256.Idx) :
    maximumf (broadcastInDim S16x2x4x256 ![] bcast_S_S16x2x4x256 ((constant S_ .f32 0xFF800000#32))) R y
      = max (Ideal.ofBits .f32 0xFF800000#32) (R y) := by
  pointwise

theorem low_at (i : S_.Idx) : (constant S_ .f32 0xFF800000#32 : FVec Ideal S_ .f32) i = Ideal.ofBits .f32 0xFF800000#32 := rfl

theorem mx_at (S : FVec Ideal S16x2x4x256x256 .f32) (b : Fin 16) (h : Fin 2) (j : Fin 4) (t : Fin 256) :
    mx S (ix4 b h j t) = Finset.fold max (Ideal.ofBits .f32 0xFF800000#32) (fun k : Fin 256 => S (ix5 b h j t k)) Finset.univ := by
  unfold mx
  rw [top_at, red_at, low_at, max_fold]

theorem ex_at (S : FVec Ideal S16x2x4x256x256 .f32) (b : Fin 16) (h : Fin 2) (j : Fin 4) (t l : Fin 256) :
    ex S (ix5 b h j t l) = expo (fun k => S (ix5 b h j t k)) l := by
  pointwise [ex, expo]
  exact congrArg (fun z => Ideal.exp (S (ix5 b h j t l) - z)) (mx_at S b h j t)

theorem pr_at (E : FVec Ideal S16x2x4x256x256 .f32) (b : Fin 16) (h : Fin 2) (j : Fin 4) (t l : Fin 256) :
    pr E (ix5 b h j t l) = Ideal.div (E (ix5 b h j t l)) (∑ k, E (ix5 b h j t k)) := by
  pointwise [pr]

theorem at_at (P : FVec Ideal S16x2x4x256x256 .f32) (V : FVec Ideal S16x256x2x128 .f32) (b : Fin 16) (t : Fin 256) (h : Fin 2)
    (j : Fin 4) (d : Fin 128) :
    at' P V (ix2 ⟨b * 256 + t, by omega⟩ ⟨h * 512 + j * 128 + d, by omega⟩)
      = ∑ k : Fin 256, P (ix5 b h j t k) * V (ix4 b k h d) := by
  pointwise [at']
  refine Finset.sum_congr rfl fun k _ => ?_
  rw [mul_comm]

/-- The reference's attention at a context row: head `4 h + j` of row `t` of sequence `b`. -/
theorem ref_at (gq gk : FVec Ideal S128 .f32) (b : Fin 16) (t : Fin 256) (h : Fin 2) (j : Fin 4) (d : Fin 128) :
    at' (pr (ex (sc (kn (kraw X) gk) (qn (qraw X) gq)))) (vraw X) (ix2 ⟨b * 256 + t, by omega⟩ ⟨h * 512 + j * 128 + d, by omega⟩)
      = attend (unit (fun e => X (ix2 ⟨b * 256 + t, by omega⟩ ⟨h * 512 + j * 128 + e, by omega⟩)) fun e => gq (ix1 e))
          (fun l : Fin 256 => unit (fun e => X (ix2 ⟨b * 256 + l, by omega⟩ ⟨1024 + h * 128 + e, by omega⟩)) fun e => gk (ix1 e))
          (fun (l : Fin 256) e => X (ix2 ⟨b * 256 + l, by omega⟩ ⟨1280 + h * 128 + e, by omega⟩)) d := by
  rw [at_at]
  simp only [pr_at, ex_at, sc_at, kn_at, qn_at, qraw_at, kraw_at, vraw_at]
  rfl

end Cert.ReferenceIdeal.Ctx
-- ==== Proof.Ctx.Final.lean ====
/- The three result arrays of the context attention after the run: each is what the reference computes. -/
module

public import proofs.«01_k».proof.Proof.Ctx.Arrays
public import proofs.«01_k».proof.Proof.Ctx.Ref

@[expose] public section

set_option maxRecDepth 16384

noncomputable section

open Idealize.ShloMosaic Idealize.ShloMosaic.TcCoe Idealize.SL.Sem
open Idealize.ShloMosaic.Pipeline (Dat)

namespace Cert.KernelIdeal.Ctx

open Cert.KernelIdeal Cert.KernelIdeal.Gen Cert.Scal

variable (m : (ℓ : Loc nD τ sig) → Buf (Elt Ideal) ℓ) (c : Dev nD)

theorem ctx_final (b : Fin 16) (h : Fin 2) (t : Fin 256) (j : Fin 4) (d : Fin 128) :
    (dats m 0 c).arrAt 5 cfg0.N (ix2 ⟨b * 256 + t, by omega⟩ ⟨h * 512 + j * 128 + d, by omega⟩ : S6144x1024.Idx)
      = attend (unit (fun e : Fin 128 => m ((c : Thread nD τ).loc main_arg0) (ix2 ⟨b * 256 + t, by omega⟩ ⟨h * 512 + j * 128 + e, by omega⟩ : S6144x3584.Idx))
            fun e => m ((c : Thread nD τ).loc main_arg1) (ix1 e : S128.Idx))
          (fun l : Fin 256 => unit (fun e : Fin 128 => m ((c : Thread nD τ).loc main_arg0) (ix2 ⟨b * 256 + l, by omega⟩ ⟨1024 + h * 128 + e, by omega⟩ : S6144x3584.Idx))
            fun e => m ((c : Thread nD τ).loc main_arg2) (ix1 e : S128.Idx))
          (fun l e => m ((c : Thread nD τ).loc main_arg0) (ix2 ⟨b * 256 + l, by omega⟩ ⟨1280 + h * 128 + e, by omega⟩ : S6144x3584.Idx)) d := by
  have pv := pt_val b h
  have e := congrFun (Value.blocks5 m c (pt b h) (flush0_5 _)) (ix2 t ⟨j * 128 + d, by omega⟩ : S256x512.Idx)
  rw [Value.flushed5] at e
  have l : ((cfg0.win 5).blk (pt b h)).view.read (Elt Ideal) ((dats m 0 c).arrAt 5 cfg0.N) (ix2 t ⟨j * 128 + d, by omega⟩ : S256x512.Idx)
      = (dats m 0 c).arrAt 5 cfg0.N (ix2 ⟨b * 256 + t, by omega⟩ ⟨h * 512 + j * 128 + d, by omega⟩ : S6144x1024.Idx) := by
    blk_ext [idx (pt b h)]
  rw [← l, e]
  refine (out5_at _ _ _ _ _ t j d _ rfl rfl).trans ?_
  congr 1
  · congr 1
    · funext e'
      rw [q_blk]
      blk_ext
    · funext e'
      rw [qg_blk]
  · funext l'
    congr 1
    · funext e'
      rw [k_blk]
    · funext e'
      rw [kg_blk]
  · funext l' e'
    rw [v_blk]

theorem key_final (b : Fin 16) (t : Fin 256) (h : Fin 2) (d : Fin 128) :
    (dats m 0 c).arrAt 6 cfg0.N (ix2 ⟨b * 256 + t, by omega⟩ ⟨h * 128 + d, by omega⟩ : S4096x256.Idx)
      = unit (fun e : Fin 128 => m ((c : Thread nD τ).loc main_arg0) (ix2 ⟨b * 256 + t, by omega⟩ ⟨1024 + h * 128 + e, by omega⟩ : S6144x3584.Idx))
            (fun e => m ((c : Thread nD τ).loc main_arg2) (ix1 e : S128.Idx)) d := by
  have pv := pt_val b h
  have e := congrFun (Value.blocks6 m c (pt b h) (flush0_6 _)) (ix2 t d : S256x128.Idx)
  rw [Value.flushed6] at e
  have l : ((cfg0.win 6).blk (pt b h)).view.read (Elt Ideal) ((dats m 0 c).arrAt 6 cfg0.N) (ix2 t d : S256x128.Idx)
      = (dats m 0 c).arrAt 6 cfg0.N (ix2 ⟨b * 256 + t, by omega⟩ ⟨h * 128 + d, by omega⟩ : S4096x256.Idx) := by
    blk_ext [idx (pt b h)]
  rw [← l, e]
  refine (out6_at _ _ _ _ _ t d).trans ?_
  congr 1
  · funext e'
    rw [k_blk]
  · funext e'
    rw [kg_blk]

theorem val_final (b : Fin 16) (t : Fin 256) (h : Fin 2) (d : Fin 128) :
    (dats m 0 c).arrAt 7 cfg0.N (ix2 ⟨b * 256 + t, by omega⟩ ⟨h * 128 + d, by omega⟩ : S4096x256.Idx)
      = m ((c : Thread nD τ).loc main_arg0) (ix2 ⟨b * 256 + t, by omega⟩ ⟨1280 + h * 128 + d, by omega⟩ : S6144x3584.Idx) := by
  have pv := pt_val b h
  have e := congrFun (Value.blocks7 m c (pt b h) (flush0_7 _)) (ix2 t d : S256x128.Idx)
  rw [Value.flushed7] at e
  have l : ((cfg0.win 7).blk (pt b h)).view.read (Elt Ideal) ((dats m 0 c).arrAt 7 cfg0.N) (ix2 t d : S256x128.Idx)
      = (dats m 0 c).arrAt 7 cfg0.N (ix2 ⟨b * 256 + t, by omega⟩ ⟨h * 128 + d, by omega⟩ : S4096x256.Idx) := by
    blk_ext [idx (pt b h)]
  rw [← l, e]
  exact (out7_at _ _ _ _ _ t d).trans (v_blk m c b h t d)

end Cert.KernelIdeal.Ctx
-- ==== Proof.Ctx.Claim.lean ====
/- The context attention's equation: where the mask is set, the kernel's arrays and the reference's are equal. -/
module

public import proofs.«01_k».proof.Defs
public import proofs.«01_k».proof.Proof.Gen.On_written
public import proofs.«01_k».proof.Proof.Ctx.Final

@[expose] public section

set_option maxRecDepth 16384

noncomputable section

open Idealize.ShloMosaic Idealize.ShloMosaic.TcCoe Idealize.SL.Sem

namespace Cert.ReferenceIdeal.Ctx

open Cert.ReferenceIdeal Cert.ReferenceIdeal.Gen Cert.Scal

/-- The keys as rows of their array. -/
def keys (X : FVec Ideal S6144x3584 .f32) (gk : FVec Ideal S128 .f32) : FVec Ideal S4096x256 .f32 :=
  shapeCast _ (kn (kraw X) gk) shapeCasts_S16x256x2x128_S4096x256

/-- The values as rows of their array. -/
def vals (X : FVec Ideal S6144x3584 .f32) : FVec Ideal S4096x256 .f32 :=
  shapeCast _ (vraw X) shapeCasts_S16x256x2x128_S4096x256

/-- The attention of the context rows, the other rows zero. -/
def ctxs (X : FVec Ideal S6144x3584 .f32) (gq gk : FVec Ideal S128 .f32) : FVec Ideal S6144x1024 .bf16 :=
  whole (at' (pr (ex (sc (kn (kraw X) gk) (qn (qraw X) gq)))) (vraw X))

theorem keys_at (X : FVec Ideal S6144x3584 .f32) (gk : FVec Ideal S128 .f32) (b : Fin 16) (t : Fin 256) (h : Fin 2) (d : Fin 128) :
    keys X gk (ix2 ⟨b * 256 + t, by omega⟩ ⟨h * 128 + d, by omega⟩)
      = unit (fun e => X (ix2 ⟨b * 256 + t, by omega⟩ ⟨1024 + h * 128 + e, by omega⟩)) (fun e => gk (ix1 e)) d := by
  have e : keys X gk (ix2 ⟨b * 256 + t, by omega⟩ ⟨h * 128 + d, by omega⟩) = kn (kraw X) gk (ix4 b t h d) := by
    pointwise [keys]
  rw [e, kn_at]
  simp only [kraw_at]

theorem vals_at (X : FVec Ideal S6144x3584 .f32) (b : Fin 16) (t : Fin 256) (h : Fin 2) (d : Fin 128) :
    vals X (ix2 ⟨b * 256 + t, by omega⟩ ⟨h * 128 + d, by omega⟩) = X (ix2 ⟨b * 256 + t, by omega⟩ ⟨1280 + h * 128 + d, by omega⟩) := by
  have e : vals X (ix2 ⟨b * 256 + t, by omega⟩ ⟨h * 128 + d, by omega⟩) = vraw X (ix4 b t h d) := by
    pointwise [vals]
  rw [e, vraw_at]

theorem whole_at (A : FVec Ideal S4096x1024 .bf16) (r : Fin 4096) (n : Fin 1024) :
    whole A (ix2 ⟨r, by omega⟩ n) = A (ix2 r n) := by
  pointwise [whole]

theorem run_ctx (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54)
          = ctxs (m ((c.tc : Thread nD τ).loc main_arg0)) (m ((c.tc : Thread nD τ).loc main_arg1)) (m ((c.tc : Thread nD τ).loc main_arg2))
      ∧ r.2.mem ((c.tc : Thread nD τ).loc main_v55)
          = keys (m ((c.tc : Thread nD τ).loc main_arg0)) (m ((c.tc : Thread nD τ).loc main_arg2))
      ∧ r.2.mem ((c.tc : Thread nD τ).loc main_v56) = vals (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.ReferenceIdeal.Ctx

namespace Cert.On_written

open Cert.On_written

/-- The mask of the attention array: the context rows. -/
theorem fn_row {F : FTy → Type} [FloatOps F] [Facts] (x : FVec F S6144x3584 .f32) (y z : FVec F S128 .f32) (i : S6144x1024.Idx)
    (h : (fn x y z).1 i = 1#1) : (i 0 : ℕ) < 4096 := by
  have e : (fn x y z).1 i = IntOp.cmpi .slt (BitVec.ofNat 32 (i 0 : ℕ)) 4096#32 := rfl
  rw [e] at h
  have b : (i 0 : ℕ) < 6144 := (i 0).isLt
  generalize (i 0 : ℕ) = r at *
  have t : (BitVec.ofNat 32 r).toInt = r := by
    rw [BitVec.toInt_ofNat', Int.bmod_eq_of_le] <;> omega
  by_contra hr
  have g : (BitVec.ofNat 32 r).slt 4096#32 = false := by
    rw [BitVec.slt, t]
    exact decide_eq_false (by show ¬ ((r : ℤ) < 4096); omega)
  simp [IntOp.cmpi, g] at h

end Cert.On_written

namespace Cert.Ctx

open Cert.Scal

/-- A rank-two index by its two positions. -/
theorem ix2_of {n k : ℕ} (i : (⟨2, ![n, k]⟩ : Shape).Idx) (a : Fin n) (b : Fin k) (ha : (i 0 : ℕ) = a) (hb : (i 1 : ℕ) = b) :
    i = ix2 a b := by
  funext x
  fin_cases x
  · exact Fin.ext ha
  · exact Fin.ext hb

section

open Cert.KernelIdeal

variable (m : (ℓ : Loc nD τ sig) → Buf (Elt Ideal) ℓ) (c : Dev nD)

theorem rows_eq (i : S6144x1024.Idx) (hi : (i 0 : ℕ) < 4096) :
    Cert.ReferenceIdeal.Ctx.ctxs (m ((c.tc : Thread nD τ).loc main_arg0)) (m ((c.tc : Thread nD τ).loc main_arg1))
        (m ((c.tc : Thread nD τ).loc main_arg2)) i
      = (Gen.dats m 0 c).arrAt 5 cfg0.N i := by
  have h1 : (i 1 : ℕ) < 1024 := (i 1).isLt
  rw [ix2_of i ⟨(i 0 : ℕ) / 256 * 256 + (i 0 : ℕ) % 256, by omega⟩
      ⟨(i 1 : ℕ) / 512 * 512 + (i 1 : ℕ) % 512 / 128 * 128 + (i 1 : ℕ) % 128, by omega⟩ (by simp only; omega) (by simp only; omega)]
  refine ((Cert.ReferenceIdeal.Ctx.whole_at _ ⟨(i 0 : ℕ) / 256 * 256 + (i 0 : ℕ) % 256, by omega⟩ _).trans
    (Cert.ReferenceIdeal.Ctx.ref_at _ _ _ ⟨(i 0 : ℕ) / 256, by omega⟩ ⟨(i 0 : ℕ) % 256, by omega⟩ ⟨(i 1 : ℕ) / 512, by omega⟩
      ⟨(i 1 : ℕ) % 512 / 128, by omega⟩ ⟨(i 1 : ℕ) % 128, by omega⟩)).trans ?_
  exact (Cert.KernelIdeal.Ctx.ctx_final m c ⟨(i 0 : ℕ) / 256, by omega⟩ ⟨(i 1 : ℕ) / 512, by omega⟩ ⟨(i 0 : ℕ) % 256, by omega⟩
      ⟨(i 1 : ℕ) % 512 / 128, by omega⟩ ⟨(i 1 : ℕ) % 128, by omega⟩).symm

theorem keys_eq : Cert.ReferenceIdeal.Ctx.keys (m ((c.tc : Thread nD τ).loc main_arg0)) (m ((c.tc : Thread nD τ).loc main_arg2))
      = (Gen.dats m 0 c).arrAt 6 cfg0.N := by
  funext i
  have h0 : (i 0 : ℕ) < 4096 := (i 0).isLt
  have h1 : (i 1 : ℕ) < 256 := (i 1).isLt
  rw [ix2_of i ⟨(i 0 : ℕ) / 256 * 256 + (i 0 : ℕ) % 256, by omega⟩ ⟨(i 1 : ℕ) / 128 * 128 + (i 1 : ℕ) % 128, by omega⟩
    (by simp only; omega) (by simp only; omega)]
  exact (Cert.ReferenceIdeal.Ctx.keys_at _ _ ⟨(i 0 : ℕ) / 256, by omega⟩ ⟨(i 0 : ℕ) % 256, by omega⟩ ⟨(i 1 : ℕ) / 128, by omega⟩
      ⟨(i 1 : ℕ) % 128, by omega⟩).trans
    (Cert.KernelIdeal.Ctx.key_final m c ⟨(i 0 : ℕ) / 256, by omega⟩ ⟨(i 0 : ℕ) % 256, by omega⟩ ⟨(i 1 : ℕ) / 128, by omega⟩
      ⟨(i 1 : ℕ) % 128, by omega⟩).symm

theorem vals_eq : Cert.ReferenceIdeal.Ctx.vals (m ((c.tc : Thread nD τ).loc main_arg0)) = (Gen.dats m 0 c).arrAt 7 cfg0.N := by
  funext i
  have h0 : (i 0 : ℕ) < 4096 := (i 0).isLt
  have h1 : (i 1 : ℕ) < 256 := (i 1).isLt
  rw [ix2_of i ⟨(i 0 : ℕ) / 256 * 256 + (i 0 : ℕ) % 256, by omega⟩ ⟨(i 1 : ℕ) / 128 * 128 + (i 1 : ℕ) % 128, by omega⟩
    (by simp only; omega) (by simp only; omega)]
  exact (Cert.ReferenceIdeal.Ctx.vals_at _ ⟨(i 0 : ℕ) / 256, by omega⟩ ⟨(i 0 : ℕ) % 256, by omega⟩ ⟨(i 1 : ℕ) / 128, by omega⟩
      ⟨(i 1 : ℕ) % 128, by omega⟩).trans
    (Cert.KernelIdeal.Ctx.val_final m c ⟨(i 0 : ℕ) / 256, by omega⟩ ⟨(i 0 : ℕ) % 256, by omega⟩ ⟨(i 1 : ℕ) / 128, by omega⟩
      ⟨(i 1 : ℕ) % 128, by omega⟩).symm

end

/-- The reference's frame: its run read at the arguments; it declares no semaphore. -/
theorem frame_ref : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Ctx.run_ctx m ρ)

/-- The equation of the context attention. -/
theorem algebraic : Cert.algebraic_KernelIdeal_ReferenceIdeal_on_written := by
  intro m ρ m' ρ' _ hagree
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N, ?_, ?_⟩
  · exact (θ_run Cert.KernelIdeal.defs _ _).mono
      (fun _ h c => ⟨fun i _ => congrFun (h c).1 i, fun i _ => congrFun (h c).2.1 i, fun i _ => congrFun (h c).2.2.1 i, (h c).2.2.2⟩)
      (Cert.KernelIdeal.Value.run_blocks (F := Ideal) m ρ)
  · refine (θ_run Cert.ReferenceIdeal.defs _ _).mono (fun _ h c => ⟨fun i hi => ?_, fun i _ => ?_, fun i _ => ?_, (h c).2.2.2⟩)
      (Cert.ReferenceIdeal.Ctx.run_ctx m' ρ')
    · refine (congrFun (h c).1 i).trans ?_
      rw [(hagree c).1, (hagree c).2.1, (hagree c).2.2]
      exact rows_eq m c i (Cert.On_written.fn_row _ _ _ i hi)
    · refine (congrFun (h c).2.1 i).trans ?_
      rw [(hagree c).1, (hagree c).2.2]
      exact congrFun (keys_eq m c) i
    · refine (congrFun (h c).2.2.1 i).trans ?_
      rw [(hagree c).1]
      exact congrFun (vals_eq m c) i

end Cert.Ctx
-- ==== Proof.Ffn.Ref.lean ====
/- What the reference of the feed-forward computes, its term cut at the modulations, the products and the norm, each part read at
   an index. -/
module

public import proofs.«01_k».proof.Defs
public import proofs.«01_k».proof.Proof.Gen.Reference2Ideal.Run
public import proofs.«01_k».proof.Proof.Ffn.Spec

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Ffn

/-- A part of the conditioning at every token. -/
def tok (P : FVec Ideal S8x1x2048 .f32) : FVec Ideal S6144x2048 .f32 :=
  (concatenate S6144x2048 0 [⟨S4096x2048, (broadcastInDim S4096x2048 ![0, 1] bcast_S1x2048_S4096x2048_0_1 (shapeCast _ (extractStridedSlice S1x1x2048 ![0, 0, 0] P slices_S8x1x2048_S1x1x2048_0_0_0) shapeCasts_S1x1x2048_S1x2048))⟩, ⟨S2048x2048, (shapeCast _ (broadcastInDim S2x1024x2048 ![0, 1, 2] bcast_S2x1x2048_S2x1024x2048_0_1_2 (extractStridedSlice S2x1x2048 ![1, 0, 0] P slices_S8x1x2048_S2x1x2048_1_0_0)) shapeCasts_S2x1024x2048_S2048x2048)⟩] concatenates_S4096x2048_S2048x2048_S6144x2048_d0)

/-- The shifts. -/
def part3 (M : FVec Ideal S8x1x12288 .f32) : FVec Ideal S8x1x2048 .f32 :=
  (extractStridedSlice S8x1x2048 ![0, 0, 6144] M slices_S8x1x12288_S8x1x2048_0_0_6144)

/-- The scales. -/
def part4 (M : FVec Ideal S8x1x12288 .f32) : FVec Ideal S8x1x2048 .f32 :=
  (extractStridedSlice S8x1x2048 ![0, 0, 8192] M slices_S8x1x12288_S8x1x2048_0_0_8192)

/-- The gates. -/
def part5 (M : FVec Ideal S8x1x12288 .f32) : FVec Ideal S8x1x2048 .f32 :=
  (extractStridedSlice S8x1x2048 ![0, 0, 10240] M slices_S8x1x12288_S8x1x2048_0_0_10240)

/-- The modulated tokens. -/
def modu (X S C : FVec Ideal S6144x2048 .f32) : FVec Ideal S6144x2048 .f32 :=
  (addf (mulf X (addf (broadcastInDim S6144x2048 ![] bcast_S_S6144x2048 ((constant S_ .f32 0x3F800000#32))) C)) S)

/-- The tokens by a weight. -/
def prod (U : FVec Ideal S6144x2048 .f32) (W : FVec Ideal S2048x5632 .bf16) : FVec Ideal S6144x5632 .f32 :=
  (Host.dotGeneral dot_S6144x2048_S2048x5632_S6144x5632_1_0_0_1_n_n none U (extf .f32 W bitsLt_bf16_f32))

/-- A channel by its logistic. -/
def silu (A : FVec Ideal S6144x5632 .f32) : FVec Ideal S6144x5632 .f32 :=
  mulf A (Host.divf (broadcastInDim S6144x5632 ![] bcast_S_S6144x5632 (constant S_ .f32 0x3F800000#32)) (addf (broadcastInDim S6144x5632 ![] bcast_S_S6144x5632 (constant S_ .f32 0x3F800000#32)) (Host.exp (Host.negf A))))

/-- The hidden channels. -/
def gated (A B : FVec Ideal S6144x5632 .f32) : FVec Ideal S6144x5632 .f32 :=
  mulf (silu A) B

/-- The hidden channels by the second weight. -/
def back (A : FVec Ideal S6144x5632 .f32) (W : FVec Ideal S5632x2048 .bf16) : FVec Ideal S6144x2048 .f32 :=
  (Host.dotGeneral dot_S6144x5632_S5632x2048_S6144x2048_1_0_0_1_n_n none A (extf .f32 W bitsLt_bf16_f32))

/-- The residual. -/
def resid (X G Y : FVec Ideal S6144x2048 .f32) : FVec Ideal S6144x2048 .f32 :=
  (addf (mulf (broadcastInDim S6144x2048 ![] bcast_S_S6144x2048 ((constant S_ .f32 0x3FB504F3#32))) X) (mulf G Y))

/-- The mean of each row. -/
def mean (Z : FVec Ideal S6144x2048 .f32) : FVec Ideal S6144x1 .f32 :=
  (Host.divf (broadcastInDim S6144x1 ![0] bcast_S6144_S6144x1_0 (Host.reduceAdd Z ((constant S_ .f32 0x00000000#32)) reducesTo_S6144x2048_S6144_d1 h_S_)) (broadcastInDim S6144x1 ![] bcast_S_S6144x1 ((constant S_ .f32 0x45000000#32))))

/-- The rows about their means. -/
def cen (Z : FVec Ideal S6144x2048 .f32) : FVec Ideal S6144x2048 .f32 :=
  (subf Z (broadcastInDim S6144x2048 ![0, 1] bcast_S6144x1_S6144x2048_0_1 (mean Z)))

/-- The layer norm of each row. -/
def lnorm (Z : FVec Ideal S6144x2048 .f32) (g b : FVec Ideal S2048 .f32) : FVec Ideal S6144x2048 .f32 :=
  (addf (mulf (mulf (cen Z) (broadcastInDim S6144x2048 ![0, 1] bcast_S6144x1_S6144x2048_0_1 (Host.rsqrt (addf (mean (mulf (cen Z) (cen Z))) (broadcastInDim S6144x1 ![] bcast_S_S6144x1 ((constant S_ .f32 0x3727C5AC#32))))))) (broadcastInDim S6144x2048 ![0, 1] bcast_S1x2048_S6144x2048_0_1 (broadcastInDim S1x2048 ![1] bcast_S2048_S1x2048_1 g))) (broadcastInDim S6144x2048 ![0, 1] bcast_S1x2048_S6144x2048_0_1 (broadcastInDim S1x2048 ![1] bcast_S2048_S1x2048_1 b)))

/-- The reference's result. -/
def result (X : FVec Ideal S6144x2048 .f32) (M : FVec Ideal S8x1x12288 .f32) (g b : FVec Ideal S2048 .f32)
    (W1 W3 : FVec Ideal S2048x5632 .bf16) (W2 : FVec Ideal S5632x2048 .bf16) : FVec Ideal S6144x2048 .f32 :=
  lnorm (resid X (tok (part5 M)) (back (gated (prod (modu X (tok (part3 M)) (tok (part4 M))) W1)
    (prod (modu X (tok (part3 M)) (tok (part4 M))) W3)) W2)) g b

set_option maxHeartbeats 4000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference2Ideal.Value.run m ρ

variable (X : FVec Ideal S6144x2048 .f32) (M : FVec Ideal S8x1x12288 .f32) (n : Fin 6144) (d : Fin 2048)

theorem part3_at (r : Fin 8) : part3 M (ix3 r 0 d) = M (ix3 r 0 (col 3 d)) := by
  pointwise [part3]; blk_ext [col]

theorem part4_at (r : Fin 8) : part4 M (ix3 r 0 d) = M (ix3 r 0 (col 4 d)) := by
  pointwise [part4]; blk_ext [col]

theorem part5_at (r : Fin 8) : part5 M (ix3 r 0 d) = M (ix3 r 0 (col 5 d)) := by
  pointwise [part5]; blk_ext [col]

theorem tok_at (P : FVec Ideal S8x1x2048 .f32) : tok P (ix2 n d) = P (ix3 (cnd n) 0 d) := by
  pointwise [tok]
  by_cases h : (n : ℕ) < 4096
  · refine (dif_pos h).trans (congrArg (fun r => P (ix3 r 0 d)) (Fin.ext ?_))
    show 0 = (n : ℕ) / 1024 - 3
    omega
  · refine (dif_neg h).trans (congrArg (fun r => P (ix3 r 0 d)) (Fin.ext ?_))
    show 1 + ((n : ℕ) - 4096) / 1024 = (n : ℕ) / 1024 - 3
    omega

theorem modu_at (S C : FVec Ideal S6144x2048 .f32) :
    modu X S C (ix2 n d) = modRow (fun e => X (ix2 n e)) (fun e => S (ix2 n e)) (fun e => C (ix2 n e)) d := by
  pointwise [modu, modRow]

theorem prod_at (U : FVec Ideal S6144x2048 .f32) (W : FVec Ideal S2048x5632 .bf16) (f : Fin 5632) :
    prod U W (ix2 n f) = ∑ e : Fin 2048, U (ix2 n e) * W (ix2 e f) := by
  pointwise [prod]

theorem gated_at (A B : FVec Ideal S6144x5632 .f32) (f : Fin 5632) :
    gated A B (ix2 n f) = A (ix2 n f) * Ideal.logistic (A (ix2 n f)) * B (ix2 n f) := by
  pointwise [gated, silu]
  rfl

theorem back_at (A : FVec Ideal S6144x5632 .f32) (W : FVec Ideal S5632x2048 .bf16) :
    back A W (ix2 n d) = ∑ f : Fin 5632, A (ix2 n f) * W (ix2 f d) := by
  pointwise [back]

theorem resid_at (G Y : FVec Ideal S6144x2048 .f32) :
    resid X G Y (ix2 n d) = resRow (fun e => X (ix2 n e)) (fun e => G (ix2 n e)) (fun e => Y (ix2 n e)) d := by
  pointwise [resid, resRow]

theorem mean_at (Z : FVec Ideal S6144x2048 .f32) :
    mean Z (ix2 n 0) = Ideal.div (∑ e : Fin 2048, Z (ix2 n e)) (Scalar.ofBits (F := Ideal) .f32 0x45000000#32) := by
  pointwise [mean]

theorem cen_at (Z : FVec Ideal S6144x2048 .f32) : cen Z (ix2 n d) = Z (ix2 n d) - mean Z (ix2 n 0) := by
  pointwise [cen]

theorem lnorm_at (Z : FVec Ideal S6144x2048 .f32) (g b : FVec Ideal S2048 .f32) :
    lnorm Z g b (ix2 n d) = lnRow (fun e => Z (ix2 n e)) (fun e => g (ix1 e)) (fun e => b (ix1 e)) d := by
  pointwise [lnorm, lnRow, mean, cen]

/-- The reference's result at token `n`, channel `d`. -/
theorem result_at (g b : FVec Ideal S2048 .f32) (W1 W3 : FVec Ideal S2048x5632 .bf16) (W2 : FVec Ideal S5632x2048 .bf16) :
    result X M g b W1 W3 W2 (ix2 n d)
      = lnRow (resRow (fun e => X (ix2 n e)) (fun e => M (ix3 (cnd n) 0 (col 5 e)))
          fun e => ∑ f : Fin 5632, hid (modRow (fun e => X (ix2 n e)) (fun e => M (ix3 (cnd n) 0 (col 3 e))) fun e => M (ix3 (cnd n) 0 (col 4 e)))
            (fun e => W1 (ix2 e f)) (fun e => W3 (ix2 e f)) * W2 (ix2 f e))
          (fun e => g (ix1 e)) (fun e => b (ix1 e)) d := by
  unfold result
  rw [lnorm_at]
  simp only [resid_at, back_at, gated_at, prod_at, modu_at, tok_at, part3_at, part4_at, part5_at]
  rfl

end Cert.Reference2Ideal.Ffn
-- ==== Proof.Ffn.Step.lean ====
/- What one grid point of the feed-forward call leaves in its output block and in its scratch. -/
module

public import proofs.«01_k».proof.Proof.Ffn.Spec
public import proofs.«01_k».proof.Proof.Gen.Kernel2Ideal.Value
public import Idealize.ShloMosaic.Lib.VecWindow
public import Idealize.ShloMosaic.Lib.WritesUnit

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.Ffn

variable (c : Dev nD) (i : grid0.Coords)
  (b2 : Memref sig .tc .vmem S1024x2048 .f32) (h2 : b2.IsWhole) (b3 : Memref sig .tc .vmem S1x1x2048 .f32) (h3 : b3.IsWhole)
  (b4 : Memref sig .tc .vmem S1x1x2048 .f32) (h4 : b4.IsWhole) (b5 : Memref sig .tc .vmem S1x1x2048 .f32) (h5 : b5.IsWhole)
  (b6 : Memref sig .tc .vmem S1x2048 .f32) (h6 : b6.IsWhole) (b7 : Memref sig .tc .vmem S1x2048 .f32) (h7 : b7.IsWhole)
  (b8 : Memref sig .tc .vmem S2048x512 .bf16) (h8 : b8.IsWhole) (b9 : Memref sig .tc .vmem S2048x512 .bf16) (h9 : b9.IsWhole)
  (b10 : Memref sig .tc .vmem S512x2048 .bf16) (h10 : b10.IsWhole) (b11 : Memref sig .tc .vmem S1024x2048 .f32) (h11 : b11.IsWhole)
  (b12 : Memref sig .tc .vmem S1024x2048 .bf16) (h12 : b12.IsWhole)
  (x0 : Vec Ideal S1024x2048 .f32) (x1 x2 x3 : Vec Ideal S1x1x2048 .f32) (x4 x5 : Vec Ideal S1x2048 .f32)
  (x6 x7 : Vec Ideal S2048x512 .bf16) (x8 : Vec Ideal S512x2048 .bf16) (xo : Vec Ideal S1024x2048 .f32) (xs : Vec Ideal S1024x2048 .bf16)

theorem pay4_at (v25 v31 : Vec Ideal S128x2048 .f32) (v28 : Vec Ideal S1x1x2048 .f32) (v36 v38 : Vec Ideal S1x2048 .f32)
    (r : Fin 128) (d : Fin 2048) :
    k0_pay4 (F := Ideal) v25 v28 v31 v36 v38 (ix2 r d)
      = lnRow (fun e => Scalar.ofBits (F := Ideal) .f32 0x3FB504F3#32 * v25 (ix2 r e) + v28 (ix3 0 0 e) * v31 (ix2 r e))
          (fun e => v36 (ix2 0 e)) (fun e => v38 (ix2 0 e)) d := by
  pointwise [k0_pay4, lnRow]

theorem outA (hc0 : cond0_0 i) (hc1 : ¬cond0_1 i) :
    out0_A_9 (F := Ideal) c i b2 h2 b3 h3 b4 h4 b5 h5 b6 h6 b7 h7 b8 h8 b9 h9 b10 h10 b11 h11 b12 h12 hc0 hc1 x0 x1 x2 x3 x4 x5 x6 x7 x8
      = k0_pay3 (k0_pay1 x0 x2 x1) x6 x7 (k0_pay2 (F := Ideal)) x8 := by
  frame_out

theorem soutA (hc0 : cond0_0 i) (hc1 : ¬cond0_1 i) :
    sout0_A_0 (F := Ideal) c i b2 h2 b3 h3 b4 h4 b5 h5 b6 h6 b7 h7 b8 h8 b9 h9 b10 h10 b11 h11 b12 h12 hc0 hc1 x0 x1 x2 x3 x4 x5 x6 x7 x8
      = k0_pay1 x0 x2 x1 := by
  frame_out

theorem outB (hc0 : ¬cond0_0 i) (hc1 : ¬cond0_1 i) :
    out0_B_9 (F := Ideal) c i b2 h2 b3 h3 b4 h4 b5 h5 b6 h6 b7 h7 b8 h8 b9 h9 b10 h10 b11 h11 b12 h12 hc0 hc1 x0 x1 x2 x3 x4 x5 x6 x7 x8 xo xs
      = k0_pay3 xs x6 x7 xo x8 := by
  frame_out

theorem trip (hc : k0_cond2 i = 1#1) (k : Fin k0_t1_loop.trips) (f : BufTy.Contents (Elt Ideal) b11.view.ty) :
    tripL_k0_t1 (F := Ideal) Variants.none c none i b2 h2 b3 h3 b4 h4 b5 h5 b6 h6 b7 h7 b8 h8 b9 h9 b10 h10 b11 h11 b12 h12 hc
      (h2.unread x0) (h5.unread x3) (h6.unread x4) (h7.unread x5) k f
      = [⟨Rect.unit (s := S1024x2048) (k0_off1 k) S128x2048.size (k0_off1_inb i k hc),
          k0_pay4 (F := Ideal) (View.ld x0 (Rect.unit (s := S1024x2048) (k0_off1 k) S128x2048.size (k0_off1_inb i k hc))) x3
            (View.ld (b11.view.read (Elt Ideal) f) (Rect.unit (s := S1024x2048) (k0_off1 k) S128x2048.size (k0_off1_inb i k hc))) x4 x5⟩] := by
  unfold tripL_k0_t1 trip_k0_t1
  simp only [View.readAt_eq_ld, Memref.IsWhole.read_unread]
  refine congrArg (fun w => [(⟨Rect.unit (s := S1024x2048) (k0_off1 k) S128x2048.size (k0_off1_inb i k hc), w⟩ : View.Piece (Elt Ideal) S1024x2048 .f32)]) ?_
  congr 1
  · exact View.ld_unit_zero (by funext a; fin_cases a <;> rfl) _ x3
  · exact View.ld_unit_zero (by funext a; fin_cases a <;> rfl) _ x4
  · exact View.ld_unit_zero (by funext a; fin_cases a <;> rfl) _ x5

/-- A row of the block after the trips before `k`: finished when its chunk is done. -/
def after (A : Vec Ideal S1024x2048 .f32) (k : ℕ) (y : S1024x2048.Idx) : EReal :=
  if (y 0 : ℕ) < 128 * k then
    lnRow (fun e => Scalar.ofBits (F := Ideal) .f32 0x3FB504F3#32 * x0 (ix2 (y 0) e) + x3 (ix3 0 0 e) * A (ix2 (y 0) e))
          (fun e => x4 (ix2 0 e)) (fun e => x5 (ix2 0 e)) (y 1)
  else A y

theorem off1 (k : Fin k0_t1_loop.trips) : k0_off1 k = ![128 * k.val, 0] :=
  (by decide +kernel : ∀ k : Fin k0_t1_loop.trips, k0_off1 k = ![128 * k.val, 0]) k

theorem idx_chunk (k : Fin k0_t1_loop.trips) (inb : ∀ a, k0_off1 k a + S128x2048.size a ≤ S1024x2048.size a) (x : Fin 128) (e : Fin 2048)
    (r : Fin 1024) (hr : (r : ℕ) = 128 * k + x) :
    (Rect.unit (s := S1024x2048) (k0_off1 k) S128x2048.size inb).idx (ix2 x e) = ix2 r e := by
  funext a
  fin_cases a <;> apply Fin.ext
  · show k0_off1 k 0 + 1 * (x : ℕ) = r
    rw [off1]
    show 128 * (k : ℕ) + _ = _
    omega
  · show k0_off1 k 1 + 1 * (e : ℕ) = e
    rw [off1]
    show 0 + _ = _
    omega

/-- One trip finishes its chunk of 128 rows and leaves the others. -/
theorem chunk_at (A : Vec Ideal S1024x2048 .f32) (k : Fin k0_t1_loop.trips) (inb : ∀ a, k0_off1 k a + S128x2048.size a ≤ S1024x2048.size a)
    (v : View sig .tc .vmem S1024x2048 .f32) (g : BufTy.Contents (Elt Ideal) v.ty) (L : List (View.Piece (Elt Ideal) S1024x2048 .f32))
    (r : Fin 1024) (d : Fin 2048)
    (hL : v.read (Elt Ideal) (v.writes (Elt Ideal) g L) (ix2 r d) = after x0 x3 x4 x5 A k (ix2 r d)) :
    v.read (Elt Ideal) (v.writes (Elt Ideal) g ((⟨Rect.unit (s := S1024x2048) (k0_off1 k) S128x2048.size inb,
          k0_pay4 (F := Ideal) (View.ld x0 (Rect.unit (s := S1024x2048) (k0_off1 k) S128x2048.size inb)) x3
            (View.ld (after x0 x3 x4 x5 A k) (Rect.unit (s := S1024x2048) (k0_off1 k) S128x2048.size inb)) x4 x5⟩ :
              View.Piece (Elt Ideal) S1024x2048 .f32) :: L)) (ix2 r d) = after x0 x3 x4 x5 A (k + 1) (ix2 r d) := by
  by_cases h : 128 * (k : ℕ) ≤ r ∧ (r : ℕ) < 128 * k + 128
  · have e := View.read_writes_cons_rows_of_mem (o := 128 * k.val) v g inb (k0_pay4 (F := Ideal) (View.ld x0 (Rect.unit (s := S1024x2048) (k0_off1 k) S128x2048.size inb)) x3
            (View.ld (after x0 x3 x4 x5 A k) (Rect.unit (s := S1024x2048) (k0_off1 k) S128x2048.size inb)) x4 x5) L (ix2 r d)
        (show S128x2048.Idx from ix2 (⟨r - 128 * k, by omega⟩ : Fin 128) d) (off1 k) (by show (r : ℕ) = 128 * k + (r - 128 * k); omega) rfl
    refine e.trans ?_
    refine (pay4_at _ _ _ _ _ _ _).trans ?_
    refine Eq.trans ?_ (if_pos (by show (r : ℕ) < 128 * (k + 1); omega)).symm
    refine congrArg (fun z => lnRow z _ _ d) ?_
    funext e
    have hx := idx_chunk k inb ⟨r - 128 * k, by omega⟩ e r (by show (r : ℕ) = 128 * k + (r - 128 * k); omega)
    have hA : after x0 x3 x4 x5 A k (ix2 r e) = A (ix2 r e) := if_neg (by show ¬(r : ℕ) < 128 * k; omega)
    exact congrArg₂ (fun a b : EReal => Scalar.ofBits (F := Ideal) .f32 0x3FB504F3#32 * a + x3 (ix3 0 0 e) * b)
      (congrArg x0 hx) ((congrArg (after x0 x3 x4 x5 A k) hx).trans hA)
  · refine (View.read_writes_cons_rows_of_not_mem (o := 128 * k.val) (W := 128) v g _ _ _ _ (off1 _) rfl (by show (r : ℕ) < _ ∨ _ ≤ (r : ℕ); omega)).trans ?_
    refine hL.trans ?_
    unfold after
    by_cases hy : (r : ℕ) < 128 * k
    · rw [if_pos (by exact hy), if_pos (by show (r : ℕ) < 128 * (k + 1); omega)]
    · rw [if_neg (by exact hy), if_neg (by show ¬(r : ℕ) < 128 * (k + 1); omega)]

theorem loop_at (hc : k0_cond2 i = 1#1) (A : Vec Ideal S1024x2048 .f32) (G : BufTy.Contents (Elt Ideal) b11.view.ty)
    (hG : b11.view.read (Elt Ideal) G = A) (k : ℕ) (hk : k ≤ 8) :
    ∀ (v : View sig .tc .vmem S1024x2048 .f32) (g : BufTy.Contents (Elt Ideal) v.ty), v.read (Elt Ideal) g = A → ∀ y : S1024x2048.Idx,
      v.read (Elt Ideal) (v.writes (Elt Ideal) g
        (pb_k0_t1 (F := Ideal) Variants.none c none i b2 h2 b3 h3 b4 h4 b5 h5 b6 h6 b7 h7 b8 h8 b9 h9 b10 h10 b11 h11 b12 h12 hc
          (h2.unread x0) (h5.unread x3) (h6.unread x4) (h7.unread x5) G k)) y = after x0 x3 x4 x5 A k y := by
  induction k with
  | zero =>
    intro v g hg y
    unfold after
    rw [if_neg (by omega), ← hg]
    rfl
  | succ k ih =>
    intro v g hg y
    have ih := ih (by omega)
    have hk' : k < k0_t1_loop.trips := lt_of_lt_of_eq hk (by decide)
    have e := pb_k0_t1_succ (F := Ideal) Variants.none c none i b2 h2 b3 h3 b4 h4 b5 h5 b6 h6 b7 h7 b8 h8 b9 h9 b10 h10 b11 h11 b12 h12 hc
          (h2.unread x0) (h5.unread x3) (h6.unread x4) (h7.unread x5) G ⟨k, hk'⟩
    rw [show k + 1 = (⟨k, hk'⟩ : Fin k0_t1_loop.trips).val + 1 from rfl, e, trip, funext (ih b11.view G hG), List.singleton_append]
    obtain ⟨r, d, rfl⟩ : ∃ (r : Fin 1024) (d : Fin 2048), y = ix2 r d := ⟨y 0, y 1, eq_ix2 y⟩
    exact chunk_at x0 x3 x4 x5 A ⟨k, hk'⟩ _ v g _ r d (ih v g hg _)

theorem outC (hc0 : ¬cond0_0 i) (hc1 : cond0_1 i) :
    out0_C_9 (F := Ideal) c i b2 h2 b3 h3 b4 h4 b5 h5 b6 h6 b7 h7 b8 h8 b9 h9 b10 h10 b11 h11 b12 h12 hc0 hc1 x0 x1 x2 x3 x4 x5 x6 x7 x8 xo xs
      = after x0 x3 x4 x5 (k0_pay3 xs x6 x7 xo x8) 8 := by
  have hb : ∀ {κ : Kind} {sp : Space} (v : View sig κ sp S1024x2048 .f32) (f : v.ty.Contents (Elt Ideal)),
      v.read (Elt Ideal) (v.writes (Elt Ideal) f (kernelRun0_C.sl.H9_1 (F := Ideal) c b8 h8 b9 h9 b10 h10 b11 h11 b12 h12 x6 x7 x8 xo xs))
        = k0_pay3 xs x6 x7 xo x8 := fun v f => by
    unfold kernelRun0_C.sl.H9_1
    refine (View.read_writes_full v f _ _ _).trans ?_
    congr 1
    · exact (View.readAt_full ..).trans (h12.read_unread _)
    · exact (View.readAt_full ..).trans (h8.read_unread _)
    · exact (View.readAt_full ..).trans (h9.read_unread _)
    · exact (View.readAt_full ..).trans (h11.read_unread _)
    · exact (View.readAt_full ..).trans (h10.read_unread _)
  unfold out0_C_9 kernelRun0_C
  refine (congrArg (VO0_9.read (Elt Ideal)) (View.writes_append ..)).trans ?_
  funext y
  exact loop_at c i b2 h2 b3 h3 b4 h4 b5 h5 b6 h6 b7 h7 b8 h8 b9 h9 b10 h10 b11 h11 b12 h12 x0 x3 x4 x5 hc1 _ _ (hb b11.view _) 8 le_rfl _ _ (hb _ _) y

end Cert.Kernel2Ideal.Ffn
-- ==== Proof.Ffn.Arrays.lean ====
/- The blocks the feed-forward call reads at each grid point, as entries of its arrays. -/
module

public import proofs.«01_k».proof.Proof.Ffn.Step

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Ffn

variable (m : (ℓ : Loc nD τ sig) → Buf (Elt Ideal) ℓ)

/-- The windows' index maps at point `11 i + j`. -/
theorem idx : ∀ t : Fin cfg0.N, win0_0.index t = ![t.val / 11, 0] ∧ win0_1.index t = ![t.val / 11 - 3, 0, 3]
    ∧ win0_2.index t = ![t.val / 11 - 3, 0, 4] ∧ win0_3.index t = ![t.val / 11 - 3, 0, 5] ∧ win0_4.index t = ![0, 0]
    ∧ win0_5.index t = ![0, 0] ∧ win0_6.index t = ![0, t.val % 11] ∧ win0_7.index t = ![0, t.val % 11]
    ∧ win0_8.index t = ![t.val % 11, 0] :=
  (by decide +kernel : ∀ t : Fin grid0.N, _)

/-- The grid point of row tile `i` and channel tile `j`. -/
def pt (i : Fin 6) (j : Fin 11) : Fin cfg0.N := ⟨i * 11 + j, by rw [show cfg0.N = 66 from N_0]; omega⟩

theorem pt_val (i : Fin 6) (j : Fin 11) : (pt i j : ℕ) = i * 11 + j := rfl

/-- Token `r` of row tile `i`. -/
def row (i : Fin 6) (r : Fin 1024) : Fin 6144 := ⟨i * 1024 + r, by omega⟩

/-- Hidden channel `q` of channel tile `j`. -/
def chan (j : Fin 11) (q : Fin 512) : Fin 5632 := ⟨j * 512 + q, by omega⟩

variable (c : Dev nD) (i : Fin 6) (j : Fin 11)

theorem x_blk (r : Fin 1024) (e : Fin 2048) : iblk m c 0 (pt i j) (ix2 r e : S1024x2048.Idx)
    = m ((c : Thread nD τ).loc main_arg0) (ix2 (row i r) e : S6144x2048.Idx) := by
  have := pt_val i j
  blk_ext [iblk, V, idx (pt i j), row]

theorem shift_blk (r : Fin 1024) (e : Fin 2048) : iblk m c 1 (pt i j) (ix3 0 0 e : S1x1x2048.Idx)
    = m ((c : Thread nD τ).loc main_arg1) (ix3 (cnd (row i r)) 0 (col 3 e) : S8x1x12288.Idx) := by
  have := pt_val i j
  blk_ext [iblk, V, idx (pt i j), row, cnd, col]

theorem scale_blk (r : Fin 1024) (e : Fin 2048) : iblk m c 2 (pt i j) (ix3 0 0 e : S1x1x2048.Idx)
    = m ((c : Thread nD τ).loc main_arg1) (ix3 (cnd (row i r)) 0 (col 4 e) : S8x1x12288.Idx) := by
  have := pt_val i j
  blk_ext [iblk, V, idx (pt i j), row, cnd, col]

theorem gate_blk (r : Fin 1024) (e : Fin 2048) : iblk m c 3 (pt i j) (ix3 0 0 e : S1x1x2048.Idx)
    = m ((c : Thread nD τ).loc main_arg1) (ix3 (cnd (row i r)) 0 (col 5 e) : S8x1x12288.Idx) := by
  have := pt_val i j
  blk_ext [iblk, V, idx (pt i j), row, cnd, col]

theorem g_blk (e : Fin 2048) : iblk m c 4 (pt i j) (ix2 0 e : S1x2048.Idx) = m ((c : Thread nD τ).loc main_arg2) (ix1 e : S2048.Idx) := by
  blk_simp [iblk, idx (pt i j)]
  entry_read
  pointwise
  blk_ext [idx (pt i j)]

theorem b_blk (e : Fin 2048) : iblk m c 5 (pt i j) (ix2 0 e : S1x2048.Idx) = m ((c : Thread nD τ).loc main_arg3) (ix1 e : S2048.Idx) := by
  blk_simp [iblk, idx (pt i j)]
  entry_read
  pointwise
  blk_ext [idx (pt i j)]

theorem w1_blk (e : Fin 2048) (q : Fin 512) : iblk m c 6 (pt i j) (ix2 e q : S2048x512.Idx)
    = m ((c : Thread nD τ).loc main_arg4) (ix2 e (chan j q) : S2048x5632.Idx) := by
  have := pt_val i j
  blk_ext [iblk, V, idx (pt i j), chan]

theorem w3_blk (e : Fin 2048) (q : Fin 512) : iblk m c 7 (pt i j) (ix2 e q : S2048x512.Idx)
    = m ((c : Thread nD τ).loc main_arg5) (ix2 e (chan j q) : S2048x5632.Idx) := by
  have := pt_val i j
  blk_ext [iblk, V, idx (pt i j), chan]

theorem w2_blk (q : Fin 512) (d : Fin 2048) : iblk m c 8 (pt i j) (ix2 q d : S512x2048.Idx)
    = m ((c : Thread nD τ).loc main_arg6) (ix2 (chan j q) d : S5632x2048.Idx) := by
  have := pt_val i j
  blk_ext [iblk, V, idx (pt i j), chan]

end Cert.Kernel2Ideal.Ffn
-- ==== Proof.Ffn.Sweep.lean ====
/- What the output block and the scratch hold along the eleven points of a row tile. -/
module

public import proofs.«01_k».proof.Proof.Ffn.Arrays

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Ffn

theorem pay1_at (x : Vec Ideal S1024x2048 .f32) (sc sh : Vec Ideal S1x1x2048 .f32) (r : Fin 1024) (e : Fin 2048) :
    k0_pay1 (F := Ideal) x sc sh (ix2 r e) = modRow (fun e => x (ix2 r e)) (fun e => sh (ix3 0 0 e)) (fun e => sc (ix3 0 0 e)) e := by
  pointwise [k0_pay1, modRow]

theorem pay2_at (r : Fin 1024) (e : Fin 2048) : k0_pay2 (F := Ideal) (ix2 r e) = 0 := by
  pointwise [k0_pay2]

theorem pay3_at (u : Vec Ideal S1024x2048 .bf16) (w1 w3 : Vec Ideal S2048x512 .bf16) (a : Vec Ideal S1024x2048 .f32)
    (w2 : Vec Ideal S512x2048 .bf16) (r : Fin 1024) (d : Fin 2048) :
    k0_pay3 (F := Ideal) u w1 w3 a w2 (ix2 r d)
      = a (ix2 r d) + ∑ q : Fin 512, hid (fun e => u (ix2 r e)) (fun e => w1 (ix2 e q)) (fun e => w3 (ix2 e q)) * w2 (ix2 q d) := by
  pointwise [k0_pay3, hid]

variable (m : (ℓ : Loc nD τ sig) → Buf (Elt Ideal) ℓ) (c : Dev nD)

/-- The modulated row of token `n`. -/
def uRow (n : Fin 6144) : Fin 2048 → EReal :=
  modRow (fun e => m ((c : Thread nD τ).loc main_arg0) (ix2 n e : S6144x2048.Idx))
    (fun e => m ((c : Thread nD τ).loc main_arg1) (ix3 (cnd n) 0 (col 3 e) : S8x1x12288.Idx))
    (fun e => m ((c : Thread nD τ).loc main_arg1) (ix3 (cnd n) 0 (col 4 e) : S8x1x12288.Idx))

/-- One hidden channel's part of the feed-forward of token `n` at channel `d`. -/
def term (n : Fin 6144) (d : Fin 2048) (f : Fin 5632) : EReal :=
  hid (uRow m c n) (fun e => m ((c : Thread nD τ).loc main_arg4) (ix2 e f : S2048x5632.Idx))
    (fun e => m ((c : Thread nD τ).loc main_arg5) (ix2 e f : S2048x5632.Idx))
    * m ((c : Thread nD τ).loc main_arg6) (ix2 f d : S5632x2048.Idx)

variable (i : Fin 6)

/-- One step of the accumulation, at any block that holds the modulated rows. -/
theorem step_at (j : Fin 11) (u : Vec Ideal S1024x2048 .bf16) (hu : ∀ r e, u (ix2 r e) = uRow m c (row i r) e)
    (a : Vec Ideal S1024x2048 .f32) (r : Fin 1024) (d : Fin 2048) :
    k0_pay3 (F := Ideal) u (iblk m c 6 (pt i j)) (iblk m c 7 (pt i j)) a (iblk m c 8 (pt i j)) (ix2 r d)
      = a (ix2 r d) + ∑ q : Fin 512, term m c (row i r) d (chan j q) := by
  refine (pay3_at _ _ _ _ _ _ _).trans ?_
  refine congrArg (a (ix2 r d) + ·) (Finset.sum_congr rfl fun q _ => ?_)
  unfold term
  refine congrArg₂ (· * ·) ?_ (w2_blk m c i j q d)
  have e0 : (fun e => u (ix2 r e)) = uRow m c (row i r) := funext fun e => hu r e
  have e1 := funext fun e => w1_blk m c i j e q
  have e3 := funext fun e => w3_blk m c i j e q
  rw [e0]
  exact congrArg₂ (hid _) e1 e3

theorem u_at (r : Fin 1024) (e : Fin 2048) :
    k0_pay1 (F := Ideal) (iblk m c 0 (pt i 0)) (iblk m c 2 (pt i 0)) (iblk m c 1 (pt i 0)) (ix2 r e) = uRow m c (row i r) e := by
  refine (pay1_at _ _ _ _ _).trans ?_
  have e0 := funext fun e => x_blk m c i 0 r e
  have e1 := funext fun e => shift_blk m c i 0 r e
  have e2 := funext fun e => scale_blk m c i 0 r e
  unfold uRow
  rw [← e0, ← e1, ← e2]

/-- After point `j < 10` of a row tile, the scratch holds the modulated rows and the output block the first `j + 1` channel tiles'
    part of the feed-forward. -/
theorem sweep : ∀ (j : ℕ) (hj : j < 10),
    (∀ r e, (outsAt0 m c (pt i ⟨j, by omega⟩).val (pt i ⟨j, by omega⟩).isLt).2 (ix2 r e : S1024x2048.Idx) = uRow m c (row i r) e)
    ∧ ∀ r d, (outsAt0 m c (pt i ⟨j, by omega⟩).val (pt i ⟨j, by omega⟩).isLt).1 (ix2 r d : S1024x2048.Idx)
        = ∑ s : Fin (j + 1), ∑ q : Fin 512, term m c (row i r) d (chan ⟨s, by omega⟩ q)
  | 0, _ => by
    have h0 : (pt i 0 : ℕ) % 11 = 0 := by rw [pt_val]; show ((i : ℕ) * 11 + 0) % 11 = 0; omega
    have h1 : ¬(pt i 0 : ℕ) % 11 = 10 := by omega
    have hs := outsAt0_A m c (pt i 0) h0 h1
    rw [outA, soutA] at hs
    constructor
    · intro r e
      exact (congrFun (congrArg Prod.snd hs) (ix2 r e)).trans (u_at m c i r e)
    · intro r d
      refine (congrFun (congrArg Prod.fst hs) (ix2 r d)).trans ?_
      refine (step_at m c i 0 _ (u_at m c i) _ r d).trans ?_
      rw [pay2_at, zero_add]
      exact (Fin.sum_univ_one (fun s : Fin 1 => ∑ q : Fin 512, term m c (row i r) d (chan ⟨s, by omega⟩ q))).symm
  | j + 1, hj => by
    obtain ⟨ihs, iho⟩ := sweep j (by omega)
    have hv : (pt i ⟨j + 1, by omega⟩ : ℕ) = i * 11 + (j + 1) := rfl
    have h0 : ¬(pt i ⟨j + 1, by omega⟩ : ℕ) % 11 = 0 := by rw [hv]; omega
    have h1 : ¬(pt i ⟨j + 1, by omega⟩ : ℕ) % 11 = 10 := by rw [hv]; omega
    have hs := outsAt0_B m c (pt i ⟨j + 1, by omega⟩) h0 h1
    rw [outB] at hs
    constructor
    · intro r e
      exact (congrFun (congrArg Prod.snd hs) (ix2 r e)).trans (ihs r e)
    · intro r d
      refine (congrFun (congrArg Prod.fst hs) (ix2 r d)).trans ?_
      refine (step_at m c i ⟨j + 1, by omega⟩ _ ihs _ r d).trans ?_
      refine Eq.trans ?_ (Fin.sum_univ_castSucc (fun s : Fin (j + 2) => ∑ q : Fin 512, term m c (row i r) d (chan ⟨s, by omega⟩ q))).symm
      exact congrArg (· + _) (iho r d)

/-- After the last point of a row tile the output block holds the layer norm of the residual. -/
theorem last (r : Fin 1024) (d : Fin 2048) :
    (outsAt0 m c (pt i 10).val (pt i 10).isLt).1 (ix2 r d : S1024x2048.Idx)
      = lnRow (resRow (fun e => m ((c : Thread nD τ).loc main_arg0) (ix2 (row i r) e : S6144x2048.Idx))
          (fun e => m ((c : Thread nD τ).loc main_arg1) (ix3 (cnd (row i r)) 0 (col 5 e) : S8x1x12288.Idx))
          fun e => ∑ f : Fin 5632, term m c (row i r) e f)
        (fun e => m ((c : Thread nD τ).loc main_arg2) (ix1 e : S2048.Idx)) (fun e => m ((c : Thread nD τ).loc main_arg3) (ix1 e : S2048.Idx)) d := by
  obtain ⟨ihs, iho⟩ := sweep m c i 9 (by omega)
  have hv : (pt i 10 : ℕ) = i * 11 + 10 := rfl
  have h0 : ¬(pt i 10 : ℕ) % 11 = 0 := by rw [hv]; omega
  have h1 : (pt i 10 : ℕ) % 11 = 10 := by rw [hv]; omega
  have hs := outsAt0_C m c (pt i 10) h0 h1
  rw [outC] at hs
  refine (congrFun (congrArg Prod.fst hs) (ix2 r d)).trans ?_
  refine (if_pos (by show (r : ℕ) < 128 * 8; omega)).trans ?_
  refine congrFun (congr (congr (congrArg lnRow ?_) (funext fun e => g_blk m c i 10 e)) (funext fun e => b_blk m c i 10 e)) d
  funext e
  unfold resRow
  refine congrArg₂ (· + ·) (congrArg _ (x_blk m c i 10 r e)) (congrArg₂ (· * ·) (gate_blk m c i 10 r e) ?_)
  refine (step_at m c i 10 _ ihs _ r e).trans ?_
  refine (congrArg (· + _) (iho r e)).trans ?_
  refine (Fin.sum_univ_castSucc (fun s : Fin 11 => ∑ q : Fin 512, term m c (row i r) e (chan s q))).symm.trans ?_
  exact Fin.sum_mul_add_congr fun s k hl => congrArg (term m c (row i r) e) (Fin.ext rfl)

end Cert.Kernel2Ideal.Ffn
-- ==== Proof.Ffn.Claim.lean ====
/- The feed-forward call's array is the reference's. -/
module

public import proofs.«01_k».proof.Defs
public import proofs.«01_k».proof.Proof.Ffn.Ref
public import proofs.«01_k».proof.Proof.Ffn.Sweep

@[expose] public section

set_option maxRecDepth 16384

noncomputable section

open Idealize.ShloMosaic Idealize.ShloMosaic.TcCoe Idealize.SL.Sem

namespace Cert.Ffn

open Cert.Kernel2Ideal Cert.Kernel2Ideal.Gen Cert.Kernel2Ideal.Ffn

variable (m : (ℓ : Loc nD τ sig) → Buf (Elt Ideal) ℓ) (c : Dev nD)

/-- The call's array at token `1024 i + r`: what the last point of row tile `i` leaves. -/
theorem array_at (i : Fin 6) (r : Fin 1024) (d : Fin 2048) :
    Value.G9 m c (ix2 (row i r) d : S6144x2048.Idx) = (outsAt0 m c (pt i 10).val (pt i 10).isLt).1 (ix2 r d : S1024x2048.Idx) := by
  have hp : Value.pt9Of (ix2 (row i r) d : S6144x2048.Idx) = (pt i 10).val := by
    have hr : ((row i r : Fin 6144) : ℕ) = i * 1024 + r := rfl
    have ht : ((pt i 10 : Fin cfg0.N) : ℕ) = i * 11 + 10 := rfl
    show 11 * (1 * (((row i r : Fin 6144) : ℕ) / 1024 - 0) + 1 * ((d : ℕ) / 2048 - 0)) + 10 = _
    omega
  have hl : Value.loc9Of (ix2 (row i r) d : S6144x2048.Idx) = (ix2 r d : S1024x2048.Idx) := by
    funext a
    fin_cases a <;> apply Fin.ext
    · show (i * 1024 + r : ℕ) % 1024 = r
      omega
    · show (d : ℕ) % 2048 = d
      omega
  have hs : ∀ n (hn : n < cfg0.N), n = (pt i 10).val → (outsAt0 m c n hn).1 = (outsAt0 m c (pt i 10).val (pt i 10).isLt).1 := by
    intro n hn e; subst e; rfl
  have hN : Value.pt9Of (ix2 (row i r) d : S6144x2048.Idx) < cfg0.N := by rw [hp]; exact (pt i 10).isLt
  unfold Value.G9
  rw [dif_pos hN, hl, ← Value.outsAt0_sweep m c _ hN, hs _ _ hp]

/-- The call's array is the reference's result of the call's arguments. -/
theorem array_eq : Value.G9 m c
    = Cert.Reference2Ideal.Ffn.result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  funext y
  have e : y = (ix2 (row ⟨(y 0 : ℕ) / 1024, by have h : (y 0 : ℕ) < 6144 := (y 0).isLt; omega⟩
      ⟨(y 0 : ℕ) % 1024, by omega⟩) (y 1) : S6144x2048.Idx) := by
    funext a
    fin_cases a <;> apply Fin.ext
    · show (y 0 : ℕ) = (y 0 : ℕ) / 1024 * 1024 + (y 0 : ℕ) % 1024
      omega
    · rfl
  rw [e]
  exact ((array_at m c _ _ _).trans (last m c _ _ _)).trans
    (Cert.Reference2Ideal.Ffn.result_at (m ((c.tc : Thread nD τ).loc main_arg0)) (m ((c.tc : Thread nD τ).loc main_arg1)) _ _
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))).symm

/-- The reference runs to its end, its arguments kept and its counters back at zero. -/
theorem frame_ref : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Ffn.run m ρ)

/-- The equation of the feed-forward. -/
theorem algebraic : Cert.algebraic_Kernel2Ideal_Reference2Ideal := by
  intro m ρ m' ρ' _ hagree
  refine ⟨fun c => Value.G9 m c, ?_, ?_⟩
  · exact Value.run (F := Ideal) m ρ
  · refine (θ_run Cert.Reference2Ideal.defs _ _).mono (fun _ h c => ⟨?_, (h c).2⟩) (Cert.Reference2Ideal.Ffn.run m' ρ')
    refine (h c).1.trans ?_
    obtain ⟨a0, a1, a2, a3, a4, a5, a6⟩ := hagree c
    rw [a0, a1, a2, a3, a4, a5, a6]
    exact (array_eq m c).symm

end Cert.Ffn
-- ==== Proof.Post.Ref.lean ====
/- What the reference of the final normalisation computes, cut at the experts' sum, the gate, the residual and the norm. -/
module

public import proofs.«01_k».proof.Defs
public import proofs.«01_k».proof.Proof.Gen.Reference3Ideal.Run
public import proofs.«01_k».proof.Proof.Ffn.Spec

@[expose] public section

set_option maxRecDepth 16384

noncomputable section

open Idealize.ShloMosaic Idealize.ShloMosaic.TcCoe Idealize.SL.Sem

namespace Cert.Reference3Ideal.Post

open Cert.Reference3Ideal Cert.Reference3Ideal.Gen Cert.Ffn

/-- A part of the conditioning at every token. -/
def tok (P : FVec Ideal S8x1x2048 .f32) : FVec Ideal S6144x2048 .f32 :=
  (concatenate S6144x2048 0 [⟨S4096x2048, (broadcastInDim S4096x2048 ![0, 1] bcast_S1x2048_S4096x2048_0_1 (shapeCast _ (extractStridedSlice S1x1x2048 ![0, 0, 0] P slices_S8x1x2048_S1x1x2048_0_0_0) shapeCasts_S1x1x2048_S1x2048))⟩, ⟨S2048x2048, (shapeCast _ (broadcastInDim S2x1024x2048 ![0, 1, 2] bcast_S2x1x2048_S2x1024x2048_0_1_2 (extractStridedSlice S2x1x2048 ![1, 0, 0] P slices_S8x1x2048_S2x1x2048_1_0_0)) shapeCasts_S2x1024x2048_S2048x2048)⟩] concatenates_S4096x2048_S2048x2048_S6144x2048_d0)

/-- The gates. -/
def part5 (M : FVec Ideal S8x1x12288 .f32) : FVec Ideal S8x1x2048 .f32 :=
  (extractStridedSlice S8x1x2048 ![0, 0, 10240] M slices_S8x1x12288_S8x1x2048_0_0_10240)

/-- The residual. -/
def resid (X G Y : FVec Ideal S6144x2048 .f32) : FVec Ideal S6144x2048 .f32 :=
  (addf (mulf (broadcastInDim S6144x2048 ![] bcast_S_S6144x2048 ((constant S_ .f32 0x3FB504F3#32))) X) (mulf G Y))

/-- The mean of each row. -/
def mean (Z : FVec Ideal S6144x2048 .f32) : FVec Ideal S6144x1 .f32 :=
  (Host.divf (broadcastInDim S6144x1 ![0] bcast_S6144_S6144x1_0 (Host.reduceAdd Z ((constant S_ .f32 0x00000000#32)) reducesTo_S6144x2048_S6144_d1 h_S_)) (broadcastInDim S6144x1 ![] bcast_S_S6144x1 ((constant S_ .f32 0x45000000#32))))

/-- The rows about their means. -/
def cen (Z : FVec Ideal S6144x2048 .f32) : FVec Ideal S6144x2048 .f32 :=
  (subf Z (broadcastInDim S6144x2048 ![0, 1] bcast_S6144x1_S6144x2048_0_1 (mean Z)))

/-- The layer norm of each row. -/
def lnorm (Z : FVec Ideal S6144x2048 .f32) (g b : FVec Ideal S2048 .f32) : FVec Ideal S6144x2048 .f32 :=
  (addf (mulf (mulf (cen Z) (broadcastInDim S6144x2048 ![0, 1] bcast_S6144x1_S6144x2048_0_1 (Host.rsqrt (addf (mean (mulf (cen Z) (cen Z))) (broadcastInDim S6144x1 ![] bcast_S_S6144x1 ((constant S_ .f32 0x3727C5AC#32))))))) (broadcastInDim S6144x2048 ![0, 1] bcast_S1x2048_S6144x2048_0_1 (broadcastInDim S1x2048 ![1] bcast_S2048_S1x2048_1 g))) (broadcastInDim S6144x2048 ![0, 1] bcast_S1x2048_S6144x2048_0_1 (broadcastInDim S1x2048 ![1] bcast_S2048_S1x2048_1 b)))

/-- The first expert's weight along the channels. -/
def weight2 (R : FVec Ideal S6144x128 .f32) : FVec Ideal S6144x2048 .f32 :=
  broadcastInDim S6144x2048 ![0, 1] bcast_S6144x1_S6144x2048_0_1 (extractStridedSlice S6144x1 ![0, 2] R slices_S6144x128_S6144x1_0_2)

/-- The second expert's weight along the channels. -/
def weight3 (R : FVec Ideal S6144x128 .f32) : FVec Ideal S6144x2048 .f32 :=
  broadcastInDim S6144x2048 ![0, 1] bcast_S6144x1_S6144x2048_0_1 (extractStridedSlice S6144x1 ![0, 3] R slices_S6144x128_S6144x1_0_3)

/-- The two experts' rows by their weights. -/
def experts (R : FVec Ideal S6144x128 .f32) (A B : FVec Ideal S6144x2048 .f32) : FVec Ideal S6144x2048 .f32 :=
  addf (mulf (weight2 R) A) (mulf (weight3 R) B)

/-- The normalised tokens. -/
def tokens (X A B : FVec Ideal S6144x2048 .f32) (R : FVec Ideal S6144x128 .f32) (M : FVec Ideal S8x1x12288 .f32)
    (g b : FVec Ideal S2048 .f32) : FVec Ideal S6144x2048 .f32 :=
  lnorm (resid X (tok (part5 M)) (experts R A B)) g b

/-- The prompt's tokens. -/
def prompt (Y : FVec Ideal S6144x2048 .f32) : FVec Ideal S4096x2048 .f32 :=
  extractStridedSlice S4096x2048 ![0, 0] Y slices_S6144x2048_S4096x2048_0_0

/-- The sample's tokens. -/
def sample (Y : FVec Ideal S6144x2048 .f32) : FVec Ideal S2048x2048 .f32 :=
  extractStridedSlice S2048x2048 ![4096, 0] Y slices_S6144x2048_S2048x2048_4096_0

set_option maxHeartbeats 4000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = prompt (tokens (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v44) = sample (tokens (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference3Ideal.Value.run m ρ

variable (X : FVec Ideal S6144x2048 .f32) (M : FVec Ideal S8x1x12288 .f32) (n : Fin 6144) (d : Fin 2048)

theorem part5_at (r : Fin 8) : part5 M (ix3 r 0 d) = M (ix3 r 0 (col 5 d)) := by
  pointwise [part5]; blk_ext [col]

theorem tok_at (P : FVec Ideal S8x1x2048 .f32) : tok P (ix2 n d) = P (ix3 (cnd n) 0 d) := by
  pointwise [tok]
  by_cases h : (n : ℕ) < 4096
  · refine (dif_pos h).trans (congrArg (fun r => P (ix3 r 0 d)) (Fin.ext ?_))
    show 0 = (n : ℕ) / 1024 - 3
    omega
  · refine (dif_neg h).trans (congrArg (fun r => P (ix3 r 0 d)) (Fin.ext ?_))
    show 1 + ((n : ℕ) - 4096) / 1024 = (n : ℕ) / 1024 - 3
    omega

theorem resid_at (G Y : FVec Ideal S6144x2048 .f32) :
    resid X G Y (ix2 n d) = resRow (fun e => X (ix2 n e)) (fun e => G (ix2 n e)) (fun e => Y (ix2 n e)) d := by
  pointwise [resid, resRow]

theorem mean_at (Z : FVec Ideal S6144x2048 .f32) :
    mean Z (ix2 n 0) = Ideal.div (∑ e : Fin 2048, Z (ix2 n e)) (Scalar.ofBits (F := Ideal) .f32 0x45000000#32) := by
  pointwise [mean]

theorem cen_at (Z : FVec Ideal S6144x2048 .f32) : cen Z (ix2 n d) = Z (ix2 n d) - mean Z (ix2 n 0) := by
  pointwise [cen]

theorem lnorm_at (Z : FVec Ideal S6144x2048 .f32) (g b : FVec Ideal S2048 .f32) :
    lnorm Z g b (ix2 n d) = lnRow (fun e => Z (ix2 n e)) (fun e => g (ix1 e)) (fun e => b (ix1 e)) d := by
  pointwise [lnorm, lnRow, mean, cen]

theorem experts_at (R : FVec Ideal S6144x128 .f32) (A B : FVec Ideal S6144x2048 .f32) :
    experts R A B (ix2 n d) = R (ix2 n 2) * A (ix2 n d) + R (ix2 n 3) * B (ix2 n d) := by
  pointwise [experts, weight2, weight3]

/-- The normalised token `n`, channel `d`. -/
theorem tokens_at (A B : FVec Ideal S6144x2048 .f32) (R : FVec Ideal S6144x128 .f32) (g b : FVec Ideal S2048 .f32) :
    tokens X A B R M g b (ix2 n d)
      = lnRow (resRow (fun e => X (ix2 n e)) (fun e => M (ix3 (cnd n) 0 (col 5 e)))
          fun e => R (ix2 n 2) * A (ix2 n e) + R (ix2 n 3) * B (ix2 n e))
          (fun e => g (ix1 e)) (fun e => b (ix1 e)) d := by
  unfold tokens
  rw [lnorm_at]
  simp only [resid_at, tok_at, part5_at, experts_at]

theorem prompt_at (r : Fin 4096) : prompt X (ix2 r d) = X (ix2 ⟨r, by omega⟩ d) := by
  pointwise [prompt]; blk_ext

theorem sample_at (r : Fin 2048) : sample X (ix2 r d) = X (ix2 ⟨4096 + r, by omega⟩ d) := by
  pointwise [sample]

end Cert.Reference3Ideal.Post
-- ==== Proof.Post.BodyIdeal.lean ====
/- The body of the final normalisation call (its idealization): it forms the normalised block and stores it into the
   buffer of the prompt's result at points 0..15 and into the buffer of the sample's result at points 16..23. -/
module

public import proofs.«01_k».proof.Proof.Gen.Kernel3Ideal.Frame
public import proofs.«01_k».proof.Proof.Gen.Kernel3Ideal.Skeleton

@[expose] public section

set_option maxRecDepth 16384

noncomputable section

namespace Cert.Kernel3Ideal.Post

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block the body forms -/

/-- All of a block of rows. -/
abbrev rRows : Rect S256x2048 := Rect.unit (s := S256x2048) ![0, 0] S256x2048.size inb_S256x2048_S256x2048_0_0
/-- The column of the routing record that weighs the first expert's row. -/
abbrev rW0 : Rect S256x128 := Rect.unit (s := S256x128) ![0, 2] S256x1.size inb_S256x128_S256x1_0_2
/-- The column of the routing record that weighs the second expert's row. -/
abbrev rW1 : Rect S256x128 := Rect.unit (s := S256x128) ![0, 3] S256x1.size inb_S256x128_S256x1_0_3
/-- All of the gate row. -/
abbrev rGate : Rect S1x1x2048 := Rect.unit (s := S1x1x2048) ![0, 0, 0] S1x1x2048.size inb_S1x1x2048_S1x1x2048_0_0_0
/-- All of a row of normalisation coefficients. -/
abbrev rRow : Rect S1x2048 := Rect.unit (s := S1x2048) ![0, 0] S1x2048.size inb_S1x2048_S1x2048_0_0

/-- The normalised block of the residual, the two experts' rows, the record, the gate and the coefficients. -/
abbrev payload (x0 : Vec F S256x2048 .f32) (x1 : Vec F S256x2048 .f32) (x2 : Vec F S256x2048 .f32) (x3 : Vec F S256x128 .f32) (x4 : Vec F S1x1x2048 .f32) (x5 : Vec F S1x2048 .f32) (x6 : Vec F S1x2048 .f32) : Vec F S256x2048 .f32 :=
  k0_pay1 (k0_pay2 (View.ld x5 rRow)) (k0_pay3 (View.ld x6 rRow))
    (k0_pay4 (View.ld x3 rW0) (View.ld x1 rRows) (View.ld x3 rW1) (View.ld x2 rRows) (View.ld x0 rRows) (View.ld x4 rGate))
    (k0_pay5 (View.ld x3 rW0) (View.ld x1 rRows) (View.ld x3 rW1) (View.ld x2 rRows) (View.ld x0 rRows) (View.ld x4 rGate))

/-- What a buffer holds after the body stored that block into it. -/
def block (x0 : Vec F S256x2048 .f32) (x1 : Vec F S256x2048 .f32) (x2 : Vec F S256x2048 .f32) (x3 : Vec F S256x128 .f32) (x4 : Vec F S1x1x2048 .f32) (x5 : Vec F S1x2048 .f32) (x6 : Vec F S1x2048 .f32) : Vec F S256x2048 .f32 :=
  View.canon [⟨rRows, payload x0 x1 x2 x3 x4 x5 x6⟩]

/-- The store fills the buffer. -/
theorem covers (p : Vec F S256x2048 .f32) (y : S256x2048.Idx) :
    ∃ pc ∈ ([⟨rRows, p⟩] : List (View.Piece (Elt F) S256x2048 .f32)), y ∈ pc.1.set :=
  View.cover_of_tiled [⟨rRows, p⟩] S256x2048.size (by rfl) y

/-! ## The body's two cases -/

set_option maxHeartbeats 1000000 in
/-- Where only the first condition holds the block goes to the prompt's buffer and the other buffer is left. -/
theorem sound_prompt (c : Dev nD) (E : Set ℕ) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .f32) (harg9 : arg9.IsWhole)
    (x0 : Vec F S256x2048 .f32) (x1 : Vec F S256x2048 .f32) (x2 : Vec F S256x2048 .f32) (x3 : Vec F S256x128 .f32) (x4 : Vec F S1x1x2048 .f32) (x5 : Vec F S1x2048 .f32) (x6 : Vec F S1x2048 .f32) (z : Vec F S256x2048 .f32)
    (hc1 : k0_cond1 i = 1#1) (hc2 : k0_cond2 i ≠ 1#1) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare z
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (block x0 x1 x2 x3 x4 x5 x6) ∗ owns (c : Thread nD τ) arg9 fullShare z) -∗ K ⟨⟩))
      ⊢ wp frame (wpE (defs₀ (F := F)) Variants.none c none) E (cc0_final_postnorm i arg1 harg1 arg2 harg2 arg3 harg3 arg4 harg4 arg5 harg5 arg6 harg6 arg7 harg7 arg8 harg8 arg9 harg9) K := by
  simp only [cc0_final_postnorm_eq_skeleton]; unfold cc0_final_postnorm_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf0 hf1 hf2 hf3 hf4 hf5 hf6 hf8
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (covers _)).trans ?_
    rfl
  iexists f8; isplitr; · ipureintro; rfl
  iexact H8

set_option maxHeartbeats 1000000 in
/-- Where only the second condition holds the block goes to the sample's buffer and the other buffer is left. -/
theorem sound_sample (c : Dev nD) (E : Set ℕ) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x128 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .f32) (harg9 : arg9.IsWhole)
    (x0 : Vec F S256x2048 .f32) (x1 : Vec F S256x2048 .f32) (x2 : Vec F S256x2048 .f32) (x3 : Vec F S256x128 .f32) (x4 : Vec F S1x1x2048 .f32) (x5 : Vec F S1x2048 .f32) (x6 : Vec F S1x2048 .f32) (z : Vec F S256x2048 .f32)
    (hc1 : k0_cond1 i ≠ 1#1) (hc2 : k0_cond2 i = 1#1) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare z ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare z ∗ owns (c : Thread nD τ) arg9 fullShare (block x0 x1 x2 x3 x4 x5 x6)) -∗ K ⟨⟩))
      ⊢ wp frame (wpE (defs₀ (F := F)) Variants.none c none) E (cc0_final_postnorm i arg1 harg1 arg2 harg2 arg3 harg3 arg4 harg4 arg5 harg5 arg6 harg6 arg7 harg7 arg8 harg8 arg9 harg9) K := by
  simp only [cc0_final_postnorm_eq_skeleton]; unfold cc0_final_postnorm_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (covers _)).trans ?_
  rfl

end Cert.Kernel3Ideal.Post

end
-- ==== Proof.Post.FrameIdeal.lean ====
/- The run of the final normalisation call (its idealization): what each staging buffer holds point by point, the
   body at every point, and the launch. -/
module

public import proofs.«01_k».proof.Proof.Post.BodyIdeal
public import Idealize.ShloMosaic.Lib.Claim

@[expose] public section

set_option maxRecDepth 16384

noncomputable section

namespace Cert.Kernel3Ideal.Post

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which buffer a point stores into -/

/-- The first condition holds at points 0..15. -/
theorem cond1_iff : ∀ t : Fin cfg0.N, k0_cond1 (grid0.coords t) = 1#1 ↔ t.val < 16 :=
  (by decide +kernel : ∀ t : Fin grid0.N, k0_cond1 (grid0.coords t) = 1#1 ↔ t.val < 16)
/-- The second condition holds at points 16..23. -/
theorem cond2_iff : ∀ t : Fin cfg0.N, k0_cond2 (grid0.coords t) = 1#1 ↔ 16 ≤ t.val :=
  (by decide +kernel : ∀ t : Fin grid0.N, k0_cond2 (grid0.coords t) = 1#1 ↔ 16 ≤ t.val)
/-- The prompt's buffer is left alone from point 16 on. -/
theorem idle7 : ∀ t : Fin cfg0.N, cfg0.idle 7 (cfg0.grid.coords t) = decide (16 ≤ t.val) :=
  (by decide +kernel : ∀ t : Fin grid0.N, idle0 7 (grid0.coords t) = decide (16 ≤ t.val))
/-- The sample's buffer is left alone before point 16. -/
theorem idle8 : ∀ t : Fin cfg0.N, cfg0.idle 8 (cfg0.grid.coords t) = decide (t.val < 16) :=
  (by decide +kernel : ∀ t : Fin grid0.N, idle0 8 (grid0.coords t) = decide (t.val < 16))
/-- The prompt's buffer is written back after points 0..14 and after the last. -/
theorem flush7 : ∀ t : Fin cfg0.N, (cfg0.win 7).flush t = (decide (t.val < 15) || decide (t.val = 23)) :=
  (by decide +kernel : ∀ t : Fin grid0.N, win0_7.flush t = (decide (t.val < 15) || decide (t.val = 23)))
/-- The sample's buffer is written back from point 16 on. -/
theorem flush8 : ∀ t : Fin cfg0.N, (cfg0.win 8).flush t = decide (16 ≤ t.val) :=
  (by decide +kernel : ∀ t : Fin grid0.N, win0_8.flush t = decide (16 ≤ t.val))

/-! ## The pipeline's proof data -/

/-- The block the body forms at point `t`. -/
def blockAt (c : Dev nD) (t : Fin cfg0.N) : Vec F S256x2048 .f32 :=
  block (iblk m c 0 t) (iblk m c 1 t) (iblk m c 2 t) (iblk m c 3 t) (iblk m c 4 t) (iblk m c 5 t) (iblk m c 6 t)

/-- The last point that stores into the prompt's buffer. -/
abbrev t15 : Fin cfg0.N := ⟨15, by decide⟩

/-- The proof data on core `c`: the inputs' buffers hold their blocks; the prompt's buffer holds the point's
    block up to point 15 and that point's block from then on; the sample's buffer holds the point's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => if t.val < 16 then blockAt m c t else blockAt m c t15
    | ⟨8, _⟩ => blockAt m c t
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) :
    (dats m 0 c).after 7 t = if t.val < 16 then blockAt m c t else blockAt m c t15 := by dsimp only [dats]
theorem after_8 (c : Dev nD) (t : Fin cfg0.N) : (dats m 0 c).after 8 t = blockAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Found at a point after 15, the prompt's buffer still holds what point 15 stored. -/
theorem before_7 (c : Dev nD) (d) : ∀ (k : ℕ) (h : 16 + k < cfg0.N),
    (dats m 0 c).before 7 ⟨16 + k, h⟩ d = blockAt m c t15
  | 0, h => by
    rw [(dats m 0 c).before_of_pos 7 ⟨16 + 0, h⟩ (by simp) ((cfg0.win 7).fetch_out rfl _), flush7, if_neg (by simp)]
    unfold Dat.left
    rw [idle7]
    show (dats m 0 c).kept 7 t15 d = _
    unfold Dat.kept
    rw [Pipeline.fill_of_clip_none (cfg := cfg0) 7 _ (fun _ => rfl) d ((dats m 0 c).after 7 t15), Window.fill_cut, after_7, if_pos (by decide)]
  | k + 1, h => by
    have hk : k + 1 < 8 := by have h' : 16 + (k + 1) < 24 := h; omega
    rw [(dats m 0 c).before_of_pos 7 ⟨16 + (k + 1), h⟩ (by simp) ((cfg0.win 7).fetch_out rfl _), flush7,
      if_neg (by simp; omega)]
    unfold Dat.left
    rw [idle7, show decide (16 ≤ 16 + (k + 1) - 1) = true from decide_eq_true (by omega)]
    exact before_7 c d k (by omega)

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t ∗ (dats m 0 c).leavesExact 8 t)

/-- Points 0..15: the block is stored for the prompt and the sample's buffer returned as found. -/
theorem body_prompt (c : Dev nD) (t : Fin cfg0.N) (ht : t.val < 16) :
    bodyPre m c t ⊢ wp frame (wpE (defs₀ (F := F)) Variants.none c none) Set.univ (bodyAt0 t) (fun _ => bodyPost m c t) := by
  have hc1 := (cond1_iff t).mpr ht
  have hc2 : k0_cond2 (grid0.coords t) ≠ 1#1 := fun h => absurd ((cond2_iff t).mp h) (by omega)
  have h7 : (dats m 0 c).leavesExact 7 t = owns (c : Thread nD τ) (st0_7 t) fullShare (blockAt m c t) := by
    unfold Dat.leavesExact; rw [idle7, decide_eq_false (by omega)]
    show owns (c : Thread nD τ) (st0_7 t) fullShare ((dats m 0 c).after 7 t) = _
    rw [after_7, if_pos ht]
  have h8 : (dats m 0 c).leavesExact 8 t = iprop(∃ d, owns (c : Thread nD τ) (st0_8 t) fullShare ((dats m 0 c).before 8 t d)) :=
    (dats m 0 c).leavesExact_idle 8 t ((idle8 t).trans (decide_eq_true ht)) ((flush8 t).trans (decide_eq_false (by omega)))
  unfold bodyPre bodyPost bodyAt0
  simp only [before_0, before_1, before_2, before_3, before_4, before_5, before_6]
  rw [h7, h8, show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_prompt c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 8 t d8) hc1 hc2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- Points 16..22: the block is stored for the sample and the prompt's buffer returned as found. -/
theorem body_sample (c : Dev nD) (t : Fin cfg0.N) (ht : 16 ≤ t.val ∧ t.val < 23) :
    bodyPre m c t ⊢ wp frame (wpE (defs₀ (F := F)) Variants.none c none) Set.univ (bodyAt0 t) (fun _ => bodyPost m c t) := by
  have hc1 : k0_cond1 (grid0.coords t) ≠ 1#1 := fun h => absurd ((cond1_iff t).mp h) (by omega)
  have hc2 := (cond2_iff t).mpr (show 16 ≤ t.val by omega)
  have h8 : (dats m 0 c).leavesExact 8 t = owns (c : Thread nD τ) (st0_8 t) fullShare (blockAt m c t) := by
    unfold Dat.leavesExact; rw [idle8, decide_eq_false (by omega)]
    show owns (c : Thread nD τ) (st0_8 t) fullShare ((dats m 0 c).after 8 t) = _
    rw [after_8]
  have h7 : (dats m 0 c).leavesExact 7 t = iprop(∃ d, owns (c : Thread nD τ) (st0_7 t) fullShare ((dats m 0 c).before 7 t d)) :=
    (dats m 0 c).leavesExact_idle 7 t ((idle7 t).trans (decide_eq_true ht.1)) ((flush7 t).trans (by simp; omega))
  unfold bodyPre bodyPost bodyAt0
  simp only [before_0, before_1, before_2, before_3, before_4, before_5, before_6]
  rw [h7, h8, show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_sample c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) hc1 hc2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexact H8

/-- The last point: the prompt's buffer is written back there, and holds what point 15 stored. -/
theorem body_last (c : Dev nD) (t : Fin cfg0.N) (ht : t.val = 23) :
    bodyPre m c t ⊢ wp frame (wpE (defs₀ (F := F)) Variants.none c none) Set.univ (bodyAt0 t) (fun _ => bodyPost m c t) := by
  have hc1 : k0_cond1 (grid0.coords t) ≠ 1#1 := fun h => absurd ((cond1_iff t).mp h) (by omega)
  have hc2 := (cond2_iff t).mpr (show 16 ≤ t.val by omega)
  have h8 : (dats m 0 c).leavesExact 8 t = owns (c : Thread nD τ) (st0_8 t) fullShare (blockAt m c t) := by
    unfold Dat.leavesExact; rw [idle8, decide_eq_false (by omega)]
    show owns (c : Thread nD τ) (st0_8 t) fullShare ((dats m 0 c).after 8 t) = _
    rw [after_8]
  have h7 : (dats m 0 c).leavesExact 7 t = owns (c : Thread nD τ) (st0_7 t) fullShare (blockAt m c t15) := by
    unfold Dat.leavesExact; rw [idle7, flush7, decide_eq_true (show 16 ≤ t.val by omega), decide_eq_true ht, Bool.or_true]
    show owns (c : Thread nD τ) (st0_7 t) fullShare ((dats m 0 c).after 7 t) = _
    rw [after_7, if_neg (by omega)]
  have hb : ∀ d, (dats m 0 c).before 7 t d = blockAt m c t15 := fun d => by
    obtain ⟨t, h⟩ := t
    obtain rfl : t = 16 + 7 := ht
    exact before_7 m c d 7 h
  unfold bodyPre bodyPost bodyAt0
  simp only [before_0, before_1, before_2, before_3, before_4, before_5, before_6]
  rw [h7, h8, show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_sample c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) hc1 hc2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · rw [hb d7]; iexact H7
  iexact H8

/-- The body at every point. -/
theorem sound_body (c : Dev nD) (t : Fin cfg0.N) :
    bodyPre m c t ⊢ wp frame (wpE (defs₀ (F := F)) Variants.none c none) Set.univ (bodyAt0 t) (fun _ => bodyPost m c t) := by
  have hN : t.val < 24 := t.isLt
  rcases Nat.lt_or_ge t.val 16 with h | h
  · exact body_prompt m c t h
  · rcases Nat.lt_or_ge t.val 23 with h' | h'
    · exact body_sample m c t ⟨h, h'⟩
    · exact body_last m c t (by omega)

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array ends at what the proof data computes, and every semaphore counter at zero. -/
theorem run_counters : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hΦ := fun _ _ => rfl)

/-- The launch without the counters. -/
theorem run_arrays : θ_run defs (onTc (τ := τ) (main (F := F))) (s₀ m ρ) (Pipeline.FramePost cfgs (dats m) 0 (V m)) :=
  (θ_run defs _ _).mono (fun _ h => h.1) (run_counters m ρ)

/-- The arguments end as launched, and the semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_arrays m ρ)) ((θ_run defs _ _).mono (fun _ h => h.2) (run_counters m ρ))

end Cert.Kernel3Ideal.Post

end
-- ==== Proof.Post.Value.lean ====
/- What the final normalisation call's two arrays hold after the run. -/
module

public import proofs.«01_k».proof.Proof.Ffn.Spec
public import proofs.«01_k».proof.Proof.Post.FrameIdeal
public import Idealize.ShloMosaic.Lib.Pipeline.Value
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel3Ideal.Post

open Cert.Kernel3Ideal Cert.Kernel3Ideal.Gen Cert.Ffn

/-- Row `r` of the block, channel `d`. -/
theorem block_at (x0 x1 x2 : Vec Ideal S256x2048 .f32) (x3 : Vec Ideal S256x128 .f32) (x4 : Vec Ideal S1x1x2048 .f32)
    (x5 x6 : Vec Ideal S1x2048 .f32) (r : Fin 256) (d : Fin 2048) :
    block (F := Ideal) x0 x1 x2 x3 x4 x5 x6 (ix2 r d)
      = lnRow (resRow (fun e => x0 (ix2 r e)) (fun e => x4 (ix3 0 0 e)) fun e => x3 (ix2 r 2) * x1 (ix2 r e) + x3 (ix2 r 3) * x2 (ix2 r e))
          (fun e => x5 (ix2 0 e)) (fun e => x6 (ix2 0 e)) d := by
  unfold block
  rw [View.canon_unit_zero (by funext a; fin_cases a <;> rfl)]
  pointwise [k0_pay1, k0_pay2, k0_pay3, k0_pay4, k0_pay5, lnRow, resRow]

variable (m : (ℓ : Loc nD τ sig) → Buf (Elt Ideal) ℓ)

/-- The windows' index maps. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val / 4 - 3, 0, 5] ∧ win0_5.index t = ![0, 0]
    ∧ win0_6.index t = ![0, 0] ∧ win0_7.index t = ![min t.val 15, 0] ∧ win0_8.index t = ![t.val - 16, 0] :=
  (by decide +kernel : ∀ t : Fin grid0.N, _)

/-- Token `r` of row tile `i`. -/
def row (i : Fin 24) (r : Fin 256) : Fin 6144 := ⟨i * 256 + r, by omega⟩

/-- The grid point of row tile `i`. -/
def pt (i : Fin 24) : Fin cfg0.N := i

theorem pt_val (i : Fin 24) : (pt i : ℕ) = i := rfl

variable (c : Dev nD) (i : Fin 24)

theorem x_blk (r : Fin 256) (e : Fin 2048) : iblk m c 0 (pt i) (ix2 r e : S256x2048.Idx)
    = m ((c : Thread nD τ).loc main_arg0) (ix2 (row i r) e : S6144x2048.Idx) := by
  have := pt_val i
  blk_ext [iblk, V, idx (pt i), row]

theorem y0_blk (r : Fin 256) (e : Fin 2048) : iblk m c 1 (pt i) (ix2 r e : S256x2048.Idx)
    = m ((c : Thread nD τ).loc main_arg1) (ix2 (row i r) e : S6144x2048.Idx) := by
  have := pt_val i
  blk_ext [iblk, V, idx (pt i), row]

theorem y1_blk (r : Fin 256) (e : Fin 2048) : iblk m c 2 (pt i) (ix2 r e : S256x2048.Idx)
    = m ((c : Thread nD τ).loc main_arg2) (ix2 (row i r) e : S6144x2048.Idx) := by
  have := pt_val i
  blk_ext [iblk, V, idx (pt i), row]

theorem rec_blk (r : Fin 256) (k : Fin 128) : iblk m c 3 (pt i) (ix2 r k : S256x128.Idx)
    = m ((c : Thread nD τ).loc main_arg3) (ix2 (row i r) k : S6144x128.Idx) := by
  have := pt_val i
  blk_ext [iblk, V, idx (pt i), row]

theorem gate_blk (r : Fin 256) (e : Fin 2048) : iblk m c 4 (pt i) (ix3 0 0 e : S1x1x2048.Idx)
    = m ((c : Thread nD τ).loc main_arg4) (ix3 (cnd (row i r)) 0 (col 5 e) : S8x1x12288.Idx) := by
  have := pt_val i
  blk_ext [iblk, V, idx (pt i), row, cnd, col]

theorem g_blk (e : Fin 2048) : iblk m c 5 (pt i) (ix2 0 e : S1x2048.Idx) = m ((c : Thread nD τ).loc main_arg5) (ix1 e : S2048.Idx) := by
  blk_simp [iblk, idx (pt i)]
  entry_read
  pointwise
  blk_ext [idx (pt i)]

theorem b_blk (e : Fin 2048) : iblk m c 6 (pt i) (ix2 0 e : S1x2048.Idx) = m ((c : Thread nD τ).loc main_arg6) (ix1 e : S2048.Idx) := by
  blk_simp [iblk, idx (pt i)]
  entry_read
  pointwise
  blk_ext [idx (pt i)]

/-- Two rows by their weights. -/
def mixRow (w0 w1 : EReal) (a b : Fin 2048 → EReal) (e : Fin 2048) : EReal := w0 * a e + w1 * b e

/-- Token `n`'s normalised row, of the arguments. -/
def final (n : Fin 6144) (d : Fin 2048) : EReal :=
  lnRow (resRow (fun e => m ((c.tc : Thread nD τ).loc main_arg0) (ix2 n e : S6144x2048.Idx))
      (fun e => m ((c.tc : Thread nD τ).loc main_arg4) (ix3 (cnd n) 0 (col 5 e) : S8x1x12288.Idx))
      (mixRow (m ((c.tc : Thread nD τ).loc main_arg3) (ix2 n 2 : S6144x128.Idx)) (m ((c.tc : Thread nD τ).loc main_arg3) (ix2 n 3 : S6144x128.Idx))
        (fun e => m ((c.tc : Thread nD τ).loc main_arg1) (ix2 n e : S6144x2048.Idx))
        fun e => m ((c.tc : Thread nD τ).loc main_arg2) (ix2 n e : S6144x2048.Idx)))
    (fun e => m ((c.tc : Thread nD τ).loc main_arg5) (ix1 e : S2048.Idx)) (fun e => m ((c.tc : Thread nD τ).loc main_arg6) (ix1 e : S2048.Idx)) d

/-- The block of row tile `i` holds its tokens' rows. -/
theorem blockAt_at (r : Fin 256) (d : Fin 2048) : blockAt m c (pt i) (ix2 r d) = final m c (row i r) d := by
  refine (block_at _ _ _ _ _ _ _ r d).trans ?_
  unfold final
  congr 1
  · funext e
    simp only [resRow, mixRow, x_blk, y0_blk, y1_blk, rec_blk, gate_blk m c i r]
  · funext e
    rw [g_blk]
  · funext e
    rw [b_blk]

/-- Two points that write the prompt's buffer back write different blocks. -/
theorem disjoint7 : ∀ t t' : Fin cfg0.N, (cfg0.win 7).flush t = true → (cfg0.win 7).flush t' = true → t ≠ t' →
    Disjoint ((cfg0.win 7).blk t).view.set ((cfg0.win 7).blk t').view.set := by
  intro t t' h h' hne
  refine (cfg0.win 7).disjoint_blk fun e => hne (Fin.ext ?_)
  have hN : t.val < 24 := t.isLt
  have hN' : t'.val < 24 := t'.isLt
  rw [flush7] at h h'
  have e' : min t.val 15 = min t'.val 15 := congrFun ((idx t).2.2.2.2.2.2.2.1.symm.trans (e.trans (idx t').2.2.2.2.2.2.2.1)) 0
  simp only [Bool.or_eq_true, decide_eq_true_eq] at h h'
  omega

/-- Two points that write the sample's buffer back write different blocks. -/
theorem disjoint8 : ∀ t t' : Fin cfg0.N, (cfg0.win 8).flush t = true → (cfg0.win 8).flush t' = true → t ≠ t' →
    Disjoint ((cfg0.win 8).blk t).view.set ((cfg0.win 8).blk t').view.set := by
  intro t t' h h' hne
  refine (cfg0.win 8).disjoint_blk fun e => hne (Fin.ext ?_)
  rw [flush8] at h h'
  have e' : t.val - 16 = t'.val - 16 := congrFun ((idx t).2.2.2.2.2.2.2.2.symm.trans (e.trans (idx t').2.2.2.2.2.2.2.2)) 0
  simp only [decide_eq_true_eq] at h h'
  omega

/-- The prompt's array at token `256 i + r`. -/
theorem prompt_final (i : Fin 16) (r : Fin 256) (d : Fin 2048) :
    (dats m 0 c).arrAt 7 cfg0.N (ix2 ⟨i * 256 + r, by omega⟩ d : S4096x2048.Idx) = final m c ⟨i * 256 + r, by omega⟩ d := by
  have key : ∀ t : Fin cfg0.N, (cfg0.win 7).flush t = true → min t.val 15 = i →
      (dats m 0 c).arrAt 7 cfg0.N (ix2 ⟨i * 256 + r, by omega⟩ d : S4096x2048.Idx) = (dats m 0 c).after 7 t (ix2 r d : S256x2048.Idx) := by
    intro t hf ht
    have e := congrFun ((dats m 0 c).read_blk_arrAt_eq_flushed 7 disjoint7 cfg0.N t t.isLt hf) (ix2 r d : S256x2048.Idx)
    have l : ((cfg0.win 7).blk t).view.read (Elt Ideal) ((dats m 0 c).arrAt 7 cfg0.N) (ix2 r d : S256x2048.Idx)
        = (dats m 0 c).arrAt 7 cfg0.N (ix2 ⟨i * 256 + r, by omega⟩ d : S4096x2048.Idx) := by
      blk_ext [idx t, ht]
    rw [← l, e]
    rfl
  rcases Nat.lt_or_ge (i : ℕ) 15 with h | h
  · refine (key (pt ⟨i, by omega⟩) ?_ ?_).trans ?_
    · rw [flush7, decide_eq_true (show ((pt ⟨i, by omega⟩ : Fin cfg0.N) : ℕ) < 15 from h)]; rfl
    · show min (i : ℕ) 15 = i
      omega
    · rw [after_7, if_pos (show ((pt ⟨i, by omega⟩ : Fin cfg0.N) : ℕ) < 16 from i.isLt)]
      exact blockAt_at m c ⟨i, by omega⟩ r d
  · obtain rfl : i = 15 := Fin.ext (by show (i : ℕ) = 15; omega)
    refine (key (pt 23) ?_ ?_).trans ?_
    · rw [flush7]; rfl
    · rfl
    · rw [after_7, if_neg (by decide)]
      exact blockAt_at m c 15 r d

/-- The sample's array at its token `256 i + r`. -/
theorem sample_final (i : Fin 8) (r : Fin 256) (d : Fin 2048) :
    (dats m 0 c).arrAt 8 cfg0.N (ix2 ⟨i * 256 + r, by omega⟩ d : S2048x2048.Idx) = final m c ⟨4096 + (i * 256 + r), by omega⟩ d := by
  have key : ∀ t : Fin cfg0.N, (cfg0.win 8).flush t = true → t.val - 16 = i →
      (dats m 0 c).arrAt 8 cfg0.N (ix2 ⟨i * 256 + r, by omega⟩ d : S2048x2048.Idx) = (dats m 0 c).after 8 t (ix2 r d : S256x2048.Idx) := by
    intro t hf ht
    have e := congrFun ((dats m 0 c).read_blk_arrAt_eq_flushed 8 disjoint8 cfg0.N t t.isLt hf) (ix2 r d : S256x2048.Idx)
    have l : ((cfg0.win 8).blk t).view.read (Elt Ideal) ((dats m 0 c).arrAt 8 cfg0.N) (ix2 r d : S256x2048.Idx)
        = (dats m 0 c).arrAt 8 cfg0.N (ix2 ⟨i * 256 + r, by omega⟩ d : S2048x2048.Idx) := by
      blk_ext [idx t, ht]
    rw [← l, e]
    rfl
  refine (key (pt ⟨16 + i, by omega⟩) ?_ ?_).trans ?_
  · exact (flush8 _).trans (decide_eq_true (by show 16 ≤ 16 + (i : ℕ); omega))
  · show 16 + (i : ℕ) - 16 = i
    omega
  rw [after_8]
  refine (blockAt_at m c ⟨16 + i, by omega⟩ r d).trans ?_
  congr 1
  apply Fin.ext
  show (16 + (i : ℕ)) * 256 + r = 4096 + (i * 256 + r)
  omega

/-- The run with the two arrays named. -/
theorem run (ρ : Dev nD → PrngReg) : θ_run defs (onTc (τ := τ) (main (F := Ideal))) ⟨m, fun _ => 0, ρ⟩ fun r => ∀ c : Dev nD,
      r.2.mem ((c.tc : Thread nD τ).loc main_v2_0) = (dats m 0 c).arrAt 7 cfg0.N
      ∧ r.2.mem ((c.tc : Thread nD τ).loc main_v2_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.1 c).1 7, (h.1 c).1 8, h.2 c⟩)
    (θ_run_and (run_arrays m ρ) (frame_of m ρ (dats m) (A_eq m) (run_arrays m ρ)))

end Cert.Kernel3Ideal.Post
-- ==== Proof.Post.Claim.lean ====
/- The final normalisation call's arrays are the reference's. -/
module

public import proofs.«01_k».proof.Defs
public import proofs.«01_k».proof.Proof.Post.Ref
public import proofs.«01_k».proof.Proof.Post.Value

@[expose] public section

set_option maxRecDepth 16384

noncomputable section

open Idealize.ShloMosaic Idealize.ShloMosaic.TcCoe Idealize.SL.Sem

namespace Cert.Post

section

open Cert.Kernel3Ideal Cert.Kernel3Ideal.Post

variable (m : (ℓ : Loc nD τ sig) → Buf (Elt Ideal) ℓ) (c : Dev nD)

/-- The reference's tokens of the call's arguments. -/
def toks : FVec Ideal Cert.Reference3Ideal.S6144x2048 .f32 :=
  Cert.Reference3Ideal.Post.tokens (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem toks_at (n : Fin 6144) (d : Fin 2048) : toks m c (ix2 n d) = final m c n d :=
  Cert.Reference3Ideal.Post.tokens_at (m ((c.tc : Thread nD τ).loc main_arg0)) (m ((c.tc : Thread nD τ).loc main_arg4)) n d (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))

theorem prompt_eq : Cert.Reference3Ideal.Post.prompt (toks m c) = (dats m 0 c).arrAt 7 cfg0.N := by
  funext y
  have e : y = (ix2 ⟨(y 0 : ℕ) / 256 * 256 + (y 0 : ℕ) % 256, by have h : (y 0 : ℕ) < 4096 := (y 0).isLt; omega⟩ (y 1) : S4096x2048.Idx) := by
    funext a
    fin_cases a <;> apply Fin.ext
    · show (y 0 : ℕ) = (y 0 : ℕ) / 256 * 256 + (y 0 : ℕ) % 256
      omega
    · rfl
  rw [e]
  exact ((Cert.Reference3Ideal.Post.prompt_at (toks m c) _ _).trans (toks_at m c _ _)).trans
    (prompt_final m c ⟨(y 0 : ℕ) / 256, by have h : (y 0 : ℕ) < 4096 := (y 0).isLt; omega⟩ ⟨(y 0 : ℕ) % 256, by omega⟩ (y 1)).symm

theorem sample_eq : Cert.Reference3Ideal.Post.sample (toks m c) = (dats m 0 c).arrAt 8 cfg0.N := by
  funext y
  have e : y = (ix2 ⟨(y 0 : ℕ) / 256 * 256 + (y 0 : ℕ) % 256, by have h : (y 0 : ℕ) < 2048 := (y 0).isLt; omega⟩ (y 1) : S2048x2048.Idx) := by
    funext a
    fin_cases a <;> apply Fin.ext
    · show (y 0 : ℕ) = (y 0 : ℕ) / 256 * 256 + (y 0 : ℕ) % 256
      omega
    · rfl
  rw [e]
  exact ((Cert.Reference3Ideal.Post.sample_at (toks m c) _ _).trans (toks_at m c _ _)).trans
    (sample_final m c ⟨(y 0 : ℕ) / 256, by have h : (y 0 : ℕ) < 2048 := (y 0).isLt; omega⟩ ⟨(y 0 : ℕ) % 256, by omega⟩ (y 1)).symm

end

/-- The reference runs to its end, its arguments kept and its counters back at zero. -/
theorem frame_ref : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Post.run m ρ)

/-- The equation of the final normalisation. -/
theorem algebraic : Cert.algebraic_Kernel3Ideal_Reference3Ideal := by
  intro m ρ m' ρ' _ hagree
  refine ⟨fun c => (Cert.Kernel3Ideal.Post.dats m 0 c).arrAt 7 Cert.Kernel3Ideal.cfg0.N,
    fun c => (Cert.Kernel3Ideal.Post.dats m 0 c).arrAt 8 Cert.Kernel3Ideal.cfg0.N, ?_, ?_⟩
  · exact Cert.Kernel3Ideal.Post.run m ρ
  · refine (θ_run Cert.Reference3Ideal.defs _ _).mono (fun _ h c => ⟨?_, ?_, (h c).2.2⟩) (Cert.Reference3Ideal.Post.run m' ρ')
    · refine (h c).1.trans ?_
      obtain ⟨a0, a1, a2, a3, a4, a5, a6⟩ := hagree c
      rw [a0, a1, a2, a3, a4, a5, a6]
      exact prompt_eq m c
    · refine (h c).2.1.trans ?_
      obtain ⟨a0, a1, a2, a3, a4, a5, a6⟩ := hagree c
      rw [a0, a1, a2, a3, a4, a5, a6]
      exact sample_eq m c

end Cert.Post
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_written
public import proofs.«01_k».proof.Proof.Gen.KernelIdeal.Value
public import proofs.«01_k».proof.Proof.Gen.ReferenceIdeal.Run
public import proofs.«01_k».proof.Proof.Moe.Frame
public import proofs.«01_k».proof.Proof.MoeIdeal.Claim
public import proofs.«01_k».proof.Proof.Gen.Kernel4
public import proofs.«01_k».proof.Proof.Gen.Kernel4.Launch
public import proofs.«01_k».proof.Proof.Gen.Kernel4.Loops
public import proofs.«01_k».proof.Proof.Gen.Kernel4.Skeleton
public import proofs.«01_k».proof.Proof.Gen.Kernel4Ideal
public import proofs.«01_k».proof.Proof.Gen.Kernel4Ideal.Launch
public import proofs.«01_k».proof.Proof.Gen.Kernel4Ideal.Loops
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Pre_tables
public import proofs.«01_k».proof.Proof.Gen.On_routed
public import proofs.«01_k».proof.Proof.Ctx.Claim
public import proofs.«01_k».proof.Proof.Ffn.Claim
public import proofs.«01_k».proof.Proof.Post.Frame
public import proofs.«01_k».proof.Proof.Post.Claim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3.Skeleton
public import proofs.«01_k».proof.Proof.Gen.Kernel3Ideal.Skeleton
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_tables.Gen.facts, Cert.On_written.Gen.facts, Cert.On_routed.Gen.facts,
  fun m ρ _ => Cert.Kernel.Gen.frame m ρ, fun m ρ _ => Cert.KernelIdeal.Gen.frame m ρ, Cert.Ctx.frame_ref,
  fun m ρ _ => Cert.Kernel2.Gen.frame m ρ, fun m ρ _ => Cert.Kernel2Ideal.Gen.frame m ρ, Cert.Ffn.frame_ref,
  fun m ρ _ => Cert.Kernel3.Post.frame m ρ, fun m ρ _ => Cert.Kernel3Ideal.Post.frame m ρ, Cert.Post.frame_ref,
  fun m ρ h => Cert.Kernel4.Moe.frame (Cert.Kernel4.Moe.good_tbl (h 0)) ρ,
  fun m ρ h => Cert.Kernel4Ideal.Moe.frame (Cert.Kernel4Ideal.Moe.good_tbl (h 0)) ρ, Cert.Reference4Ideal.Moe.frame_ref,
  trivial, Cert.Ctx.algebraic, trivial, Cert.Ffn.algebraic, trivial, Cert.Post.algebraic, trivial, Cert.Moe.algebraic⟩

end Cert.Proof

end
